-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_HgrnOutDx (m : (ℓ : Loc Cert.HgrnOutDx.nD Cert.HgrnOutDx.τ Cert.HgrnOutDx.sig) → Buf (Elt Bits) ℓ) : Prop :=
  True

def Pre_HgrnOutDxIdeal (m : (ℓ : Loc Cert.HgrnOutDxIdeal.nD Cert.HgrnOutDxIdeal.τ Cert.HgrnOutDxIdeal.sig) → Buf (Elt Ideal) ℓ) : Prop :=
  True

def Pre_HgrnOutDxReferenceIdeal (m : (ℓ : Loc Cert.HgrnOutDxReferenceIdeal.nD Cert.HgrnOutDxReferenceIdeal.τ Cert.HgrnOutDxReferenceIdeal.sig) → Buf (Elt Ideal) ℓ) : Prop :=
  True

def Pre_HgrnOutDw (m : (ℓ : Loc Cert.HgrnOutDw.nD Cert.HgrnOutDw.τ Cert.HgrnOutDw.sig) → Buf (Elt Bits) ℓ) : Prop :=
  True

def Pre_HgrnOutDwIdeal (m : (ℓ : Loc Cert.HgrnOutDwIdeal.nD Cert.HgrnOutDwIdeal.τ Cert.HgrnOutDwIdeal.sig) → Buf (Elt Ideal) ℓ) : Prop :=
  True

def Pre_HgrnOutDwReferenceIdeal (m : (ℓ : Loc Cert.HgrnOutDwReferenceIdeal.nD Cert.HgrnOutDwReferenceIdeal.τ Cert.HgrnOutDwReferenceIdeal.sig) → Buf (Elt Ideal) ℓ) : Prop :=
  True

def Pre_HgrnInDw (m : (ℓ : Loc Cert.HgrnInDw.nD Cert.HgrnInDw.τ Cert.HgrnInDw.sig) → Buf (Elt Bits) ℓ) : Prop :=
  True

def Pre_HgrnInDwIdeal (m : (ℓ : Loc Cert.HgrnInDwIdeal.nD Cert.HgrnInDwIdeal.τ Cert.HgrnInDwIdeal.sig) → Buf (Elt Ideal) ℓ) : Prop :=
  True

def Pre_HgrnInDwReferenceIdeal (m : (ℓ : Loc Cert.HgrnInDwReferenceIdeal.nD Cert.HgrnInDwReferenceIdeal.τ Cert.HgrnInDwReferenceIdeal.sig) → Buf (Elt Ideal) ℓ) : Prop :=
  True

def Pre_HgrnInDx (m : (ℓ : Loc Cert.HgrnInDx.nD Cert.HgrnInDx.τ Cert.HgrnInDx.sig) → Buf (Elt Bits) ℓ) : Prop :=
  True

def Pre_HgrnInDxIdeal (m : (ℓ : Loc Cert.HgrnInDxIdeal.nD Cert.HgrnInDxIdeal.τ Cert.HgrnInDxIdeal.sig) → Buf (Elt Ideal) ℓ) : Prop :=
  True

def Pre_HgrnInDxReferenceIdeal (m : (ℓ : Loc Cert.HgrnInDxReferenceIdeal.nD Cert.HgrnInDxReferenceIdeal.τ Cert.HgrnInDxReferenceIdeal.sig) → Buf (Elt Ideal) ℓ) : Prop :=
  True

def Pre_MambaOutDx (m : (ℓ : Loc Cert.MambaOutDx.nD Cert.MambaOutDx.τ Cert.MambaOutDx.sig) → Buf (Elt Bits) ℓ) : Prop :=
  True

def Pre_MambaOutDxIdeal (m : (ℓ : Loc Cert.MambaOutDxIdeal.nD Cert.MambaOutDxIdeal.τ Cert.MambaOutDxIdeal.sig) → Buf (Elt Ideal) ℓ) : Prop :=
  True

def Pre_MambaOutDxReferenceIdeal (m : (ℓ : Loc Cert.MambaOutDxReferenceIdeal.nD Cert.MambaOutDxReferenceIdeal.τ Cert.MambaOutDxReferenceIdeal.sig) → Buf (Elt Ideal) ℓ) : Prop :=
  True

def Pre_MambaOutDw (m : (ℓ : Loc Cert.MambaOutDw.nD Cert.MambaOutDw.τ Cert.MambaOutDw.sig) → Buf (Elt Bits) ℓ) : Prop :=
  True

def Pre_MambaOutDwIdeal (m : (ℓ : Loc Cert.MambaOutDwIdeal.nD Cert.MambaOutDwIdeal.τ Cert.MambaOutDwIdeal.sig) → Buf (Elt Ideal) ℓ) : Prop :=
  True

def Pre_MambaOutDwReferenceIdeal (m : (ℓ : Loc Cert.MambaOutDwReferenceIdeal.nD Cert.MambaOutDwReferenceIdeal.τ Cert.MambaOutDwReferenceIdeal.sig) → Buf (Elt Ideal) ℓ) : Prop :=
  True

def Pre_MambaInDw (m : (ℓ : Loc Cert.MambaInDw.nD Cert.MambaInDw.τ Cert.MambaInDw.sig) → Buf (Elt Bits) ℓ) : Prop :=
  True

def Pre_MambaInDwIdeal (m : (ℓ : Loc Cert.MambaInDwIdeal.nD Cert.MambaInDwIdeal.τ Cert.MambaInDwIdeal.sig) → Buf (Elt Ideal) ℓ) : Prop :=
  True

def Pre_MambaInDwReferenceIdeal (m : (ℓ : Loc Cert.MambaInDwReferenceIdeal.nD Cert.MambaInDwReferenceIdeal.τ Cert.MambaInDwReferenceIdeal.sig) → Buf (Elt Ideal) ℓ) : Prop :=
  True

def Pre_MambaInDx (m : (ℓ : Loc Cert.MambaInDx.nD Cert.MambaInDx.τ Cert.MambaInDx.sig) → Buf (Elt Bits) ℓ) : Prop :=
  True

def Pre_MambaInDxIdeal (m : (ℓ : Loc Cert.MambaInDxIdeal.nD Cert.MambaInDxIdeal.τ Cert.MambaInDxIdeal.sig) → Buf (Elt Ideal) ℓ) : Prop :=
  True

def Pre_MambaInDxReferenceIdeal (m : (ℓ : Loc Cert.MambaInDxReferenceIdeal.nD Cert.MambaInDxReferenceIdeal.τ Cert.MambaInDxReferenceIdeal.sig) → Buf (Elt Ideal) ℓ) : Prop :=
  True

def Pre_MambaInDxNext (m : (ℓ : Loc Cert.MambaInDxNext.nD Cert.MambaInDxNext.τ Cert.MambaInDxNext.sig) → Buf (Elt Bits) ℓ) : Prop :=
  True

def Pre_MambaInDxNextIdeal (m : (ℓ : Loc Cert.MambaInDxNextIdeal.nD Cert.MambaInDxNextIdeal.τ Cert.MambaInDxNextIdeal.sig) → Buf (Elt Ideal) ℓ) : Prop :=
  True

def Pre_MambaInDxNextReferenceIdeal (m : (ℓ : Loc Cert.MambaInDxNextReferenceIdeal.nD Cert.MambaInDxNextReferenceIdeal.τ Cert.MambaInDxNextReferenceIdeal.sig) → Buf (Elt Ideal) ℓ) : Prop :=
  True

def Pre_MambaInDwX (m : (ℓ : Loc Cert.MambaInDwX.nD Cert.MambaInDwX.τ Cert.MambaInDwX.sig) → Buf (Elt Bits) ℓ) : Prop :=
  True

def Pre_MambaInDwXIdeal (m : (ℓ : Loc Cert.MambaInDwXIdeal.nD Cert.MambaInDwXIdeal.τ Cert.MambaInDwXIdeal.sig) → Buf (Elt Ideal) ℓ) : Prop :=
  True

def Pre_MambaInDwXReferenceIdeal (m : (ℓ : Loc Cert.MambaInDwXReferenceIdeal.nD Cert.MambaInDwXReferenceIdeal.τ Cert.MambaInDwXReferenceIdeal.sig) → Buf (Elt Ideal) ℓ) : Prop :=
  True

def Pre_MambaInDwBc (m : (ℓ : Loc Cert.MambaInDwBc.nD Cert.MambaInDwBc.τ Cert.MambaInDwBc.sig) → Buf (Elt Bits) ℓ) : Prop :=
  True

def Pre_MambaInDwBcIdeal (m : (ℓ : Loc Cert.MambaInDwBcIdeal.nD Cert.MambaInDwBcIdeal.τ Cert.MambaInDwBcIdeal.sig) → Buf (Elt Ideal) ℓ) : Prop :=
  True

def Pre_MambaInDwBcReferenceIdeal (m : (ℓ : Loc Cert.MambaInDwBcReferenceIdeal.nD Cert.MambaInDwBcReferenceIdeal.τ Cert.MambaInDwBcReferenceIdeal.sig) → Buf (Elt Ideal) ℓ) : Prop :=
  True

def Pre_MambaInDwDt (m : (ℓ : Loc Cert.MambaInDwDt.nD Cert.MambaInDwDt.τ Cert.MambaInDwDt.sig) → Buf (Elt Bits) ℓ) : Prop :=
  True

def Pre_MambaInDwDtIdeal (m : (ℓ : Loc Cert.MambaInDwDtIdeal.nD Cert.MambaInDwDtIdeal.τ Cert.MambaInDwDtIdeal.sig) → Buf (Elt Ideal) ℓ) : Prop :=
  True

def Pre_MambaInDwDtReferenceIdeal (m : (ℓ : Loc Cert.MambaInDwDtReferenceIdeal.nD Cert.MambaInDwDtReferenceIdeal.τ Cert.MambaInDwDtReferenceIdeal.sig) → Buf (Elt Ideal) ℓ) : Prop :=
  True

def Pre_MambaInDxBc (m : (ℓ : Loc Cert.MambaInDxBc.nD Cert.MambaInDxBc.τ Cert.MambaInDxBc.sig) → Buf (Elt Bits) ℓ) : Prop :=
  True

def Pre_MambaInDxBcIdeal (m : (ℓ : Loc Cert.MambaInDxBcIdeal.nD Cert.MambaInDxBcIdeal.τ Cert.MambaInDxBcIdeal.sig) → Buf (Elt Ideal) ℓ) : Prop :=
  True

def Pre_MambaInDxBcReferenceIdeal (m : (ℓ : Loc Cert.MambaInDxBcReferenceIdeal.nD Cert.MambaInDxBcReferenceIdeal.τ Cert.MambaInDxBcReferenceIdeal.sig) → Buf (Elt Ideal) ℓ) : Prop :=
  True

def Pre_MambaInDxDt (m : (ℓ : Loc Cert.MambaInDxDt.nD Cert.MambaInDxDt.τ Cert.MambaInDxDt.sig) → Buf (Elt Bits) ℓ) : Prop :=
  True

def Pre_MambaInDxDtIdeal (m : (ℓ : Loc Cert.MambaInDxDtIdeal.nD Cert.MambaInDxDtIdeal.τ Cert.MambaInDxDtIdeal.sig) → Buf (Elt Ideal) ℓ) : Prop :=
  True

def Pre_MambaInDxDtReferenceIdeal (m : (ℓ : Loc Cert.MambaInDxDtReferenceIdeal.nD Cert.MambaInDxDtReferenceIdeal.τ Cert.MambaInDxDtReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInReferenceIdeal (m : (ℓ : Loc Cert.HgrnInReferenceIdeal.nD Cert.HgrnInReferenceIdeal.τ Cert.HgrnInReferenceIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutReferenceIdeal (m : (ℓ : Loc Cert.HgrnOutReferenceIdeal.nD Cert.HgrnOutReferenceIdeal.τ Cert.HgrnOutReferenceIdeal.sig) → Buf (Elt Ideal) ℓ) : Prop :=
  True

def Pre_MambaIn (m : (ℓ : Loc Cert.MambaIn.nD Cert.MambaIn.τ Cert.MambaIn.sig) → Buf (Elt Bits) ℓ) : Prop :=
  True

def Pre_MambaInIdeal (m : (ℓ : Loc Cert.MambaInIdeal.nD Cert.MambaInIdeal.τ Cert.MambaInIdeal.sig) → Buf (Elt Ideal) ℓ) : Prop :=
  True

def Pre_MambaInReferenceIdeal (m : (ℓ : Loc Cert.MambaInReferenceIdeal.nD Cert.MambaInReferenceIdeal.τ Cert.MambaInReferenceIdeal.sig) → Buf (Elt Ideal) ℓ) : Prop :=
  True

def Pre_MambaOut (m : (ℓ : Loc Cert.MambaOut.nD Cert.MambaOut.τ Cert.MambaOut.sig) → Buf (Elt Bits) ℓ) : Prop :=
  True

def Pre_MambaOutIdeal (m : (ℓ : Loc Cert.MambaOutIdeal.nD Cert.MambaOutIdeal.τ Cert.MambaOutIdeal.sig) → Buf (Elt Ideal) ℓ) : Prop :=
  True

def Pre_MambaOutReferenceIdeal (m : (ℓ : Loc Cert.MambaOutReferenceIdeal.nD Cert.MambaOutReferenceIdeal.τ Cert.MambaOutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2))
      ∧ r.2.sem = fun _ => 0)

def quiescent_HgrnOutDx [hHgrnOutDx : Cert.HgrnOutDx.Facts] : Prop :=
  ∀ (m : (ℓ : Loc Cert.HgrnOutDx.nD Cert.HgrnOutDx.τ Cert.HgrnOutDx.sig) → Buf (Elt Bits) ℓ) (g : Dev Cert.HgrnOutDx.nD → PrngReg), Pre_HgrnOutDx m →
    θ_run (Cert.HgrnOutDx.defs (F := Bits)) (onTc (τ := Cert.HgrnOutDx.τ) (Cert.HgrnOutDx.main (F := Bits))) ⟨m, fun _ => 0, g⟩ (fun r => (∀ c : Dev Cert.HgrnOutDx.nD,
      r.2.mem ((c.tc : Thread Cert.HgrnOutDx.nD Cert.HgrnOutDx.τ).loc Cert.HgrnOutDx.main_arg0) = m ((c.tc : Thread Cert.HgrnOutDx.nD Cert.HgrnOutDx.τ).loc Cert.HgrnOutDx.main_arg0)
      ∧ r.2.mem ((c.tc : Thread Cert.HgrnOutDx.nD Cert.HgrnOutDx.τ).loc Cert.HgrnOutDx.main_arg1) = m ((c.tc : Thread Cert.HgrnOutDx.nD Cert.HgrnOutDx.τ).loc Cert.HgrnOutDx.main_arg1))
      ∧ r.2.sem = fun _ => 0)

def quiescent_HgrnOutDxIdeal [hHgrnOutDxIdeal : Cert.HgrnOutDxIdeal.Facts] : Prop :=
  ∀ (m : (ℓ : Loc Cert.HgrnOutDxIdeal.nD Cert.HgrnOutDxIdeal.τ Cert.HgrnOutDxIdeal.sig) → Buf (Elt Ideal) ℓ) (g : Dev Cert.HgrnOutDxIdeal.nD → PrngReg), Pre_HgrnOutDxIdeal m →
    θ_run (Cert.HgrnOutDxIdeal.defs (F := Ideal)) (onTc (τ := Cert.HgrnOutDxIdeal.τ) (Cert.HgrnOutDxIdeal.main (F := Ideal))) ⟨m, fun _ => 0, g⟩ (fun r => (∀ c : Dev Cert.HgrnOutDxIdeal.nD,
      r.2.mem ((c.tc : Thread Cert.HgrnOutDxIdeal.nD Cert.HgrnOutDxIdeal.τ).loc Cert.HgrnOutDxIdeal.main_arg0) = m ((c.tc : Thread Cert.HgrnOutDxIdeal.nD Cert.HgrnOutDxIdeal.τ).loc Cert.HgrnOutDxIdeal.main_arg0)
      ∧ r.2.mem ((c.tc : Thread Cert.HgrnOutDxIdeal.nD Cert.HgrnOutDxIdeal.τ).loc Cert.HgrnOutDxIdeal.main_arg1) = m ((c.tc : Thread Cert.HgrnOutDxIdeal.nD Cert.HgrnOutDxIdeal.τ).loc Cert.HgrnOutDxIdeal.main_arg1))
      ∧ r.2.sem = fun _ => 0)

def quiescent_HgrnOutDxReferenceIdeal [hHgrnOutDxReferenceIdeal : Cert.HgrnOutDxReferenceIdeal.Facts] : Prop :=
  ∀ (m : (ℓ : Loc Cert.HgrnOutDxReferenceIdeal.nD Cert.HgrnOutDxReferenceIdeal.τ Cert.HgrnOutDxReferenceIdeal.sig) → Buf (Elt Ideal) ℓ) (g : Dev Cert.HgrnOutDxReferenceIdeal.nD → PrngReg), Pre_HgrnOutDxReferenceIdeal m →
    θ_run (Cert.HgrnOutDxReferenceIdeal.defs (F := Ideal)) (onTc (τ := Cert.HgrnOutDxReferenceIdeal.τ) (Cert.HgrnOutDxReferenceIdeal.main (F := Ideal))) ⟨m, fun _ => 0, g⟩ (fun r => (∀ c : Dev Cert.HgrnOutDxReferenceIdeal.nD,
      r.2.mem ((c.tc : Thread Cert.HgrnOutDxReferenceIdeal.nD Cert.HgrnOutDxReferenceIdeal.τ).loc Cert.HgrnOutDxReferenceIdeal.main_arg0) = m ((c.tc : Thread Cert.HgrnOutDxReferenceIdeal.nD Cert.HgrnOutDxReferenceIdeal.τ).loc Cert.HgrnOutDxReferenceIdeal.main_arg0)
      ∧ r.2.mem ((c.tc : Thread Cert.HgrnOutDxReferenceIdeal.nD Cert.HgrnOutDxReferenceIdeal.τ).loc Cert.HgrnOutDxReferenceIdeal.main_arg1) = m ((c.tc : Thread Cert.HgrnOutDxReferenceIdeal.nD Cert.HgrnOutDxReferenceIdeal.τ).loc Cert.HgrnOutDxReferenceIdeal.main_arg1))
      ∧ r.2.sem = fun _ => 0)

def quiescent_HgrnOutDw [hHgrnOutDw : Cert.HgrnOutDw.Facts] : Prop :=
  ∀ (m : (ℓ : Loc Cert.HgrnOutDw.nD Cert.HgrnOutDw.τ Cert.HgrnOutDw.sig) → Buf (Elt Bits) ℓ) (g : Dev Cert.HgrnOutDw.nD → PrngReg), Pre_HgrnOutDw m →
    θ_run (Cert.HgrnOutDw.defs (F := Bits)) (onTc (τ := Cert.HgrnOutDw.τ) (Cert.HgrnOutDw.main (F := Bits))) ⟨m, fun _ => 0, g⟩ (fun r => (∀ c : Dev Cert.HgrnOutDw.nD,
      r.2.mem ((c.tc : Thread Cert.HgrnOutDw.nD Cert.HgrnOutDw.τ).loc Cert.HgrnOutDw.main_arg0) = m ((c.tc : Thread Cert.HgrnOutDw.nD Cert.HgrnOutDw.τ).loc Cert.HgrnOutDw.main_arg0)
      ∧ r.2.mem ((c.tc : Thread Cert.HgrnOutDw.nD Cert.HgrnOutDw.τ).loc Cert.HgrnOutDw.main_arg1) = m ((c.tc : Thread Cert.HgrnOutDw.nD Cert.HgrnOutDw.τ).loc Cert.HgrnOutDw.main_arg1))
      ∧ r.2.sem = fun _ => 0)

def quiescent_HgrnOutDwIdeal [hHgrnOutDwIdeal : Cert.HgrnOutDwIdeal.Facts] : Prop :=
  ∀ (m : (ℓ : Loc Cert.HgrnOutDwIdeal.nD Cert.HgrnOutDwIdeal.τ Cert.HgrnOutDwIdeal.sig) → Buf (Elt Ideal) ℓ) (g : Dev Cert.HgrnOutDwIdeal.nD → PrngReg), Pre_HgrnOutDwIdeal m →
    θ_run (Cert.HgrnOutDwIdeal.defs (F := Ideal)) (onTc (τ := Cert.HgrnOutDwIdeal.τ) (Cert.HgrnOutDwIdeal.main (F := Ideal))) ⟨m, fun _ => 0, g⟩ (fun r => (∀ c : Dev Cert.HgrnOutDwIdeal.nD,
      r.2.mem ((c.tc : Thread Cert.HgrnOutDwIdeal.nD Cert.HgrnOutDwIdeal.τ).loc Cert.HgrnOutDwIdeal.main_arg0) = m ((c.tc : Thread Cert.HgrnOutDwIdeal.nD Cert.HgrnOutDwIdeal.τ).loc Cert.HgrnOutDwIdeal.main_arg0)
      ∧ r.2.mem ((c.tc : Thread Cert.HgrnOutDwIdeal.nD Cert.HgrnOutDwIdeal.τ).loc Cert.HgrnOutDwIdeal.main_arg1) = m ((c.tc : Thread Cert.HgrnOutDwIdeal.nD Cert.HgrnOutDwIdeal.τ).loc Cert.HgrnOutDwIdeal.main_arg1))
      ∧ r.2.sem = fun _ => 0)

def quiescent_HgrnOutDwReferenceIdeal [hHgrnOutDwReferenceIdeal : Cert.HgrnOutDwReferenceIdeal.Facts] : Prop :=
  ∀ (m : (ℓ : Loc Cert.HgrnOutDwReferenceIdeal.nD Cert.HgrnOutDwReferenceIdeal.τ Cert.HgrnOutDwReferenceIdeal.sig) → Buf (Elt Ideal) ℓ) (g : Dev Cert.HgrnOutDwReferenceIdeal.nD → PrngReg), Pre_HgrnOutDwReferenceIdeal m →
    θ_run (Cert.HgrnOutDwReferenceIdeal.defs (F := Ideal)) (onTc (τ := Cert.HgrnOutDwReferenceIdeal.τ) (Cert.HgrnOutDwReferenceIdeal.main (F := Ideal))) ⟨m, fun _ => 0, g⟩ (fun r => (∀ c : Dev Cert.HgrnOutDwReferenceIdeal.nD,
      r.2.mem ((c.tc : Thread Cert.HgrnOutDwReferenceIdeal.nD Cert.HgrnOutDwReferenceIdeal.τ).loc Cert.HgrnOutDwReferenceIdeal.main_arg0) = m ((c.tc : Thread Cert.HgrnOutDwReferenceIdeal.nD Cert.HgrnOutDwReferenceIdeal.τ).loc Cert.HgrnOutDwReferenceIdeal.main_arg0)
      ∧ r.2.mem ((c.tc : Thread Cert.HgrnOutDwReferenceIdeal.nD Cert.HgrnOutDwReferenceIdeal.τ).loc Cert.HgrnOutDwReferenceIdeal.main_arg1) = m ((c.tc : Thread Cert.HgrnOutDwReferenceIdeal.nD Cert.HgrnOutDwReferenceIdeal.τ).loc Cert.HgrnOutDwReferenceIdeal.main_arg1))
      ∧ r.2.sem = fun _ => 0)

def quiescent_HgrnInDw [hHgrnInDw : Cert.HgrnInDw.Facts] : Prop :=
  ∀ (m : (ℓ : Loc Cert.HgrnInDw.nD Cert.HgrnInDw.τ Cert.HgrnInDw.sig) → Buf (Elt Bits) ℓ) (g : Dev Cert.HgrnInDw.nD → PrngReg), Pre_HgrnInDw m →
    θ_run (Cert.HgrnInDw.defs (F := Bits)) (onTc (τ := Cert.HgrnInDw.τ) (Cert.HgrnInDw.main (F := Bits))) ⟨m, fun _ => 0, g⟩ (fun r => (∀ c : Dev Cert.HgrnInDw.nD,
      r.2.mem ((c.tc : Thread Cert.HgrnInDw.nD Cert.HgrnInDw.τ).loc Cert.HgrnInDw.main_arg0) = m ((c.tc : Thread Cert.HgrnInDw.nD Cert.HgrnInDw.τ).loc Cert.HgrnInDw.main_arg0)
      ∧ r.2.mem ((c.tc : Thread Cert.HgrnInDw.nD Cert.HgrnInDw.τ).loc Cert.HgrnInDw.main_arg1) = m ((c.tc : Thread Cert.HgrnInDw.nD Cert.HgrnInDw.τ).loc Cert.HgrnInDw.main_arg1))
      ∧ r.2.sem = fun _ => 0)

def quiescent_HgrnInDwIdeal [hHgrnInDwIdeal : Cert.HgrnInDwIdeal.Facts] : Prop :=
  ∀ (m : (ℓ : Loc Cert.HgrnInDwIdeal.nD Cert.HgrnInDwIdeal.τ Cert.HgrnInDwIdeal.sig) → Buf (Elt Ideal) ℓ) (g : Dev Cert.HgrnInDwIdeal.nD → PrngReg), Pre_HgrnInDwIdeal m →
    θ_run (Cert.HgrnInDwIdeal.defs (F := Ideal)) (onTc (τ := Cert.HgrnInDwIdeal.τ) (Cert.HgrnInDwIdeal.main (F := Ideal))) ⟨m, fun _ => 0, g⟩ (fun r => (∀ c : Dev Cert.HgrnInDwIdeal.nD,
      r.2.mem ((c.tc : Thread Cert.HgrnInDwIdeal.nD Cert.HgrnInDwIdeal.τ).loc Cert.HgrnInDwIdeal.main_arg0) = m ((c.tc : Thread Cert.HgrnInDwIdeal.nD Cert.HgrnInDwIdeal.τ).loc Cert.HgrnInDwIdeal.main_arg0)
      ∧ r.2.mem ((c.tc : Thread Cert.HgrnInDwIdeal.nD Cert.HgrnInDwIdeal.τ).loc Cert.HgrnInDwIdeal.main_arg1) = m ((c.tc : Thread Cert.HgrnInDwIdeal.nD Cert.HgrnInDwIdeal.τ).loc Cert.HgrnInDwIdeal.main_arg1))
      ∧ r.2.sem = fun _ => 0)

def quiescent_HgrnInDwReferenceIdeal [hHgrnInDwReferenceIdeal : Cert.HgrnInDwReferenceIdeal.Facts] : Prop :=
  ∀ (m : (ℓ : Loc Cert.HgrnInDwReferenceIdeal.nD Cert.HgrnInDwReferenceIdeal.τ Cert.HgrnInDwReferenceIdeal.sig) → Buf (Elt Ideal) ℓ) (g : Dev Cert.HgrnInDwReferenceIdeal.nD → PrngReg), Pre_HgrnInDwReferenceIdeal m →
    θ_run (Cert.HgrnInDwReferenceIdeal.defs (F := Ideal)) (onTc (τ := Cert.HgrnInDwReferenceIdeal.τ) (Cert.HgrnInDwReferenceIdeal.main (F := Ideal))) ⟨m, fun _ => 0, g⟩ (fun r => (∀ c : Dev Cert.HgrnInDwReferenceIdeal.nD,
      r.2.mem ((c.tc : Thread Cert.HgrnInDwReferenceIdeal.nD Cert.HgrnInDwReferenceIdeal.τ).loc Cert.HgrnInDwReferenceIdeal.main_arg0) = m ((c.tc : Thread Cert.HgrnInDwReferenceIdeal.nD Cert.HgrnInDwReferenceIdeal.τ).loc Cert.HgrnInDwReferenceIdeal.main_arg0)
      ∧ r.2.mem ((c.tc : Thread Cert.HgrnInDwReferenceIdeal.nD Cert.HgrnInDwReferenceIdeal.τ).loc Cert.HgrnInDwReferenceIdeal.main_arg1) = m ((c.tc : Thread Cert.HgrnInDwReferenceIdeal.nD Cert.HgrnInDwReferenceIdeal.τ).loc Cert.HgrnInDwReferenceIdeal.main_arg1))
      ∧ r.2.sem = fun _ => 0)

def quiescent_HgrnInDx [hHgrnInDx : Cert.HgrnInDx.Facts] : Prop :=
  ∀ (m : (ℓ : Loc Cert.HgrnInDx.nD Cert.HgrnInDx.τ Cert.HgrnInDx.sig) → Buf (Elt Bits) ℓ) (g : Dev Cert.HgrnInDx.nD → PrngReg), Pre_HgrnInDx m →
    θ_run (Cert.HgrnInDx.defs (F := Bits)) (onTc (τ := Cert.HgrnInDx.τ) (Cert.HgrnInDx.main (F := Bits))) ⟨m, fun _ => 0, g⟩ (fun r => (∀ c : Dev Cert.HgrnInDx.nD,
      r.2.mem ((c.tc : Thread Cert.HgrnInDx.nD Cert.HgrnInDx.τ).loc Cert.HgrnInDx.main_arg0) = m ((c.tc : Thread Cert.HgrnInDx.nD Cert.HgrnInDx.τ).loc Cert.HgrnInDx.main_arg0)
      ∧ r.2.mem ((c.tc : Thread Cert.HgrnInDx.nD Cert.HgrnInDx.τ).loc Cert.HgrnInDx.main_arg1) = m ((c.tc : Thread Cert.HgrnInDx.nD Cert.HgrnInDx.τ).loc Cert.HgrnInDx.main_arg1)
      ∧ r.2.mem ((c.tc : Thread Cert.HgrnInDx.nD Cert.HgrnInDx.τ).loc Cert.HgrnInDx.main_arg2) = m ((c.tc : Thread Cert.HgrnInDx.nD Cert.HgrnInDx.τ).loc Cert.HgrnInDx.main_arg2))
      ∧ r.2.sem = fun _ => 0)

def quiescent_HgrnInDxIdeal [hHgrnInDxIdeal : Cert.HgrnInDxIdeal.Facts] : Prop :=
  ∀ (m : (ℓ : Loc Cert.HgrnInDxIdeal.nD Cert.HgrnInDxIdeal.τ Cert.HgrnInDxIdeal.sig) → Buf (Elt Ideal) ℓ) (g : Dev Cert.HgrnInDxIdeal.nD → PrngReg), Pre_HgrnInDxIdeal m →
    θ_run (Cert.HgrnInDxIdeal.defs (F := Ideal)) (onTc (τ := Cert.HgrnInDxIdeal.τ) (Cert.HgrnInDxIdeal.main (F := Ideal))) ⟨m, fun _ => 0, g⟩ (fun r => (∀ c : Dev Cert.HgrnInDxIdeal.nD,
      r.2.mem ((c.tc : Thread Cert.HgrnInDxIdeal.nD Cert.HgrnInDxIdeal.τ).loc Cert.HgrnInDxIdeal.main_arg0) = m ((c.tc : Thread Cert.HgrnInDxIdeal.nD Cert.HgrnInDxIdeal.τ).loc Cert.HgrnInDxIdeal.main_arg0)
      ∧ r.2.mem ((c.tc : Thread Cert.HgrnInDxIdeal.nD Cert.HgrnInDxIdeal.τ).loc Cert.HgrnInDxIdeal.main_arg1) = m ((c.tc : Thread Cert.HgrnInDxIdeal.nD Cert.HgrnInDxIdeal.τ).loc Cert.HgrnInDxIdeal.main_arg1)
      ∧ r.2.mem ((c.tc : Thread Cert.HgrnInDxIdeal.nD Cert.HgrnInDxIdeal.τ).loc Cert.HgrnInDxIdeal.main_arg2) = m ((c.tc : Thread Cert.HgrnInDxIdeal.nD Cert.HgrnInDxIdeal.τ).loc Cert.HgrnInDxIdeal.main_arg2))
      ∧ r.2.sem = fun _ => 0)

def quiescent_HgrnInDxReferenceIdeal [hHgrnInDxReferenceIdeal : Cert.HgrnInDxReferenceIdeal.Facts] : Prop :=
  ∀ (m : (ℓ : Loc Cert.HgrnInDxReferenceIdeal.nD Cert.HgrnInDxReferenceIdeal.τ Cert.HgrnInDxReferenceIdeal.sig) → Buf (Elt Ideal) ℓ) (g : Dev Cert.HgrnInDxReferenceIdeal.nD → PrngReg), Pre_HgrnInDxReferenceIdeal m →
    θ_run (Cert.HgrnInDxReferenceIdeal.defs (F := Ideal)) (onTc (τ := Cert.HgrnInDxReferenceIdeal.τ) (Cert.HgrnInDxReferenceIdeal.main (F := Ideal))) ⟨m, fun _ => 0, g⟩ (fun r => (∀ c : Dev Cert.HgrnInDxReferenceIdeal.nD,
      r.2.mem ((c.tc : Thread Cert.HgrnInDxReferenceIdeal.nD Cert.HgrnInDxReferenceIdeal.τ).loc Cert.HgrnInDxReferenceIdeal.main_arg0) = m ((c.tc : Thread Cert.HgrnInDxReferenceIdeal.nD Cert.HgrnInDxReferenceIdeal.τ).loc Cert.HgrnInDxReferenceIdeal.main_arg0)
      ∧ r.2.mem ((c.tc : Thread Cert.HgrnInDxReferenceIdeal.nD Cert.HgrnInDxReferenceIdeal.τ).loc Cert.HgrnInDxReferenceIdeal.main_arg1) = m ((c.tc : Thread Cert.HgrnInDxReferenceIdeal.nD Cert.HgrnInDxReferenceIdeal.τ).loc Cert.HgrnInDxReferenceIdeal.main_arg1)
      ∧ r.2.mem ((c.tc : Thread Cert.HgrnInDxReferenceIdeal.nD Cert.HgrnInDxReferenceIdeal.τ).loc Cert.HgrnInDxReferenceIdeal.main_arg2) = m ((c.tc : Thread Cert.HgrnInDxReferenceIdeal.nD Cert.HgrnInDxReferenceIdeal.τ).loc Cert.HgrnInDxReferenceIdeal.main_arg2))
      ∧ r.2.sem = fun _ => 0)

def quiescent_MambaOutDx [hMambaOutDx : Cert.MambaOutDx.Facts] : Prop :=
  ∀ (m : (ℓ : Loc Cert.MambaOutDx.nD Cert.MambaOutDx.τ Cert.MambaOutDx.sig) → Buf (Elt Bits) ℓ) (g : Dev Cert.MambaOutDx.nD → PrngReg), Pre_MambaOutDx m →
    θ_run (Cert.MambaOutDx.defs (F := Bits)) (onTc (τ := Cert.MambaOutDx.τ) (Cert.MambaOutDx.main (F := Bits))) ⟨m, fun _ => 0, g⟩ (fun r => (∀ c : Dev Cert.MambaOutDx.nD,
      r.2.mem ((c.tc : Thread Cert.MambaOutDx.nD Cert.MambaOutDx.τ).loc Cert.MambaOutDx.main_arg0) = m ((c.tc : Thread Cert.MambaOutDx.nD Cert.MambaOutDx.τ).loc Cert.MambaOutDx.main_arg0)
      ∧ r.2.mem ((c.tc : Thread Cert.MambaOutDx.nD Cert.MambaOutDx.τ).loc Cert.MambaOutDx.main_arg1) = m ((c.tc : Thread Cert.MambaOutDx.nD Cert.MambaOutDx.τ).loc Cert.MambaOutDx.main_arg1))
      ∧ r.2.sem = fun _ => 0)

def quiescent_MambaOutDxIdeal [hMambaOutDxIdeal : Cert.MambaOutDxIdeal.Facts] : Prop :=
  ∀ (m : (ℓ : Loc Cert.MambaOutDxIdeal.nD Cert.MambaOutDxIdeal.τ Cert.MambaOutDxIdeal.sig) → Buf (Elt Ideal) ℓ) (g : Dev Cert.MambaOutDxIdeal.nD → PrngReg), Pre_MambaOutDxIdeal m →
    θ_run (Cert.MambaOutDxIdeal.defs (F := Ideal)) (onTc (τ := Cert.MambaOutDxIdeal.τ) (Cert.MambaOutDxIdeal.main (F := Ideal))) ⟨m, fun _ => 0, g⟩ (fun r => (∀ c : Dev Cert.MambaOutDxIdeal.nD,
      r.2.mem ((c.tc : Thread Cert.MambaOutDxIdeal.nD Cert.MambaOutDxIdeal.τ).loc Cert.MambaOutDxIdeal.main_arg0) = m ((c.tc : Thread Cert.MambaOutDxIdeal.nD Cert.MambaOutDxIdeal.τ).loc Cert.MambaOutDxIdeal.main_arg0)
      ∧ r.2.mem ((c.tc : Thread Cert.MambaOutDxIdeal.nD Cert.MambaOutDxIdeal.τ).loc Cert.MambaOutDxIdeal.main_arg1) = m ((c.tc : Thread Cert.MambaOutDxIdeal.nD Cert.MambaOutDxIdeal.τ).loc Cert.MambaOutDxIdeal.main_arg1))
      ∧ r.2.sem = fun _ => 0)

def quiescent_MambaOutDxReferenceIdeal [hMambaOutDxReferenceIdeal : Cert.MambaOutDxReferenceIdeal.Facts] : Prop :=
  ∀ (m : (ℓ : Loc Cert.MambaOutDxReferenceIdeal.nD Cert.MambaOutDxReferenceIdeal.τ Cert.MambaOutDxReferenceIdeal.sig) → Buf (Elt Ideal) ℓ) (g : Dev Cert.MambaOutDxReferenceIdeal.nD → PrngReg), Pre_MambaOutDxReferenceIdeal m →
    θ_run (Cert.MambaOutDxReferenceIdeal.defs (F := Ideal)) (onTc (τ := Cert.MambaOutDxReferenceIdeal.τ) (Cert.MambaOutDxReferenceIdeal.main (F := Ideal))) ⟨m, fun _ => 0, g⟩ (fun r => (∀ c : Dev Cert.MambaOutDxReferenceIdeal.nD,
      r.2.mem ((c.tc : Thread Cert.MambaOutDxReferenceIdeal.nD Cert.MambaOutDxReferenceIdeal.τ).loc Cert.MambaOutDxReferenceIdeal.main_arg0) = m ((c.tc : Thread Cert.MambaOutDxReferenceIdeal.nD Cert.MambaOutDxReferenceIdeal.τ).loc Cert.MambaOutDxReferenceIdeal.main_arg0)
      ∧ r.2.mem ((c.tc : Thread Cert.MambaOutDxReferenceIdeal.nD Cert.MambaOutDxReferenceIdeal.τ).loc Cert.MambaOutDxReferenceIdeal.main_arg1) = m ((c.tc : Thread Cert.MambaOutDxReferenceIdeal.nD Cert.MambaOutDxReferenceIdeal.τ).loc Cert.MambaOutDxReferenceIdeal.main_arg1))
      ∧ r.2.sem = fun _ => 0)

def quiescent_MambaOutDw [hMambaOutDw : Cert.MambaOutDw.Facts] : Prop :=
  ∀ (m : (ℓ : Loc Cert.MambaOutDw.nD Cert.MambaOutDw.τ Cert.MambaOutDw.sig) → Buf (Elt Bits) ℓ) (g : Dev Cert.MambaOutDw.nD → PrngReg), Pre_MambaOutDw m →
    θ_run (Cert.MambaOutDw.defs (F := Bits)) (onTc (τ := Cert.MambaOutDw.τ) (Cert.MambaOutDw.main (F := Bits))) ⟨m, fun _ => 0, g⟩ (fun r => (∀ c : Dev Cert.MambaOutDw.nD,
      r.2.mem ((c.tc : Thread Cert.MambaOutDw.nD Cert.MambaOutDw.τ).loc Cert.MambaOutDw.main_arg0) = m ((c.tc : Thread Cert.MambaOutDw.nD Cert.MambaOutDw.τ).loc Cert.MambaOutDw.main_arg0)
      ∧ r.2.mem ((c.tc : Thread Cert.MambaOutDw.nD Cert.MambaOutDw.τ).loc Cert.MambaOutDw.main_arg1) = m ((c.tc : Thread Cert.MambaOutDw.nD Cert.MambaOutDw.τ).loc Cert.MambaOutDw.main_arg1))
      ∧ r.2.sem = fun _ => 0)

def quiescent_MambaOutDwIdeal [hMambaOutDwIdeal : Cert.MambaOutDwIdeal.Facts] : Prop :=
  ∀ (m : (ℓ : Loc Cert.MambaOutDwIdeal.nD Cert.MambaOutDwIdeal.τ Cert.MambaOutDwIdeal.sig) → Buf (Elt Ideal) ℓ) (g : Dev Cert.MambaOutDwIdeal.nD → PrngReg), Pre_MambaOutDwIdeal m →
    θ_run (Cert.MambaOutDwIdeal.defs (F := Ideal)) (onTc (τ := Cert.MambaOutDwIdeal.τ) (Cert.MambaOutDwIdeal.main (F := Ideal))) ⟨m, fun _ => 0, g⟩ (fun r => (∀ c : Dev Cert.MambaOutDwIdeal.nD,
      r.2.mem ((c.tc : Thread Cert.MambaOutDwIdeal.nD Cert.MambaOutDwIdeal.τ).loc Cert.MambaOutDwIdeal.main_arg0) = m ((c.tc : Thread Cert.MambaOutDwIdeal.nD Cert.MambaOutDwIdeal.τ).loc Cert.MambaOutDwIdeal.main_arg0)
      ∧ r.2.mem ((c.tc : Thread Cert.MambaOutDwIdeal.nD Cert.MambaOutDwIdeal.τ).loc Cert.MambaOutDwIdeal.main_arg1) = m ((c.tc : Thread Cert.MambaOutDwIdeal.nD Cert.MambaOutDwIdeal.τ).loc Cert.MambaOutDwIdeal.main_arg1))
      ∧ r.2.sem = fun _ => 0)

def quiescent_MambaOutDwReferenceIdeal [hMambaOutDwReferenceIdeal : Cert.MambaOutDwReferenceIdeal.Facts] : Prop :=
  ∀ (m : (ℓ : Loc Cert.MambaOutDwReferenceIdeal.nD Cert.MambaOutDwReferenceIdeal.τ Cert.MambaOutDwReferenceIdeal.sig) → Buf (Elt Ideal) ℓ) (g : Dev Cert.MambaOutDwReferenceIdeal.nD → PrngReg), Pre_MambaOutDwReferenceIdeal m →
    θ_run (Cert.MambaOutDwReferenceIdeal.defs (F := Ideal)) (onTc (τ := Cert.MambaOutDwReferenceIdeal.τ) (Cert.MambaOutDwReferenceIdeal.main (F := Ideal))) ⟨m, fun _ => 0, g⟩ (fun r => (∀ c : Dev Cert.MambaOutDwReferenceIdeal.nD,
      r.2.mem ((c.tc : Thread Cert.MambaOutDwReferenceIdeal.nD Cert.MambaOutDwReferenceIdeal.τ).loc Cert.MambaOutDwReferenceIdeal.main_arg0) = m ((c.tc : Thread Cert.MambaOutDwReferenceIdeal.nD Cert.MambaOutDwReferenceIdeal.τ).loc Cert.MambaOutDwReferenceIdeal.main_arg0)
      ∧ r.2.mem ((c.tc : Thread Cert.MambaOutDwReferenceIdeal.nD Cert.MambaOutDwReferenceIdeal.τ).loc Cert.MambaOutDwReferenceIdeal.main_arg1) = m ((c.tc : Thread Cert.MambaOutDwReferenceIdeal.nD Cert.MambaOutDwReferenceIdeal.τ).loc Cert.MambaOutDwReferenceIdeal.main_arg1))
      ∧ r.2.sem = fun _ => 0)

def quiescent_MambaInDw [hMambaInDw : Cert.MambaInDw.Facts] : Prop :=
  ∀ (m : (ℓ : Loc Cert.MambaInDw.nD Cert.MambaInDw.τ Cert.MambaInDw.sig) → Buf (Elt Bits) ℓ) (g : Dev Cert.MambaInDw.nD → PrngReg), Pre_MambaInDw m →
    θ_run (Cert.MambaInDw.defs (F := Bits)) (onTc (τ := Cert.MambaInDw.τ) (Cert.MambaInDw.main (F := Bits))) ⟨m, fun _ => 0, g⟩ (fun r => (∀ c : Dev Cert.MambaInDw.nD,
      r.2.mem ((c.tc : Thread Cert.MambaInDw.nD Cert.MambaInDw.τ).loc Cert.MambaInDw.main_arg0) = m ((c.tc : Thread Cert.MambaInDw.nD Cert.MambaInDw.τ).loc Cert.MambaInDw.main_arg0)
      ∧ r.2.mem ((c.tc : Thread Cert.MambaInDw.nD Cert.MambaInDw.τ).loc Cert.MambaInDw.main_arg1) = m ((c.tc : Thread Cert.MambaInDw.nD Cert.MambaInDw.τ).loc Cert.MambaInDw.main_arg1)
      ∧ r.2.mem ((c.tc : Thread Cert.MambaInDw.nD Cert.MambaInDw.τ).loc Cert.MambaInDw.main_arg2) = m ((c.tc : Thread Cert.MambaInDw.nD Cert.MambaInDw.τ).loc Cert.MambaInDw.main_arg2))
      ∧ r.2.sem = fun _ => 0)

def quiescent_MambaInDwIdeal [hMambaInDwIdeal : Cert.MambaInDwIdeal.Facts] : Prop :=
  ∀ (m : (ℓ : Loc Cert.MambaInDwIdeal.nD Cert.MambaInDwIdeal.τ Cert.MambaInDwIdeal.sig) → Buf (Elt Ideal) ℓ) (g : Dev Cert.MambaInDwIdeal.nD → PrngReg), Pre_MambaInDwIdeal m →
    θ_run (Cert.MambaInDwIdeal.defs (F := Ideal)) (onTc (τ := Cert.MambaInDwIdeal.τ) (Cert.MambaInDwIdeal.main (F := Ideal))) ⟨m, fun _ => 0, g⟩ (fun r => (∀ c : Dev Cert.MambaInDwIdeal.nD,
      r.2.mem ((c.tc : Thread Cert.MambaInDwIdeal.nD Cert.MambaInDwIdeal.τ).loc Cert.MambaInDwIdeal.main_arg0) = m ((c.tc : Thread Cert.MambaInDwIdeal.nD Cert.MambaInDwIdeal.τ).loc Cert.MambaInDwIdeal.main_arg0)
      ∧ r.2.mem ((c.tc : Thread Cert.MambaInDwIdeal.nD Cert.MambaInDwIdeal.τ).loc Cert.MambaInDwIdeal.main_arg1) = m ((c.tc : Thread Cert.MambaInDwIdeal.nD Cert.MambaInDwIdeal.τ).loc Cert.MambaInDwIdeal.main_arg1)
      ∧ r.2.mem ((c.tc : Thread Cert.MambaInDwIdeal.nD Cert.MambaInDwIdeal.τ).loc Cert.MambaInDwIdeal.main_arg2) = m ((c.tc : Thread Cert.MambaInDwIdeal.nD Cert.MambaInDwIdeal.τ).loc Cert.MambaInDwIdeal.main_arg2))
      ∧ r.2.sem = fun _ => 0)

def quiescent_MambaInDwReferenceIdeal [hMambaInDwReferenceIdeal : Cert.MambaInDwReferenceIdeal.Facts] : Prop :=
  ∀ (m : (ℓ : Loc Cert.MambaInDwReferenceIdeal.nD Cert.MambaInDwReferenceIdeal.τ Cert.MambaInDwReferenceIdeal.sig) → Buf (Elt Ideal) ℓ) (g : Dev Cert.MambaInDwReferenceIdeal.nD → PrngReg), Pre_MambaInDwReferenceIdeal m →
    θ_run (Cert.MambaInDwReferenceIdeal.defs (F := Ideal)) (onTc (τ := Cert.MambaInDwReferenceIdeal.τ) (Cert.MambaInDwReferenceIdeal.main (F := Ideal))) ⟨m, fun _ => 0, g⟩ (fun r => (∀ c : Dev Cert.MambaInDwReferenceIdeal.nD,
      r.2.mem ((c.tc : Thread Cert.MambaInDwReferenceIdeal.nD Cert.MambaInDwReferenceIdeal.τ).loc Cert.MambaInDwReferenceIdeal.main_arg0) = m ((c.tc : Thread Cert.MambaInDwReferenceIdeal.nD Cert.MambaInDwReferenceIdeal.τ).loc Cert.MambaInDwReferenceIdeal.main_arg0)
      ∧ r.2.mem ((c.tc : Thread Cert.MambaInDwReferenceIdeal.nD Cert.MambaInDwReferenceIdeal.τ).loc Cert.MambaInDwReferenceIdeal.main_arg1) = m ((c.tc : Thread Cert.MambaInDwReferenceIdeal.nD Cert.MambaInDwReferenceIdeal.τ).loc Cert.MambaInDwReferenceIdeal.main_arg1)
      ∧ r.2.mem ((c.tc : Thread Cert.MambaInDwReferenceIdeal.nD Cert.MambaInDwReferenceIdeal.τ).loc Cert.MambaInDwReferenceIdeal.main_arg2) = m ((c.tc : Thread Cert.MambaInDwReferenceIdeal.nD Cert.MambaInDwReferenceIdeal.τ).loc Cert.MambaInDwReferenceIdeal.main_arg2))
      ∧ r.2.sem = fun _ => 0)

def quiescent_MambaInDx [hMambaInDx : Cert.MambaInDx.Facts] : Prop :=
  ∀ (m : (ℓ : Loc Cert.MambaInDx.nD Cert.MambaInDx.τ Cert.MambaInDx.sig) → Buf (Elt Bits) ℓ) (g : Dev Cert.MambaInDx.nD → PrngReg), Pre_MambaInDx m →
    θ_run (Cert.MambaInDx.defs (F := Bits)) (onTc (τ := Cert.MambaInDx.τ) (Cert.MambaInDx.main (F := Bits))) ⟨m, fun _ => 0, g⟩ (fun r => (∀ c : Dev Cert.MambaInDx.nD,
      r.2.mem ((c.tc : Thread Cert.MambaInDx.nD Cert.MambaInDx.τ).loc Cert.MambaInDx.main_arg0) = m ((c.tc : Thread Cert.MambaInDx.nD Cert.MambaInDx.τ).loc Cert.MambaInDx.main_arg0)
      ∧ r.2.mem ((c.tc : Thread Cert.MambaInDx.nD Cert.MambaInDx.τ).loc Cert.MambaInDx.main_arg1) = m ((c.tc : Thread Cert.MambaInDx.nD Cert.MambaInDx.τ).loc Cert.MambaInDx.main_arg1)
      ∧ r.2.mem ((c.tc : Thread Cert.MambaInDx.nD Cert.MambaInDx.τ).loc Cert.MambaInDx.main_arg2) = m ((c.tc : Thread Cert.MambaInDx.nD Cert.MambaInDx.τ).loc Cert.MambaInDx.main_arg2))
      ∧ r.2.sem = fun _ => 0)

def quiescent_MambaInDxIdeal [hMambaInDxIdeal : Cert.MambaInDxIdeal.Facts] : Prop :=
  ∀ (m : (ℓ : Loc Cert.MambaInDxIdeal.nD Cert.MambaInDxIdeal.τ Cert.MambaInDxIdeal.sig) → Buf (Elt Ideal) ℓ) (g : Dev Cert.MambaInDxIdeal.nD → PrngReg), Pre_MambaInDxIdeal m →
    θ_run (Cert.MambaInDxIdeal.defs (F := Ideal)) (onTc (τ := Cert.MambaInDxIdeal.τ) (Cert.MambaInDxIdeal.main (F := Ideal))) ⟨m, fun _ => 0, g⟩ (fun r => (∀ c : Dev Cert.MambaInDxIdeal.nD,
      r.2.mem ((c.tc : Thread Cert.MambaInDxIdeal.nD Cert.MambaInDxIdeal.τ).loc Cert.MambaInDxIdeal.main_arg0) = m ((c.tc : Thread Cert.MambaInDxIdeal.nD Cert.MambaInDxIdeal.τ).loc Cert.MambaInDxIdeal.main_arg0)
      ∧ r.2.mem ((c.tc : Thread Cert.MambaInDxIdeal.nD Cert.MambaInDxIdeal.τ).loc Cert.MambaInDxIdeal.main_arg1) = m ((c.tc : Thread Cert.MambaInDxIdeal.nD Cert.MambaInDxIdeal.τ).loc Cert.MambaInDxIdeal.main_arg1)
      ∧ r.2.mem ((c.tc : Thread Cert.MambaInDxIdeal.nD Cert.MambaInDxIdeal.τ).loc Cert.MambaInDxIdeal.main_arg2) = m ((c.tc : Thread Cert.MambaInDxIdeal.nD Cert.MambaInDxIdeal.τ).loc Cert.MambaInDxIdeal.main_arg2))
      ∧ r.2.sem = fun _ => 0)

def quiescent_MambaInDxReferenceIdeal [hMambaInDxReferenceIdeal : Cert.MambaInDxReferenceIdeal.Facts] : Prop :=
  ∀ (m : (ℓ : Loc Cert.MambaInDxReferenceIdeal.nD Cert.MambaInDxReferenceIdeal.τ Cert.MambaInDxReferenceIdeal.sig) → Buf (Elt Ideal) ℓ) (g : Dev Cert.MambaInDxReferenceIdeal.nD → PrngReg), Pre_MambaInDxReferenceIdeal m →
    θ_run (Cert.MambaInDxReferenceIdeal.defs (F := Ideal)) (onTc (τ := Cert.MambaInDxReferenceIdeal.τ) (Cert.MambaInDxReferenceIdeal.main (F := Ideal))) ⟨m, fun _ => 0, g⟩ (fun r => (∀ c : Dev Cert.MambaInDxReferenceIdeal.nD,
      r.2.mem ((c.tc : Thread Cert.MambaInDxReferenceIdeal.nD Cert.MambaInDxReferenceIdeal.τ).loc Cert.MambaInDxReferenceIdeal.main_arg0) = m ((c.tc : Thread Cert.MambaInDxReferenceIdeal.nD Cert.MambaInDxReferenceIdeal.τ).loc Cert.MambaInDxReferenceIdeal.main_arg0)
      ∧ r.2.mem ((c.tc : Thread Cert.MambaInDxReferenceIdeal.nD Cert.MambaInDxReferenceIdeal.τ).loc Cert.MambaInDxReferenceIdeal.main_arg1) = m ((c.tc : Thread Cert.MambaInDxReferenceIdeal.nD Cert.MambaInDxReferenceIdeal.τ).loc Cert.MambaInDxReferenceIdeal.main_arg1)
      ∧ r.2.mem ((c.tc : Thread Cert.MambaInDxReferenceIdeal.nD Cert.MambaInDxReferenceIdeal.τ).loc Cert.MambaInDxReferenceIdeal.main_arg2) = m ((c.tc : Thread Cert.MambaInDxReferenceIdeal.nD Cert.MambaInDxReferenceIdeal.τ).loc Cert.MambaInDxReferenceIdeal.main_arg2))
      ∧ r.2.sem = fun _ => 0)

def quiescent_MambaInDxNext [hMambaInDxNext : Cert.MambaInDxNext.Facts] : Prop :=
  ∀ (m : (ℓ : Loc Cert.MambaInDxNext.nD Cert.MambaInDxNext.τ Cert.MambaInDxNext.sig) → Buf (Elt Bits) ℓ) (g : Dev Cert.MambaInDxNext.nD → PrngReg), Pre_MambaInDxNext m →
    θ_run (Cert.MambaInDxNext.defs (F := Bits)) (onTc (τ := Cert.MambaInDxNext.τ) (Cert.MambaInDxNext.main (F := Bits))) ⟨m, fun _ => 0, g⟩ (fun r => (∀ c : Dev Cert.MambaInDxNext.nD,
      r.2.mem ((c.tc : Thread Cert.MambaInDxNext.nD Cert.MambaInDxNext.τ).loc Cert.MambaInDxNext.main_arg0) = m ((c.tc : Thread Cert.MambaInDxNext.nD Cert.MambaInDxNext.τ).loc Cert.MambaInDxNext.main_arg0)
      ∧ r.2.mem ((c.tc : Thread Cert.MambaInDxNext.nD Cert.MambaInDxNext.τ).loc Cert.MambaInDxNext.main_arg1) = m ((c.tc : Thread Cert.MambaInDxNext.nD Cert.MambaInDxNext.τ).loc Cert.MambaInDxNext.main_arg1)
      ∧ r.2.mem ((c.tc : Thread Cert.MambaInDxNext.nD Cert.MambaInDxNext.τ).loc Cert.MambaInDxNext.main_arg2) = m ((c.tc : Thread Cert.MambaInDxNext.nD Cert.MambaInDxNext.τ).loc Cert.MambaInDxNext.main_arg2))
      ∧ r.2.sem = fun _ => 0)

def quiescent_MambaInDxNextIdeal [hMambaInDxNextIdeal : Cert.MambaInDxNextIdeal.Facts] : Prop :=
  ∀ (m : (ℓ : Loc Cert.MambaInDxNextIdeal.nD Cert.MambaInDxNextIdeal.τ Cert.MambaInDxNextIdeal.sig) → Buf (Elt Ideal) ℓ) (g : Dev Cert.MambaInDxNextIdeal.nD → PrngReg), Pre_MambaInDxNextIdeal m →
    θ_run (Cert.MambaInDxNextIdeal.defs (F := Ideal)) (onTc (τ := Cert.MambaInDxNextIdeal.τ) (Cert.MambaInDxNextIdeal.main (F := Ideal))) ⟨m, fun _ => 0, g⟩ (fun r => (∀ c : Dev Cert.MambaInDxNextIdeal.nD,
      r.2.mem ((c.tc : Thread Cert.MambaInDxNextIdeal.nD Cert.MambaInDxNextIdeal.τ).loc Cert.MambaInDxNextIdeal.main_arg0) = m ((c.tc : Thread Cert.MambaInDxNextIdeal.nD Cert.MambaInDxNextIdeal.τ).loc Cert.MambaInDxNextIdeal.main_arg0)
      ∧ r.2.mem ((c.tc : Thread Cert.MambaInDxNextIdeal.nD Cert.MambaInDxNextIdeal.τ).loc Cert.MambaInDxNextIdeal.main_arg1) = m ((c.tc : Thread Cert.MambaInDxNextIdeal.nD Cert.MambaInDxNextIdeal.τ).loc Cert.MambaInDxNextIdeal.main_arg1)
      ∧ r.2.mem ((c.tc : Thread Cert.MambaInDxNextIdeal.nD Cert.MambaInDxNextIdeal.τ).loc Cert.MambaInDxNextIdeal.main_arg2) = m ((c.tc : Thread Cert.MambaInDxNextIdeal.nD Cert.MambaInDxNextIdeal.τ).loc Cert.MambaInDxNextIdeal.main_arg2))
      ∧ r.2.sem = fun _ => 0)

def quiescent_MambaInDxNextReferenceIdeal [hMambaInDxNextReferenceIdeal : Cert.MambaInDxNextReferenceIdeal.Facts] : Prop :=
  ∀ (m : (ℓ : Loc Cert.MambaInDxNextReferenceIdeal.nD Cert.MambaInDxNextReferenceIdeal.τ Cert.MambaInDxNextReferenceIdeal.sig) → Buf (Elt Ideal) ℓ) (g : Dev Cert.MambaInDxNextReferenceIdeal.nD → PrngReg), Pre_MambaInDxNextReferenceIdeal m →
    θ_run (Cert.MambaInDxNextReferenceIdeal.defs (F := Ideal)) (onTc (τ := Cert.MambaInDxNextReferenceIdeal.τ) (Cert.MambaInDxNextReferenceIdeal.main (F := Ideal))) ⟨m, fun _ => 0, g⟩ (fun r => (∀ c : Dev Cert.MambaInDxNextReferenceIdeal.nD,
      r.2.mem ((c.tc : Thread Cert.MambaInDxNextReferenceIdeal.nD Cert.MambaInDxNextReferenceIdeal.τ).loc Cert.MambaInDxNextReferenceIdeal.main_arg0) = m ((c.tc : Thread Cert.MambaInDxNextReferenceIdeal.nD Cert.MambaInDxNextReferenceIdeal.τ).loc Cert.MambaInDxNextReferenceIdeal.main_arg0)
      ∧ r.2.mem ((c.tc : Thread Cert.MambaInDxNextReferenceIdeal.nD Cert.MambaInDxNextReferenceIdeal.τ).loc Cert.MambaInDxNextReferenceIdeal.main_arg1) = m ((c.tc : Thread Cert.MambaInDxNextReferenceIdeal.nD Cert.MambaInDxNextReferenceIdeal.τ).loc Cert.MambaInDxNextReferenceIdeal.main_arg1)
      ∧ r.2.mem ((c.tc : Thread Cert.MambaInDxNextReferenceIdeal.nD Cert.MambaInDxNextReferenceIdeal.τ).loc Cert.MambaInDxNextReferenceIdeal.main_arg2) = m ((c.tc : Thread Cert.MambaInDxNextReferenceIdeal.nD Cert.MambaInDxNextReferenceIdeal.τ).loc Cert.MambaInDxNextReferenceIdeal.main_arg2))
      ∧ r.2.sem = fun _ => 0)

def quiescent_MambaInDwX [hMambaInDwX : Cert.MambaInDwX.Facts] : Prop :=
  ∀ (m : (ℓ : Loc Cert.MambaInDwX.nD Cert.MambaInDwX.τ Cert.MambaInDwX.sig) → Buf (Elt Bits) ℓ) (g : Dev Cert.MambaInDwX.nD → PrngReg), Pre_MambaInDwX m →
    θ_run (Cert.MambaInDwX.defs (F := Bits)) (onTc (τ := Cert.MambaInDwX.τ) (Cert.MambaInDwX.main (F := Bits))) ⟨m, fun _ => 0, g⟩ (fun r => (∀ c : Dev Cert.MambaInDwX.nD,
      r.2.mem ((c.tc : Thread Cert.MambaInDwX.nD Cert.MambaInDwX.τ).loc Cert.MambaInDwX.main_arg0) = m ((c.tc : Thread Cert.MambaInDwX.nD Cert.MambaInDwX.τ).loc Cert.MambaInDwX.main_arg0)
      ∧ r.2.mem ((c.tc : Thread Cert.MambaInDwX.nD Cert.MambaInDwX.τ).loc Cert.MambaInDwX.main_arg1) = m ((c.tc : Thread Cert.MambaInDwX.nD Cert.MambaInDwX.τ).loc Cert.MambaInDwX.main_arg1)
      ∧ r.2.mem ((c.tc : Thread Cert.MambaInDwX.nD Cert.MambaInDwX.τ).loc Cert.MambaInDwX.main_arg2) = m ((c.tc : Thread Cert.MambaInDwX.nD Cert.MambaInDwX.τ).loc Cert.MambaInDwX.main_arg2))
      ∧ r.2.sem = fun _ => 0)

def quiescent_MambaInDwXIdeal [hMambaInDwXIdeal : Cert.MambaInDwXIdeal.Facts] : Prop :=
  ∀ (m : (ℓ : Loc Cert.MambaInDwXIdeal.nD Cert.MambaInDwXIdeal.τ Cert.MambaInDwXIdeal.sig) → Buf (Elt Ideal) ℓ) (g : Dev Cert.MambaInDwXIdeal.nD → PrngReg), Pre_MambaInDwXIdeal m →
    θ_run (Cert.MambaInDwXIdeal.defs (F := Ideal)) (onTc (τ := Cert.MambaInDwXIdeal.τ) (Cert.MambaInDwXIdeal.main (F := Ideal))) ⟨m, fun _ => 0, g⟩ (fun r => (∀ c : Dev Cert.MambaInDwXIdeal.nD,
      r.2.mem ((c.tc : Thread Cert.MambaInDwXIdeal.nD Cert.MambaInDwXIdeal.τ).loc Cert.MambaInDwXIdeal.main_arg0) = m ((c.tc : Thread Cert.MambaInDwXIdeal.nD Cert.MambaInDwXIdeal.τ).loc Cert.MambaInDwXIdeal.main_arg0)
      ∧ r.2.mem ((c.tc : Thread Cert.MambaInDwXIdeal.nD Cert.MambaInDwXIdeal.τ).loc Cert.MambaInDwXIdeal.main_arg1) = m ((c.tc : Thread Cert.MambaInDwXIdeal.nD Cert.MambaInDwXIdeal.τ).loc Cert.MambaInDwXIdeal.main_arg1)
      ∧ r.2.mem ((c.tc : Thread Cert.MambaInDwXIdeal.nD Cert.MambaInDwXIdeal.τ).loc Cert.MambaInDwXIdeal.main_arg2) = m ((c.tc : Thread Cert.MambaInDwXIdeal.nD Cert.MambaInDwXIdeal.τ).loc Cert.MambaInDwXIdeal.main_arg2))
      ∧ r.2.sem = fun _ => 0)

def quiescent_MambaInDwXReferenceIdeal [hMambaInDwXReferenceIdeal : Cert.MambaInDwXReferenceIdeal.Facts] : Prop :=
  ∀ (m : (ℓ : Loc Cert.MambaInDwXReferenceIdeal.nD Cert.MambaInDwXReferenceIdeal.τ Cert.MambaInDwXReferenceIdeal.sig) → Buf (Elt Ideal) ℓ) (g : Dev Cert.MambaInDwXReferenceIdeal.nD → PrngReg), Pre_MambaInDwXReferenceIdeal m →
    θ_run (Cert.MambaInDwXReferenceIdeal.defs (F := Ideal)) (onTc (τ := Cert.MambaInDwXReferenceIdeal.τ) (Cert.MambaInDwXReferenceIdeal.main (F := Ideal))) ⟨m, fun _ => 0, g⟩ (fun r => (∀ c : Dev Cert.MambaInDwXReferenceIdeal.nD,
      r.2.mem ((c.tc : Thread Cert.MambaInDwXReferenceIdeal.nD Cert.MambaInDwXReferenceIdeal.τ).loc Cert.MambaInDwXReferenceIdeal.main_arg0) = m ((c.tc : Thread Cert.MambaInDwXReferenceIdeal.nD Cert.MambaInDwXReferenceIdeal.τ).loc Cert.MambaInDwXReferenceIdeal.main_arg0)
      ∧ r.2.mem ((c.tc : Thread Cert.MambaInDwXReferenceIdeal.nD Cert.MambaInDwXReferenceIdeal.τ).loc Cert.MambaInDwXReferenceIdeal.main_arg1) = m ((c.tc : Thread Cert.MambaInDwXReferenceIdeal.nD Cert.MambaInDwXReferenceIdeal.τ).loc Cert.MambaInDwXReferenceIdeal.main_arg1)
      ∧ r.2.mem ((c.tc : Thread Cert.MambaInDwXReferenceIdeal.nD Cert.MambaInDwXReferenceIdeal.τ).loc Cert.MambaInDwXReferenceIdeal.main_arg2) = m ((c.tc : Thread Cert.MambaInDwXReferenceIdeal.nD Cert.MambaInDwXReferenceIdeal.τ).loc Cert.MambaInDwXReferenceIdeal.main_arg2))
      ∧ r.2.sem = fun _ => 0)

def quiescent_MambaInDwBc [hMambaInDwBc : Cert.MambaInDwBc.Facts] : Prop :=
  ∀ (m : (ℓ : Loc Cert.MambaInDwBc.nD Cert.MambaInDwBc.τ Cert.MambaInDwBc.sig) → Buf (Elt Bits) ℓ) (g : Dev Cert.MambaInDwBc.nD → PrngReg), Pre_MambaInDwBc m →
    θ_run (Cert.MambaInDwBc.defs (F := Bits)) (onTc (τ := Cert.MambaInDwBc.τ) (Cert.MambaInDwBc.main (F := Bits))) ⟨m, fun _ => 0, g⟩ (fun r => (∀ c : Dev Cert.MambaInDwBc.nD,
      r.2.mem ((c.tc : Thread Cert.MambaInDwBc.nD Cert.MambaInDwBc.τ).loc Cert.MambaInDwBc.main_arg0) = m ((c.tc : Thread Cert.MambaInDwBc.nD Cert.MambaInDwBc.τ).loc Cert.MambaInDwBc.main_arg0)
      ∧ r.2.mem ((c.tc : Thread Cert.MambaInDwBc.nD Cert.MambaInDwBc.τ).loc Cert.MambaInDwBc.main_arg1) = m ((c.tc : Thread Cert.MambaInDwBc.nD Cert.MambaInDwBc.τ).loc Cert.MambaInDwBc.main_arg1)
      ∧ r.2.mem ((c.tc : Thread Cert.MambaInDwBc.nD Cert.MambaInDwBc.τ).loc Cert.MambaInDwBc.main_arg2) = m ((c.tc : Thread Cert.MambaInDwBc.nD Cert.MambaInDwBc.τ).loc Cert.MambaInDwBc.main_arg2))
      ∧ r.2.sem = fun _ => 0)

def quiescent_MambaInDwBcIdeal [hMambaInDwBcIdeal : Cert.MambaInDwBcIdeal.Facts] : Prop :=
  ∀ (m : (ℓ : Loc Cert.MambaInDwBcIdeal.nD Cert.MambaInDwBcIdeal.τ Cert.MambaInDwBcIdeal.sig) → Buf (Elt Ideal) ℓ) (g : Dev Cert.MambaInDwBcIdeal.nD → PrngReg), Pre_MambaInDwBcIdeal m →
    θ_run (Cert.MambaInDwBcIdeal.defs (F := Ideal)) (onTc (τ := Cert.MambaInDwBcIdeal.τ) (Cert.MambaInDwBcIdeal.main (F := Ideal))) ⟨m, fun _ => 0, g⟩ (fun r => (∀ c : Dev Cert.MambaInDwBcIdeal.nD,
      r.2.mem ((c.tc : Thread Cert.MambaInDwBcIdeal.nD Cert.MambaInDwBcIdeal.τ).loc Cert.MambaInDwBcIdeal.main_arg0) = m ((c.tc : Thread Cert.MambaInDwBcIdeal.nD Cert.MambaInDwBcIdeal.τ).loc Cert.MambaInDwBcIdeal.main_arg0)
      ∧ r.2.mem ((c.tc : Thread Cert.MambaInDwBcIdeal.nD Cert.MambaInDwBcIdeal.τ).loc Cert.MambaInDwBcIdeal.main_arg1) = m ((c.tc : Thread Cert.MambaInDwBcIdeal.nD Cert.MambaInDwBcIdeal.τ).loc Cert.MambaInDwBcIdeal.main_arg1)
      ∧ r.2.mem ((c.tc : Thread Cert.MambaInDwBcIdeal.nD Cert.MambaInDwBcIdeal.τ).loc Cert.MambaInDwBcIdeal.main_arg2) = m ((c.tc : Thread Cert.MambaInDwBcIdeal.nD Cert.MambaInDwBcIdeal.τ).loc Cert.MambaInDwBcIdeal.main_arg2))
      ∧ r.2.sem = fun _ => 0)

def quiescent_MambaInDwBcReferenceIdeal [hMambaInDwBcReferenceIdeal : Cert.MambaInDwBcReferenceIdeal.Facts] : Prop :=
  ∀ (m : (ℓ : Loc Cert.MambaInDwBcReferenceIdeal.nD Cert.MambaInDwBcReferenceIdeal.τ Cert.MambaInDwBcReferenceIdeal.sig) → Buf (Elt Ideal) ℓ) (g : Dev Cert.MambaInDwBcReferenceIdeal.nD → PrngReg), Pre_MambaInDwBcReferenceIdeal m →
    θ_run (Cert.MambaInDwBcReferenceIdeal.defs (F := Ideal)) (onTc (τ := Cert.MambaInDwBcReferenceIdeal.τ) (Cert.MambaInDwBcReferenceIdeal.main (F := Ideal))) ⟨m, fun _ => 0, g⟩ (fun r => (∀ c : Dev Cert.MambaInDwBcReferenceIdeal.nD,
      r.2.mem ((c.tc : Thread Cert.MambaInDwBcReferenceIdeal.nD Cert.MambaInDwBcReferenceIdeal.τ).loc Cert.MambaInDwBcReferenceIdeal.main_arg0) = m ((c.tc : Thread Cert.MambaInDwBcReferenceIdeal.nD Cert.MambaInDwBcReferenceIdeal.τ).loc Cert.MambaInDwBcReferenceIdeal.main_arg0)
      ∧ r.2.mem ((c.tc : Thread Cert.MambaInDwBcReferenceIdeal.nD Cert.MambaInDwBcReferenceIdeal.τ).loc Cert.MambaInDwBcReferenceIdeal.main_arg1) = m ((c.tc : Thread Cert.MambaInDwBcReferenceIdeal.nD Cert.MambaInDwBcReferenceIdeal.τ).loc Cert.MambaInDwBcReferenceIdeal.main_arg1)
      ∧ r.2.mem ((c.tc : Thread Cert.MambaInDwBcReferenceIdeal.nD Cert.MambaInDwBcReferenceIdeal.τ).loc Cert.MambaInDwBcReferenceIdeal.main_arg2) = m ((c.tc : Thread Cert.MambaInDwBcReferenceIdeal.nD Cert.MambaInDwBcReferenceIdeal.τ).loc Cert.MambaInDwBcReferenceIdeal.main_arg2))
      ∧ r.2.sem = fun _ => 0)

def quiescent_MambaInDwDt [hMambaInDwDt : Cert.MambaInDwDt.Facts] : Prop :=
  ∀ (m : (ℓ : Loc Cert.MambaInDwDt.nD Cert.MambaInDwDt.τ Cert.MambaInDwDt.sig) → Buf (Elt Bits) ℓ) (g : Dev Cert.MambaInDwDt.nD → PrngReg), Pre_MambaInDwDt m →
    θ_run (Cert.MambaInDwDt.defs (F := Bits)) (onTc (τ := Cert.MambaInDwDt.τ) (Cert.MambaInDwDt.main (F := Bits))) ⟨m, fun _ => 0, g⟩ (fun r => (∀ c : Dev Cert.MambaInDwDt.nD,
      r.2.mem ((c.tc : Thread Cert.MambaInDwDt.nD Cert.MambaInDwDt.τ).loc Cert.MambaInDwDt.main_arg0) = m ((c.tc : Thread Cert.MambaInDwDt.nD Cert.MambaInDwDt.τ).loc Cert.MambaInDwDt.main_arg0)
      ∧ r.2.mem ((c.tc : Thread Cert.MambaInDwDt.nD Cert.MambaInDwDt.τ).loc Cert.MambaInDwDt.main_arg1) = m ((c.tc : Thread Cert.MambaInDwDt.nD Cert.MambaInDwDt.τ).loc Cert.MambaInDwDt.main_arg1)
      ∧ r.2.mem ((c.tc : Thread Cert.MambaInDwDt.nD Cert.MambaInDwDt.τ).loc Cert.MambaInDwDt.main_arg2) = m ((c.tc : Thread Cert.MambaInDwDt.nD Cert.MambaInDwDt.τ).loc Cert.MambaInDwDt.main_arg2))
      ∧ r.2.sem = fun _ => 0)

def quiescent_MambaInDwDtIdeal [hMambaInDwDtIdeal : Cert.MambaInDwDtIdeal.Facts] : Prop :=
  ∀ (m : (ℓ : Loc Cert.MambaInDwDtIdeal.nD Cert.MambaInDwDtIdeal.τ Cert.MambaInDwDtIdeal.sig) → Buf (Elt Ideal) ℓ) (g : Dev Cert.MambaInDwDtIdeal.nD → PrngReg), Pre_MambaInDwDtIdeal m →
    θ_run (Cert.MambaInDwDtIdeal.defs (F := Ideal)) (onTc (τ := Cert.MambaInDwDtIdeal.τ) (Cert.MambaInDwDtIdeal.main (F := Ideal))) ⟨m, fun _ => 0, g⟩ (fun r => (∀ c : Dev Cert.MambaInDwDtIdeal.nD,
      r.2.mem ((c.tc : Thread Cert.MambaInDwDtIdeal.nD Cert.MambaInDwDtIdeal.τ).loc Cert.MambaInDwDtIdeal.main_arg0) = m ((c.tc : Thread Cert.MambaInDwDtIdeal.nD Cert.MambaInDwDtIdeal.τ).loc Cert.MambaInDwDtIdeal.main_arg0)
      ∧ r.2.mem ((c.tc : Thread Cert.MambaInDwDtIdeal.nD Cert.MambaInDwDtIdeal.τ).loc Cert.MambaInDwDtIdeal.main_arg1) = m ((c.tc : Thread Cert.MambaInDwDtIdeal.nD Cert.MambaInDwDtIdeal.τ).loc Cert.MambaInDwDtIdeal.main_arg1)
      ∧ r.2.mem ((c.tc : Thread Cert.MambaInDwDtIdeal.nD Cert.MambaInDwDtIdeal.τ).loc Cert.MambaInDwDtIdeal.main_arg2) = m ((c.tc : Thread Cert.MambaInDwDtIdeal.nD Cert.MambaInDwDtIdeal.τ).loc Cert.MambaInDwDtIdeal.main_arg2))
      ∧ r.2.sem = fun _ => 0)

def quiescent_MambaInDwDtReferenceIdeal [hMambaInDwDtReferenceIdeal : Cert.MambaInDwDtReferenceIdeal.Facts] : Prop :=
  ∀ (m : (ℓ : Loc Cert.MambaInDwDtReferenceIdeal.nD Cert.MambaInDwDtReferenceIdeal.τ Cert.MambaInDwDtReferenceIdeal.sig) → Buf (Elt Ideal) ℓ) (g : Dev Cert.MambaInDwDtReferenceIdeal.nD → PrngReg), Pre_MambaInDwDtReferenceIdeal m →
    θ_run (Cert.MambaInDwDtReferenceIdeal.defs (F := Ideal)) (onTc (τ := Cert.MambaInDwDtReferenceIdeal.τ) (Cert.MambaInDwDtReferenceIdeal.main (F := Ideal))) ⟨m, fun _ => 0, g⟩ (fun r => (∀ c : Dev Cert.MambaInDwDtReferenceIdeal.nD,
      r.2.mem ((c.tc : Thread Cert.MambaInDwDtReferenceIdeal.nD Cert.MambaInDwDtReferenceIdeal.τ).loc Cert.MambaInDwDtReferenceIdeal.main_arg0) = m ((c.tc : Thread Cert.MambaInDwDtReferenceIdeal.nD Cert.MambaInDwDtReferenceIdeal.τ).loc Cert.MambaInDwDtReferenceIdeal.main_arg0)
      ∧ r.2.mem ((c.tc : Thread Cert.MambaInDwDtReferenceIdeal.nD Cert.MambaInDwDtReferenceIdeal.τ).loc Cert.MambaInDwDtReferenceIdeal.main_arg1) = m ((c.tc : Thread Cert.MambaInDwDtReferenceIdeal.nD Cert.MambaInDwDtReferenceIdeal.τ).loc Cert.MambaInDwDtReferenceIdeal.main_arg1)
      ∧ r.2.mem ((c.tc : Thread Cert.MambaInDwDtReferenceIdeal.nD Cert.MambaInDwDtReferenceIdeal.τ).loc Cert.MambaInDwDtReferenceIdeal.main_arg2) = m ((c.tc : Thread Cert.MambaInDwDtReferenceIdeal.nD Cert.MambaInDwDtReferenceIdeal.τ).loc Cert.MambaInDwDtReferenceIdeal.main_arg2))
      ∧ r.2.sem = fun _ => 0)

def quiescent_MambaInDxBc [hMambaInDxBc : Cert.MambaInDxBc.Facts] : Prop :=
  ∀ (m : (ℓ : Loc Cert.MambaInDxBc.nD Cert.MambaInDxBc.τ Cert.MambaInDxBc.sig) → Buf (Elt Bits) ℓ) (g : Dev Cert.MambaInDxBc.nD → PrngReg), Pre_MambaInDxBc m →
    θ_run (Cert.MambaInDxBc.defs (F := Bits)) (onTc (τ := Cert.MambaInDxBc.τ) (Cert.MambaInDxBc.main (F := Bits))) ⟨m, fun _ => 0, g⟩ (fun r => (∀ c : Dev Cert.MambaInDxBc.nD,
      r.2.mem ((c.tc : Thread Cert.MambaInDxBc.nD Cert.MambaInDxBc.τ).loc Cert.MambaInDxBc.main_arg0) = m ((c.tc : Thread Cert.MambaInDxBc.nD Cert.MambaInDxBc.τ).loc Cert.MambaInDxBc.main_arg0)
      ∧ r.2.mem ((c.tc : Thread Cert.MambaInDxBc.nD Cert.MambaInDxBc.τ).loc Cert.MambaInDxBc.main_arg1) = m ((c.tc : Thread Cert.MambaInDxBc.nD Cert.MambaInDxBc.τ).loc Cert.MambaInDxBc.main_arg1)
      ∧ r.2.mem ((c.tc : Thread Cert.MambaInDxBc.nD Cert.MambaInDxBc.τ).loc Cert.MambaInDxBc.main_arg2) = m ((c.tc : Thread Cert.MambaInDxBc.nD Cert.MambaInDxBc.τ).loc Cert.MambaInDxBc.main_arg2))
      ∧ r.2.sem = fun _ => 0)

def quiescent_MambaInDxBcIdeal [hMambaInDxBcIdeal : Cert.MambaInDxBcIdeal.Facts] : Prop :=
  ∀ (m : (ℓ : Loc Cert.MambaInDxBcIdeal.nD Cert.MambaInDxBcIdeal.τ Cert.MambaInDxBcIdeal.sig) → Buf (Elt Ideal) ℓ) (g : Dev Cert.MambaInDxBcIdeal.nD → PrngReg), Pre_MambaInDxBcIdeal m →
    θ_run (Cert.MambaInDxBcIdeal.defs (F := Ideal)) (onTc (τ := Cert.MambaInDxBcIdeal.τ) (Cert.MambaInDxBcIdeal.main (F := Ideal))) ⟨m, fun _ => 0, g⟩ (fun r => (∀ c : Dev Cert.MambaInDxBcIdeal.nD,
      r.2.mem ((c.tc : Thread Cert.MambaInDxBcIdeal.nD Cert.MambaInDxBcIdeal.τ).loc Cert.MambaInDxBcIdeal.main_arg0) = m ((c.tc : Thread Cert.MambaInDxBcIdeal.nD Cert.MambaInDxBcIdeal.τ).loc Cert.MambaInDxBcIdeal.main_arg0)
      ∧ r.2.mem ((c.tc : Thread Cert.MambaInDxBcIdeal.nD Cert.MambaInDxBcIdeal.τ).loc Cert.MambaInDxBcIdeal.main_arg1) = m ((c.tc : Thread Cert.MambaInDxBcIdeal.nD Cert.MambaInDxBcIdeal.τ).loc Cert.MambaInDxBcIdeal.main_arg1)
      ∧ r.2.mem ((c.tc : Thread Cert.MambaInDxBcIdeal.nD Cert.MambaInDxBcIdeal.τ).loc Cert.MambaInDxBcIdeal.main_arg2) = m ((c.tc : Thread Cert.MambaInDxBcIdeal.nD Cert.MambaInDxBcIdeal.τ).loc Cert.MambaInDxBcIdeal.main_arg2))
      ∧ r.2.sem = fun _ => 0)

def quiescent_MambaInDxBcReferenceIdeal [hMambaInDxBcReferenceIdeal : Cert.MambaInDxBcReferenceIdeal.Facts] : Prop :=
  ∀ (m : (ℓ : Loc Cert.MambaInDxBcReferenceIdeal.nD Cert.MambaInDxBcReferenceIdeal.τ Cert.MambaInDxBcReferenceIdeal.sig) → Buf (Elt Ideal) ℓ) (g : Dev Cert.MambaInDxBcReferenceIdeal.nD → PrngReg), Pre_MambaInDxBcReferenceIdeal m →
    θ_run (Cert.MambaInDxBcReferenceIdeal.defs (F := Ideal)) (onTc (τ := Cert.MambaInDxBcReferenceIdeal.τ) (Cert.MambaInDxBcReferenceIdeal.main (F := Ideal))) ⟨m, fun _ => 0, g⟩ (fun r => (∀ c : Dev Cert.MambaInDxBcReferenceIdeal.nD,
      r.2.mem ((c.tc : Thread Cert.MambaInDxBcReferenceIdeal.nD Cert.MambaInDxBcReferenceIdeal.τ).loc Cert.MambaInDxBcReferenceIdeal.main_arg0) = m ((c.tc : Thread Cert.MambaInDxBcReferenceIdeal.nD Cert.MambaInDxBcReferenceIdeal.τ).loc Cert.MambaInDxBcReferenceIdeal.main_arg0)
      ∧ r.2.mem ((c.tc : Thread Cert.MambaInDxBcReferenceIdeal.nD Cert.MambaInDxBcReferenceIdeal.τ).loc Cert.MambaInDxBcReferenceIdeal.main_arg1) = m ((c.tc : Thread Cert.MambaInDxBcReferenceIdeal.nD Cert.MambaInDxBcReferenceIdeal.τ).loc Cert.MambaInDxBcReferenceIdeal.main_arg1)
      ∧ r.2.mem ((c.tc : Thread Cert.MambaInDxBcReferenceIdeal.nD Cert.MambaInDxBcReferenceIdeal.τ).loc Cert.MambaInDxBcReferenceIdeal.main_arg2) = m ((c.tc : Thread Cert.MambaInDxBcReferenceIdeal.nD Cert.MambaInDxBcReferenceIdeal.τ).loc Cert.MambaInDxBcReferenceIdeal.main_arg2))
      ∧ r.2.sem = fun _ => 0)

def quiescent_MambaInDxDt [hMambaInDxDt : Cert.MambaInDxDt.Facts] : Prop :=
  ∀ (m : (ℓ : Loc Cert.MambaInDxDt.nD Cert.MambaInDxDt.τ Cert.MambaInDxDt.sig) → Buf (Elt Bits) ℓ) (g : Dev Cert.MambaInDxDt.nD → PrngReg), Pre_MambaInDxDt m →
    θ_run (Cert.MambaInDxDt.defs (F := Bits)) (onTc (τ := Cert.MambaInDxDt.τ) (Cert.MambaInDxDt.main (F := Bits))) ⟨m, fun _ => 0, g⟩ (fun r => (∀ c : Dev Cert.MambaInDxDt.nD,
      r.2.mem ((c.tc : Thread Cert.MambaInDxDt.nD Cert.MambaInDxDt.τ).loc Cert.MambaInDxDt.main_arg0) = m ((c.tc : Thread Cert.MambaInDxDt.nD Cert.MambaInDxDt.τ).loc Cert.MambaInDxDt.main_arg0)
      ∧ r.2.mem ((c.tc : Thread Cert.MambaInDxDt.nD Cert.MambaInDxDt.τ).loc Cert.MambaInDxDt.main_arg1) = m ((c.tc : Thread Cert.MambaInDxDt.nD Cert.MambaInDxDt.τ).loc Cert.MambaInDxDt.main_arg1)
      ∧ r.2.mem ((c.tc : Thread Cert.MambaInDxDt.nD Cert.MambaInDxDt.τ).loc Cert.MambaInDxDt.main_arg2) = m ((c.tc : Thread Cert.MambaInDxDt.nD Cert.MambaInDxDt.τ).loc Cert.MambaInDxDt.main_arg2))
      ∧ r.2.sem = fun _ => 0)

def quiescent_MambaInDxDtIdeal [hMambaInDxDtIdeal : Cert.MambaInDxDtIdeal.Facts] : Prop :=
  ∀ (m : (ℓ : Loc Cert.MambaInDxDtIdeal.nD Cert.MambaInDxDtIdeal.τ Cert.MambaInDxDtIdeal.sig) → Buf (Elt Ideal) ℓ) (g : Dev Cert.MambaInDxDtIdeal.nD → PrngReg), Pre_MambaInDxDtIdeal m →
    θ_run (Cert.MambaInDxDtIdeal.defs (F := Ideal)) (onTc (τ := Cert.MambaInDxDtIdeal.τ) (Cert.MambaInDxDtIdeal.main (F := Ideal))) ⟨m, fun _ => 0, g⟩ (fun r => (∀ c : Dev Cert.MambaInDxDtIdeal.nD,
      r.2.mem ((c.tc : Thread Cert.MambaInDxDtIdeal.nD Cert.MambaInDxDtIdeal.τ).loc Cert.MambaInDxDtIdeal.main_arg0) = m ((c.tc : Thread Cert.MambaInDxDtIdeal.nD Cert.MambaInDxDtIdeal.τ).loc Cert.MambaInDxDtIdeal.main_arg0)
      ∧ r.2.mem ((c.tc : Thread Cert.MambaInDxDtIdeal.nD Cert.MambaInDxDtIdeal.τ).loc Cert.MambaInDxDtIdeal.main_arg1) = m ((c.tc : Thread Cert.MambaInDxDtIdeal.nD Cert.MambaInDxDtIdeal.τ).loc Cert.MambaInDxDtIdeal.main_arg1)
      ∧ r.2.mem ((c.tc : Thread Cert.MambaInDxDtIdeal.nD Cert.MambaInDxDtIdeal.τ).loc Cert.MambaInDxDtIdeal.main_arg2) = m ((c.tc : Thread Cert.MambaInDxDtIdeal.nD Cert.MambaInDxDtIdeal.τ).loc Cert.MambaInDxDtIdeal.main_arg2))
      ∧ r.2.sem = fun _ => 0)

def quiescent_MambaInDxDtReferenceIdeal [hMambaInDxDtReferenceIdeal : Cert.MambaInDxDtReferenceIdeal.Facts] : Prop :=
  ∀ (m : (ℓ : Loc Cert.MambaInDxDtReferenceIdeal.nD Cert.MambaInDxDtReferenceIdeal.τ Cert.MambaInDxDtReferenceIdeal.sig) → Buf (Elt Ideal) ℓ) (g : Dev Cert.MambaInDxDtReferenceIdeal.nD → PrngReg), Pre_MambaInDxDtReferenceIdeal m →
    θ_run (Cert.MambaInDxDtReferenceIdeal.defs (F := Ideal)) (onTc (τ := Cert.MambaInDxDtReferenceIdeal.τ) (Cert.MambaInDxDtReferenceIdeal.main (F := Ideal))) ⟨m, fun _ => 0, g⟩ (fun r => (∀ c : Dev Cert.MambaInDxDtReferenceIdeal.nD,
      r.2.mem ((c.tc : Thread Cert.MambaInDxDtReferenceIdeal.nD Cert.MambaInDxDtReferenceIdeal.τ).loc Cert.MambaInDxDtReferenceIdeal.main_arg0) = m ((c.tc : Thread Cert.MambaInDxDtReferenceIdeal.nD Cert.MambaInDxDtReferenceIdeal.τ).loc Cert.MambaInDxDtReferenceIdeal.main_arg0)
      ∧ r.2.mem ((c.tc : Thread Cert.MambaInDxDtReferenceIdeal.nD Cert.MambaInDxDtReferenceIdeal.τ).loc Cert.MambaInDxDtReferenceIdeal.main_arg1) = m ((c.tc : Thread Cert.MambaInDxDtReferenceIdeal.nD Cert.MambaInDxDtReferenceIdeal.τ).loc Cert.MambaInDxDtReferenceIdeal.main_arg1)
      ∧ r.2.mem ((c.tc : Thread Cert.MambaInDxDtReferenceIdeal.nD Cert.MambaInDxDtReferenceIdeal.τ).loc Cert.MambaInDxDtReferenceIdeal.main_arg2) = m ((c.tc : Thread Cert.MambaInDxDtReferenceIdeal.nD Cert.MambaInDxDtReferenceIdeal.τ).loc Cert.MambaInDxDtReferenceIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3)
      ∧ r.2.mem ((c.tc : Thread Cert.NormBwdReferenceIdeal.nD Cert.NormBwdReferenceIdeal.τ).loc Cert.NormBwdReferenceIdeal.main_arg4) = m ((c.tc : Thread Cert.NormBwdReferenceIdeal.nD Cert.NormBwdReferenceIdeal.τ).loc Cert.NormBwdReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ r.2.sem = fun _ => 0)

def quiescent_HgrnInReferenceIdeal [hHgrnInReferenceIdeal : Cert.HgrnInReferenceIdeal.Facts] : Prop :=
  ∀ (m : (ℓ : Loc Cert.HgrnInReferenceIdeal.nD Cert.HgrnInReferenceIdeal.τ Cert.HgrnInReferenceIdeal.sig) → Buf (Elt Ideal) ℓ) (g : Dev Cert.HgrnInReferenceIdeal.nD → PrngReg), Pre_HgrnInReferenceIdeal m →
    θ_run (Cert.HgrnInReferenceIdeal.defs (F := Ideal)) (onTc (τ := Cert.HgrnInReferenceIdeal.τ) (Cert.HgrnInReferenceIdeal.main (F := Ideal))) ⟨m, fun _ => 0, g⟩ (fun r => (∀ c : Dev Cert.HgrnInReferenceIdeal.nD,
      r.2.mem ((c.tc : Thread Cert.HgrnInReferenceIdeal.nD Cert.HgrnInReferenceIdeal.τ).loc Cert.HgrnInReferenceIdeal.main_arg0) = m ((c.tc : Thread Cert.HgrnInReferenceIdeal.nD Cert.HgrnInReferenceIdeal.τ).loc Cert.HgrnInReferenceIdeal.main_arg0)
      ∧ r.2.mem ((c.tc : Thread Cert.HgrnInReferenceIdeal.nD Cert.HgrnInReferenceIdeal.τ).loc Cert.HgrnInReferenceIdeal.main_arg1) = m ((c.tc : Thread Cert.HgrnInReferenceIdeal.nD Cert.HgrnInReferenceIdeal.τ).loc Cert.HgrnInReferenceIdeal.main_arg1))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2))
      ∧ r.2.sem = fun _ => 0)

def quiescent_HgrnOutReferenceIdeal [hHgrnOutReferenceIdeal : Cert.HgrnOutReferenceIdeal.Facts] : Prop :=
  ∀ (m : (ℓ : Loc Cert.HgrnOutReferenceIdeal.nD Cert.HgrnOutReferenceIdeal.τ Cert.HgrnOutReferenceIdeal.sig) → Buf (Elt Ideal) ℓ) (g : Dev Cert.HgrnOutReferenceIdeal.nD → PrngReg), Pre_HgrnOutReferenceIdeal m →
    θ_run (Cert.HgrnOutReferenceIdeal.defs (F := Ideal)) (onTc (τ := Cert.HgrnOutReferenceIdeal.τ) (Cert.HgrnOutReferenceIdeal.main (F := Ideal))) ⟨m, fun _ => 0, g⟩ (fun r => (∀ c : Dev Cert.HgrnOutReferenceIdeal.nD,
      r.2.mem ((c.tc : Thread Cert.HgrnOutReferenceIdeal.nD Cert.HgrnOutReferenceIdeal.τ).loc Cert.HgrnOutReferenceIdeal.main_arg0) = m ((c.tc : Thread Cert.HgrnOutReferenceIdeal.nD Cert.HgrnOutReferenceIdeal.τ).loc Cert.HgrnOutReferenceIdeal.main_arg0)
      ∧ r.2.mem ((c.tc : Thread Cert.HgrnOutReferenceIdeal.nD Cert.HgrnOutReferenceIdeal.τ).loc Cert.HgrnOutReferenceIdeal.main_arg1) = m ((c.tc : Thread Cert.HgrnOutReferenceIdeal.nD Cert.HgrnOutReferenceIdeal.τ).loc Cert.HgrnOutReferenceIdeal.main_arg1)
      ∧ r.2.mem ((c.tc : Thread Cert.HgrnOutReferenceIdeal.nD Cert.HgrnOutReferenceIdeal.τ).loc Cert.HgrnOutReferenceIdeal.main_arg2) = m ((c.tc : Thread Cert.HgrnOutReferenceIdeal.nD Cert.HgrnOutReferenceIdeal.τ).loc Cert.HgrnOutReferenceIdeal.main_arg2))
      ∧ r.2.sem = fun _ => 0)

def quiescent_MambaIn [hMambaIn : Cert.MambaIn.Facts] : Prop :=
  ∀ (m : (ℓ : Loc Cert.MambaIn.nD Cert.MambaIn.τ Cert.MambaIn.sig) → Buf (Elt Bits) ℓ) (g : Dev Cert.MambaIn.nD → PrngReg), Pre_MambaIn m →
    θ_run (Cert.MambaIn.defs (F := Bits)) (onTc (τ := Cert.MambaIn.τ) (Cert.MambaIn.main (F := Bits))) ⟨m, fun _ => 0, g⟩ (fun r => (∀ c : Dev Cert.MambaIn.nD,
      r.2.mem ((c.tc : Thread Cert.MambaIn.nD Cert.MambaIn.τ).loc Cert.MambaIn.main_arg0) = m ((c.tc : Thread Cert.MambaIn.nD Cert.MambaIn.τ).loc Cert.MambaIn.main_arg0)
      ∧ r.2.mem ((c.tc : Thread Cert.MambaIn.nD Cert.MambaIn.τ).loc Cert.MambaIn.main_arg1) = m ((c.tc : Thread Cert.MambaIn.nD Cert.MambaIn.τ).loc Cert.MambaIn.main_arg1))
      ∧ r.2.sem = fun _ => 0)

def quiescent_MambaInIdeal [hMambaInIdeal : Cert.MambaInIdeal.Facts] : Prop :=
  ∀ (m : (ℓ : Loc Cert.MambaInIdeal.nD Cert.MambaInIdeal.τ Cert.MambaInIdeal.sig) → Buf (Elt Ideal) ℓ) (g : Dev Cert.MambaInIdeal.nD → PrngReg), Pre_MambaInIdeal m →
    θ_run (Cert.MambaInIdeal.defs (F := Ideal)) (onTc (τ := Cert.MambaInIdeal.τ) (Cert.MambaInIdeal.main (F := Ideal))) ⟨m, fun _ => 0, g⟩ (fun r => (∀ c : Dev Cert.MambaInIdeal.nD,
      r.2.mem ((c.tc : Thread Cert.MambaInIdeal.nD Cert.MambaInIdeal.τ).loc Cert.MambaInIdeal.main_arg0) = m ((c.tc : Thread Cert.MambaInIdeal.nD Cert.MambaInIdeal.τ).loc Cert.MambaInIdeal.main_arg0)
      ∧ r.2.mem ((c.tc : Thread Cert.MambaInIdeal.nD Cert.MambaInIdeal.τ).loc Cert.MambaInIdeal.main_arg1) = m ((c.tc : Thread Cert.MambaInIdeal.nD Cert.MambaInIdeal.τ).loc Cert.MambaInIdeal.main_arg1))
      ∧ r.2.sem = fun _ => 0)

def quiescent_MambaInReferenceIdeal [hMambaInReferenceIdeal : Cert.MambaInReferenceIdeal.Facts] : Prop :=
  ∀ (m : (ℓ : Loc Cert.MambaInReferenceIdeal.nD Cert.MambaInReferenceIdeal.τ Cert.MambaInReferenceIdeal.sig) → Buf (Elt Ideal) ℓ) (g : Dev Cert.MambaInReferenceIdeal.nD → PrngReg), Pre_MambaInReferenceIdeal m →
    θ_run (Cert.MambaInReferenceIdeal.defs (F := Ideal)) (onTc (τ := Cert.MambaInReferenceIdeal.τ) (Cert.MambaInReferenceIdeal.main (F := Ideal))) ⟨m, fun _ => 0, g⟩ (fun r => (∀ c : Dev Cert.MambaInReferenceIdeal.nD,
      r.2.mem ((c.tc : Thread Cert.MambaInReferenceIdeal.nD Cert.MambaInReferenceIdeal.τ).loc Cert.MambaInReferenceIdeal.main_arg0) = m ((c.tc : Thread Cert.MambaInReferenceIdeal.nD Cert.MambaInReferenceIdeal.τ).loc Cert.MambaInReferenceIdeal.main_arg0)
      ∧ r.2.mem ((c.tc : Thread Cert.MambaInReferenceIdeal.nD Cert.MambaInReferenceIdeal.τ).loc Cert.MambaInReferenceIdeal.main_arg1) = m ((c.tc : Thread Cert.MambaInReferenceIdeal.nD Cert.MambaInReferenceIdeal.τ).loc Cert.MambaInReferenceIdeal.main_arg1))
      ∧ r.2.sem = fun _ => 0)

def quiescent_MambaOut [hMambaOut : Cert.MambaOut.Facts] : Prop :=
  ∀ (m : (ℓ : Loc Cert.MambaOut.nD Cert.MambaOut.τ Cert.MambaOut.sig) → Buf (Elt Bits) ℓ) (g : Dev Cert.MambaOut.nD → PrngReg), Pre_MambaOut m →
    θ_run (Cert.MambaOut.defs (F := Bits)) (onTc (τ := Cert.MambaOut.τ) (Cert.MambaOut.main (F := Bits))) ⟨m, fun _ => 0, g⟩ (fun r => (∀ c : Dev Cert.MambaOut.nD,
      r.2.mem ((c.tc : Thread Cert.MambaOut.nD Cert.MambaOut.τ).loc Cert.MambaOut.main_arg0) = m ((c.tc : Thread Cert.MambaOut.nD Cert.MambaOut.τ).loc Cert.MambaOut.main_arg0)
      ∧ r.2.mem ((c.tc : Thread Cert.MambaOut.nD Cert.MambaOut.τ).loc Cert.MambaOut.main_arg1) = m ((c.tc : Thread Cert.MambaOut.nD Cert.MambaOut.τ).loc Cert.MambaOut.main_arg1)
      ∧ r.2.mem ((c.tc : Thread Cert.MambaOut.nD Cert.MambaOut.τ).loc Cert.MambaOut.main_arg2) = m ((c.tc : Thread Cert.MambaOut.nD Cert.MambaOut.τ).loc Cert.MambaOut.main_arg2))
      ∧ r.2.sem = fun _ => 0)

def quiescent_MambaOutIdeal [hMambaOutIdeal : Cert.MambaOutIdeal.Facts] : Prop :=
  ∀ (m : (ℓ : Loc Cert.MambaOutIdeal.nD Cert.MambaOutIdeal.τ Cert.MambaOutIdeal.sig) → Buf (Elt Ideal) ℓ) (g : Dev Cert.MambaOutIdeal.nD → PrngReg), Pre_MambaOutIdeal m →
    θ_run (Cert.MambaOutIdeal.defs (F := Ideal)) (onTc (τ := Cert.MambaOutIdeal.τ) (Cert.MambaOutIdeal.main (F := Ideal))) ⟨m, fun _ => 0, g⟩ (fun r => (∀ c : Dev Cert.MambaOutIdeal.nD,
      r.2.mem ((c.tc : Thread Cert.MambaOutIdeal.nD Cert.MambaOutIdeal.τ).loc Cert.MambaOutIdeal.main_arg0) = m ((c.tc : Thread Cert.MambaOutIdeal.nD Cert.MambaOutIdeal.τ).loc Cert.MambaOutIdeal.main_arg0)
      ∧ r.2.mem ((c.tc : Thread Cert.MambaOutIdeal.nD Cert.MambaOutIdeal.τ).loc Cert.MambaOutIdeal.main_arg1) = m ((c.tc : Thread Cert.MambaOutIdeal.nD Cert.MambaOutIdeal.τ).loc Cert.MambaOutIdeal.main_arg1)
      ∧ r.2.mem ((c.tc : Thread Cert.MambaOutIdeal.nD Cert.MambaOutIdeal.τ).loc Cert.MambaOutIdeal.main_arg2) = m ((c.tc : Thread Cert.MambaOutIdeal.nD Cert.MambaOutIdeal.τ).loc Cert.MambaOutIdeal.main_arg2))
      ∧ r.2.sem = fun _ => 0)

def quiescent_MambaOutReferenceIdeal [hMambaOutReferenceIdeal : Cert.MambaOutReferenceIdeal.Facts] : Prop :=
  ∀ (m : (ℓ : Loc Cert.MambaOutReferenceIdeal.nD Cert.MambaOutReferenceIdeal.τ Cert.MambaOutReferenceIdeal.sig) → Buf (Elt Ideal) ℓ) (g : Dev Cert.MambaOutReferenceIdeal.nD → PrngReg), Pre_MambaOutReferenceIdeal m →
    θ_run (Cert.MambaOutReferenceIdeal.defs (F := Ideal)) (onTc (τ := Cert.MambaOutReferenceIdeal.τ) (Cert.MambaOutReferenceIdeal.main (F := Ideal))) ⟨m, fun _ => 0, g⟩ (fun r => (∀ c : Dev Cert.MambaOutReferenceIdeal.nD,
      r.2.mem ((c.tc : Thread Cert.MambaOutReferenceIdeal.nD Cert.MambaOutReferenceIdeal.τ).loc Cert.MambaOutReferenceIdeal.main_arg0) = m ((c.tc : Thread Cert.MambaOutReferenceIdeal.nD Cert.MambaOutReferenceIdeal.τ).loc Cert.MambaOutReferenceIdeal.main_arg0)
      ∧ r.2.mem ((c.tc : Thread Cert.MambaOutReferenceIdeal.nD Cert.MambaOutReferenceIdeal.τ).loc Cert.MambaOutReferenceIdeal.main_arg1) = m ((c.tc : Thread Cert.MambaOutReferenceIdeal.nD Cert.MambaOutReferenceIdeal.τ).loc Cert.MambaOutReferenceIdeal.main_arg1)
      ∧ r.2.mem ((c.tc : Thread Cert.MambaOutReferenceIdeal.nD Cert.MambaOutReferenceIdeal.τ).loc Cert.MambaOutReferenceIdeal.main_arg2) = m ((c.tc : Thread Cert.MambaOutReferenceIdeal.nD Cert.MambaOutReferenceIdeal.τ).loc Cert.MambaOutReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v91) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v4) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v11) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)
      ∧ m' ((c.tc : Thread Cert.UpDxReferenceIdeal.nD Cert.UpDxReferenceIdeal.τ).loc Cert.UpDxReferenceIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v9) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2))

def preserves_HgrnOutDx_HgrnOutDxIdeal : Prop :=
  True

def algebraic_HgrnOutDxIdeal_HgrnOutDxReferenceIdeal [hHgrnOutDxIdeal : Cert.HgrnOutDxIdeal.Facts] [hHgrnOutDxReferenceIdeal : Cert.HgrnOutDxReferenceIdeal.Facts] : Prop :=
  ∀ (m : (ℓ : Loc Cert.HgrnOutDxIdeal.nD Cert.HgrnOutDxIdeal.τ Cert.HgrnOutDxIdeal.sig) → Buf (Elt Ideal) ℓ) (g : Dev Cert.HgrnOutDxIdeal.nD → PrngReg)
    (m' : (ℓ : Loc Cert.HgrnOutDxReferenceIdeal.nD Cert.HgrnOutDxReferenceIdeal.τ Cert.HgrnOutDxReferenceIdeal.sig) → Buf (Elt Ideal) ℓ) (g' : Dev Cert.HgrnOutDxReferenceIdeal.nD → PrngReg), Pre_HgrnOutDxIdeal m →
    (∀ c : Dev Cert.HgrnOutDxIdeal.nD,
      m' ((c.tc : Thread Cert.HgrnOutDxReferenceIdeal.nD Cert.HgrnOutDxReferenceIdeal.τ).loc Cert.HgrnOutDxReferenceIdeal.main_arg0) = m ((c.tc : Thread Cert.HgrnOutDxIdeal.nD Cert.HgrnOutDxIdeal.τ).loc Cert.HgrnOutDxIdeal.main_arg0)
      ∧ m' ((c.tc : Thread Cert.HgrnOutDxReferenceIdeal.nD Cert.HgrnOutDxReferenceIdeal.τ).loc Cert.HgrnOutDxReferenceIdeal.main_arg1) = m ((c.tc : Thread Cert.HgrnOutDxIdeal.nD Cert.HgrnOutDxIdeal.τ).loc Cert.HgrnOutDxIdeal.main_arg1)) →
    ∃ (v0 : (c : Dev Cert.HgrnOutDxIdeal.nD) → Buf (Elt Ideal) ((c.tc : Thread Cert.HgrnOutDxIdeal.nD Cert.HgrnOutDxIdeal.τ).loc Cert.HgrnOutDxIdeal.main_v0)),
      θ_run (Cert.HgrnOutDxIdeal.defs (F := Ideal)) (onTc (τ := Cert.HgrnOutDxIdeal.τ) (Cert.HgrnOutDxIdeal.main (F := Ideal))) ⟨m, fun _ => 0, g⟩ (fun r => ∀ c : Dev Cert.HgrnOutDxIdeal.nD,
          r.2.mem ((c.tc : Thread Cert.HgrnOutDxIdeal.nD Cert.HgrnOutDxIdeal.τ).loc Cert.HgrnOutDxIdeal.main_v0) = v0 c
          ∧ r.2.mem ((c.tc : Thread Cert.HgrnOutDxIdeal.nD Cert.HgrnOutDxIdeal.τ).loc Cert.HgrnOutDxIdeal.main_arg0) = m ((c.tc : Thread Cert.HgrnOutDxIdeal.nD Cert.HgrnOutDxIdeal.τ).loc Cert.HgrnOutDxIdeal.main_arg0)
          ∧ r.2.mem ((c.tc : Thread Cert.HgrnOutDxIdeal.nD Cert.HgrnOutDxIdeal.τ).loc Cert.HgrnOutDxIdeal.main_arg1) = m ((c.tc : Thread Cert.HgrnOutDxIdeal.nD Cert.HgrnOutDxIdeal.τ).loc Cert.HgrnOutDxIdeal.main_arg1))
      ∧ θ_run (Cert.HgrnOutDxReferenceIdeal.defs (F := Ideal)) (onTc (τ := Cert.HgrnOutDxReferenceIdeal.τ) (Cert.HgrnOutDxReferenceIdeal.main (F := Ideal))) ⟨m', fun _ => 0, g'⟩ (fun r => ∀ c : Dev Cert.HgrnOutDxReferenceIdeal.nD,
          r.2.mem ((c.tc : Thread Cert.HgrnOutDxReferenceIdeal.nD Cert.HgrnOutDxReferenceIdeal.τ).loc Cert.HgrnOutDxReferenceIdeal.main_v4) = v0 c
          ∧ r.2.mem ((c.tc : Thread Cert.HgrnOutDxReferenceIdeal.nD Cert.HgrnOutDxReferenceIdeal.τ).loc Cert.HgrnOutDxReferenceIdeal.main_arg0) = m' ((c.tc : Thread Cert.HgrnOutDxReferenceIdeal.nD Cert.HgrnOutDxReferenceIdeal.τ).loc Cert.HgrnOutDxReferenceIdeal.main_arg0)
          ∧ r.2.mem ((c.tc : Thread Cert.HgrnOutDxReferenceIdeal.nD Cert.HgrnOutDxReferenceIdeal.τ).loc Cert.HgrnOutDxReferenceIdeal.main_arg1) = m' ((c.tc : Thread Cert.HgrnOutDxReferenceIdeal.nD Cert.HgrnOutDxReferenceIdeal.τ).loc Cert.HgrnOutDxReferenceIdeal.main_arg1))

def preserves_HgrnOutDw_HgrnOutDwIdeal : Prop :=
  True

def algebraic_HgrnOutDwIdeal_HgrnOutDwReferenceIdeal [hHgrnOutDwIdeal : Cert.HgrnOutDwIdeal.Facts] [hHgrnOutDwReferenceIdeal : Cert.HgrnOutDwReferenceIdeal.Facts] : Prop :=
  ∀ (m : (ℓ : Loc Cert.HgrnOutDwIdeal.nD Cert.HgrnOutDwIdeal.τ Cert.HgrnOutDwIdeal.sig) → Buf (Elt Ideal) ℓ) (g : Dev Cert.HgrnOutDwIdeal.nD → PrngReg)
    (m' : (ℓ : Loc Cert.HgrnOutDwReferenceIdeal.nD Cert.HgrnOutDwReferenceIdeal.τ Cert.HgrnOutDwReferenceIdeal.sig) → Buf (Elt Ideal) ℓ) (g' : Dev Cert.HgrnOutDwReferenceIdeal.nD → PrngReg), Pre_HgrnOutDwIdeal m →
    (∀ c : Dev Cert.HgrnOutDwIdeal.nD,
      m' ((c.tc : Thread Cert.HgrnOutDwReferenceIdeal.nD Cert.HgrnOutDwReferenceIdeal.τ).loc Cert.HgrnOutDwReferenceIdeal.main_arg0) = m ((c.tc : Thread Cert.HgrnOutDwIdeal.nD Cert.HgrnOutDwIdeal.τ).loc Cert.HgrnOutDwIdeal.main_arg0)
      ∧ m' ((c.tc : Thread Cert.HgrnOutDwReferenceIdeal.nD Cert.HgrnOutDwReferenceIdeal.τ).loc Cert.HgrnOutDwReferenceIdeal.main_arg1) = m ((c.tc : Thread Cert.HgrnOutDwIdeal.nD Cert.HgrnOutDwIdeal.τ).loc Cert.HgrnOutDwIdeal.main_arg1)) →
    ∃ (v0 : (c : Dev Cert.HgrnOutDwIdeal.nD) → Buf (Elt Ideal) ((c.tc : Thread Cert.HgrnOutDwIdeal.nD Cert.HgrnOutDwIdeal.τ).loc Cert.HgrnOutDwIdeal.main_v0)),
      θ_run (Cert.HgrnOutDwIdeal.defs (F := Ideal)) (onTc (τ := Cert.HgrnOutDwIdeal.τ) (Cert.HgrnOutDwIdeal.main (F := Ideal))) ⟨m, fun _ => 0, g⟩ (fun r => ∀ c : Dev Cert.HgrnOutDwIdeal.nD,
          r.2.mem ((c.tc : Thread Cert.HgrnOutDwIdeal.nD Cert.HgrnOutDwIdeal.τ).loc Cert.HgrnOutDwIdeal.main_v0) = v0 c
          ∧ r.2.mem ((c.tc : Thread Cert.HgrnOutDwIdeal.nD Cert.HgrnOutDwIdeal.τ).loc Cert.HgrnOutDwIdeal.main_arg0) = m ((c.tc : Thread Cert.HgrnOutDwIdeal.nD Cert.HgrnOutDwIdeal.τ).loc Cert.HgrnOutDwIdeal.main_arg0)
          ∧ r.2.mem ((c.tc : Thread Cert.HgrnOutDwIdeal.nD Cert.HgrnOutDwIdeal.τ).loc Cert.HgrnOutDwIdeal.main_arg1) = m ((c.tc : Thread Cert.HgrnOutDwIdeal.nD Cert.HgrnOutDwIdeal.τ).loc Cert.HgrnOutDwIdeal.main_arg1))
      ∧ θ_run (Cert.HgrnOutDwReferenceIdeal.defs (F := Ideal)) (onTc (τ := Cert.HgrnOutDwReferenceIdeal.τ) (Cert.HgrnOutDwReferenceIdeal.main (F := Ideal))) ⟨m', fun _ => 0, g'⟩ (fun r => ∀ c : Dev Cert.HgrnOutDwReferenceIdeal.nD,
          r.2.mem ((c.tc : Thread Cert.HgrnOutDwReferenceIdeal.nD Cert.HgrnOutDwReferenceIdeal.τ).loc Cert.HgrnOutDwReferenceIdeal.main_v6) = v0 c
          ∧ r.2.mem ((c.tc : Thread Cert.HgrnOutDwReferenceIdeal.nD Cert.HgrnOutDwReferenceIdeal.τ).loc Cert.HgrnOutDwReferenceIdeal.main_arg0) = m' ((c.tc : Thread Cert.HgrnOutDwReferenceIdeal.nD Cert.HgrnOutDwReferenceIdeal.τ).loc Cert.HgrnOutDwReferenceIdeal.main_arg0)
          ∧ r.2.mem ((c.tc : Thread Cert.HgrnOutDwReferenceIdeal.nD Cert.HgrnOutDwReferenceIdeal.τ).loc Cert.HgrnOutDwReferenceIdeal.main_arg1) = m' ((c.tc : Thread Cert.HgrnOutDwReferenceIdeal.nD Cert.HgrnOutDwReferenceIdeal.τ).loc Cert.HgrnOutDwReferenceIdeal.main_arg1))

def preserves_HgrnInDw_HgrnInDwIdeal : Prop :=
  True

def algebraic_HgrnInDwIdeal_HgrnInDwReferenceIdeal [hHgrnInDwIdeal : Cert.HgrnInDwIdeal.Facts] [hHgrnInDwReferenceIdeal : Cert.HgrnInDwReferenceIdeal.Facts] : Prop :=
  ∀ (m : (ℓ : Loc Cert.HgrnInDwIdeal.nD Cert.HgrnInDwIdeal.τ Cert.HgrnInDwIdeal.sig) → Buf (Elt Ideal) ℓ) (g : Dev Cert.HgrnInDwIdeal.nD → PrngReg)
    (m' : (ℓ : Loc Cert.HgrnInDwReferenceIdeal.nD Cert.HgrnInDwReferenceIdeal.τ Cert.HgrnInDwReferenceIdeal.sig) → Buf (Elt Ideal) ℓ) (g' : Dev Cert.HgrnInDwReferenceIdeal.nD → PrngReg), Pre_HgrnInDwIdeal m →
    (∀ c : Dev Cert.HgrnInDwIdeal.nD,
      m' ((c.tc : Thread Cert.HgrnInDwReferenceIdeal.nD Cert.HgrnInDwReferenceIdeal.τ).loc Cert.HgrnInDwReferenceIdeal.main_arg0) = m ((c.tc : Thread Cert.HgrnInDwIdeal.nD Cert.HgrnInDwIdeal.τ).loc Cert.HgrnInDwIdeal.main_arg0)
      ∧ m' ((c.tc : Thread Cert.HgrnInDwReferenceIdeal.nD Cert.HgrnInDwReferenceIdeal.τ).loc Cert.HgrnInDwReferenceIdeal.main_arg1) = m ((c.tc : Thread Cert.HgrnInDwIdeal.nD Cert.HgrnInDwIdeal.τ).loc Cert.HgrnInDwIdeal.main_arg1)) →
    ∃ (v0 : (c : Dev Cert.HgrnInDwIdeal.nD) → Buf (Elt Ideal) ((c.tc : Thread Cert.HgrnInDwIdeal.nD Cert.HgrnInDwIdeal.τ).loc Cert.HgrnInDwIdeal.main_v0)),
      θ_run (Cert.HgrnInDwIdeal.defs (F := Ideal)) (onTc (τ := Cert.HgrnInDwIdeal.τ) (Cert.HgrnInDwIdeal.main (F := Ideal))) ⟨m, fun _ => 0, g⟩ (fun r => ∀ c : Dev Cert.HgrnInDwIdeal.nD,
          r.2.mem ((c.tc : Thread Cert.HgrnInDwIdeal.nD Cert.HgrnInDwIdeal.τ).loc Cert.HgrnInDwIdeal.main_v0) = v0 c
          ∧ r.2.mem ((c.tc : Thread Cert.HgrnInDwIdeal.nD Cert.HgrnInDwIdeal.τ).loc Cert.HgrnInDwIdeal.main_arg0) = m ((c.tc : Thread Cert.HgrnInDwIdeal.nD Cert.HgrnInDwIdeal.τ).loc Cert.HgrnInDwIdeal.main_arg0)
          ∧ r.2.mem ((c.tc : Thread Cert.HgrnInDwIdeal.nD Cert.HgrnInDwIdeal.τ).loc Cert.HgrnInDwIdeal.main_arg1) = m ((c.tc : Thread Cert.HgrnInDwIdeal.nD Cert.HgrnInDwIdeal.τ).loc Cert.HgrnInDwIdeal.main_arg1))
      ∧ θ_run (Cert.HgrnInDwReferenceIdeal.defs (F := Ideal)) (onTc (τ := Cert.HgrnInDwReferenceIdeal.τ) (Cert.HgrnInDwReferenceIdeal.main (F := Ideal))) ⟨m', fun _ => 0, g'⟩ (fun r => ∀ c : Dev Cert.HgrnInDwReferenceIdeal.nD,
          r.2.mem ((c.tc : Thread Cert.HgrnInDwReferenceIdeal.nD Cert.HgrnInDwReferenceIdeal.τ).loc Cert.HgrnInDwReferenceIdeal.main_v15) = v0 c
          ∧ r.2.mem ((c.tc : Thread Cert.HgrnInDwReferenceIdeal.nD Cert.HgrnInDwReferenceIdeal.τ).loc Cert.HgrnInDwReferenceIdeal.main_arg0) = m' ((c.tc : Thread Cert.HgrnInDwReferenceIdeal.nD Cert.HgrnInDwReferenceIdeal.τ).loc Cert.HgrnInDwReferenceIdeal.main_arg0)
          ∧ r.2.mem ((c.tc : Thread Cert.HgrnInDwReferenceIdeal.nD Cert.HgrnInDwReferenceIdeal.τ).loc Cert.HgrnInDwReferenceIdeal.main_arg1) = m' ((c.tc : Thread Cert.HgrnInDwReferenceIdeal.nD Cert.HgrnInDwReferenceIdeal.τ).loc Cert.HgrnInDwReferenceIdeal.main_arg1))

def preserves_HgrnInDx_HgrnInDxIdeal : Prop :=
  True

def algebraic_HgrnInDxIdeal_HgrnInDxReferenceIdeal [hHgrnInDxIdeal : Cert.HgrnInDxIdeal.Facts] [hHgrnInDxReferenceIdeal : Cert.HgrnInDxReferenceIdeal.Facts] : Prop :=
  ∀ (m : (ℓ : Loc Cert.HgrnInDxIdeal.nD Cert.HgrnInDxIdeal.τ Cert.HgrnInDxIdeal.sig) → Buf (Elt Ideal) ℓ) (g : Dev Cert.HgrnInDxIdeal.nD → PrngReg)
    (m' : (ℓ : Loc Cert.HgrnInDxReferenceIdeal.nD Cert.HgrnInDxReferenceIdeal.τ Cert.HgrnInDxReferenceIdeal.sig) → Buf (Elt Ideal) ℓ) (g' : Dev Cert.HgrnInDxReferenceIdeal.nD → PrngReg), Pre_HgrnInDxIdeal m →
    (∀ c : Dev Cert.HgrnInDxIdeal.nD,
      m' ((c.tc : Thread Cert.HgrnInDxReferenceIdeal.nD Cert.HgrnInDxReferenceIdeal.τ).loc Cert.HgrnInDxReferenceIdeal.main_arg0) = m ((c.tc : Thread Cert.HgrnInDxIdeal.nD Cert.HgrnInDxIdeal.τ).loc Cert.HgrnInDxIdeal.main_arg0)
      ∧ m' ((c.tc : Thread Cert.HgrnInDxReferenceIdeal.nD Cert.HgrnInDxReferenceIdeal.τ).loc Cert.HgrnInDxReferenceIdeal.main_arg1) = m ((c.tc : Thread Cert.HgrnInDxIdeal.nD Cert.HgrnInDxIdeal.τ).loc Cert.HgrnInDxIdeal.main_arg1)
      ∧ m' ((c.tc : Thread Cert.HgrnInDxReferenceIdeal.nD Cert.HgrnInDxReferenceIdeal.τ).loc Cert.HgrnInDxReferenceIdeal.main_arg2) = m ((c.tc : Thread Cert.HgrnInDxIdeal.nD Cert.HgrnInDxIdeal.τ).loc Cert.HgrnInDxIdeal.main_arg2)) →
    ∃ (v0 : (c : Dev Cert.HgrnInDxIdeal.nD) → Buf (Elt Ideal) ((c.tc : Thread Cert.HgrnInDxIdeal.nD Cert.HgrnInDxIdeal.τ).loc Cert.HgrnInDxIdeal.main_v0)),
      θ_run (Cert.HgrnInDxIdeal.defs (F := Ideal)) (onTc (τ := Cert.HgrnInDxIdeal.τ) (Cert.HgrnInDxIdeal.main (F := Ideal))) ⟨m, fun _ => 0, g⟩ (fun r => ∀ c : Dev Cert.HgrnInDxIdeal.nD,
          r.2.mem ((c.tc : Thread Cert.HgrnInDxIdeal.nD Cert.HgrnInDxIdeal.τ).loc Cert.HgrnInDxIdeal.main_v0) = v0 c
          ∧ r.2.mem ((c.tc : Thread Cert.HgrnInDxIdeal.nD Cert.HgrnInDxIdeal.τ).loc Cert.HgrnInDxIdeal.main_arg0) = m ((c.tc : Thread Cert.HgrnInDxIdeal.nD Cert.HgrnInDxIdeal.τ).loc Cert.HgrnInDxIdeal.main_arg0)
          ∧ r.2.mem ((c.tc : Thread Cert.HgrnInDxIdeal.nD Cert.HgrnInDxIdeal.τ).loc Cert.HgrnInDxIdeal.main_arg1) = m ((c.tc : Thread Cert.HgrnInDxIdeal.nD Cert.HgrnInDxIdeal.τ).loc Cert.HgrnInDxIdeal.main_arg1)
          ∧ r.2.mem ((c.tc : Thread Cert.HgrnInDxIdeal.nD Cert.HgrnInDxIdeal.τ).loc Cert.HgrnInDxIdeal.main_arg2) = m ((c.tc : Thread Cert.HgrnInDxIdeal.nD Cert.HgrnInDxIdeal.τ).loc Cert.HgrnInDxIdeal.main_arg2))
      ∧ θ_run (Cert.HgrnInDxReferenceIdeal.defs (F := Ideal)) (onTc (τ := Cert.HgrnInDxReferenceIdeal.τ) (Cert.HgrnInDxReferenceIdeal.main (F := Ideal))) ⟨m', fun _ => 0, g'⟩ (fun r => ∀ c : Dev Cert.HgrnInDxReferenceIdeal.nD,
          r.2.mem ((c.tc : Thread Cert.HgrnInDxReferenceIdeal.nD Cert.HgrnInDxReferenceIdeal.τ).loc Cert.HgrnInDxReferenceIdeal.main_v13) = v0 c
          ∧ r.2.mem ((c.tc : Thread Cert.HgrnInDxReferenceIdeal.nD Cert.HgrnInDxReferenceIdeal.τ).loc Cert.HgrnInDxReferenceIdeal.main_arg0) = m' ((c.tc : Thread Cert.HgrnInDxReferenceIdeal.nD Cert.HgrnInDxReferenceIdeal.τ).loc Cert.HgrnInDxReferenceIdeal.main_arg0)
          ∧ r.2.mem ((c.tc : Thread Cert.HgrnInDxReferenceIdeal.nD Cert.HgrnInDxReferenceIdeal.τ).loc Cert.HgrnInDxReferenceIdeal.main_arg1) = m' ((c.tc : Thread Cert.HgrnInDxReferenceIdeal.nD Cert.HgrnInDxReferenceIdeal.τ).loc Cert.HgrnInDxReferenceIdeal.main_arg1)
          ∧ r.2.mem ((c.tc : Thread Cert.HgrnInDxReferenceIdeal.nD Cert.HgrnInDxReferenceIdeal.τ).loc Cert.HgrnInDxReferenceIdeal.main_arg2) = m' ((c.tc : Thread Cert.HgrnInDxReferenceIdeal.nD Cert.HgrnInDxReferenceIdeal.τ).loc Cert.HgrnInDxReferenceIdeal.main_arg2))

def preserves_MambaOutDx_MambaOutDxIdeal : Prop :=
  True

def algebraic_MambaOutDxIdeal_MambaOutDxReferenceIdeal [hMambaOutDxIdeal : Cert.MambaOutDxIdeal.Facts] [hMambaOutDxReferenceIdeal : Cert.MambaOutDxReferenceIdeal.Facts] : Prop :=
  ∀ (m : (ℓ : Loc Cert.MambaOutDxIdeal.nD Cert.MambaOutDxIdeal.τ Cert.MambaOutDxIdeal.sig) → Buf (Elt Ideal) ℓ) (g : Dev Cert.MambaOutDxIdeal.nD → PrngReg)
    (m' : (ℓ : Loc Cert.MambaOutDxReferenceIdeal.nD Cert.MambaOutDxReferenceIdeal.τ Cert.MambaOutDxReferenceIdeal.sig) → Buf (Elt Ideal) ℓ) (g' : Dev Cert.MambaOutDxReferenceIdeal.nD → PrngReg), Pre_MambaOutDxIdeal m →
    (∀ c : Dev Cert.MambaOutDxIdeal.nD,
      m' ((c.tc : Thread Cert.MambaOutDxReferenceIdeal.nD Cert.MambaOutDxReferenceIdeal.τ).loc Cert.MambaOutDxReferenceIdeal.main_arg0) = m ((c.tc : Thread Cert.MambaOutDxIdeal.nD Cert.MambaOutDxIdeal.τ).loc Cert.MambaOutDxIdeal.main_arg0)
      ∧ m' ((c.tc : Thread Cert.MambaOutDxReferenceIdeal.nD Cert.MambaOutDxReferenceIdeal.τ).loc Cert.MambaOutDxReferenceIdeal.main_arg1) = m ((c.tc : Thread Cert.MambaOutDxIdeal.nD Cert.MambaOutDxIdeal.τ).loc Cert.MambaOutDxIdeal.main_arg1)) →
    ∃ (v0 : (c : Dev Cert.MambaOutDxIdeal.nD) → Buf (Elt Ideal) ((c.tc : Thread Cert.MambaOutDxIdeal.nD Cert.MambaOutDxIdeal.τ).loc Cert.MambaOutDxIdeal.main_v0)),
      θ_run (Cert.MambaOutDxIdeal.defs (F := Ideal)) (onTc (τ := Cert.MambaOutDxIdeal.τ) (Cert.MambaOutDxIdeal.main (F := Ideal))) ⟨m, fun _ => 0, g⟩ (fun r => ∀ c : Dev Cert.MambaOutDxIdeal.nD,
          r.2.mem ((c.tc : Thread Cert.MambaOutDxIdeal.nD Cert.MambaOutDxIdeal.τ).loc Cert.MambaOutDxIdeal.main_v0) = v0 c
          ∧ r.2.mem ((c.tc : Thread Cert.MambaOutDxIdeal.nD Cert.MambaOutDxIdeal.τ).loc Cert.MambaOutDxIdeal.main_arg0) = m ((c.tc : Thread Cert.MambaOutDxIdeal.nD Cert.MambaOutDxIdeal.τ).loc Cert.MambaOutDxIdeal.main_arg0)
          ∧ r.2.mem ((c.tc : Thread Cert.MambaOutDxIdeal.nD Cert.MambaOutDxIdeal.τ).loc Cert.MambaOutDxIdeal.main_arg1) = m ((c.tc : Thread Cert.MambaOutDxIdeal.nD Cert.MambaOutDxIdeal.τ).loc Cert.MambaOutDxIdeal.main_arg1))
      ∧ θ_run (Cert.MambaOutDxReferenceIdeal.defs (F := Ideal)) (onTc (τ := Cert.MambaOutDxReferenceIdeal.τ) (Cert.MambaOutDxReferenceIdeal.main (F := Ideal))) ⟨m', fun _ => 0, g'⟩ (fun r => ∀ c : Dev Cert.MambaOutDxReferenceIdeal.nD,
          r.2.mem ((c.tc : Thread Cert.MambaOutDxReferenceIdeal.nD Cert.MambaOutDxReferenceIdeal.τ).loc Cert.MambaOutDxReferenceIdeal.main_v4) = v0 c
          ∧ r.2.mem ((c.tc : Thread Cert.MambaOutDxReferenceIdeal.nD Cert.MambaOutDxReferenceIdeal.τ).loc Cert.MambaOutDxReferenceIdeal.main_arg0) = m' ((c.tc : Thread Cert.MambaOutDxReferenceIdeal.nD Cert.MambaOutDxReferenceIdeal.τ).loc Cert.MambaOutDxReferenceIdeal.main_arg0)
          ∧ r.2.mem ((c.tc : Thread Cert.MambaOutDxReferenceIdeal.nD Cert.MambaOutDxReferenceIdeal.τ).loc Cert.MambaOutDxReferenceIdeal.main_arg1) = m' ((c.tc : Thread Cert.MambaOutDxReferenceIdeal.nD Cert.MambaOutDxReferenceIdeal.τ).loc Cert.MambaOutDxReferenceIdeal.main_arg1))

def preserves_MambaOutDw_MambaOutDwIdeal : Prop :=
  True

def algebraic_MambaOutDwIdeal_MambaOutDwReferenceIdeal [hMambaOutDwIdeal : Cert.MambaOutDwIdeal.Facts] [hMambaOutDwReferenceIdeal : Cert.MambaOutDwReferenceIdeal.Facts] : Prop :=
  ∀ (m : (ℓ : Loc Cert.MambaOutDwIdeal.nD Cert.MambaOutDwIdeal.τ Cert.MambaOutDwIdeal.sig) → Buf (Elt Ideal) ℓ) (g : Dev Cert.MambaOutDwIdeal.nD → PrngReg)
    (m' : (ℓ : Loc Cert.MambaOutDwReferenceIdeal.nD Cert.MambaOutDwReferenceIdeal.τ Cert.MambaOutDwReferenceIdeal.sig) → Buf (Elt Ideal) ℓ) (g' : Dev Cert.MambaOutDwReferenceIdeal.nD → PrngReg), Pre_MambaOutDwIdeal m →
    (∀ c : Dev Cert.MambaOutDwIdeal.nD,
      m' ((c.tc : Thread Cert.MambaOutDwReferenceIdeal.nD Cert.MambaOutDwReferenceIdeal.τ).loc Cert.MambaOutDwReferenceIdeal.main_arg0) = m ((c.tc : Thread Cert.MambaOutDwIdeal.nD Cert.MambaOutDwIdeal.τ).loc Cert.MambaOutDwIdeal.main_arg0)
      ∧ m' ((c.tc : Thread Cert.MambaOutDwReferenceIdeal.nD Cert.MambaOutDwReferenceIdeal.τ).loc Cert.MambaOutDwReferenceIdeal.main_arg1) = m ((c.tc : Thread Cert.MambaOutDwIdeal.nD Cert.MambaOutDwIdeal.τ).loc Cert.MambaOutDwIdeal.main_arg1)) →
    ∃ (v0 : (c : Dev Cert.MambaOutDwIdeal.nD) → Buf (Elt Ideal) ((c.tc : Thread Cert.MambaOutDwIdeal.nD Cert.MambaOutDwIdeal.τ).loc Cert.MambaOutDwIdeal.main_v0)),
      θ_run (Cert.MambaOutDwIdeal.defs (F := Ideal)) (onTc (τ := Cert.MambaOutDwIdeal.τ) (Cert.MambaOutDwIdeal.main (F := Ideal))) ⟨m, fun _ => 0, g⟩ (fun r => ∀ c : Dev Cert.MambaOutDwIdeal.nD,
          r.2.mem ((c.tc : Thread Cert.MambaOutDwIdeal.nD Cert.MambaOutDwIdeal.τ).loc Cert.MambaOutDwIdeal.main_v0) = v0 c
          ∧ r.2.mem ((c.tc : Thread Cert.MambaOutDwIdeal.nD Cert.MambaOutDwIdeal.τ).loc Cert.MambaOutDwIdeal.main_arg0) = m ((c.tc : Thread Cert.MambaOutDwIdeal.nD Cert.MambaOutDwIdeal.τ).loc Cert.MambaOutDwIdeal.main_arg0)
          ∧ r.2.mem ((c.tc : Thread Cert.MambaOutDwIdeal.nD Cert.MambaOutDwIdeal.τ).loc Cert.MambaOutDwIdeal.main_arg1) = m ((c.tc : Thread Cert.MambaOutDwIdeal.nD Cert.MambaOutDwIdeal.τ).loc Cert.MambaOutDwIdeal.main_arg1))
      ∧ θ_run (Cert.MambaOutDwReferenceIdeal.defs (F := Ideal)) (onTc (τ := Cert.MambaOutDwReferenceIdeal.τ) (Cert.MambaOutDwReferenceIdeal.main (F := Ideal))) ⟨m', fun _ => 0, g'⟩ (fun r => ∀ c : Dev Cert.MambaOutDwReferenceIdeal.nD,
          r.2.mem ((c.tc : Thread Cert.MambaOutDwReferenceIdeal.nD Cert.MambaOutDwReferenceIdeal.τ).loc Cert.MambaOutDwReferenceIdeal.main_v6) = v0 c
          ∧ r.2.mem ((c.tc : Thread Cert.MambaOutDwReferenceIdeal.nD Cert.MambaOutDwReferenceIdeal.τ).loc Cert.MambaOutDwReferenceIdeal.main_arg0) = m' ((c.tc : Thread Cert.MambaOutDwReferenceIdeal.nD Cert.MambaOutDwReferenceIdeal.τ).loc Cert.MambaOutDwReferenceIdeal.main_arg0)
          ∧ r.2.mem ((c.tc : Thread Cert.MambaOutDwReferenceIdeal.nD Cert.MambaOutDwReferenceIdeal.τ).loc Cert.MambaOutDwReferenceIdeal.main_arg1) = m' ((c.tc : Thread Cert.MambaOutDwReferenceIdeal.nD Cert.MambaOutDwReferenceIdeal.τ).loc Cert.MambaOutDwReferenceIdeal.main_arg1))

def preserves_MambaInDw_MambaInDwIdeal : Prop :=
  True

def algebraic_MambaInDwIdeal_MambaInDwReferenceIdeal [hMambaInDwIdeal : Cert.MambaInDwIdeal.Facts] [hMambaInDwReferenceIdeal : Cert.MambaInDwReferenceIdeal.Facts] : Prop :=
  ∀ (m : (ℓ : Loc Cert.MambaInDwIdeal.nD Cert.MambaInDwIdeal.τ Cert.MambaInDwIdeal.sig) → Buf (Elt Ideal) ℓ) (g : Dev Cert.MambaInDwIdeal.nD → PrngReg)
    (m' : (ℓ : Loc Cert.MambaInDwReferenceIdeal.nD Cert.MambaInDwReferenceIdeal.τ Cert.MambaInDwReferenceIdeal.sig) → Buf (Elt Ideal) ℓ) (g' : Dev Cert.MambaInDwReferenceIdeal.nD → PrngReg), Pre_MambaInDwIdeal m →
    (∀ c : Dev Cert.MambaInDwIdeal.nD,
      m' ((c.tc : Thread Cert.MambaInDwReferenceIdeal.nD Cert.MambaInDwReferenceIdeal.τ).loc Cert.MambaInDwReferenceIdeal.main_arg0) = m ((c.tc : Thread Cert.MambaInDwIdeal.nD Cert.MambaInDwIdeal.τ).loc Cert.MambaInDwIdeal.main_arg0)
      ∧ m' ((c.tc : Thread Cert.MambaInDwReferenceIdeal.nD Cert.MambaInDwReferenceIdeal.τ).loc Cert.MambaInDwReferenceIdeal.main_arg1) = m ((c.tc : Thread Cert.MambaInDwIdeal.nD Cert.MambaInDwIdeal.τ).loc Cert.MambaInDwIdeal.main_arg1)
      ∧ m' ((c.tc : Thread Cert.MambaInDwReferenceIdeal.nD Cert.MambaInDwReferenceIdeal.τ).loc Cert.MambaInDwReferenceIdeal.main_arg2) = m ((c.tc : Thread Cert.MambaInDwIdeal.nD Cert.MambaInDwIdeal.τ).loc Cert.MambaInDwIdeal.main_arg2)) →
    ∃ (v0 : (c : Dev Cert.MambaInDwIdeal.nD) → Buf (Elt Ideal) ((c.tc : Thread Cert.MambaInDwIdeal.nD Cert.MambaInDwIdeal.τ).loc Cert.MambaInDwIdeal.main_v0)),
      θ_run (Cert.MambaInDwIdeal.defs (F := Ideal)) (onTc (τ := Cert.MambaInDwIdeal.τ) (Cert.MambaInDwIdeal.main (F := Ideal))) ⟨m, fun _ => 0, g⟩ (fun r => ∀ c : Dev Cert.MambaInDwIdeal.nD,
          r.2.mem ((c.tc : Thread Cert.MambaInDwIdeal.nD Cert.MambaInDwIdeal.τ).loc Cert.MambaInDwIdeal.main_v0) = v0 c
          ∧ r.2.mem ((c.tc : Thread Cert.MambaInDwIdeal.nD Cert.MambaInDwIdeal.τ).loc Cert.MambaInDwIdeal.main_arg0) = m ((c.tc : Thread Cert.MambaInDwIdeal.nD Cert.MambaInDwIdeal.τ).loc Cert.MambaInDwIdeal.main_arg0)
          ∧ r.2.mem ((c.tc : Thread Cert.MambaInDwIdeal.nD Cert.MambaInDwIdeal.τ).loc Cert.MambaInDwIdeal.main_arg1) = m ((c.tc : Thread Cert.MambaInDwIdeal.nD Cert.MambaInDwIdeal.τ).loc Cert.MambaInDwIdeal.main_arg1)
          ∧ r.2.mem ((c.tc : Thread Cert.MambaInDwIdeal.nD Cert.MambaInDwIdeal.τ).loc Cert.MambaInDwIdeal.main_arg2) = m ((c.tc : Thread Cert.MambaInDwIdeal.nD Cert.MambaInDwIdeal.τ).loc Cert.MambaInDwIdeal.main_arg2))
      ∧ θ_run (Cert.MambaInDwReferenceIdeal.defs (F := Ideal)) (onTc (τ := Cert.MambaInDwReferenceIdeal.τ) (Cert.MambaInDwReferenceIdeal.main (F := Ideal))) ⟨m', fun _ => 0, g'⟩ (fun r => ∀ c : Dev Cert.MambaInDwReferenceIdeal.nD,
          r.2.mem ((c.tc : Thread Cert.MambaInDwReferenceIdeal.nD Cert.MambaInDwReferenceIdeal.τ).loc Cert.MambaInDwReferenceIdeal.main_v8) = v0 c
          ∧ r.2.mem ((c.tc : Thread Cert.MambaInDwReferenceIdeal.nD Cert.MambaInDwReferenceIdeal.τ).loc Cert.MambaInDwReferenceIdeal.main_arg0) = m' ((c.tc : Thread Cert.MambaInDwReferenceIdeal.nD Cert.MambaInDwReferenceIdeal.τ).loc Cert.MambaInDwReferenceIdeal.main_arg0)
          ∧ r.2.mem ((c.tc : Thread Cert.MambaInDwReferenceIdeal.nD Cert.MambaInDwReferenceIdeal.τ).loc Cert.MambaInDwReferenceIdeal.main_arg1) = m' ((c.tc : Thread Cert.MambaInDwReferenceIdeal.nD Cert.MambaInDwReferenceIdeal.τ).loc Cert.MambaInDwReferenceIdeal.main_arg1)
          ∧ r.2.mem ((c.tc : Thread Cert.MambaInDwReferenceIdeal.nD Cert.MambaInDwReferenceIdeal.τ).loc Cert.MambaInDwReferenceIdeal.main_arg2) = m' ((c.tc : Thread Cert.MambaInDwReferenceIdeal.nD Cert.MambaInDwReferenceIdeal.τ).loc Cert.MambaInDwReferenceIdeal.main_arg2))

def preserves_MambaInDx_MambaInDxIdeal : Prop :=
  True

def algebraic_MambaInDxIdeal_MambaInDxReferenceIdeal [hMambaInDxIdeal : Cert.MambaInDxIdeal.Facts] [hMambaInDxReferenceIdeal : Cert.MambaInDxReferenceIdeal.Facts] : Prop :=
  ∀ (m : (ℓ : Loc Cert.MambaInDxIdeal.nD Cert.MambaInDxIdeal.τ Cert.MambaInDxIdeal.sig) → Buf (Elt Ideal) ℓ) (g : Dev Cert.MambaInDxIdeal.nD → PrngReg)
    (m' : (ℓ : Loc Cert.MambaInDxReferenceIdeal.nD Cert.MambaInDxReferenceIdeal.τ Cert.MambaInDxReferenceIdeal.sig) → Buf (Elt Ideal) ℓ) (g' : Dev Cert.MambaInDxReferenceIdeal.nD → PrngReg), Pre_MambaInDxIdeal m →
    (∀ c : Dev Cert.MambaInDxIdeal.nD,
      m' ((c.tc : Thread Cert.MambaInDxReferenceIdeal.nD Cert.MambaInDxReferenceIdeal.τ).loc Cert.MambaInDxReferenceIdeal.main_arg0) = m ((c.tc : Thread Cert.MambaInDxIdeal.nD Cert.MambaInDxIdeal.τ).loc Cert.MambaInDxIdeal.main_arg0)
      ∧ m' ((c.tc : Thread Cert.MambaInDxReferenceIdeal.nD Cert.MambaInDxReferenceIdeal.τ).loc Cert.MambaInDxReferenceIdeal.main_arg1) = m ((c.tc : Thread Cert.MambaInDxIdeal.nD Cert.MambaInDxIdeal.τ).loc Cert.MambaInDxIdeal.main_arg1)
      ∧ m' ((c.tc : Thread Cert.MambaInDxReferenceIdeal.nD Cert.MambaInDxReferenceIdeal.τ).loc Cert.MambaInDxReferenceIdeal.main_arg2) = m ((c.tc : Thread Cert.MambaInDxIdeal.nD Cert.MambaInDxIdeal.τ).loc Cert.MambaInDxIdeal.main_arg2)) →
    ∃ (v0 : (c : Dev Cert.MambaInDxIdeal.nD) → Buf (Elt Ideal) ((c.tc : Thread Cert.MambaInDxIdeal.nD Cert.MambaInDxIdeal.τ).loc Cert.MambaInDxIdeal.main_v0)),
      θ_run (Cert.MambaInDxIdeal.defs (F := Ideal)) (onTc (τ := Cert.MambaInDxIdeal.τ) (Cert.MambaInDxIdeal.main (F := Ideal))) ⟨m, fun _ => 0, g⟩ (fun r => ∀ c : Dev Cert.MambaInDxIdeal.nD,
          r.2.mem ((c.tc : Thread Cert.MambaInDxIdeal.nD Cert.MambaInDxIdeal.τ).loc Cert.MambaInDxIdeal.main_v0) = v0 c
          ∧ r.2.mem ((c.tc : Thread Cert.MambaInDxIdeal.nD Cert.MambaInDxIdeal.τ).loc Cert.MambaInDxIdeal.main_arg0) = m ((c.tc : Thread Cert.MambaInDxIdeal.nD Cert.MambaInDxIdeal.τ).loc Cert.MambaInDxIdeal.main_arg0)
          ∧ r.2.mem ((c.tc : Thread Cert.MambaInDxIdeal.nD Cert.MambaInDxIdeal.τ).loc Cert.MambaInDxIdeal.main_arg1) = m ((c.tc : Thread Cert.MambaInDxIdeal.nD Cert.MambaInDxIdeal.τ).loc Cert.MambaInDxIdeal.main_arg1)
          ∧ r.2.mem ((c.tc : Thread Cert.MambaInDxIdeal.nD Cert.MambaInDxIdeal.τ).loc Cert.MambaInDxIdeal.main_arg2) = m ((c.tc : Thread Cert.MambaInDxIdeal.nD Cert.MambaInDxIdeal.τ).loc Cert.MambaInDxIdeal.main_arg2))
      ∧ θ_run (Cert.MambaInDxReferenceIdeal.defs (F := Ideal)) (onTc (τ := Cert.MambaInDxReferenceIdeal.τ) (Cert.MambaInDxReferenceIdeal.main (F := Ideal))) ⟨m', fun _ => 0, g'⟩ (fun r => ∀ c : Dev Cert.MambaInDxReferenceIdeal.nD,
          r.2.mem ((c.tc : Thread Cert.MambaInDxReferenceIdeal.nD Cert.MambaInDxReferenceIdeal.τ).loc Cert.MambaInDxReferenceIdeal.main_v6) = v0 c
          ∧ r.2.mem ((c.tc : Thread Cert.MambaInDxReferenceIdeal.nD Cert.MambaInDxReferenceIdeal.τ).loc Cert.MambaInDxReferenceIdeal.main_arg0) = m' ((c.tc : Thread Cert.MambaInDxReferenceIdeal.nD Cert.MambaInDxReferenceIdeal.τ).loc Cert.MambaInDxReferenceIdeal.main_arg0)
          ∧ r.2.mem ((c.tc : Thread Cert.MambaInDxReferenceIdeal.nD Cert.MambaInDxReferenceIdeal.τ).loc Cert.MambaInDxReferenceIdeal.main_arg1) = m' ((c.tc : Thread Cert.MambaInDxReferenceIdeal.nD Cert.MambaInDxReferenceIdeal.τ).loc Cert.MambaInDxReferenceIdeal.main_arg1)
          ∧ r.2.mem ((c.tc : Thread Cert.MambaInDxReferenceIdeal.nD Cert.MambaInDxReferenceIdeal.τ).loc Cert.MambaInDxReferenceIdeal.main_arg2) = m' ((c.tc : Thread Cert.MambaInDxReferenceIdeal.nD Cert.MambaInDxReferenceIdeal.τ).loc Cert.MambaInDxReferenceIdeal.main_arg2))

def preserves_MambaInDxNext_MambaInDxNextIdeal : Prop :=
  True

def algebraic_MambaInDxNextIdeal_MambaInDxNextReferenceIdeal [hMambaInDxNextIdeal : Cert.MambaInDxNextIdeal.Facts] [hMambaInDxNextReferenceIdeal : Cert.MambaInDxNextReferenceIdeal.Facts] : Prop :=
  ∀ (m : (ℓ : Loc Cert.MambaInDxNextIdeal.nD Cert.MambaInDxNextIdeal.τ Cert.MambaInDxNextIdeal.sig) → Buf (Elt Ideal) ℓ) (g : Dev Cert.MambaInDxNextIdeal.nD → PrngReg)
    (m' : (ℓ : Loc Cert.MambaInDxNextReferenceIdeal.nD Cert.MambaInDxNextReferenceIdeal.τ Cert.MambaInDxNextReferenceIdeal.sig) → Buf (Elt Ideal) ℓ) (g' : Dev Cert.MambaInDxNextReferenceIdeal.nD → PrngReg), Pre_MambaInDxNextIdeal m →
    (∀ c : Dev Cert.MambaInDxNextIdeal.nD,
      m' ((c.tc : Thread Cert.MambaInDxNextReferenceIdeal.nD Cert.MambaInDxNextReferenceIdeal.τ).loc Cert.MambaInDxNextReferenceIdeal.main_arg0) = m ((c.tc : Thread Cert.MambaInDxNextIdeal.nD Cert.MambaInDxNextIdeal.τ).loc Cert.MambaInDxNextIdeal.main_arg0)
      ∧ m' ((c.tc : Thread Cert.MambaInDxNextReferenceIdeal.nD Cert.MambaInDxNextReferenceIdeal.τ).loc Cert.MambaInDxNextReferenceIdeal.main_arg1) = m ((c.tc : Thread Cert.MambaInDxNextIdeal.nD Cert.MambaInDxNextIdeal.τ).loc Cert.MambaInDxNextIdeal.main_arg1)
      ∧ m' ((c.tc : Thread Cert.MambaInDxNextReferenceIdeal.nD Cert.MambaInDxNextReferenceIdeal.τ).loc Cert.MambaInDxNextReferenceIdeal.main_arg2) = m ((c.tc : Thread Cert.MambaInDxNextIdeal.nD Cert.MambaInDxNextIdeal.τ).loc Cert.MambaInDxNextIdeal.main_arg2)) →
    ∃ (v0 : (c : Dev Cert.MambaInDxNextIdeal.nD) → Buf (Elt Ideal) ((c.tc : Thread Cert.MambaInDxNextIdeal.nD Cert.MambaInDxNextIdeal.τ).loc Cert.MambaInDxNextIdeal.main_v0)),
      θ_run (Cert.MambaInDxNextIdeal.defs (F := Ideal)) (onTc (τ := Cert.MambaInDxNextIdeal.τ) (Cert.MambaInDxNextIdeal.main (F := Ideal))) ⟨m, fun _ => 0, g⟩ (fun r => ∀ c : Dev Cert.MambaInDxNextIdeal.nD,
          r.2.mem ((c.tc : Thread Cert.MambaInDxNextIdeal.nD Cert.MambaInDxNextIdeal.τ).loc Cert.MambaInDxNextIdeal.main_v0) = v0 c
          ∧ r.2.mem ((c.tc : Thread Cert.MambaInDxNextIdeal.nD Cert.MambaInDxNextIdeal.τ).loc Cert.MambaInDxNextIdeal.main_arg0) = m ((c.tc : Thread Cert.MambaInDxNextIdeal.nD Cert.MambaInDxNextIdeal.τ).loc Cert.MambaInDxNextIdeal.main_arg0)
          ∧ r.2.mem ((c.tc : Thread Cert.MambaInDxNextIdeal.nD Cert.MambaInDxNextIdeal.τ).loc Cert.MambaInDxNextIdeal.main_arg1) = m ((c.tc : Thread Cert.MambaInDxNextIdeal.nD Cert.MambaInDxNextIdeal.τ).loc Cert.MambaInDxNextIdeal.main_arg1)
          ∧ r.2.mem ((c.tc : Thread Cert.MambaInDxNextIdeal.nD Cert.MambaInDxNextIdeal.τ).loc Cert.MambaInDxNextIdeal.main_arg2) = m ((c.tc : Thread Cert.MambaInDxNextIdeal.nD Cert.MambaInDxNextIdeal.τ).loc Cert.MambaInDxNextIdeal.main_arg2))
      ∧ θ_run (Cert.MambaInDxNextReferenceIdeal.defs (F := Ideal)) (onTc (τ := Cert.MambaInDxNextReferenceIdeal.τ) (Cert.MambaInDxNextReferenceIdeal.main (F := Ideal))) ⟨m', fun _ => 0, g'⟩ (fun r => ∀ c : Dev Cert.MambaInDxNextReferenceIdeal.nD,
          r.2.mem ((c.tc : Thread Cert.MambaInDxNextReferenceIdeal.nD Cert.MambaInDxNextReferenceIdeal.τ).loc Cert.MambaInDxNextReferenceIdeal.main_v7) = v0 c
          ∧ r.2.mem ((c.tc : Thread Cert.MambaInDxNextReferenceIdeal.nD Cert.MambaInDxNextReferenceIdeal.τ).loc Cert.MambaInDxNextReferenceIdeal.main_arg0) = m' ((c.tc : Thread Cert.MambaInDxNextReferenceIdeal.nD Cert.MambaInDxNextReferenceIdeal.τ).loc Cert.MambaInDxNextReferenceIdeal.main_arg0)
          ∧ r.2.mem ((c.tc : Thread Cert.MambaInDxNextReferenceIdeal.nD Cert.MambaInDxNextReferenceIdeal.τ).loc Cert.MambaInDxNextReferenceIdeal.main_arg1) = m' ((c.tc : Thread Cert.MambaInDxNextReferenceIdeal.nD Cert.MambaInDxNextReferenceIdeal.τ).loc Cert.MambaInDxNextReferenceIdeal.main_arg1)
          ∧ r.2.mem ((c.tc : Thread Cert.MambaInDxNextReferenceIdeal.nD Cert.MambaInDxNextReferenceIdeal.τ).loc Cert.MambaInDxNextReferenceIdeal.main_arg2) = m' ((c.tc : Thread Cert.MambaInDxNextReferenceIdeal.nD Cert.MambaInDxNextReferenceIdeal.τ).loc Cert.MambaInDxNextReferenceIdeal.main_arg2))

def preserves_MambaInDwX_MambaInDwXIdeal : Prop :=
  True

def algebraic_MambaInDwXIdeal_MambaInDwXReferenceIdeal [hMambaInDwXIdeal : Cert.MambaInDwXIdeal.Facts] [hMambaInDwXReferenceIdeal : Cert.MambaInDwXReferenceIdeal.Facts] : Prop :=
  ∀ (m : (ℓ : Loc Cert.MambaInDwXIdeal.nD Cert.MambaInDwXIdeal.τ Cert.MambaInDwXIdeal.sig) → Buf (Elt Ideal) ℓ) (g : Dev Cert.MambaInDwXIdeal.nD → PrngReg)
    (m' : (ℓ : Loc Cert.MambaInDwXReferenceIdeal.nD Cert.MambaInDwXReferenceIdeal.τ Cert.MambaInDwXReferenceIdeal.sig) → Buf (Elt Ideal) ℓ) (g' : Dev Cert.MambaInDwXReferenceIdeal.nD → PrngReg), Pre_MambaInDwXIdeal m →
    (∀ c : Dev Cert.MambaInDwXIdeal.nD,
      m' ((c.tc : Thread Cert.MambaInDwXReferenceIdeal.nD Cert.MambaInDwXReferenceIdeal.τ).loc Cert.MambaInDwXReferenceIdeal.main_arg0) = m ((c.tc : Thread Cert.MambaInDwXIdeal.nD Cert.MambaInDwXIdeal.τ).loc Cert.MambaInDwXIdeal.main_arg0)
      ∧ m' ((c.tc : Thread Cert.MambaInDwXReferenceIdeal.nD Cert.MambaInDwXReferenceIdeal.τ).loc Cert.MambaInDwXReferenceIdeal.main_arg1) = m ((c.tc : Thread Cert.MambaInDwXIdeal.nD Cert.MambaInDwXIdeal.τ).loc Cert.MambaInDwXIdeal.main_arg1)
      ∧ m' ((c.tc : Thread Cert.MambaInDwXReferenceIdeal.nD Cert.MambaInDwXReferenceIdeal.τ).loc Cert.MambaInDwXReferenceIdeal.main_arg2) = m ((c.tc : Thread Cert.MambaInDwXIdeal.nD Cert.MambaInDwXIdeal.τ).loc Cert.MambaInDwXIdeal.main_arg2)) →
    ∃ (v0 : (c : Dev Cert.MambaInDwXIdeal.nD) → Buf (Elt Ideal) ((c.tc : Thread Cert.MambaInDwXIdeal.nD Cert.MambaInDwXIdeal.τ).loc Cert.MambaInDwXIdeal.main_v0)),
      θ_run (Cert.MambaInDwXIdeal.defs (F := Ideal)) (onTc (τ := Cert.MambaInDwXIdeal.τ) (Cert.MambaInDwXIdeal.main (F := Ideal))) ⟨m, fun _ => 0, g⟩ (fun r => ∀ c : Dev Cert.MambaInDwXIdeal.nD,
          r.2.mem ((c.tc : Thread Cert.MambaInDwXIdeal.nD Cert.MambaInDwXIdeal.τ).loc Cert.MambaInDwXIdeal.main_v0) = v0 c
          ∧ r.2.mem ((c.tc : Thread Cert.MambaInDwXIdeal.nD Cert.MambaInDwXIdeal.τ).loc Cert.MambaInDwXIdeal.main_arg0) = m ((c.tc : Thread Cert.MambaInDwXIdeal.nD Cert.MambaInDwXIdeal.τ).loc Cert.MambaInDwXIdeal.main_arg0)
          ∧ r.2.mem ((c.tc : Thread Cert.MambaInDwXIdeal.nD Cert.MambaInDwXIdeal.τ).loc Cert.MambaInDwXIdeal.main_arg1) = m ((c.tc : Thread Cert.MambaInDwXIdeal.nD Cert.MambaInDwXIdeal.τ).loc Cert.MambaInDwXIdeal.main_arg1)
          ∧ r.2.mem ((c.tc : Thread Cert.MambaInDwXIdeal.nD Cert.MambaInDwXIdeal.τ).loc Cert.MambaInDwXIdeal.main_arg2) = m ((c.tc : Thread Cert.MambaInDwXIdeal.nD Cert.MambaInDwXIdeal.τ).loc Cert.MambaInDwXIdeal.main_arg2))
      ∧ θ_run (Cert.MambaInDwXReferenceIdeal.defs (F := Ideal)) (onTc (τ := Cert.MambaInDwXReferenceIdeal.τ) (Cert.MambaInDwXReferenceIdeal.main (F := Ideal))) ⟨m', fun _ => 0, g'⟩ (fun r => ∀ c : Dev Cert.MambaInDwXReferenceIdeal.nD,
          r.2.mem ((c.tc : Thread Cert.MambaInDwXReferenceIdeal.nD Cert.MambaInDwXReferenceIdeal.τ).loc Cert.MambaInDwXReferenceIdeal.main_v8) = v0 c
          ∧ r.2.mem ((c.tc : Thread Cert.MambaInDwXReferenceIdeal.nD Cert.MambaInDwXReferenceIdeal.τ).loc Cert.MambaInDwXReferenceIdeal.main_arg0) = m' ((c.tc : Thread Cert.MambaInDwXReferenceIdeal.nD Cert.MambaInDwXReferenceIdeal.τ).loc Cert.MambaInDwXReferenceIdeal.main_arg0)
          ∧ r.2.mem ((c.tc : Thread Cert.MambaInDwXReferenceIdeal.nD Cert.MambaInDwXReferenceIdeal.τ).loc Cert.MambaInDwXReferenceIdeal.main_arg1) = m' ((c.tc : Thread Cert.MambaInDwXReferenceIdeal.nD Cert.MambaInDwXReferenceIdeal.τ).loc Cert.MambaInDwXReferenceIdeal.main_arg1)
          ∧ r.2.mem ((c.tc : Thread Cert.MambaInDwXReferenceIdeal.nD Cert.MambaInDwXReferenceIdeal.τ).loc Cert.MambaInDwXReferenceIdeal.main_arg2) = m' ((c.tc : Thread Cert.MambaInDwXReferenceIdeal.nD Cert.MambaInDwXReferenceIdeal.τ).loc Cert.MambaInDwXReferenceIdeal.main_arg2))

def preserves_MambaInDwBc_MambaInDwBcIdeal : Prop :=
  True

def algebraic_MambaInDwBcIdeal_MambaInDwBcReferenceIdeal [hMambaInDwBcIdeal : Cert.MambaInDwBcIdeal.Facts] [hMambaInDwBcReferenceIdeal : Cert.MambaInDwBcReferenceIdeal.Facts] : Prop :=
  ∀ (m : (ℓ : Loc Cert.MambaInDwBcIdeal.nD Cert.MambaInDwBcIdeal.τ Cert.MambaInDwBcIdeal.sig) → Buf (Elt Ideal) ℓ) (g : Dev Cert.MambaInDwBcIdeal.nD → PrngReg)
    (m' : (ℓ : Loc Cert.MambaInDwBcReferenceIdeal.nD Cert.MambaInDwBcReferenceIdeal.τ Cert.MambaInDwBcReferenceIdeal.sig) → Buf (Elt Ideal) ℓ) (g' : Dev Cert.MambaInDwBcReferenceIdeal.nD → PrngReg), Pre_MambaInDwBcIdeal m →
    (∀ c : Dev Cert.MambaInDwBcIdeal.nD,
      m' ((c.tc : Thread Cert.MambaInDwBcReferenceIdeal.nD Cert.MambaInDwBcReferenceIdeal.τ).loc Cert.MambaInDwBcReferenceIdeal.main_arg0) = m ((c.tc : Thread Cert.MambaInDwBcIdeal.nD Cert.MambaInDwBcIdeal.τ).loc Cert.MambaInDwBcIdeal.main_arg0)
      ∧ m' ((c.tc : Thread Cert.MambaInDwBcReferenceIdeal.nD Cert.MambaInDwBcReferenceIdeal.τ).loc Cert.MambaInDwBcReferenceIdeal.main_arg1) = m ((c.tc : Thread Cert.MambaInDwBcIdeal.nD Cert.MambaInDwBcIdeal.τ).loc Cert.MambaInDwBcIdeal.main_arg1)
      ∧ m' ((c.tc : Thread Cert.MambaInDwBcReferenceIdeal.nD Cert.MambaInDwBcReferenceIdeal.τ).loc Cert.MambaInDwBcReferenceIdeal.main_arg2) = m ((c.tc : Thread Cert.MambaInDwBcIdeal.nD Cert.MambaInDwBcIdeal.τ).loc Cert.MambaInDwBcIdeal.main_arg2)) →
    ∃ (v0 : (c : Dev Cert.MambaInDwBcIdeal.nD) → Buf (Elt Ideal) ((c.tc : Thread Cert.MambaInDwBcIdeal.nD Cert.MambaInDwBcIdeal.τ).loc Cert.MambaInDwBcIdeal.main_v0)),
      θ_run (Cert.MambaInDwBcIdeal.defs (F := Ideal)) (onTc (τ := Cert.MambaInDwBcIdeal.τ) (Cert.MambaInDwBcIdeal.main (F := Ideal))) ⟨m, fun _ => 0, g⟩ (fun r => ∀ c : Dev Cert.MambaInDwBcIdeal.nD,
          r.2.mem ((c.tc : Thread Cert.MambaInDwBcIdeal.nD Cert.MambaInDwBcIdeal.τ).loc Cert.MambaInDwBcIdeal.main_v0) = v0 c
          ∧ r.2.mem ((c.tc : Thread Cert.MambaInDwBcIdeal.nD Cert.MambaInDwBcIdeal.τ).loc Cert.MambaInDwBcIdeal.main_arg0) = m ((c.tc : Thread Cert.MambaInDwBcIdeal.nD Cert.MambaInDwBcIdeal.τ).loc Cert.MambaInDwBcIdeal.main_arg0)
          ∧ r.2.mem ((c.tc : Thread Cert.MambaInDwBcIdeal.nD Cert.MambaInDwBcIdeal.τ).loc Cert.MambaInDwBcIdeal.main_arg1) = m ((c.tc : Thread Cert.MambaInDwBcIdeal.nD Cert.MambaInDwBcIdeal.τ).loc Cert.MambaInDwBcIdeal.main_arg1)
          ∧ r.2.mem ((c.tc : Thread Cert.MambaInDwBcIdeal.nD Cert.MambaInDwBcIdeal.τ).loc Cert.MambaInDwBcIdeal.main_arg2) = m ((c.tc : Thread Cert.MambaInDwBcIdeal.nD Cert.MambaInDwBcIdeal.τ).loc Cert.MambaInDwBcIdeal.main_arg2))
      ∧ θ_run (Cert.MambaInDwBcReferenceIdeal.defs (F := Ideal)) (onTc (τ := Cert.MambaInDwBcReferenceIdeal.τ) (Cert.MambaInDwBcReferenceIdeal.main (F := Ideal))) ⟨m', fun _ => 0, g'⟩ (fun r => ∀ c : Dev Cert.MambaInDwBcReferenceIdeal.nD,
          r.2.mem ((c.tc : Thread Cert.MambaInDwBcReferenceIdeal.nD Cert.MambaInDwBcReferenceIdeal.τ).loc Cert.MambaInDwBcReferenceIdeal.main_v8) = v0 c
          ∧ r.2.mem ((c.tc : Thread Cert.MambaInDwBcReferenceIdeal.nD Cert.MambaInDwBcReferenceIdeal.τ).loc Cert.MambaInDwBcReferenceIdeal.main_arg0) = m' ((c.tc : Thread Cert.MambaInDwBcReferenceIdeal.nD Cert.MambaInDwBcReferenceIdeal.τ).loc Cert.MambaInDwBcReferenceIdeal.main_arg0)
          ∧ r.2.mem ((c.tc : Thread Cert.MambaInDwBcReferenceIdeal.nD Cert.MambaInDwBcReferenceIdeal.τ).loc Cert.MambaInDwBcReferenceIdeal.main_arg1) = m' ((c.tc : Thread Cert.MambaInDwBcReferenceIdeal.nD Cert.MambaInDwBcReferenceIdeal.τ).loc Cert.MambaInDwBcReferenceIdeal.main_arg1)
          ∧ r.2.mem ((c.tc : Thread Cert.MambaInDwBcReferenceIdeal.nD Cert.MambaInDwBcReferenceIdeal.τ).loc Cert.MambaInDwBcReferenceIdeal.main_arg2) = m' ((c.tc : Thread Cert.MambaInDwBcReferenceIdeal.nD Cert.MambaInDwBcReferenceIdeal.τ).loc Cert.MambaInDwBcReferenceIdeal.main_arg2))

def preserves_MambaInDwDt_MambaInDwDtIdeal : Prop :=
  True

def algebraic_MambaInDwDtIdeal_MambaInDwDtReferenceIdeal [hMambaInDwDtIdeal : Cert.MambaInDwDtIdeal.Facts] [hMambaInDwDtReferenceIdeal : Cert.MambaInDwDtReferenceIdeal.Facts] : Prop :=
  ∀ (m : (ℓ : Loc Cert.MambaInDwDtIdeal.nD Cert.MambaInDwDtIdeal.τ Cert.MambaInDwDtIdeal.sig) → Buf (Elt Ideal) ℓ) (g : Dev Cert.MambaInDwDtIdeal.nD → PrngReg)
    (m' : (ℓ : Loc Cert.MambaInDwDtReferenceIdeal.nD Cert.MambaInDwDtReferenceIdeal.τ Cert.MambaInDwDtReferenceIdeal.sig) → Buf (Elt Ideal) ℓ) (g' : Dev Cert.MambaInDwDtReferenceIdeal.nD → PrngReg), Pre_MambaInDwDtIdeal m →
    (∀ c : Dev Cert.MambaInDwDtIdeal.nD,
      m' ((c.tc : Thread Cert.MambaInDwDtReferenceIdeal.nD Cert.MambaInDwDtReferenceIdeal.τ).loc Cert.MambaInDwDtReferenceIdeal.main_arg0) = m ((c.tc : Thread Cert.MambaInDwDtIdeal.nD Cert.MambaInDwDtIdeal.τ).loc Cert.MambaInDwDtIdeal.main_arg0)
      ∧ m' ((c.tc : Thread Cert.MambaInDwDtReferenceIdeal.nD Cert.MambaInDwDtReferenceIdeal.τ).loc Cert.MambaInDwDtReferenceIdeal.main_arg1) = m ((c.tc : Thread Cert.MambaInDwDtIdeal.nD Cert.MambaInDwDtIdeal.τ).loc Cert.MambaInDwDtIdeal.main_arg1)
      ∧ m' ((c.tc : Thread Cert.MambaInDwDtReferenceIdeal.nD Cert.MambaInDwDtReferenceIdeal.τ).loc Cert.MambaInDwDtReferenceIdeal.main_arg2) = m ((c.tc : Thread Cert.MambaInDwDtIdeal.nD Cert.MambaInDwDtIdeal.τ).loc Cert.MambaInDwDtIdeal.main_arg2)) →
    ∃ (v0 : (c : Dev Cert.MambaInDwDtIdeal.nD) → Buf (Elt Ideal) ((c.tc : Thread Cert.MambaInDwDtIdeal.nD Cert.MambaInDwDtIdeal.τ).loc Cert.MambaInDwDtIdeal.main_v0)),
      θ_run (Cert.MambaInDwDtIdeal.defs (F := Ideal)) (onTc (τ := Cert.MambaInDwDtIdeal.τ) (Cert.MambaInDwDtIdeal.main (F := Ideal))) ⟨m, fun _ => 0, g⟩ (fun r => ∀ c : Dev Cert.MambaInDwDtIdeal.nD,
          r.2.mem ((c.tc : Thread Cert.MambaInDwDtIdeal.nD Cert.MambaInDwDtIdeal.τ).loc Cert.MambaInDwDtIdeal.main_v0) = v0 c
          ∧ r.2.mem ((c.tc : Thread Cert.MambaInDwDtIdeal.nD Cert.MambaInDwDtIdeal.τ).loc Cert.MambaInDwDtIdeal.main_arg0) = m ((c.tc : Thread Cert.MambaInDwDtIdeal.nD Cert.MambaInDwDtIdeal.τ).loc Cert.MambaInDwDtIdeal.main_arg0)
          ∧ r.2.mem ((c.tc : Thread Cert.MambaInDwDtIdeal.nD Cert.MambaInDwDtIdeal.τ).loc Cert.MambaInDwDtIdeal.main_arg1) = m ((c.tc : Thread Cert.MambaInDwDtIdeal.nD Cert.MambaInDwDtIdeal.τ).loc Cert.MambaInDwDtIdeal.main_arg1)
          ∧ r.2.mem ((c.tc : Thread Cert.MambaInDwDtIdeal.nD Cert.MambaInDwDtIdeal.τ).loc Cert.MambaInDwDtIdeal.main_arg2) = m ((c.tc : Thread Cert.MambaInDwDtIdeal.nD Cert.MambaInDwDtIdeal.τ).loc Cert.MambaInDwDtIdeal.main_arg2))
      ∧ θ_run (Cert.MambaInDwDtReferenceIdeal.defs (F := Ideal)) (onTc (τ := Cert.MambaInDwDtReferenceIdeal.τ) (Cert.MambaInDwDtReferenceIdeal.main (F := Ideal))) ⟨m', fun _ => 0, g'⟩ (fun r => ∀ c : Dev Cert.MambaInDwDtReferenceIdeal.nD,
          r.2.mem ((c.tc : Thread Cert.MambaInDwDtReferenceIdeal.nD Cert.MambaInDwDtReferenceIdeal.τ).loc Cert.MambaInDwDtReferenceIdeal.main_v8) = v0 c
          ∧ r.2.mem ((c.tc : Thread Cert.MambaInDwDtReferenceIdeal.nD Cert.MambaInDwDtReferenceIdeal.τ).loc Cert.MambaInDwDtReferenceIdeal.main_arg0) = m' ((c.tc : Thread Cert.MambaInDwDtReferenceIdeal.nD Cert.MambaInDwDtReferenceIdeal.τ).loc Cert.MambaInDwDtReferenceIdeal.main_arg0)
          ∧ r.2.mem ((c.tc : Thread Cert.MambaInDwDtReferenceIdeal.nD Cert.MambaInDwDtReferenceIdeal.τ).loc Cert.MambaInDwDtReferenceIdeal.main_arg1) = m' ((c.tc : Thread Cert.MambaInDwDtReferenceIdeal.nD Cert.MambaInDwDtReferenceIdeal.τ).loc Cert.MambaInDwDtReferenceIdeal.main_arg1)
          ∧ r.2.mem ((c.tc : Thread Cert.MambaInDwDtReferenceIdeal.nD Cert.MambaInDwDtReferenceIdeal.τ).loc Cert.MambaInDwDtReferenceIdeal.main_arg2) = m' ((c.tc : Thread Cert.MambaInDwDtReferenceIdeal.nD Cert.MambaInDwDtReferenceIdeal.τ).loc Cert.MambaInDwDtReferenceIdeal.main_arg2))

def preserves_MambaInDxBc_MambaInDxBcIdeal : Prop :=
  True

def algebraic_MambaInDxBcIdeal_MambaInDxBcReferenceIdeal [hMambaInDxBcIdeal : Cert.MambaInDxBcIdeal.Facts] [hMambaInDxBcReferenceIdeal : Cert.MambaInDxBcReferenceIdeal.Facts] : Prop :=
  ∀ (m : (ℓ : Loc Cert.MambaInDxBcIdeal.nD Cert.MambaInDxBcIdeal.τ Cert.MambaInDxBcIdeal.sig) → Buf (Elt Ideal) ℓ) (g : Dev Cert.MambaInDxBcIdeal.nD → PrngReg)
    (m' : (ℓ : Loc Cert.MambaInDxBcReferenceIdeal.nD Cert.MambaInDxBcReferenceIdeal.τ Cert.MambaInDxBcReferenceIdeal.sig) → Buf (Elt Ideal) ℓ) (g' : Dev Cert.MambaInDxBcReferenceIdeal.nD → PrngReg), Pre_MambaInDxBcIdeal m →
    (∀ c : Dev Cert.MambaInDxBcIdeal.nD,
      m' ((c.tc : Thread Cert.MambaInDxBcReferenceIdeal.nD Cert.MambaInDxBcReferenceIdeal.τ).loc Cert.MambaInDxBcReferenceIdeal.main_arg0) = m ((c.tc : Thread Cert.MambaInDxBcIdeal.nD Cert.MambaInDxBcIdeal.τ).loc Cert.MambaInDxBcIdeal.main_arg0)
      ∧ m' ((c.tc : Thread Cert.MambaInDxBcReferenceIdeal.nD Cert.MambaInDxBcReferenceIdeal.τ).loc Cert.MambaInDxBcReferenceIdeal.main_arg1) = m ((c.tc : Thread Cert.MambaInDxBcIdeal.nD Cert.MambaInDxBcIdeal.τ).loc Cert.MambaInDxBcIdeal.main_arg1)
      ∧ m' ((c.tc : Thread Cert.MambaInDxBcReferenceIdeal.nD Cert.MambaInDxBcReferenceIdeal.τ).loc Cert.MambaInDxBcReferenceIdeal.main_arg2) = m ((c.tc : Thread Cert.MambaInDxBcIdeal.nD Cert.MambaInDxBcIdeal.τ).loc Cert.MambaInDxBcIdeal.main_arg2)) →
    ∃ (v0 : (c : Dev Cert.MambaInDxBcIdeal.nD) → Buf (Elt Ideal) ((c.tc : Thread Cert.MambaInDxBcIdeal.nD Cert.MambaInDxBcIdeal.τ).loc Cert.MambaInDxBcIdeal.main_v0)),
      θ_run (Cert.MambaInDxBcIdeal.defs (F := Ideal)) (onTc (τ := Cert.MambaInDxBcIdeal.τ) (Cert.MambaInDxBcIdeal.main (F := Ideal))) ⟨m, fun _ => 0, g⟩ (fun r => ∀ c : Dev Cert.MambaInDxBcIdeal.nD,
          r.2.mem ((c.tc : Thread Cert.MambaInDxBcIdeal.nD Cert.MambaInDxBcIdeal.τ).loc Cert.MambaInDxBcIdeal.main_v0) = v0 c
          ∧ r.2.mem ((c.tc : Thread Cert.MambaInDxBcIdeal.nD Cert.MambaInDxBcIdeal.τ).loc Cert.MambaInDxBcIdeal.main_arg0) = m ((c.tc : Thread Cert.MambaInDxBcIdeal.nD Cert.MambaInDxBcIdeal.τ).loc Cert.MambaInDxBcIdeal.main_arg0)
          ∧ r.2.mem ((c.tc : Thread Cert.MambaInDxBcIdeal.nD Cert.MambaInDxBcIdeal.τ).loc Cert.MambaInDxBcIdeal.main_arg1) = m ((c.tc : Thread Cert.MambaInDxBcIdeal.nD Cert.MambaInDxBcIdeal.τ).loc Cert.MambaInDxBcIdeal.main_arg1)
          ∧ r.2.mem ((c.tc : Thread Cert.MambaInDxBcIdeal.nD Cert.MambaInDxBcIdeal.τ).loc Cert.MambaInDxBcIdeal.main_arg2) = m ((c.tc : Thread Cert.MambaInDxBcIdeal.nD Cert.MambaInDxBcIdeal.τ).loc Cert.MambaInDxBcIdeal.main_arg2))
      ∧ θ_run (Cert.MambaInDxBcReferenceIdeal.defs (F := Ideal)) (onTc (τ := Cert.MambaInDxBcReferenceIdeal.τ) (Cert.MambaInDxBcReferenceIdeal.main (F := Ideal))) ⟨m', fun _ => 0, g'⟩ (fun r => ∀ c : Dev Cert.MambaInDxBcReferenceIdeal.nD,
          r.2.mem ((c.tc : Thread Cert.MambaInDxBcReferenceIdeal.nD Cert.MambaInDxBcReferenceIdeal.τ).loc Cert.MambaInDxBcReferenceIdeal.main_v7) = v0 c
          ∧ r.2.mem ((c.tc : Thread Cert.MambaInDxBcReferenceIdeal.nD Cert.MambaInDxBcReferenceIdeal.τ).loc Cert.MambaInDxBcReferenceIdeal.main_arg0) = m' ((c.tc : Thread Cert.MambaInDxBcReferenceIdeal.nD Cert.MambaInDxBcReferenceIdeal.τ).loc Cert.MambaInDxBcReferenceIdeal.main_arg0)
          ∧ r.2.mem ((c.tc : Thread Cert.MambaInDxBcReferenceIdeal.nD Cert.MambaInDxBcReferenceIdeal.τ).loc Cert.MambaInDxBcReferenceIdeal.main_arg1) = m' ((c.tc : Thread Cert.MambaInDxBcReferenceIdeal.nD Cert.MambaInDxBcReferenceIdeal.τ).loc Cert.MambaInDxBcReferenceIdeal.main_arg1)
          ∧ r.2.mem ((c.tc : Thread Cert.MambaInDxBcReferenceIdeal.nD Cert.MambaInDxBcReferenceIdeal.τ).loc Cert.MambaInDxBcReferenceIdeal.main_arg2) = m' ((c.tc : Thread Cert.MambaInDxBcReferenceIdeal.nD Cert.MambaInDxBcReferenceIdeal.τ).loc Cert.MambaInDxBcReferenceIdeal.main_arg2))

def preserves_MambaInDxDt_MambaInDxDtIdeal : Prop :=
  True

def algebraic_MambaInDxDtIdeal_MambaInDxDtReferenceIdeal [hMambaInDxDtIdeal : Cert.MambaInDxDtIdeal.Facts] [hMambaInDxDtReferenceIdeal : Cert.MambaInDxDtReferenceIdeal.Facts] : Prop :=
  ∀ (m : (ℓ : Loc Cert.MambaInDxDtIdeal.nD Cert.MambaInDxDtIdeal.τ Cert.MambaInDxDtIdeal.sig) → Buf (Elt Ideal) ℓ) (g : Dev Cert.MambaInDxDtIdeal.nD → PrngReg)
    (m' : (ℓ : Loc Cert.MambaInDxDtReferenceIdeal.nD Cert.MambaInDxDtReferenceIdeal.τ Cert.MambaInDxDtReferenceIdeal.sig) → Buf (Elt Ideal) ℓ) (g' : Dev Cert.MambaInDxDtReferenceIdeal.nD → PrngReg), Pre_MambaInDxDtIdeal m →
    (∀ c : Dev Cert.MambaInDxDtIdeal.nD,
      m' ((c.tc : Thread Cert.MambaInDxDtReferenceIdeal.nD Cert.MambaInDxDtReferenceIdeal.τ).loc Cert.MambaInDxDtReferenceIdeal.main_arg0) = m ((c.tc : Thread Cert.MambaInDxDtIdeal.nD Cert.MambaInDxDtIdeal.τ).loc Cert.MambaInDxDtIdeal.main_arg0)
      ∧ m' ((c.tc : Thread Cert.MambaInDxDtReferenceIdeal.nD Cert.MambaInDxDtReferenceIdeal.τ).loc Cert.MambaInDxDtReferenceIdeal.main_arg1) = m ((c.tc : Thread Cert.MambaInDxDtIdeal.nD Cert.MambaInDxDtIdeal.τ).loc Cert.MambaInDxDtIdeal.main_arg1)
      ∧ m' ((c.tc : Thread Cert.MambaInDxDtReferenceIdeal.nD Cert.MambaInDxDtReferenceIdeal.τ).loc Cert.MambaInDxDtReferenceIdeal.main_arg2) = m ((c.tc : Thread Cert.MambaInDxDtIdeal.nD Cert.MambaInDxDtIdeal.τ).loc Cert.MambaInDxDtIdeal.main_arg2)) →
    ∃ (v0 : (c : Dev Cert.MambaInDxDtIdeal.nD) → Buf (Elt Ideal) ((c.tc : Thread Cert.MambaInDxDtIdeal.nD Cert.MambaInDxDtIdeal.τ).loc Cert.MambaInDxDtIdeal.main_v0)),
      θ_run (Cert.MambaInDxDtIdeal.defs (F := Ideal)) (onTc (τ := Cert.MambaInDxDtIdeal.τ) (Cert.MambaInDxDtIdeal.main (F := Ideal))) ⟨m, fun _ => 0, g⟩ (fun r => ∀ c : Dev Cert.MambaInDxDtIdeal.nD,
          r.2.mem ((c.tc : Thread Cert.MambaInDxDtIdeal.nD Cert.MambaInDxDtIdeal.τ).loc Cert.MambaInDxDtIdeal.main_v0) = v0 c
          ∧ r.2.mem ((c.tc : Thread Cert.MambaInDxDtIdeal.nD Cert.MambaInDxDtIdeal.τ).loc Cert.MambaInDxDtIdeal.main_arg0) = m ((c.tc : Thread Cert.MambaInDxDtIdeal.nD Cert.MambaInDxDtIdeal.τ).loc Cert.MambaInDxDtIdeal.main_arg0)
          ∧ r.2.mem ((c.tc : Thread Cert.MambaInDxDtIdeal.nD Cert.MambaInDxDtIdeal.τ).loc Cert.MambaInDxDtIdeal.main_arg1) = m ((c.tc : Thread Cert.MambaInDxDtIdeal.nD Cert.MambaInDxDtIdeal.τ).loc Cert.MambaInDxDtIdeal.main_arg1)
          ∧ r.2.mem ((c.tc : Thread Cert.MambaInDxDtIdeal.nD Cert.MambaInDxDtIdeal.τ).loc Cert.MambaInDxDtIdeal.main_arg2) = m ((c.tc : Thread Cert.MambaInDxDtIdeal.nD Cert.MambaInDxDtIdeal.τ).loc Cert.MambaInDxDtIdeal.main_arg2))
      ∧ θ_run (Cert.MambaInDxDtReferenceIdeal.defs (F := Ideal)) (onTc (τ := Cert.MambaInDxDtReferenceIdeal.τ) (Cert.MambaInDxDtReferenceIdeal.main (F := Ideal))) ⟨m', fun _ => 0, g'⟩ (fun r => ∀ c : Dev Cert.MambaInDxDtReferenceIdeal.nD,
          r.2.mem ((c.tc : Thread Cert.MambaInDxDtReferenceIdeal.nD Cert.MambaInDxDtReferenceIdeal.τ).loc Cert.MambaInDxDtReferenceIdeal.main_v7) = v0 c
          ∧ r.2.mem ((c.tc : Thread Cert.MambaInDxDtReferenceIdeal.nD Cert.MambaInDxDtReferenceIdeal.τ).loc Cert.MambaInDxDtReferenceIdeal.main_arg0) = m' ((c.tc : Thread Cert.MambaInDxDtReferenceIdeal.nD Cert.MambaInDxDtReferenceIdeal.τ).loc Cert.MambaInDxDtReferenceIdeal.main_arg0)
          ∧ r.2.mem ((c.tc : Thread Cert.MambaInDxDtReferenceIdeal.nD Cert.MambaInDxDtReferenceIdeal.τ).loc Cert.MambaInDxDtReferenceIdeal.main_arg1) = m' ((c.tc : Thread Cert.MambaInDxDtReferenceIdeal.nD Cert.MambaInDxDtReferenceIdeal.τ).loc Cert.MambaInDxDtReferenceIdeal.main_arg1)
          ∧ r.2.mem ((c.tc : Thread Cert.MambaInDxDtReferenceIdeal.nD Cert.MambaInDxDtReferenceIdeal.τ).loc Cert.MambaInDxDtReferenceIdeal.main_arg2) = m' ((c.tc : Thread Cert.MambaInDxDtReferenceIdeal.nD Cert.MambaInDxDtReferenceIdeal.τ).loc Cert.MambaInDxDtReferenceIdeal.main_arg2))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)
      ∧ m' ((c.tc : Thread Cert.NormBwdReferenceIdeal.nD Cert.NormBwdReferenceIdeal.τ).loc Cert.NormBwdReferenceIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v36) = v0 c
          ∧ r.2.mem ((c.tc : Thread Cert.NormBwdReferenceIdeal.nD Cert.NormBwdReferenceIdeal.τ).loc Cert.NormBwdReferenceIdeal.main_v37) = v1 c
          ∧ r.2.mem ((c.tc : Thread Cert.NormBwdReferenceIdeal.nD Cert.NormBwdReferenceIdeal.τ).loc Cert.NormBwdReferenceIdeal.main_v38) = v2 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3)
          ∧ r.2.mem ((c.tc : Thread Cert.NormBwdReferenceIdeal.nD Cert.NormBwdReferenceIdeal.τ).loc Cert.NormBwdReferenceIdeal.main_arg4) = m' ((c.tc : Thread Cert.NormBwdReferenceIdeal.nD Cert.NormBwdReferenceIdeal.τ).loc Cert.NormBwdReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_HgrnIn_HgrnInIdeal : Prop :=
  True

def algebraic_HgrnInIdeal_HgrnInReferenceIdeal [hHgrnInIdeal : Cert.HgrnInIdeal.Facts] [hHgrnInReferenceIdeal : Cert.HgrnInReferenceIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInReferenceIdeal.nD Cert.HgrnInReferenceIdeal.τ Cert.HgrnInReferenceIdeal.sig) → Buf (Elt Ideal) ℓ) (g' : Dev Cert.HgrnInReferenceIdeal.nD → PrngReg), Pre_HgrnInIdeal m →
    (∀ c : Dev Cert.HgrnInIdeal.nD,
      m' ((c.tc : Thread Cert.HgrnInReferenceIdeal.nD Cert.HgrnInReferenceIdeal.τ).loc Cert.HgrnInReferenceIdeal.main_arg0) = m ((c.tc : Thread Cert.HgrnInIdeal.nD Cert.HgrnInIdeal.τ).loc Cert.HgrnInIdeal.main_arg0)
      ∧ m' ((c.tc : Thread Cert.HgrnInReferenceIdeal.nD Cert.HgrnInReferenceIdeal.τ).loc Cert.HgrnInReferenceIdeal.main_arg1) = m ((c.tc : Thread Cert.HgrnInIdeal.nD Cert.HgrnInIdeal.τ).loc Cert.HgrnInIdeal.main_arg1)) →
    ∃ (v0 : (c : Dev Cert.HgrnInIdeal.nD) → Buf (Elt Ideal) ((c.tc : Thread Cert.HgrnInIdeal.nD Cert.HgrnInIdeal.τ).loc Cert.HgrnInIdeal.main_v0)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v0) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ θ_run (Cert.HgrnInReferenceIdeal.defs (F := Ideal)) (onTc (τ := Cert.HgrnInReferenceIdeal.τ) (Cert.HgrnInReferenceIdeal.main (F := Ideal))) ⟨m', fun _ => 0, g'⟩ (fun r => ∀ c : Dev Cert.HgrnInReferenceIdeal.nD,
          r.2.mem ((c.tc : Thread Cert.HgrnInReferenceIdeal.nD Cert.HgrnInReferenceIdeal.τ).loc Cert.HgrnInReferenceIdeal.main_v2) = v0 c
          ∧ r.2.mem ((c.tc : Thread Cert.HgrnInReferenceIdeal.nD Cert.HgrnInReferenceIdeal.τ).loc Cert.HgrnInReferenceIdeal.main_arg0) = m' ((c.tc : Thread Cert.HgrnInReferenceIdeal.nD Cert.HgrnInReferenceIdeal.τ).loc Cert.HgrnInReferenceIdeal.main_arg0)
          ∧ r.2.mem ((c.tc : Thread Cert.HgrnInReferenceIdeal.nD Cert.HgrnInReferenceIdeal.τ).loc Cert.HgrnInReferenceIdeal.main_arg1) = m' ((c.tc : Thread Cert.HgrnInReferenceIdeal.nD Cert.HgrnInReferenceIdeal.τ).loc Cert.HgrnInReferenceIdeal.main_arg1))

def preserves_HgrnOut_HgrnOutIdeal : Prop :=
  True

def algebraic_HgrnOutIdeal_HgrnOutReferenceIdeal [hHgrnOutIdeal : Cert.HgrnOutIdeal.Facts] [hHgrnOutReferenceIdeal : Cert.HgrnOutReferenceIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutReferenceIdeal.nD Cert.HgrnOutReferenceIdeal.τ Cert.HgrnOutReferenceIdeal.sig) → Buf (Elt Ideal) ℓ) (g' : Dev Cert.HgrnOutReferenceIdeal.nD → PrngReg), Pre_HgrnOutIdeal m →
    (∀ c : Dev Cert.HgrnOutIdeal.nD,
      m' ((c.tc : Thread Cert.HgrnOutReferenceIdeal.nD Cert.HgrnOutReferenceIdeal.τ).loc Cert.HgrnOutReferenceIdeal.main_arg0) = m ((c.tc : Thread Cert.HgrnOutIdeal.nD Cert.HgrnOutIdeal.τ).loc Cert.HgrnOutIdeal.main_arg0)
      ∧ m' ((c.tc : Thread Cert.HgrnOutReferenceIdeal.nD Cert.HgrnOutReferenceIdeal.τ).loc Cert.HgrnOutReferenceIdeal.main_arg1) = m ((c.tc : Thread Cert.HgrnOutIdeal.nD Cert.HgrnOutIdeal.τ).loc Cert.HgrnOutIdeal.main_arg1)
      ∧ m' ((c.tc : Thread Cert.HgrnOutReferenceIdeal.nD Cert.HgrnOutReferenceIdeal.τ).loc Cert.HgrnOutReferenceIdeal.main_arg2) = m ((c.tc : Thread Cert.HgrnOutIdeal.nD Cert.HgrnOutIdeal.τ).loc Cert.HgrnOutIdeal.main_arg2)) →
    ∃ (v0 : (c : Dev Cert.HgrnOutIdeal.nD) → Buf (Elt Ideal) ((c.tc : Thread Cert.HgrnOutIdeal.nD Cert.HgrnOutIdeal.τ).loc Cert.HgrnOutIdeal.main_v0)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v0) = v0 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2))
      ∧ θ_run (Cert.HgrnOutReferenceIdeal.defs (F := Ideal)) (onTc (τ := Cert.HgrnOutReferenceIdeal.τ) (Cert.HgrnOutReferenceIdeal.main (F := Ideal))) ⟨m', fun _ => 0, g'⟩ (fun r => ∀ c : Dev Cert.HgrnOutReferenceIdeal.nD,
          r.2.mem ((c.tc : Thread Cert.HgrnOutReferenceIdeal.nD Cert.HgrnOutReferenceIdeal.τ).loc Cert.HgrnOutReferenceIdeal.main_v3) = v0 c
          ∧ r.2.mem ((c.tc : Thread Cert.HgrnOutReferenceIdeal.nD Cert.HgrnOutReferenceIdeal.τ).loc Cert.HgrnOutReferenceIdeal.main_arg0) = m' ((c.tc : Thread Cert.HgrnOutReferenceIdeal.nD Cert.HgrnOutReferenceIdeal.τ).loc Cert.HgrnOutReferenceIdeal.main_arg0)
          ∧ r.2.mem ((c.tc : Thread Cert.HgrnOutReferenceIdeal.nD Cert.HgrnOutReferenceIdeal.τ).loc Cert.HgrnOutReferenceIdeal.main_arg1) = m' ((c.tc : Thread Cert.HgrnOutReferenceIdeal.nD Cert.HgrnOutReferenceIdeal.τ).loc Cert.HgrnOutReferenceIdeal.main_arg1)
          ∧ r.2.mem ((c.tc : Thread Cert.HgrnOutReferenceIdeal.nD Cert.HgrnOutReferenceIdeal.τ).loc Cert.HgrnOutReferenceIdeal.main_arg2) = m' ((c.tc : Thread Cert.HgrnOutReferenceIdeal.nD Cert.HgrnOutReferenceIdeal.τ).loc Cert.HgrnOutReferenceIdeal.main_arg2))

def preserves_MambaIn_MambaInIdeal : Prop :=
  True

def algebraic_MambaInIdeal_MambaInReferenceIdeal [hMambaInIdeal : Cert.MambaInIdeal.Facts] [hMambaInReferenceIdeal : Cert.MambaInReferenceIdeal.Facts] : Prop :=
  ∀ (m : (ℓ : Loc Cert.MambaInIdeal.nD Cert.MambaInIdeal.τ Cert.MambaInIdeal.sig) → Buf (Elt Ideal) ℓ) (g : Dev Cert.MambaInIdeal.nD → PrngReg)
    (m' : (ℓ : Loc Cert.MambaInReferenceIdeal.nD Cert.MambaInReferenceIdeal.τ Cert.MambaInReferenceIdeal.sig) → Buf (Elt Ideal) ℓ) (g' : Dev Cert.MambaInReferenceIdeal.nD → PrngReg), Pre_MambaInIdeal m →
    (∀ c : Dev Cert.MambaInIdeal.nD,
      m' ((c.tc : Thread Cert.MambaInReferenceIdeal.nD Cert.MambaInReferenceIdeal.τ).loc Cert.MambaInReferenceIdeal.main_arg0) = m ((c.tc : Thread Cert.MambaInIdeal.nD Cert.MambaInIdeal.τ).loc Cert.MambaInIdeal.main_arg0)
      ∧ m' ((c.tc : Thread Cert.MambaInReferenceIdeal.nD Cert.MambaInReferenceIdeal.τ).loc Cert.MambaInReferenceIdeal.main_arg1) = m ((c.tc : Thread Cert.MambaInIdeal.nD Cert.MambaInIdeal.τ).loc Cert.MambaInIdeal.main_arg1)) →
    ∃ (v0 : (c : Dev Cert.MambaInIdeal.nD) → Buf (Elt Ideal) ((c.tc : Thread Cert.MambaInIdeal.nD Cert.MambaInIdeal.τ).loc Cert.MambaInIdeal.main_v0)),
      θ_run (Cert.MambaInIdeal.defs (F := Ideal)) (onTc (τ := Cert.MambaInIdeal.τ) (Cert.MambaInIdeal.main (F := Ideal))) ⟨m, fun _ => 0, g⟩ (fun r => ∀ c : Dev Cert.MambaInIdeal.nD,
          r.2.mem ((c.tc : Thread Cert.MambaInIdeal.nD Cert.MambaInIdeal.τ).loc Cert.MambaInIdeal.main_v0) = v0 c
          ∧ r.2.mem ((c.tc : Thread Cert.MambaInIdeal.nD Cert.MambaInIdeal.τ).loc Cert.MambaInIdeal.main_arg0) = m ((c.tc : Thread Cert.MambaInIdeal.nD Cert.MambaInIdeal.τ).loc Cert.MambaInIdeal.main_arg0)
          ∧ r.2.mem ((c.tc : Thread Cert.MambaInIdeal.nD Cert.MambaInIdeal.τ).loc Cert.MambaInIdeal.main_arg1) = m ((c.tc : Thread Cert.MambaInIdeal.nD Cert.MambaInIdeal.τ).loc Cert.MambaInIdeal.main_arg1))
      ∧ θ_run (Cert.MambaInReferenceIdeal.defs (F := Ideal)) (onTc (τ := Cert.MambaInReferenceIdeal.τ) (Cert.MambaInReferenceIdeal.main (F := Ideal))) ⟨m', fun _ => 0, g'⟩ (fun r => ∀ c : Dev Cert.MambaInReferenceIdeal.nD,
          r.2.mem ((c.tc : Thread Cert.MambaInReferenceIdeal.nD Cert.MambaInReferenceIdeal.τ).loc Cert.MambaInReferenceIdeal.main_v3) = v0 c
          ∧ r.2.mem ((c.tc : Thread Cert.MambaInReferenceIdeal.nD Cert.MambaInReferenceIdeal.τ).loc Cert.MambaInReferenceIdeal.main_arg0) = m' ((c.tc : Thread Cert.MambaInReferenceIdeal.nD Cert.MambaInReferenceIdeal.τ).loc Cert.MambaInReferenceIdeal.main_arg0)
          ∧ r.2.mem ((c.tc : Thread Cert.MambaInReferenceIdeal.nD Cert.MambaInReferenceIdeal.τ).loc Cert.MambaInReferenceIdeal.main_arg1) = m' ((c.tc : Thread Cert.MambaInReferenceIdeal.nD Cert.MambaInReferenceIdeal.τ).loc Cert.MambaInReferenceIdeal.main_arg1))

def preserves_MambaOut_MambaOutIdeal : Prop :=
  True

def algebraic_MambaOutIdeal_MambaOutReferenceIdeal [hMambaOutIdeal : Cert.MambaOutIdeal.Facts] [hMambaOutReferenceIdeal : Cert.MambaOutReferenceIdeal.Facts] : Prop :=
  ∀ (m : (ℓ : Loc Cert.MambaOutIdeal.nD Cert.MambaOutIdeal.τ Cert.MambaOutIdeal.sig) → Buf (Elt Ideal) ℓ) (g : Dev Cert.MambaOutIdeal.nD → PrngReg)
    (m' : (ℓ : Loc Cert.MambaOutReferenceIdeal.nD Cert.MambaOutReferenceIdeal.τ Cert.MambaOutReferenceIdeal.sig) → Buf (Elt Ideal) ℓ) (g' : Dev Cert.MambaOutReferenceIdeal.nD → PrngReg), Pre_MambaOutIdeal m →
    (∀ c : Dev Cert.MambaOutIdeal.nD,
      m' ((c.tc : Thread Cert.MambaOutReferenceIdeal.nD Cert.MambaOutReferenceIdeal.τ).loc Cert.MambaOutReferenceIdeal.main_arg0) = m ((c.tc : Thread Cert.MambaOutIdeal.nD Cert.MambaOutIdeal.τ).loc Cert.MambaOutIdeal.main_arg0)
      ∧ m' ((c.tc : Thread Cert.MambaOutReferenceIdeal.nD Cert.MambaOutReferenceIdeal.τ).loc Cert.MambaOutReferenceIdeal.main_arg1) = m ((c.tc : Thread Cert.MambaOutIdeal.nD Cert.MambaOutIdeal.τ).loc Cert.MambaOutIdeal.main_arg1)
      ∧ m' ((c.tc : Thread Cert.MambaOutReferenceIdeal.nD Cert.MambaOutReferenceIdeal.τ).loc Cert.MambaOutReferenceIdeal.main_arg2) = m ((c.tc : Thread Cert.MambaOutIdeal.nD Cert.MambaOutIdeal.τ).loc Cert.MambaOutIdeal.main_arg2)) →
    ∃ (v0 : (c : Dev Cert.MambaOutIdeal.nD) → Buf (Elt Ideal) ((c.tc : Thread Cert.MambaOutIdeal.nD Cert.MambaOutIdeal.τ).loc Cert.MambaOutIdeal.main_v0)),
      θ_run (Cert.MambaOutIdeal.defs (F := Ideal)) (onTc (τ := Cert.MambaOutIdeal.τ) (Cert.MambaOutIdeal.main (F := Ideal))) ⟨m, fun _ => 0, g⟩ (fun r => ∀ c : Dev Cert.MambaOutIdeal.nD,
          r.2.mem ((c.tc : Thread Cert.MambaOutIdeal.nD Cert.MambaOutIdeal.τ).loc Cert.MambaOutIdeal.main_v0) = v0 c
          ∧ r.2.mem ((c.tc : Thread Cert.MambaOutIdeal.nD Cert.MambaOutIdeal.τ).loc Cert.MambaOutIdeal.main_arg0) = m ((c.tc : Thread Cert.MambaOutIdeal.nD Cert.MambaOutIdeal.τ).loc Cert.MambaOutIdeal.main_arg0)
          ∧ r.2.mem ((c.tc : Thread Cert.MambaOutIdeal.nD Cert.MambaOutIdeal.τ).loc Cert.MambaOutIdeal.main_arg1) = m ((c.tc : Thread Cert.MambaOutIdeal.nD Cert.MambaOutIdeal.τ).loc Cert.MambaOutIdeal.main_arg1)
          ∧ r.2.mem ((c.tc : Thread Cert.MambaOutIdeal.nD Cert.MambaOutIdeal.τ).loc Cert.MambaOutIdeal.main_arg2) = m ((c.tc : Thread Cert.MambaOutIdeal.nD Cert.MambaOutIdeal.τ).loc Cert.MambaOutIdeal.main_arg2))
      ∧ θ_run (Cert.MambaOutReferenceIdeal.defs (F := Ideal)) (onTc (τ := Cert.MambaOutReferenceIdeal.τ) (Cert.MambaOutReferenceIdeal.main (F := Ideal))) ⟨m', fun _ => 0, g'⟩ (fun r => ∀ c : Dev Cert.MambaOutReferenceIdeal.nD,
          r.2.mem ((c.tc : Thread Cert.MambaOutReferenceIdeal.nD Cert.MambaOutReferenceIdeal.τ).loc Cert.MambaOutReferenceIdeal.main_v3) = v0 c
          ∧ r.2.mem ((c.tc : Thread Cert.MambaOutReferenceIdeal.nD Cert.MambaOutReferenceIdeal.τ).loc Cert.MambaOutReferenceIdeal.main_arg0) = m' ((c.tc : Thread Cert.MambaOutReferenceIdeal.nD Cert.MambaOutReferenceIdeal.τ).loc Cert.MambaOutReferenceIdeal.main_arg0)
          ∧ r.2.mem ((c.tc : Thread Cert.MambaOutReferenceIdeal.nD Cert.MambaOutReferenceIdeal.τ).loc Cert.MambaOutReferenceIdeal.main_arg1) = m' ((c.tc : Thread Cert.MambaOutReferenceIdeal.nD Cert.MambaOutReferenceIdeal.τ).loc Cert.MambaOutReferenceIdeal.main_arg1)
          ∧ r.2.mem ((c.tc : Thread Cert.MambaOutReferenceIdeal.nD Cert.MambaOutReferenceIdeal.τ).loc Cert.MambaOutReferenceIdeal.main_arg2) = m' ((c.tc : Thread Cert.MambaOutReferenceIdeal.nD Cert.MambaOutReferenceIdeal.τ).loc Cert.MambaOutReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)) →
    ∃ (v0 : (c : Dev Cert.MidIdeal.nD) → Buf (Elt Ideal) ((c.tc : Thread Cert.MidIdeal.nD Cert.MidIdeal.τ).loc Cert.MidIdeal.main_v1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v1) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v36) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDw : Cert.UpDw.Facts) (hUpDwIdeal : Cert.UpDwIdeal.Facts) (hUpDwReferenceIdeal : Cert.UpDwReferenceIdeal.Facts) (hUpDx : Cert.UpDx.Facts) (hUpDxIdeal : Cert.UpDxIdeal.Facts) (hUpDxReferenceIdeal : Cert.UpDxReferenceIdeal.Facts) (hHgrnOutDx : Cert.HgrnOutDx.Facts) (hHgrnOutDxIdeal : Cert.HgrnOutDxIdeal.Facts) (hHgrnOutDxReferenceIdeal : Cert.HgrnOutDxReferenceIdeal.Facts) (hHgrnOutDw : Cert.HgrnOutDw.Facts) (hHgrnOutDwIdeal : Cert.HgrnOutDwIdeal.Facts) (hHgrnOutDwReferenceIdeal : Cert.HgrnOutDwReferenceIdeal.Facts) (hHgrnInDw : Cert.HgrnInDw.Facts) (hHgrnInDwIdeal : Cert.HgrnInDwIdeal.Facts) (hHgrnInDwReferenceIdeal : Cert.HgrnInDwReferenceIdeal.Facts) (hHgrnInDx : Cert.HgrnInDx.Facts) (hHgrnInDxIdeal : Cert.HgrnInDxIdeal.Facts) (hHgrnInDxReferenceIdeal : Cert.HgrnInDxReferenceIdeal.Facts) (hMambaOutDx : Cert.MambaOutDx.Facts) (hMambaOutDxIdeal : Cert.MambaOutDxIdeal.Facts) (hMambaOutDxReferenceIdeal : Cert.MambaOutDxReferenceIdeal.Facts) (hMambaOutDw : Cert.MambaOutDw.Facts) (hMambaOutDwIdeal : Cert.MambaOutDwIdeal.Facts) (hMambaOutDwReferenceIdeal : Cert.MambaOutDwReferenceIdeal.Facts) (hMambaInDw : Cert.MambaInDw.Facts) (hMambaInDwIdeal : Cert.MambaInDwIdeal.Facts) (hMambaInDwReferenceIdeal : Cert.MambaInDwReferenceIdeal.Facts) (hMambaInDx : Cert.MambaInDx.Facts) (hMambaInDxIdeal : Cert.MambaInDxIdeal.Facts) (hMambaInDxReferenceIdeal : Cert.MambaInDxReferenceIdeal.Facts) (hMambaInDxNext : Cert.MambaInDxNext.Facts) (hMambaInDxNextIdeal : Cert.MambaInDxNextIdeal.Facts) (hMambaInDxNextReferenceIdeal : Cert.MambaInDxNextReferenceIdeal.Facts) (hMambaInDwX : Cert.MambaInDwX.Facts) (hMambaInDwXIdeal : Cert.MambaInDwXIdeal.Facts) (hMambaInDwXReferenceIdeal : Cert.MambaInDwXReferenceIdeal.Facts) (hMambaInDwBc : Cert.MambaInDwBc.Facts) (hMambaInDwBcIdeal : Cert.MambaInDwBcIdeal.Facts) (hMambaInDwBcReferenceIdeal : Cert.MambaInDwBcReferenceIdeal.Facts) (hMambaInDwDt : Cert.MambaInDwDt.Facts) (hMambaInDwDtIdeal : Cert.MambaInDwDtIdeal.Facts) (hMambaInDwDtReferenceIdeal : Cert.MambaInDwDtReferenceIdeal.Facts) (hMambaInDxBc : Cert.MambaInDxBc.Facts) (hMambaInDxBcIdeal : Cert.MambaInDxBcIdeal.Facts) (hMambaInDxBcReferenceIdeal : Cert.MambaInDxBcReferenceIdeal.Facts) (hMambaInDxDt : Cert.MambaInDxDt.Facts) (hMambaInDxDtIdeal : Cert.MambaInDxDtIdeal.Facts) (hMambaInDxDtReferenceIdeal : Cert.MambaInDxDtReferenceIdeal.Facts) (hNormBwd : Cert.NormBwd.Facts) (hNormBwdIdeal : Cert.NormBwdIdeal.Facts) (hNormBwdReferenceIdeal : Cert.NormBwdReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hHgrnIn : Cert.HgrnIn.Facts) (hHgrnInIdeal : Cert.HgrnInIdeal.Facts) (hHgrnInReferenceIdeal : Cert.HgrnInReferenceIdeal.Facts) (hHgrnOut : Cert.HgrnOut.Facts) (hHgrnOutIdeal : Cert.HgrnOutIdeal.Facts) (hHgrnOutReferenceIdeal : Cert.HgrnOutReferenceIdeal.Facts) (hMambaIn : Cert.MambaIn.Facts) (hMambaInIdeal : Cert.MambaInIdeal.Facts) (hMambaInReferenceIdeal : Cert.MambaInReferenceIdeal.Facts) (hMambaOut : Cert.MambaOut.Facts) (hMambaOutIdeal : Cert.MambaOutIdeal.Facts) (hMambaOutReferenceIdeal : Cert.MambaOutReferenceIdeal.Facts) (hNorm : Cert.Norm.Facts) (hNormIdeal : Cert.NormIdeal.Facts) (hNormReferenceIdeal : Cert.NormReferenceIdeal.Facts) (hMid : Cert.Mid.Facts) (hMidIdeal : Cert.MidIdeal.Facts) (hMidReferenceIdeal : Cert.MidReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_HgrnOutDx (hHgrnOutDx := hHgrnOutDx)
    ∧ quiescent_HgrnOutDxIdeal (hHgrnOutDxIdeal := hHgrnOutDxIdeal)
    ∧ quiescent_HgrnOutDxReferenceIdeal (hHgrnOutDxReferenceIdeal := hHgrnOutDxReferenceIdeal)
    ∧ quiescent_HgrnOutDw (hHgrnOutDw := hHgrnOutDw)
    ∧ quiescent_HgrnOutDwIdeal (hHgrnOutDwIdeal := hHgrnOutDwIdeal)
    ∧ quiescent_HgrnOutDwReferenceIdeal (hHgrnOutDwReferenceIdeal := hHgrnOutDwReferenceIdeal)
    ∧ quiescent_HgrnInDw (hHgrnInDw := hHgrnInDw)
    ∧ quiescent_HgrnInDwIdeal (hHgrnInDwIdeal := hHgrnInDwIdeal)
    ∧ quiescent_HgrnInDwReferenceIdeal (hHgrnInDwReferenceIdeal := hHgrnInDwReferenceIdeal)
    ∧ quiescent_HgrnInDx (hHgrnInDx := hHgrnInDx)
    ∧ quiescent_HgrnInDxIdeal (hHgrnInDxIdeal := hHgrnInDxIdeal)
    ∧ quiescent_HgrnInDxReferenceIdeal (hHgrnInDxReferenceIdeal := hHgrnInDxReferenceIdeal)
    ∧ quiescent_MambaOutDx (hMambaOutDx := hMambaOutDx)
    ∧ quiescent_MambaOutDxIdeal (hMambaOutDxIdeal := hMambaOutDxIdeal)
    ∧ quiescent_MambaOutDxReferenceIdeal (hMambaOutDxReferenceIdeal := hMambaOutDxReferenceIdeal)
    ∧ quiescent_MambaOutDw (hMambaOutDw := hMambaOutDw)
    ∧ quiescent_MambaOutDwIdeal (hMambaOutDwIdeal := hMambaOutDwIdeal)
    ∧ quiescent_MambaOutDwReferenceIdeal (hMambaOutDwReferenceIdeal := hMambaOutDwReferenceIdeal)
    ∧ quiescent_MambaInDw (hMambaInDw := hMambaInDw)
    ∧ quiescent_MambaInDwIdeal (hMambaInDwIdeal := hMambaInDwIdeal)
    ∧ quiescent_MambaInDwReferenceIdeal (hMambaInDwReferenceIdeal := hMambaInDwReferenceIdeal)
    ∧ quiescent_MambaInDx (hMambaInDx := hMambaInDx)
    ∧ quiescent_MambaInDxIdeal (hMambaInDxIdeal := hMambaInDxIdeal)
    ∧ quiescent_MambaInDxReferenceIdeal (hMambaInDxReferenceIdeal := hMambaInDxReferenceIdeal)
    ∧ quiescent_MambaInDxNext (hMambaInDxNext := hMambaInDxNext)
    ∧ quiescent_MambaInDxNextIdeal (hMambaInDxNextIdeal := hMambaInDxNextIdeal)
    ∧ quiescent_MambaInDxNextReferenceIdeal (hMambaInDxNextReferenceIdeal := hMambaInDxNextReferenceIdeal)
    ∧ quiescent_MambaInDwX (hMambaInDwX := hMambaInDwX)
    ∧ quiescent_MambaInDwXIdeal (hMambaInDwXIdeal := hMambaInDwXIdeal)
    ∧ quiescent_MambaInDwXReferenceIdeal (hMambaInDwXReferenceIdeal := hMambaInDwXReferenceIdeal)
    ∧ quiescent_MambaInDwBc (hMambaInDwBc := hMambaInDwBc)
    ∧ quiescent_MambaInDwBcIdeal (hMambaInDwBcIdeal := hMambaInDwBcIdeal)
    ∧ quiescent_MambaInDwBcReferenceIdeal (hMambaInDwBcReferenceIdeal := hMambaInDwBcReferenceIdeal)
    ∧ quiescent_MambaInDwDt (hMambaInDwDt := hMambaInDwDt)
    ∧ quiescent_MambaInDwDtIdeal (hMambaInDwDtIdeal := hMambaInDwDtIdeal)
    ∧ quiescent_MambaInDwDtReferenceIdeal (hMambaInDwDtReferenceIdeal := hMambaInDwDtReferenceIdeal)
    ∧ quiescent_MambaInDxBc (hMambaInDxBc := hMambaInDxBc)
    ∧ quiescent_MambaInDxBcIdeal (hMambaInDxBcIdeal := hMambaInDxBcIdeal)
    ∧ quiescent_MambaInDxBcReferenceIdeal (hMambaInDxBcReferenceIdeal := hMambaInDxBcReferenceIdeal)
    ∧ quiescent_MambaInDxDt (hMambaInDxDt := hMambaInDxDt)
    ∧ quiescent_MambaInDxDtIdeal (hMambaInDxDtIdeal := hMambaInDxDtIdeal)
    ∧ quiescent_MambaInDxDtReferenceIdeal (hMambaInDxDtReferenceIdeal := hMambaInDxDtReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_HgrnIn (hHgrnIn := hHgrnIn)
    ∧ quiescent_HgrnInIdeal (hHgrnInIdeal := hHgrnInIdeal)
    ∧ quiescent_HgrnInReferenceIdeal (hHgrnInReferenceIdeal := hHgrnInReferenceIdeal)
    ∧ quiescent_HgrnOut (hHgrnOut := hHgrnOut)
    ∧ quiescent_HgrnOutIdeal (hHgrnOutIdeal := hHgrnOutIdeal)
    ∧ quiescent_HgrnOutReferenceIdeal (hHgrnOutReferenceIdeal := hHgrnOutReferenceIdeal)
    ∧ quiescent_MambaIn (hMambaIn := hMambaIn)
    ∧ quiescent_MambaInIdeal (hMambaInIdeal := hMambaInIdeal)
    ∧ quiescent_MambaInReferenceIdeal (hMambaInReferenceIdeal := hMambaInReferenceIdeal)
    ∧ quiescent_MambaOut (hMambaOut := hMambaOut)
    ∧ quiescent_MambaOutIdeal (hMambaOutIdeal := hMambaOutIdeal)
    ∧ quiescent_MambaOutReferenceIdeal (hMambaOutReferenceIdeal := hMambaOutReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Mid (hMid := hMid)
    ∧ quiescent_MidIdeal (hMidIdeal := hMidIdeal)
    ∧ quiescent_MidReferenceIdeal (hMidReferenceIdeal := hMidReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDw_UpDwIdeal
    ∧ algebraic_UpDwIdeal_UpDwReferenceIdeal (hUpDwIdeal := hUpDwIdeal) (hUpDwReferenceIdeal := hUpDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_HgrnOutDx_HgrnOutDxIdeal
    ∧ algebraic_HgrnOutDxIdeal_HgrnOutDxReferenceIdeal (hHgrnOutDxIdeal := hHgrnOutDxIdeal) (hHgrnOutDxReferenceIdeal := hHgrnOutDxReferenceIdeal)
    ∧ preserves_HgrnOutDw_HgrnOutDwIdeal
    ∧ algebraic_HgrnOutDwIdeal_HgrnOutDwReferenceIdeal (hHgrnOutDwIdeal := hHgrnOutDwIdeal) (hHgrnOutDwReferenceIdeal := hHgrnOutDwReferenceIdeal)
    ∧ preserves_HgrnInDw_HgrnInDwIdeal
    ∧ algebraic_HgrnInDwIdeal_HgrnInDwReferenceIdeal (hHgrnInDwIdeal := hHgrnInDwIdeal) (hHgrnInDwReferenceIdeal := hHgrnInDwReferenceIdeal)
    ∧ preserves_HgrnInDx_HgrnInDxIdeal
    ∧ algebraic_HgrnInDxIdeal_HgrnInDxReferenceIdeal (hHgrnInDxIdeal := hHgrnInDxIdeal) (hHgrnInDxReferenceIdeal := hHgrnInDxReferenceIdeal)
    ∧ preserves_MambaOutDx_MambaOutDxIdeal
    ∧ algebraic_MambaOutDxIdeal_MambaOutDxReferenceIdeal (hMambaOutDxIdeal := hMambaOutDxIdeal) (hMambaOutDxReferenceIdeal := hMambaOutDxReferenceIdeal)
    ∧ preserves_MambaOutDw_MambaOutDwIdeal
    ∧ algebraic_MambaOutDwIdeal_MambaOutDwReferenceIdeal (hMambaOutDwIdeal := hMambaOutDwIdeal) (hMambaOutDwReferenceIdeal := hMambaOutDwReferenceIdeal)
    ∧ preserves_MambaInDw_MambaInDwIdeal
    ∧ algebraic_MambaInDwIdeal_MambaInDwReferenceIdeal (hMambaInDwIdeal := hMambaInDwIdeal) (hMambaInDwReferenceIdeal := hMambaInDwReferenceIdeal)
    ∧ preserves_MambaInDx_MambaInDxIdeal
    ∧ algebraic_MambaInDxIdeal_MambaInDxReferenceIdeal (hMambaInDxIdeal := hMambaInDxIdeal) (hMambaInDxReferenceIdeal := hMambaInDxReferenceIdeal)
    ∧ preserves_MambaInDxNext_MambaInDxNextIdeal
    ∧ algebraic_MambaInDxNextIdeal_MambaInDxNextReferenceIdeal (hMambaInDxNextIdeal := hMambaInDxNextIdeal) (hMambaInDxNextReferenceIdeal := hMambaInDxNextReferenceIdeal)
    ∧ preserves_MambaInDwX_MambaInDwXIdeal
    ∧ algebraic_MambaInDwXIdeal_MambaInDwXReferenceIdeal (hMambaInDwXIdeal := hMambaInDwXIdeal) (hMambaInDwXReferenceIdeal := hMambaInDwXReferenceIdeal)
    ∧ preserves_MambaInDwBc_MambaInDwBcIdeal
    ∧ algebraic_MambaInDwBcIdeal_MambaInDwBcReferenceIdeal (hMambaInDwBcIdeal := hMambaInDwBcIdeal) (hMambaInDwBcReferenceIdeal := hMambaInDwBcReferenceIdeal)
    ∧ preserves_MambaInDwDt_MambaInDwDtIdeal
    ∧ algebraic_MambaInDwDtIdeal_MambaInDwDtReferenceIdeal (hMambaInDwDtIdeal := hMambaInDwDtIdeal) (hMambaInDwDtReferenceIdeal := hMambaInDwDtReferenceIdeal)
    ∧ preserves_MambaInDxBc_MambaInDxBcIdeal
    ∧ algebraic_MambaInDxBcIdeal_MambaInDxBcReferenceIdeal (hMambaInDxBcIdeal := hMambaInDxBcIdeal) (hMambaInDxBcReferenceIdeal := hMambaInDxBcReferenceIdeal)
    ∧ preserves_MambaInDxDt_MambaInDxDtIdeal
    ∧ algebraic_MambaInDxDtIdeal_MambaInDxDtReferenceIdeal (hMambaInDxDtIdeal := hMambaInDxDtIdeal) (hMambaInDxDtReferenceIdeal := hMambaInDxDtReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_HgrnIn_HgrnInIdeal
    ∧ algebraic_HgrnInIdeal_HgrnInReferenceIdeal (hHgrnInIdeal := hHgrnInIdeal) (hHgrnInReferenceIdeal := hHgrnInReferenceIdeal)
    ∧ preserves_HgrnOut_HgrnOutIdeal
    ∧ algebraic_HgrnOutIdeal_HgrnOutReferenceIdeal (hHgrnOutIdeal := hHgrnOutIdeal) (hHgrnOutReferenceIdeal := hHgrnOutReferenceIdeal)
    ∧ preserves_MambaIn_MambaInIdeal
    ∧ algebraic_MambaInIdeal_MambaInReferenceIdeal (hMambaInIdeal := hMambaInIdeal) (hMambaInReferenceIdeal := hMambaInReferenceIdeal)
    ∧ preserves_MambaOut_MambaOutIdeal
    ∧ algebraic_MambaOutIdeal_MambaOutReferenceIdeal (hMambaOutIdeal := hMambaOutIdeal) (hMambaOutReferenceIdeal := hMambaOutReferenceIdeal)
    ∧ preserves_Norm_NormIdeal
    ∧ algebraic_NormIdeal_NormReferenceIdeal (hNormIdeal := hNormIdeal) (hNormReferenceIdeal := hNormReferenceIdeal)
    ∧ preserves_Mid_MidIdeal
    ∧ algebraic_MidIdeal_MidReferenceIdeal (hMidIdeal := hMidIdeal) (hMidReferenceIdeal := hMidReferenceIdeal)
-- ==== Pre_finite.lean ====
abbrev S2x2048x11264 : Shape := ⟨3, ![2, 2048, 11264]⟩
abbrev S2x2048x5632 : Shape := ⟨3, ![2, 2048, 5632]⟩
abbrev S3x11264 : Shape := ⟨2, ![3, 11264]⟩
abbrev S11264 : Shape := ⟨1, ![11264]⟩
abbrev S_ : Shape := ⟨0, ![]⟩

class Facts : Prop where
  bcast_S_S2x2048x11264 : S_.BroadcastsInDim S2x2048x11264 (![] : Fin 0 → Fin S2x2048x11264.rank)
  reducesTo_S2x2048x11264_S_d0_1_2 : S2x2048x11264.ReducesTo [0, 1, 2] S_
  h_S_ : 0 < S_.numel
  bcast_S_S2x2048x5632 : S_.BroadcastsInDim S2x2048x5632 (![] : Fin 0 → Fin S2x2048x5632.rank)
  reducesTo_S2x2048x5632_S_d0_1_2 : S2x2048x5632.ReducesTo [0, 1, 2] S_
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_

variable [Facts]

def fn_part1 {F : FTy → Type} [FloatOps F] (main_v13 : IVec S_ 1) (main_v16 : IVec S11264 1) : IVec S_ 1 :=
  let main_c_5 : IVec S_ 1 := constantI S_ 1 1#1
  let main_v17 : IVec S_ 1 := (fun x v => Host.reduce IntOp.andi x v reducesTo_S11264_S_d0 h_S_) main_v16 main_c_5
  let main_v18 : IVec S_ 1 := andi main_v13 main_v17
  main_v18

def fn {F : FTy → Type} [FloatOps F] (main_arg0 : FVec F S2x2048x11264 .f32) (main_arg1 : FVec F S2x2048x5632 .f32) (main_arg2 : FVec F S3x11264 .f32) (main_arg3 : FVec F S11264 .f32) : IVec S_ 1 :=
  let main_v0 : FVec F S2x2048x11264 .f32 := Host.absf main_arg0
  let main_cst : FVec F S_ .f32 := constant S_ .f32 0x7F800000#32
  let main_v1 : FVec F S2x2048x11264 .f32 := broadcastInDim S2x2048x11264 ![] bcast_S_S2x2048x11264 main_cst
  let main_v2 : IVec S2x2048x11264 1 := cmpf .olt main_v0 main_v1
  let main_c : IVec S_ 1 := constantI S_ 1 1#1
  let main_v3 : IVec S_ 1 := (fun x v => Host.reduce IntOp.andi x v reducesTo_S2x2048x11264_S_d0_1_2 h_S_) main_v2 main_c
  let main_v4 : FVec F S2x2048x5632 .f32 := Host.absf main_arg1
  let main_cst_0 : FVec F S_ .f32 := constant S_ .f32 0x7F800000#32
  let main_v5 : FVec F S2x2048x5632 .f32 := broadcastInDim S2x2048x5632 ![] bcast_S_S2x2048x5632 main_cst_0
  let main_v6 : IVec S2x2048x5632 1 := cmpf .olt main_v4 main_v5
  let main_c_1 : IVec S_ 1 := constantI S_ 1 1#1
  let main_v7 : IVec S_ 1 := (fun x v => Host.reduce IntOp.andi x v reducesTo_S2x2048x5632_S_d0_1_2 h_S_) main_v6 main_c_1
  let main_v8 : IVec S_ 1 := andi main_v3 main_v7
  let main_v9 : FVec F S3x11264 .f32 := Host.absf main_arg2
  let main_cst_2 : FVec F S_ .f32 := constant S_ .f32 0x7F800000#32
  let main_v10 : FVec F S3x11264 .f32 := broadcastInDim S3x11264 ![] bcast_S_S3x11264 main_cst_2
  let main_v11 : IVec S3x11264 1 := cmpf .olt main_v9 main_v10
  let main_c_3 : IVec S_ 1 := constantI S_ 1 1#1
  let main_v12 : IVec S_ 1 := (fun x v => Host.reduce IntOp.andi x v reducesTo_S3x11264_S_d0_1 h_S_) main_v11 main_c_3
  let main_v13 : IVec S_ 1 := andi main_v8 main_v12
  let main_v14 : FVec F S11264 .f32 := Host.absf main_arg3
  let main_cst_4 : FVec F S_ .f32 := constant S_ .f32 0x7F800000#32
  let main_v15 : FVec F S11264 .f32 := broadcastInDim S11264 ![] bcast_S_S11264 main_cst_4
  let main_v16 : IVec S11264 1 := cmpf .olt main_v14 main_v15
  fn_part1 (F := F) main_v13 main_v16
-- ==== Kernel.lean ====
abbrev S2x2048x11264 : Shape := ⟨3, ![2, 2048, 11264]⟩
abbrev S2x2048x5632 : Shape := ⟨3, ![2, 2048, 5632]⟩
abbrev S3x11264 : Shape := ⟨2, ![3, 11264]⟩
abbrev S11264 : Shape := ⟨1, ![11264]⟩
abbrev S1x11264 : Shape := ⟨2, ![1, 11264]⟩
abbrev S2x2x2048x5632 : Shape := ⟨4, ![2, 2, 2048, 5632]⟩
abbrev S2x8x5632 : Shape := ⟨3, ![2, 8, 5632]⟩
abbrev S2x1x5632 : Shape := ⟨3, ![2, 1, 5632]⟩
abbrev S1x2048x256 : Shape := ⟨3, ![1, 2048, 256]⟩
abbrev S3x256 : Shape := ⟨2, ![3, 256]⟩
abbrev S1x256 : Shape := ⟨2, ![1, 256]⟩
abbrev S2x1x2048x256 : Shape := ⟨4, ![2, 1, 2048, 256]⟩
abbrev S1x8x256 : Shape := ⟨3, ![1, 8, 256]⟩
abbrev S1x1x256 : Shape := ⟨3, ![1, 1, 256]⟩
abbrev S2056x256 : Shape := ⟨2, ![2056, 256]⟩
abbrev S8x256 : Shape := ⟨2, ![8, 256]⟩
abbrev S2048x256 : Shape := ⟨2, ![2048, 256]⟩
abbrev S264x256 : Shape := ⟨2, ![264, 256]⟩
abbrev S256x256 : Shape := ⟨2, ![256, 256]⟩
abbrev S1x256x256 : Shape := ⟨3, ![1, 256, 256]⟩
abbrev S256 : Shape := ⟨1, ![256]⟩
abbrev S1x1x256x256 : Shape := ⟨4, ![1, 1, 256, 256]⟩

abbrev nBuf : Space → Nat
  | .hbm => 10
  | .vmem => 28
  | .smem => 0
  | _ => 0

abbrev bufTy : (tb : Table) → Fin (tcTables nBuf tb) → BufTy
  | .hbm, ⟨0, _⟩ => ⟨S2x2048x11264, .f32⟩
  | .hbm, ⟨1, _⟩ => ⟨S2x2048x5632, .f32⟩
  | .hbm, ⟨2, _⟩ => ⟨S3x11264, .f32⟩
  | .hbm, ⟨3, _⟩ => ⟨S11264, .f32⟩
  | .hbm, ⟨4, _⟩ => ⟨S1x11264, .f32⟩
  | .hbm, ⟨5, _⟩ => ⟨S2x2x2048x5632, .bf16⟩
  | .hbm, ⟨6, _⟩ => ⟨S2x8x5632, .f32⟩
  | .hbm, ⟨7, _⟩ => ⟨S2x8x5632, .f32⟩
  | .hbm, ⟨8, _⟩ => ⟨S2x1x5632, .f32⟩
  | .hbm, ⟨9, _⟩ => ⟨S2x1x5632, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2x1x2048x256, .bf16⟩
  | .local _ .vmem, ⟨15, _⟩ => ⟨S2x1x2048x256, .bf16⟩
  | .local _ .vmem, ⟨16, _⟩ => ⟨S1x8x256, .f32⟩
  | .local _ .vmem, ⟨17, _⟩ => ⟨S1x8x256, .f32⟩
  | .local _ .vmem, ⟨18, _⟩ => ⟨S1x8x256, .f32⟩
  | .local _ .vmem, ⟨19, _⟩ => ⟨S1x8x256, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | .local _ .vmem, ⟨24, _⟩ => ⟨S2056x256, .f32⟩
  | .local _ .vmem, ⟨25, _⟩ => ⟨S2056x256, .f32⟩
  | .local _ .vmem, ⟨26, _⟩ => ⟨S2056x256, .f32⟩
  | .local _ .vmem, ⟨27, _⟩ => ⟨S2056x256, .f32⟩
  | _, _ => ⟨S2x2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 22], ![false, false]⟩

@[reducible] def k0_t1_loop : Scf.Loop 32 :=
  let c0_i32 : BitVec 32 := 0#32
  let c8_i32 : BitVec 32 := 8#32
  let v32 : BitVec 32 := Scalar.addi c0_i32 c8_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c256_i32 : BitVec 32 := 256#32
  let v47 : BitVec 32 := Scalar.muli arg18 c256_i32
  v47
def k0_off1 (k0_t1 : Fin k0_t1_loop.trips) : Fin 2 → Nat :=
  let c0_i32 : BitVec 32 := 0#32
  let c1_i32 : BitVec 32 := 1#32
  let arg18 : BitVec 32 := Scf.iv c0_i32 c1_i32 k0_t1
  let c256_i32 : BitVec 32 := 256#32
  let v47 : BitVec 32 := Scalar.muli arg18 c256_i32
  let v48 : BitVec 32 := v47
  let v49 : Index := Scalar.indexCast v48
  let c0_41 : Index := 0#32
  ![v49.toNat, 0]
def k0_off2 (k0_t1 : Fin k0_t1_loop.trips) : Fin 3 → Nat :=
  let c0_56 : Index := 0#32
  let c0_i32 : BitVec 32 := 0#32
  let c1_i32 : BitVec 32 := 1#32
  let arg18 : BitVec 32 := Scf.iv c0_i32 c1_i32 k0_t1
  let c256_i32 : BitVec 32 := 256#32
  let v47 : BitVec 32 := Scalar.muli arg18 c256_i32
  let v48 : BitVec 32 := v47
  let v89 : Index := Scalar.indexCast v48
  let c0_57 : Index := 0#32
  ![0, v89.toNat, 0]
def k0_off3 (k0_t1 : Fin k0_t1_loop.trips) : Fin 2 → Nat :=
  let c0_i32 : BitVec 32 := 0#32
  let c1_i32 : BitVec 32 := 1#32
  let arg18 : BitVec 32 := Scf.iv c0_i32 c1_i32 k0_t1
  let c256_i32 : BitVec 32 := 256#32
  let v47 : BitVec 32 := Scalar.muli arg18 c256_i32
  let v48 : BitVec 32 := v47
  let v103 : Index := Scalar.indexCast v48
  let c0_60 : Index := 0#32
  ![v103.toNat, 0]
@[reducible] def k0_t2_loop : Scf.Loop 32 :=
  let c0_i32_37 : BitVec 32 := 0#32
  let c8_i32_38 : BitVec 32 := 8#32
  let v46 : BitVec 32 := Scalar.addi c0_i32_37 c8_i32_38
  let c1_i32_39 : BitVec 32 := 1#32
  ⟨c0_i32_37, v46, c1_i32_39⟩
def k0_mult2 (k0_t2 : Fin k0_t2_loop.trips) : BitVec 32 :=
  let c0_i32_37 : BitVec 32 := 0#32
  let c1_i32_39 : BitVec 32 := 1#32
  let arg18 : BitVec 32 := Scf.iv c0_i32_37 c1_i32_39 k0_t2
  let c256_i32 : BitVec 32 := 256#32
  let v47 : BitVec 32 := Scalar.muli arg18 c256_i32
  v47
def k0_off4 (k0_t2 : Fin k0_t2_loop.trips) : Fin 2 → Nat :=
  let c0_i32_37 : BitVec 32 := 0#32
  let c1_i32_39 : BitVec 32 := 1#32
  let arg18 : BitVec 32 := Scf.iv c0_i32_37 c1_i32_39 k0_t2
  let c256_i32 : BitVec 32 := 256#32
  let v47 : BitVec 32 := Scalar.muli arg18 c256_i32
  let v48 : BitVec 32 := v47
  let v49 : Index := Scalar.indexCast v48
  let c0_41 : Index := 0#32
  ![v49.toNat, 0]
def k0_off5 (k0_t2 : Fin k0_t2_loop.trips) : Fin 4 → Nat :=
  let c0_46 : Index := 0#32
  let c0_47 : Index := 0#32
  let c0_i32_37 : BitVec 32 := 0#32
  let c1_i32_39 : BitVec 32 := 1#32
  let arg18 : BitVec 32 := Scf.iv c0_i32_37 c1_i32_39 k0_t2
  let c256_i32 : BitVec 32 := 256#32
  let v47 : BitVec 32 := Scalar.muli arg18 c256_i32
  let v48 : BitVec 32 := v47
  let v68 : Index := Scalar.indexCast v48
  let c0_48 : Index := 0#32
  ![0, 0, v68.toNat, 0]
def k0_off6 (k0_t2 : Fin k0_t2_loop.trips) : Fin 4 → Nat :=
  let c1_58 : Index := 1#32
  let c0_59 : Index := 0#32
  let c0_i32_37 : BitVec 32 := 0#32
  let c1_i32_39 : BitVec 32 := 1#32
  let arg18 : BitVec 32 := Scf.iv c0_i32_37 c1_i32_39 k0_t2
  let c256_i32 : BitVec 32 := 256#32
  let v47 : BitVec 32 := Scalar.muli arg18 c256_i32
  let v48 : BitVec 32 := v47
  let v91 : Index := Scalar.indexCast v48
  let c0_60 : Index := 0#32
  ![1, 0, v91.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x2048x11264 : Shape := ⟨3, ![2, 2048, 11264]⟩
abbrev S2x2048x5632 : Shape := ⟨3, ![2, 2048, 5632]⟩
abbrev S3x11264 : Shape := ⟨2, ![3, 11264]⟩
abbrev S11264 : Shape := ⟨1, ![11264]⟩
abbrev S_ : Shape := ⟨0, ![]⟩
abbrev S2x11264 : Shape := ⟨2, ![2, 11264]⟩
abbrev S2x2x11264 : Shape := ⟨3, ![2, 2, 11264]⟩
abbrev S2x2050x11264 : Shape := ⟨3, ![2, 2050, 11264]⟩
abbrev S1x11264 : Shape := ⟨2, ![1, 11264]⟩
abbrev S1x1x11264 : Shape := ⟨3, ![1, 1, 11264]⟩
abbrev S2x1x11264 : Shape := ⟨3, ![2, 1, 11264]⟩
abbrev S2x3x11264 : Shape := ⟨3, ![2, 3, 11264]⟩
abbrev S2x8x11264 : Shape := ⟨3, ![2, 8, 11264]⟩
abbrev S1x2x2048x5632 : Shape := ⟨4, ![1, 2, 2048, 5632]⟩
abbrev S2x2x2048x5632 : Shape := ⟨4, ![2, 2, 2048, 5632]⟩
abbrev S2x8x5632 : Shape := ⟨3, ![2, 8, 5632]⟩
abbrev S2x1x5632 : Shape := ⟨3, ![2, 1, 5632]⟩

abbrev nBuf : Space → Nat
  | .hbm => 130
  | .vmem => 0
  | .smem => 0
  | _ => 0

abbrev hbmTy0_0 (i : Nat) : BufTy := match i % 128 with
  | 0 => ⟨S2x2048x11264, .f32⟩
  | 1 => ⟨S2x2048x5632, .f32⟩
  | 2 => ⟨S3x11264, .f32⟩
  | 3 => ⟨S11264, .f32⟩
  | 4 => ⟨S_, .f32⟩
  | 5 => ⟨S2x11264, .f32⟩
  | 6 => ⟨S2x2x11264, .f32⟩
  | 7 => ⟨S2x2050x11264, .f32⟩
  | 8 => ⟨S_, .f32⟩
  | 9 => ⟨S2x11264, .f32⟩
  | 10 => ⟨S1x11264, .f32⟩
  | 11 => ⟨S11264, .f32⟩
  | 12 => ⟨S2x2048x11264, .f32⟩
  | 13 => ⟨S1x11264, .f32⟩
  | 14 => ⟨S1x1x11264, .f32⟩
  | 15 => ⟨S2x2048x11264, .f32⟩
  | 16 => ⟨S2x2048x11264, .f32⟩
  | 17 => ⟨S_, .f32⟩
  | 18 => ⟨S2x2048x11264, .f32⟩
  | 19 => ⟨S2x2048x11264, .f32⟩
  | 20 => ⟨S1x11264, .f32⟩
  | 21 => ⟨S11264, .f32⟩
  | 22 => ⟨S2x2048x11264, .f32⟩
  | 23 => ⟨S1x11264, .f32⟩
  | 24 => ⟨S1x1x11264, .f32⟩
  | 25 => ⟨S2x2048x11264, .f32⟩
  | 26 => ⟨S2x2048x11264, .f32⟩
  | 27 => ⟨S2x2048x11264, .f32⟩
  | 28 => ⟨S1x11264, .f32⟩
  | 29 => ⟨S11264, .f32⟩
  | 30 => ⟨S2x2048x11264, .f32⟩
  | 31 => ⟨S1x11264, .f32⟩
  | 32 => ⟨S1x1x11264, .f32⟩
  | 33 => ⟨S2x2048x11264, .f32⟩
  | 34 => ⟨S2x2048x11264, .f32⟩
  | 35 => ⟨S2x2048x11264, .f32⟩
  | 36 => ⟨S1x11264, .f32⟩
  | 37 => ⟨S1x1x11264, .f32⟩
  | 38 => ⟨S2x2048x11264, .f32⟩
  | 39 => ⟨S2x2048x11264, .f32⟩
  | 40 => ⟨S2x2048x5632, .f32⟩
  | 41 => ⟨S2x2048x5632, .f32⟩
  | 42 => ⟨S2x2048x5632, .f32⟩
  | 43 => ⟨S2x2048x5632, .f32⟩
  | 44 => ⟨S_, .f32⟩
  | 45 => ⟨S2x2048x5632, .f32⟩
  | 46 => ⟨S2x2048x5632, .f32⟩
  | 47 => ⟨S_, .f32⟩
  | 48 => ⟨S2x2048x5632, .f32⟩
  | 49 => ⟨S2x2048x5632, .f32⟩
  | 50 => ⟨S_, .f32⟩
  | 51 => ⟨S2x2048x5632, .f32⟩
  | 52 => ⟨S2x2048x5632, .f32⟩
  | 53 => ⟨S2x2048x5632, .f32⟩
  | 54 => ⟨S2x2048x5632, .f32⟩
  | 55 => ⟨S2x2048x5632, .f32⟩
  | 56 => ⟨S2x2048x5632, .f32⟩
  | 57 => ⟨S2x2048x5632, .f32⟩
  | 58 => ⟨S2x2048x5632, .f32⟩
  | 59 => ⟨S2x2048x5632, .f32⟩
  | 60 => ⟨S2x2048x5632, .f32⟩
  | 61 => ⟨S2x2048x5632, .f32⟩
  | 62 => ⟨S2x2048x11264, .f32⟩
  | 63 => ⟨S_, .f32⟩
  | 64 => ⟨S2x11264, .f32⟩
  | 65 => ⟨S2x1x11264, .f32⟩
  | 66 => ⟨S_, .f32⟩
  | 67 => ⟨S2x11264, .f32⟩
  | 68 => ⟨S1x1x11264, .f32⟩
  | 69 => ⟨S2x2048x11264, .f32⟩
  | 70 => ⟨S2x2048x11264, .f32⟩
  | 71 => ⟨S2x2048x11264, .f32⟩
  | 72 => ⟨S_, .f32⟩
  | 73 => ⟨S2x11264, .f32⟩
  | 74 => ⟨S2x1x11264, .f32⟩
  | 75 => ⟨S_, .f32⟩
  | 76 => ⟨S2x11264, .f32⟩
  | 77 => ⟨S_, .f32⟩
  | 78 => ⟨S2x2050x11264, .f32⟩
  | 79 => ⟨S2x1x11264, .f32⟩
  | 80 => ⟨S_, .f32⟩
  | 81 => ⟨S2x3x11264, .f32⟩
  | 82 => ⟨S1x1x11264, .f32⟩
  | 83 => ⟨S2x2048x11264, .f32⟩
  | 84 => ⟨S2x2048x11264, .f32⟩
  | 85 => ⟨S2x2048x11264, .f32⟩
  | 86 => ⟨S_, .f32⟩
  | 87 => ⟨S2x11264, .f32⟩
  | 88 => ⟨S2x1x11264, .f32⟩
  | 89 => ⟨S_, .f32⟩
  | 90 => ⟨S2x11264, .f32⟩
  | 91 => ⟨S_, .f32⟩
  | 92 => ⟨S2x2050x11264, .f32⟩
  | 93 => ⟨S2x2050x11264, .f32⟩
  | 94 => ⟨S2x1x11264, .f32⟩
  | 95 => ⟨S_, .f32⟩
  | 96 => ⟨S2x3x11264, .f32⟩
  | 97 => ⟨S2x3x11264, .f32⟩
  | 98 => ⟨S1x1x11264, .f32⟩
  | 99 => ⟨S2x2048x11264, .f32⟩
  | 100 => ⟨S2x2048x11264, .f32⟩
  | 101 => ⟨S2x2048x11264, .f32⟩
  | 102 => ⟨S_, .f32⟩
  | 103 => ⟨S2x11264, .f32⟩
  | 104 => ⟨S2x1x11264, .f32⟩
  | 105 => ⟨S_, .f32⟩
  | 106 => ⟨S2x11264, .f32⟩
  | 107 => ⟨S_, .f32⟩
  | 108 => ⟨S2x2050x11264, .f32⟩
  | 109 => ⟨S2x2050x11264, .f32⟩
  | 110 => ⟨S2x1x11264, .f32⟩
  | 111 => ⟨S_, .f32⟩
  | 112 => ⟨S2x3x11264, .f32⟩
  | 113 => ⟨S2x3x11264, .f32⟩
  | 114 => ⟨S2x2x11264, .f32⟩
  | 115 => ⟨S2x2048x11264, .f32⟩
  | 116 => ⟨S_, .i32⟩
  | 117 => ⟨S_, .f32⟩
  | 118 => ⟨S2x8x11264, .f32⟩
  | 119 => ⟨S2x1x11264, .f32⟩
  | 120 => ⟨S2x2048x5632, .f32⟩
  | 121 => ⟨S2x2048x5632, .f32⟩
  | 122 => ⟨S1x2x2048x5632, .f32⟩
  | 123 => ⟨S1x2x2048x5632, .f32⟩
  | 124 => ⟨S2x2x2048x5632, .f32⟩
  | 125 => ⟨S2x2x2048x5632, .bf16⟩
  | 126 => ⟨S2x8x5632, .f32⟩
  | 127 => ⟨S2x8x5632, .f32⟩
  | _ => ⟨S2x2048x11264, .f32⟩

abbrev hbmTy0_1 (i : Nat) : BufTy := match i % 128 with
  | 0 => ⟨S2x1x5632, .f32⟩
  | 1 => ⟨S2x1x5632, .f32⟩
  | _ => ⟨S2x2048x11264, .f32⟩

abbrev hbmTy (i : Nat) : BufTy := match i / 128 with
  | 0 => hbmTy0_0 i
  | 1 => hbmTy0_1 i
  | _ => ⟨S2x2048x11264, .f32⟩

abbrev bufTy : (tb : Table) → Fin (tcTables nBuf tb) → BufTy
  | .hbm, ⟨i, _⟩ => hbmTy i
  | _, _ => ⟨S2x2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v35_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v35_1 : Ref sig .tc := ⟨.hbm, 53, rfl⟩
abbrev main_v35_0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c : Ref sig .tc := ⟨.hbm, 116, rfl⟩
abbrev main_call2_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .f32⟩
  | .hbm, ⟨3, _⟩ => ⟨S_, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S_, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S4096x2048 : Shape := ⟨2, ![4096, 2048]⟩
abbrev S2x4096x5632 : Shape := ⟨3, ![2, 4096, 5632]⟩
abbrev S2048x11264 : Shape := ⟨2, ![2048, 11264]⟩
abbrev S4096x1024 : Shape := ⟨2, ![4096, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S4096x2048 : Shape := ⟨2, ![4096, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S1x4096x5632, .bf16⟩
  | .hbm, ⟨3, _⟩ => ⟨S4096x5632, .bf16⟩
  | .hbm, ⟨4, _⟩ => ⟨S1x4096x5632, .bf16⟩
  | .hbm, ⟨5, _⟩ => ⟨S4096x5632, .bf16⟩
  | .hbm, ⟨6, _⟩ => ⟨S4096x11264, .bf16⟩
  | .hbm, ⟨7, _⟩ => ⟨S4096x2048, .f32⟩
  | .hbm, ⟨8, _⟩ => ⟨S_, .f32⟩
  | .hbm, ⟨9, _⟩ => ⟨S2048x11264, .f32⟩
  | .hbm, ⟨10, _⟩ => ⟨S4096x11264, .f32⟩
  | .hbm, ⟨11, _⟩ => ⟨S4096x11264, .f32⟩
  | .hbm, ⟨12, _⟩ => ⟨S11264x2048, .f32⟩
  | .hbm, ⟨13, _⟩ => ⟨S2048x11264, .f32⟩
  | .hbm, ⟨14, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== UpDx.lean ====
abbrev S2x4096x5632 : Shape := ⟨3, ![2, 4096, 5632]⟩
abbrev S2048x11264 : Shape := ⟨2, ![2048, 11264]⟩
abbrev S8x128 : Shape := ⟨2, ![8, 128]⟩
abbrev S4096x2048 : Shape := ⟨2, ![4096, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S8x128, .f32⟩
  | .hbm, ⟨3, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S2x4096x5632 : Shape := ⟨3, ![2, 4096, 5632]⟩
abbrev S2048x11264 : Shape := ⟨2, ![2048, 11264]⟩
abbrev S8x128 : Shape := ⟨2, ![8, 128]⟩
abbrev S1x4096x5632 : Shape := ⟨3, ![1, 4096, 5632]⟩
abbrev S4096x5632 : Shape := ⟨2, ![4096, 5632]⟩
abbrev S4096x11264 : Shape := ⟨2, ![4096, 11264]⟩
abbrev S_ : Shape := ⟨0, ![]⟩
abbrev S4096x2048 : Shape := ⟨2, ![4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S8x128, .f32⟩
  | .hbm, ⟨3, _⟩ => ⟨S1x4096x5632, .bf16⟩
  | .hbm, ⟨4, _⟩ => ⟨S4096x5632, .bf16⟩
  | .hbm, ⟨5, _⟩ => ⟨S1x4096x5632, .bf16⟩
  | .hbm, ⟨6, _⟩ => ⟨S4096x5632, .bf16⟩
  | .hbm, ⟨7, _⟩ => ⟨S4096x11264, .bf16⟩
  | .hbm, ⟨8, _⟩ => ⟨S2048x11264, .f32⟩
  | .hbm, ⟨9, _⟩ => ⟨S_, .f32⟩
  | .hbm, ⟨10, _⟩ => ⟨S4096x2048, .f32⟩
  | .hbm, ⟨11, _⟩ => ⟨S4096x11264, .f32⟩
  | .hbm, ⟨12, _⟩ => ⟨S4096x11264, .f32⟩
  | .hbm, ⟨13, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== HgrnOutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== HgrnOutDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HgrnInDw.lean ====
abbrev S4096x2048 : Shape := ⟨2, ![4096, 2048]⟩
abbrev S4x4096x2048 : Shape := ⟨3, ![4, 4096, 2048]⟩
abbrev S2048x8192 : Shape := ⟨2, ![2048, 8192]⟩
abbrev S4096x1024 : Shape := ⟨2, ![4096, 1024]⟩
abbrev S1x4096x1024 : Shape := ⟨3, ![1, 4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnInDwReferenceIdeal.lean ====
abbrev S4096x2048 : Shape := ⟨2, ![4096, 2048]⟩
abbrev S4x4096x2048 : Shape := ⟨3, ![4, 4096, 2048]⟩
abbrev S1x4096x2048 : Shape := ⟨3, ![1, 4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S1x4096x2048, .bf16⟩
  | .hbm, ⟨3, _⟩ => ⟨S4096x2048, .bf16⟩
  | .hbm, ⟨4, _⟩ => ⟨S1x4096x2048, .bf16⟩
  | .hbm, ⟨5, _⟩ => ⟨S4096x2048, .bf16⟩
  | .hbm, ⟨6, _⟩ => ⟨S1x4096x2048, .bf16⟩
  | .hbm, ⟨7, _⟩ => ⟨S4096x2048, .bf16⟩
  | .hbm, ⟨8, _⟩ => ⟨S1x4096x2048, .bf16⟩
  | .hbm, ⟨9, _⟩ => ⟨S4096x2048, .bf16⟩
  | .hbm, ⟨10, _⟩ => ⟨S4096x8192, .bf16⟩
  | .hbm, ⟨11, _⟩ => ⟨S4096x2048, .f32⟩
  | .hbm, ⟨12, _⟩ => ⟨S_, .f32⟩
  | .hbm, ⟨13, _⟩ => ⟨S2048x8192, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S2048x8192, .f32⟩
  | .hbm, ⟨18, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== HgrnInDx.lean ====
abbrev S4x4096x2048 : Shape := ⟨3, ![4, 4096, 2048]⟩
abbrev S2048x8192 : Shape := ⟨2, ![2048, 8192]⟩
abbrev S8x128 : Shape := ⟨2, ![8, 128]⟩
abbrev S4096x2048 : Shape := ⟨2, ![4096, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x2048, .bf16⟩
  | .hbm, ⟨1, _⟩ => ⟨S2048x8192, .bf16⟩
  | .hbm, ⟨2, _⟩ => ⟨S8x128, .f32⟩
  | .hbm, ⟨3, _⟩ => ⟨S4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnInDxReferenceIdeal.lean ====
abbrev S4x4096x2048 : Shape := ⟨3, ![4, 4096, 2048]⟩
abbrev S2048x8192 : Shape := ⟨2, ![2048, 8192]⟩
abbrev S8x128 : Shape := ⟨2, ![8, 128]⟩
abbrev S1x4096x2048 : Shape := ⟨3, ![1, 4096, 2048]⟩
abbrev S4096x2048 : Shape := ⟨2, ![4096, 2048]⟩
abbrev S4096x8192 : Shape := ⟨2, ![4096, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x8192, .bf16⟩
  | .hbm, ⟨2, _⟩ => ⟨S8x128, .f32⟩
  | .hbm, ⟨3, _⟩ => ⟨S1x4096x2048, .bf16⟩
  | .hbm, ⟨4, _⟩ => ⟨S4096x2048, .bf16⟩
  | .hbm, ⟨5, _⟩ => ⟨S1x4096x2048, .bf16⟩
  | .hbm, ⟨6, _⟩ => ⟨S4096x2048, .bf16⟩
  | .hbm, ⟨7, _⟩ => ⟨S1x4096x2048, .bf16⟩
  | .hbm, ⟨8, _⟩ => ⟨S4096x2048, .bf16⟩
  | .hbm, ⟨9, _⟩ => ⟨S1x4096x2048, .bf16⟩
  | .hbm, ⟨10, _⟩ => ⟨S4096x2048, .bf16⟩
  | .hbm, ⟨11, _⟩ => ⟨S4096x8192, .bf16⟩
  | .hbm, ⟨12, _⟩ => ⟨S2048x8192, .f32⟩
  | .hbm, ⟨13, _⟩ => ⟨S_, .f32⟩
  | .hbm, ⟨14, _⟩ => ⟨S4096x2048, .f32⟩
  | .hbm, ⟨15, _⟩ => ⟨S4096x8192, .f32⟩
  | .hbm, ⟨16, _⟩ => ⟨S4096x8192, .f32⟩
  | .hbm, ⟨17, _⟩ => ⟨S4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== MambaOutDx.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MambaOutDxReferenceIdeal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MambaOutDw.lean ====
abbrev S4096x4096 : Shape := ⟨2, ![4096, 4096]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MambaOutDwReferenceIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MambaInDw.lean ====
abbrev S4096x4096 : Shape := ⟨2, ![4096, 4096]⟩
abbrev S4096x2048 : Shape := ⟨2, ![4096, 2048]⟩
abbrev S10368x2048 : Shape := ⟨2, ![10368, 2048]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S10368x2048, .bf16⟩
  | .hbm, ⟨3, _⟩ => ⟨S10368x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MambaInDwReferenceIdeal.lean ====
abbrev S4096x4096 : Shape := ⟨2, ![4096, 4096]⟩
abbrev S4096x2048 : Shape := ⟨2, ![4096, 2048]⟩
abbrev S10368x2048 : Shape := ⟨2, ![10368, 2048]⟩
abbrev S_ : Shape := ⟨0, ![]⟩
abbrev S2048x4096 : Shape := ⟨2, ![2048, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S10368x2048, .bf16⟩
  | .hbm, ⟨3, _⟩ => ⟨S4096x2048, .f32⟩
  | .hbm, ⟨4, _⟩ => ⟨S_, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | .hbm, ⟨11, _⟩ => ⟨S4096x2048, .bf16⟩
  | .hbm, ⟨12, _⟩ => ⟨S_, .i32⟩
  | .hbm, ⟨13, _⟩ => ⟨S_, .i32⟩
  | .hbm, ⟨14, _⟩ => ⟨S10368x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== MambaInDx.lean ====
abbrev S4096x4096 : Shape := ⟨2, ![4096, 4096]⟩
abbrev S10368x2048 : Shape := ⟨2, ![10368, 2048]⟩
abbrev S8x128 : Shape := ⟨2, ![8, 128]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S10368x2048, .bf16⟩
  | .hbm, ⟨2, _⟩ => ⟨S8x128, .f32⟩
  | .hbm, ⟨3, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MambaInDxReferenceIdeal.lean ====
abbrev S4096x4096 : Shape := ⟨2, ![4096, 4096]⟩
abbrev S10368x2048 : Shape := ⟨2, ![10368, 2048]⟩
abbrev S8x128 : Shape := ⟨2, ![8, 128]⟩
abbrev S4096x2048 : Shape := ⟨2, ![4096, 2048]⟩
abbrev S2048x4096 : Shape := ⟨2, ![2048, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S10368x2048, .bf16⟩
  | .hbm, ⟨2, _⟩ => ⟨S8x128, .f32⟩
  | .hbm, ⟨3, _⟩ => ⟨S4096x2048, .bf16⟩
  | .hbm, ⟨4, _⟩ => ⟨S2048x4096, .bf16⟩
  | .hbm, ⟨5, _⟩ => ⟨S2048x4096, .f32⟩
  | .hbm, ⟨6, _⟩ => ⟨S_, .f32⟩
  | .hbm, ⟨7, _⟩ => ⟨S4096x2048, .f32⟩
  | .hbm, ⟨8, _⟩ => ⟨S4096x4096, .f32⟩
  | .hbm, ⟨9, _⟩ => ⟨S4096x4096, .f32⟩
  | .hbm, ⟨10, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MambaInDxNext.lean ====
abbrev S4096x4096 : Shape := ⟨2, ![4096, 4096]⟩
abbrev S10368x2048 : Shape := ⟨2, ![10368, 2048]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S10368x2048, .bf16⟩
  | .hbm, ⟨2, _⟩ => ⟨S4096x2048, .f32⟩
  | .hbm, ⟨3, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MambaInDxNextReferenceIdeal.lean ====
abbrev S4096x4096 : Shape := ⟨2, ![4096, 4096]⟩
abbrev S10368x2048 : Shape := ⟨2, ![10368, 2048]⟩
abbrev S4096x2048 : Shape := ⟨2, ![4096, 2048]⟩
abbrev S2048x4096 : Shape := ⟨2, ![2048, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S10368x2048, .bf16⟩
  | .hbm, ⟨2, _⟩ => ⟨S4096x2048, .f32⟩
  | .hbm, ⟨3, _⟩ => ⟨S4096x2048, .bf16⟩
  | .hbm, ⟨4, _⟩ => ⟨S2048x4096, .bf16⟩
  | .hbm, ⟨5, _⟩ => ⟨S2048x4096, .f32⟩
  | .hbm, ⟨6, _⟩ => ⟨S_, .f32⟩
  | .hbm, ⟨7, _⟩ => ⟨S4096x2048, .f32⟩
  | .hbm, ⟨8, _⟩ => ⟨S4096x4096, .f32⟩
  | .hbm, ⟨9, _⟩ => ⟨S4096x4096, .f32⟩
  | .hbm, ⟨10, _⟩ => ⟨S4096x2048, .f32⟩
  | .hbm, ⟨11, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MambaInDwX.lean ====
abbrev S4096x4096 : Shape := ⟨2, ![4096, 4096]⟩
abbrev S4096x2048 : Shape := ⟨2, ![4096, 2048]⟩
abbrev S10368x2048 : Shape := ⟨2, ![10368, 2048]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S10368x2048, .bf16⟩
  | .hbm, ⟨3, _⟩ => ⟨S10368x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MambaInDwXReferenceIdeal.lean ====
abbrev S4096x4096 : Shape := ⟨2, ![4096, 4096]⟩
abbrev S4096x2048 : Shape := ⟨2, ![4096, 2048]⟩
abbrev S10368x2048 : Shape := ⟨2, ![10368, 2048]⟩
abbrev S_ : Shape := ⟨0, ![]⟩
abbrev S2048x4096 : Shape := ⟨2, ![2048, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S10368x2048, .bf16⟩
  | .hbm, ⟨3, _⟩ => ⟨S4096x2048, .f32⟩
  | .hbm, ⟨4, _⟩ => ⟨S_, .f32⟩
  | .hbm, ⟨5, _⟩ => ⟨S2048x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | .hbm, ⟨11, _⟩ => ⟨S4096x2048, .bf16⟩
  | .hbm, ⟨12, _⟩ => ⟨S_, .i32⟩
  | .hbm, ⟨13, _⟩ => ⟨S_, .i32⟩
  | .hbm, ⟨14, _⟩ => ⟨S10368x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== MambaInDwBc.lean ====
abbrev S4096x2048 : Shape := ⟨2, ![4096, 2048]⟩
abbrev S10368x2048 : Shape := ⟨2, ![10368, 2048]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S10368x2048, .bf16⟩
  | .hbm, ⟨3, _⟩ => ⟨S10368x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![v0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MambaInDwBcReferenceIdeal.lean ====
abbrev S4096x2048 : Shape := ⟨2, ![4096, 2048]⟩
abbrev S10368x2048 : Shape := ⟨2, ![10368, 2048]⟩
abbrev S_ : Shape := ⟨0, ![]⟩
abbrev S2048x2048 : Shape := ⟨2, ![2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S10368x2048, .bf16⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S2048x2048, .bf16⟩
  | .hbm, ⟨12, _⟩ => ⟨S_, .i32⟩
  | .hbm, ⟨13, _⟩ => ⟨S_, .i32⟩
  | .hbm, ⟨14, _⟩ => ⟨S10368x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== MambaInDwDt.lean ====
abbrev S4096x128 : Shape := ⟨2, ![4096, 128]⟩
abbrev S4096x2048 : Shape := ⟨2, ![4096, 2048]⟩
abbrev S10368x2048 : Shape := ⟨2, ![10368, 2048]⟩
abbrev S4096x1024 : Shape := ⟨2, ![4096, 1024]⟩
abbrev S128x1024 : Shape := ⟨2, ![128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S10368x2048, .bf16⟩
  | .hbm, ⟨3, _⟩ => ⟨S10368x2048, .bf16⟩
  | .local _ .vmem, ⟨0, _⟩ => ⟨S4096x128, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .bf16⟩
  | .local _ .vmem, ⟨4, _⟩ => ⟨S128x1024, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg0
  let c0_i32 : BitVec 32 := 0#32
  ![v0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MambaInDwDtReferenceIdeal.lean ====
abbrev S4096x128 : Shape := ⟨2, ![4096, 128]⟩
abbrev S4096x2048 : Shape := ⟨2, ![4096, 2048]⟩
abbrev S10368x2048 : Shape := ⟨2, ![10368, 2048]⟩
abbrev S_ : Shape := ⟨0, ![]⟩
abbrev S2048x128 : Shape := ⟨2, ![2048, 128]⟩
abbrev S128x2048 : Shape := ⟨2, ![128, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S10368x2048, .bf16⟩
  | .hbm, ⟨3, _⟩ => ⟨S4096x2048, .f32⟩
  | .hbm, ⟨4, _⟩ => ⟨S_, .f32⟩
  | .hbm, ⟨5, _⟩ => ⟨S2048x128, .f32⟩
  | .hbm, ⟨6, _⟩ => ⟨S4096x128, .f32⟩
  | .hbm, ⟨7, _⟩ => ⟨S4096x128, .f32⟩
  | .hbm, ⟨8, _⟩ => ⟨S128x2048, .f32⟩
  | .hbm, ⟨9, _⟩ => ⟨S2048x128, .f32⟩
  | .hbm, ⟨10, _⟩ => ⟨S2048x128, .bf16⟩
  | .hbm, ⟨11, _⟩ => ⟨S128x2048, .bf16⟩
  | .hbm, ⟨12, _⟩ => ⟨S_, .i32⟩
  | .hbm, ⟨13, _⟩ => ⟨S_, .i32⟩
  | .hbm, ⟨14, _⟩ => ⟨S10368x2048, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== MambaInDxBc.lean ====
abbrev S4096x2048 : Shape := ⟨2, ![4096, 2048]⟩
abbrev S10368x2048 : Shape := ⟨2, ![10368, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S10368x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MambaInDxBcReferenceIdeal.lean ====
abbrev S4096x2048 : Shape := ⟨2, ![4096, 2048]⟩
abbrev S10368x2048 : Shape := ⟨2, ![10368, 2048]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S10368x2048, .bf16⟩
  | .hbm, ⟨2, _⟩ => ⟨S4096x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MambaInDxDt.lean ====
abbrev S4096x128 : Shape := ⟨2, ![4096, 128]⟩
abbrev S10368x2048 : Shape := ⟨2, ![10368, 2048]⟩
abbrev S4096x2048 : Shape := ⟨2, ![4096, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S10368x2048, .bf16⟩
  | .hbm, ⟨2, _⟩ => ⟨S4096x2048, .f32⟩
  | .hbm, ⟨3, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg2
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MambaInDxDtReferenceIdeal.lean ====
abbrev S4096x128 : Shape := ⟨2, ![4096, 128]⟩
abbrev S10368x2048 : Shape := ⟨2, ![10368, 2048]⟩
abbrev S4096x2048 : Shape := ⟨2, ![4096, 2048]⟩
abbrev S128x2048 : Shape := ⟨2, ![128, 2048]⟩
abbrev S2048x128 : Shape := ⟨2, ![2048, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S10368x2048, .bf16⟩
  | .hbm, ⟨2, _⟩ => ⟨S4096x2048, .f32⟩
  | .hbm, ⟨3, _⟩ => ⟨S128x2048, .bf16⟩
  | .hbm, ⟨4, _⟩ => ⟨S2048x128, .bf16⟩
  | .hbm, ⟨5, _⟩ => ⟨S2048x128, .f32⟩
  | .hbm, ⟨6, _⟩ => ⟨S_, .f32⟩
  | .hbm, ⟨7, _⟩ => ⟨S4096x2048, .f32⟩
  | .hbm, ⟨8, _⟩ => ⟨S4096x128, .f32⟩
  | .hbm, ⟨9, _⟩ => ⟨S4096x128, .f32⟩
  | .hbm, ⟨10, _⟩ => ⟨S4096x2048, .f32⟩
  | .hbm, ⟨11, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== NormBwd.lean ====
abbrev S4096x2048 : Shape := ⟨2, ![4096, 2048]⟩
abbrev S2048 : Shape := ⟨1, ![2048]⟩
abbrev S8x128 : Shape := ⟨2, ![8, 128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S8x128, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdReferenceIdeal.lean ====
abbrev S4096x2048 : Shape := ⟨2, ![4096, 2048]⟩
abbrev S2048 : Shape := ⟨1, ![2048]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S8x128, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Up.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== HgrnIn.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnInReferenceIdeal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== HgrnOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HgrnOutReferenceIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MambaIn.lean ====
abbrev S4096x2048 : Shape := ⟨2, ![4096, 2048]⟩
abbrev S10368x2048 : Shape := ⟨2, ![10368, 2048]⟩
abbrev S4096x10368 : Shape := ⟨2, ![4096, 10368]⟩
abbrev S1024x2048 : Shape := ⟨2, ![1024, 2048]⟩
abbrev S1152x2048 : Shape := ⟨2, ![1152, 2048]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S10368x2048, .bf16⟩
  | .hbm, ⟨2, _⟩ => ⟨S4096x10368, .f32⟩
  | .local _ .vmem, ⟨0, _⟩ => ⟨S1024x2048, .bf16⟩
  | .local _ .vmem, ⟨1, _⟩ => ⟨S1024x2048, .bf16⟩
  | .local _ .vmem, ⟨2, _⟩ => ⟨S1152x2048, .bf16⟩
  | .local _ .vmem, ⟨3, _⟩ => ⟨S1152x2048, .bf16⟩
  | .local _ .vmem, ⟨4, _⟩ => ⟨S1024x1152, .f32⟩
  | .local _ .vmem, ⟨5, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MambaInReferenceIdeal.lean ====
abbrev S4096x2048 : Shape := ⟨2, ![4096, 2048]⟩
abbrev S10368x2048 : Shape := ⟨2, ![10368, 2048]⟩
abbrev S2048x10368 : Shape := ⟨2, ![2048, 10368]⟩
abbrev S4096x10368 : Shape := ⟨2, ![4096, 10368]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S10368x2048, .bf16⟩
  | .hbm, ⟨2, _⟩ => ⟨S4096x2048, .f32⟩
  | .hbm, ⟨3, _⟩ => ⟨S10368x2048, .f32⟩
  | .hbm, ⟨4, _⟩ => ⟨S2048x10368, .f32⟩
  | .hbm, ⟨5, _⟩ => ⟨S4096x10368, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MambaOut.lean ====
abbrev S4096x4096 : Shape := ⟨2, ![4096, 4096]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MambaOutReferenceIdeal.lean ====
abbrev S4096x4096 : Shape := ⟨2, ![4096, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mid.lean ====
abbrev S2x2048x11264 : Shape := ⟨3, ![2, 2048, 11264]⟩
abbrev S3x11264 : Shape := ⟨2, ![3, 11264]⟩
abbrev S11264 : Shape := ⟨1, ![11264]⟩
abbrev S1x11264 : Shape := ⟨2, ![1, 11264]⟩
abbrev S2x2048x5632 : Shape := ⟨3, ![2, 2048, 5632]⟩
abbrev S1x2048x256 : Shape := ⟨3, ![1, 2048, 256]⟩
abbrev S3x256 : Shape := ⟨2, ![3, 256]⟩
abbrev S1x256 : Shape := ⟨2, ![1, 256]⟩
abbrev S2056x256 : Shape := ⟨2, ![2056, 256]⟩
abbrev S8x256 : Shape := ⟨2, ![8, 256]⟩
abbrev S2048x256 : Shape := ⟨2, ![2048, 256]⟩
abbrev S264x256 : Shape := ⟨2, ![264, 256]⟩
abbrev S256x256 : Shape := ⟨2, ![256, 256]⟩
abbrev S1x256x256 : Shape := ⟨3, ![1, 256, 256]⟩

abbrev nBuf : Space → Nat
  | .hbm => 5
  | .vmem => 16
  | .smem => 0
  | _ => 0

abbrev bufTy : (tb : Table) → Fin (tcTables nBuf tb) → BufTy
  | .hbm, ⟨0, _⟩ => ⟨S2x2048x11264, .f32⟩
  | .hbm, ⟨1, _⟩ => ⟨S3x11264, .f32⟩
  | .hbm, ⟨2, _⟩ => ⟨S11264, .f32⟩
  | .hbm, ⟨3, _⟩ => ⟨S1x11264, .f32⟩
  | .hbm, ⟨4, _⟩ => ⟨S2x2048x5632, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x2048x256, .bf16⟩
  | .local _ .vmem, ⟨13, _⟩ => ⟨S1x2048x256, .bf16⟩
  | .local _ .vmem, ⟨14, _⟩ => ⟨S2056x256, .f32⟩
  | .local _ .vmem, ⟨15, _⟩ => ⟨S2056x256, .f32⟩
  | _, _ => ⟨S2x2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 22], ![false, false]⟩

@[reducible] def k0_t1_loop : Scf.Loop 32 :=
  let c0_i32 : BitVec 32 := 0#32
  let c8_i32 : BitVec 32 := 8#32
  let v22 : BitVec 32 := Scalar.addi c0_i32 c8_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v23 : BitVec 32 := Scalar.muli arg11 c256_i32
  v23
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32 : BitVec 32 := 256#32
  let v23 : BitVec 32 := Scalar.muli arg11 c256_i32
  let v24 : BitVec 32 := v23
  let v25 : Index := Scalar.indexCast v24
  let c0_18 : Index := 0#32
  ![v25.toNat, 0]
def k0_off2 (k0_t1 : Fin k0_t1_loop.trips) : Fin 3 → Nat :=
  let c0_33 : Index := 0#32
  let c0_i32 : BitVec 32 := 0#32
  let c1_i32 : BitVec 32 := 1#32
  let arg11 : BitVec 32 := Scf.iv c0_i32 c1_i32 k0_t1
  let c256_i32 : BitVec 32 := 256#32
  let v23 : BitVec 32 := Scalar.muli arg11 c256_i32
  let v24 : BitVec 32 := v23
  let v69 : Index := Scalar.indexCast v24
  let c0_34 : Index := 0#32
  ![0, v69.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MidReferenceIdeal.lean ====
abbrev S2x2048x11264 : Shape := ⟨3, ![2, 2048, 11264]⟩
abbrev S3x11264 : Shape := ⟨2, ![3, 11264]⟩
abbrev S11264 : Shape := ⟨1, ![11264]⟩
abbrev S_ : Shape := ⟨0, ![]⟩
abbrev S2x11264 : Shape := ⟨2, ![2, 11264]⟩
abbrev S2x2x11264 : Shape := ⟨3, ![2, 2, 11264]⟩
abbrev S2x2050x11264 : Shape := ⟨3, ![2, 2050, 11264]⟩
abbrev S1x11264 : Shape := ⟨2, ![1, 11264]⟩
abbrev S1x1x11264 : Shape := ⟨3, ![1, 1, 11264]⟩
abbrev S2x2048x5632 : Shape := ⟨3, ![2, 2048, 5632]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x11264, .f32⟩
  | .hbm, ⟨1, _⟩ => ⟨S3x11264, .f32⟩
  | .hbm, ⟨2, _⟩ => ⟨S11264, .f32⟩
  | .hbm, ⟨3, _⟩ => ⟨S_, .f32⟩
  | .hbm, ⟨4, _⟩ => ⟨S2x11264, .f32⟩
  | .hbm, ⟨5, _⟩ => ⟨S2x2x11264, .f32⟩
  | .hbm, ⟨6, _⟩ => ⟨S2x2050x11264, .f32⟩
  | .hbm, ⟨7, _⟩ => ⟨S1x11264, .f32⟩
  | .hbm, ⟨8, _⟩ => ⟨S11264, .f32⟩
  | .hbm, ⟨9, _⟩ => ⟨S2x2048x11264, .f32⟩
  | .hbm, ⟨10, _⟩ => ⟨S1x11264, .f32⟩
  | .hbm, ⟨11, _⟩ => ⟨S1x1x11264, .f32⟩
  | .hbm, ⟨12, _⟩ => ⟨S2x2048x11264, .f32⟩
  | .hbm, ⟨13, _⟩ => ⟨S2x2048x11264, .f32⟩
  | .hbm, ⟨14, _⟩ => ⟨S_, .f32⟩
  | .hbm, ⟨15, _⟩ => ⟨S2x2048x11264, .f32⟩
  | .hbm, ⟨16, _⟩ => ⟨S2x2048x11264, .f32⟩
  | .hbm, ⟨17, _⟩ => ⟨S1x11264, .f32⟩
  | .hbm, ⟨18, _⟩ => ⟨S11264, .f32⟩
  | .hbm, ⟨19, _⟩ => ⟨S2x2048x11264, .f32⟩
  | .hbm, ⟨20, _⟩ => ⟨S1x11264, .f32⟩
  | .hbm, ⟨21, _⟩ => ⟨S1x1x11264, .f32⟩
  | .hbm, ⟨22, _⟩ => ⟨S2x2048x11264, .f32⟩
  | .hbm, ⟨23, _⟩ => ⟨S2x2048x11264, .f32⟩
  | .hbm, ⟨24, _⟩ => ⟨S2x2048x11264, .f32⟩
  | .hbm, ⟨25, _⟩ => ⟨S1x11264, .f32⟩
  | .hbm, ⟨26, _⟩ => ⟨S11264, .f32⟩
  | .hbm, ⟨27, _⟩ => ⟨S2x2048x11264, .f32⟩
  | .hbm, ⟨28, _⟩ => ⟨S1x11264, .f32⟩
  | .hbm, ⟨29, _⟩ => ⟨S1x1x11264, .f32⟩
  | .hbm, ⟨30, _⟩ => ⟨S2x2048x11264, .f32⟩
  | .hbm, ⟨31, _⟩ => ⟨S2x2048x11264, .f32⟩
  | .hbm, ⟨32, _⟩ => ⟨S2x2048x11264, .f32⟩
  | .hbm, ⟨33, _⟩ => ⟨S1x11264, .f32⟩
  | .hbm, ⟨34, _⟩ => ⟨S1x1x11264, .f32⟩
  | .hbm, ⟨35, _⟩ => ⟨S2x2048x11264, .f32⟩
  | .hbm, ⟨36, _⟩ => ⟨S2x2048x11264, .f32⟩
  | .hbm, ⟨37, _⟩ => ⟨S2x2048x5632, .f32⟩
  | .hbm, ⟨38, _⟩ => ⟨S2x2048x5632, .f32⟩
  | .hbm, ⟨39, _⟩ => ⟨S2x2048x5632, .f32⟩
  | .hbm, ⟨40, _⟩ => ⟨S2x2048x5632, .f32⟩
  | .hbm, ⟨41, _⟩ => ⟨S_, .f32⟩
  | .hbm, ⟨42, _⟩ => ⟨S2x2048x5632, .f32⟩
  | .hbm, ⟨43, _⟩ => ⟨S2x2048x5632, .f32⟩
  | .hbm, ⟨44, _⟩ => ⟨S_, .f32⟩
  | .hbm, ⟨45, _⟩ => ⟨S2x2048x5632, .f32⟩
  | .hbm, ⟨46, _⟩ => ⟨S2x2048x5632, .f32⟩
  | .hbm, ⟨47, _⟩ => ⟨S2x2048x5632, .f32⟩
  | .hbm, ⟨48, _⟩ => ⟨S2x2048x5632, .f32⟩
  | .hbm, ⟨49, _⟩ => ⟨S2x2048x5632, .bf16⟩
  | _, _ => ⟨S2x2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Spec.lean ====
/- The backward pass of the gated convolution, one channel at a time, over the extended reals.

   A channel of the padded input is a sequence `p : ℕ → EReal` whose entry `t + 8` is row `t` of the input and whose
   first eight entries are zero; `w` holds the channel's three taps, `b` its bias. Everything here is plain arithmetic:
   no program is named. -/
module

public import Idealize.ShloMosaic.Lib.Pointwise

@[expose] public section

noncomputable section

namespace Cert.Spec

open Idealize.ShloMosaic

/-- Row `t` of the causal three-tap convolution of a padded channel, with its bias. -/
def pre (p : ℕ → EReal) (w : Fin 3 → EReal) (b : EReal) (t : ℕ) : EReal :=
  p (t + 8) * w 2 + p (t + 7) * w 1 + p (t + 6) * w 0 + b

/-- The derivative of `z · logistic z` in the form the kernel evaluates. -/
def dsilu (z : EReal) : EReal := Ideal.logistic z * (1 + z * (1 - Ideal.logistic z))

/-- Row `t` of the gradient at the gate channel's convolution: `a` is the incoming gradient, `p, w, b` the gate
    channel, `q, v, d` the value channel. -/
def dGate (p q : ℕ → EReal) (w v : Fin 3 → EReal) (b d : EReal) (a : ℕ → EReal) (t : ℕ) : EReal :=
  a t * pre q v d t * dsilu (pre p w b t)

/-- Row `t` of the gradient at the value channel's convolution. -/
def dVal (p : ℕ → EReal) (w : Fin 3 → EReal) (b : EReal) (a : ℕ → EReal) (t : ℕ) : EReal :=
  a t * (pre p w b t * Ideal.logistic (pre p w b t))

/-- A sequence cut to zero from row 2048 on: the kernel's buffers hold eight zero rows after the last one. -/
def cut (f : ℕ → EReal) (t : ℕ) : EReal := if t < 2048 then f t else 0

/-- Row `t` of the gradient at the convolution's input: the taps run forwards over the gradient. -/
def dIn (f : ℕ → EReal) (w : Fin 3 → EReal) (t : ℕ) : EReal :=
  cut f t * w 2 + cut f (t + 1) * w 1 + cut f (t + 2) * w 0

/-- The gradient of tap `r` summed over the first `n` rows (rows 3 to 7 of the kernel's block stay zero). -/
def dTap (f p : ℕ → EReal) (n r : ℕ) : EReal :=
  if r < 3 then ∑ t ∈ Finset.range n, f t * p (t + 6 + r) else 0

/-- The gradient of the bias summed over the first `n` rows. -/
def dBias (f : ℕ → EReal) (n : ℕ) : EReal := ∑ t ∈ Finset.range n, f t

/-- The tap sum over 256 rows more. -/
theorem dTap_add (f p : ℕ → EReal) (n r : ℕ) :
    dTap f p (n + 256) r = dTap f p n r
      + if r < 3 then ∑ x : Fin 256, f (n + x.val) * p (n + x.val + 6 + r) else 0 := by
  unfold dTap
  split
  · rw [Finset.sum_range_add, Finset.sum_range (fun x => f (n + x) * p (n + x + 6 + r))]
  · simp

/-- The bias sum over 256 rows more. -/
theorem dBias_add (f : ℕ → EReal) (n : ℕ) :
    dBias f (n + 256) = dBias f n + ∑ x : Fin 256, f (n + x.val) := by
  unfold dBias
  rw [Finset.sum_range_add, Finset.sum_range (fun x => f (n + x))]

/-- The call's arguments by their coordinates: the convolution's input, the incoming gradient, the taps and the bias. -/
structure Inputs where
  x : Fin 2 → Fin 2048 → Fin 11264 → EReal
  a : Fin 2 → Fin 2048 → Fin 5632 → EReal
  w : Fin 3 → Fin 11264 → EReal
  b : Fin 11264 → EReal

namespace Inputs

variable (I : Inputs) (n : Fin 2)

/-- A channel of the input under eight zero rows. -/
def pad (k : Fin 11264) (t : ℕ) : EReal := if h : 8 ≤ t ∧ t - 8 < 2048 then I.x n ⟨t - 8, h.2⟩ k else 0

/-- A channel of the incoming gradient, zero after its last row. -/
def grad (j : Fin 5632) (t : ℕ) : EReal := if h : t < 2048 then I.a n ⟨t, h⟩ j else 0

/-- Channel `j` of the gate half. -/
def lo (j : Fin 5632) : Fin 11264 := ⟨j.val, by omega⟩

/-- Channel `j` of the value half. -/
def hi (j : Fin 5632) : Fin 11264 := ⟨5632 + j.val, by omega⟩

/-- The gradient at the convolution's gate channel `j`. -/
def gate (j : Fin 5632) : ℕ → EReal :=
  dGate (I.pad n (lo j)) (I.pad n (hi j)) (fun r => I.w r (lo j)) (fun r => I.w r (hi j)) (I.b (lo j)) (I.b (hi j))
    (I.grad n j)

/-- The gradient at the convolution's value channel `j`. -/
def val (j : Fin 5632) : ℕ → EReal := dVal (I.pad n (lo j)) (fun r => I.w r (lo j)) (I.b (lo j)) (I.grad n j)

/-- The gradient at the convolution's input, halves stacked. -/
def dx (h : Fin 2) (t : Fin 2048) (j : Fin 5632) : EReal :=
  if h.val = 0 then dIn (I.gate n j) (fun r => I.w r (lo j)) t.val else dIn (I.val n j) (fun r => I.w r (hi j)) t.val

/-- The gate half's tap gradients, in a block of eight rows. -/
def dTapLo (r : Fin 8) (j : Fin 5632) : EReal := dTap (I.gate n j) (I.pad n (lo j)) 2048 r.val

/-- The value half's tap gradients, in a block of eight rows. -/
def dTapHi (r : Fin 8) (j : Fin 5632) : EReal := dTap (I.val n j) (I.pad n (hi j)) 2048 r.val

/-- The gate half's bias gradient. -/
def dBiasLo (j : Fin 5632) : EReal := dBias (I.gate n j) 2048

/-- The value half's bias gradient. -/
def dBiasHi (j : Fin 5632) : EReal := dBias (I.val n j) 2048

end Inputs

end Cert.Spec

end
-- ==== Proof.Block.lean ====
/- One grid point of the kernel, loop by loop: what a trip of each loop computes and stores, and so what the two
   loops leave, in terms of Spec.lean's sequences. -/
module

public import proofs.«01_k».proof.Proof.Gen.KernelIdeal.Loops
public import proofs.«01_k».proof.Proof.Spec
public import Idealize.ShloMosaic.Lib.Pointwise
public import Idealize.ShloMosaic.Lib.Pipeline.ValueKit

@[expose] public section

set_option maxRecDepth 16384

noncomputable section

namespace Cert.KernelIdeal.Block

open Idealize.ShloMosaic Idealize.ShloMosaic.TcCoe Cert.KernelIdeal Cert.KernelIdeal.Gen Cert.Spec

/-- The row at which trip `k` of the first loop starts. -/
theorem row1 : ∀ k : Fin k0_t1_loop.trips,
    BitVec.toNat (Scalar.indexCast (Scalar.muli (Scf.iv 0#32 1#32 k.val) 256#32)) = 256 * k.val := by decide +kernel

/-- The row at which trip `k` of the second loop starts. -/
theorem row2 : ∀ k : Fin k0_t2_loop.trips,
    BitVec.toNat (Scalar.indexCast (Scalar.muli (Scf.iv 0#32 1#32 k.val) 256#32)) = 256 * k.val := by decide +kernel

theorem trips1 : k0_t1_loop.trips = 8 := by decide +kernel

theorem trips2 : k0_t2_loop.trips = 8 := by decide +kernel

/-! ## The payloads at an index -/

/-- The convolution of one row block, read from the 264 rows that start eight rows before it. -/
theorem conv_apply (v : FVec Ideal S1x256 .f32) (e : Vec Ideal S264x256 .f32) (x y z : Vec Ideal S1x256 .f32)
    (p : ℕ → EReal) (w : Fin 3 → EReal) (n : ℕ) (r l : Fin 256) (he : ∀ s : Fin 264, e (ix2 s l) = p (n + s.val))
    (hx : x (ix2 0 l) = w 2) (hy : y (ix2 0 l) = w 1) (hz : z (ix2 0 l) = w 0) :
    k0_pay18 v e x y z (ix2 r l) = pre p w (v (ix2 0 l)) (n + r.val) := by
  pointwise [k0_pay18, k0_pay11, k0_pay12, k0_pay13]
  simp only [he, hx, hy, hz, pre]
  have := r.isLt
  rw [show n + (8 + r.val) = n + r.val + 8 by omega, show n + (8 + r.val + 264 - 1) % 264 = n + r.val + 7 by omega,
    show n + (8 + r.val + 264 - 2) % 264 = n + r.val + 6 by omega]

/-- The same convolution without its bias, as the kernel evaluates it for the value channels. -/
theorem conv_nobias_apply (e : Vec Ideal S264x256 .f32) (x y z : Vec Ideal S1x256 .f32)
    (p : ℕ → EReal) (w : Fin 3 → EReal) (b : EReal) (n : ℕ) (r l : Fin 256)
    (he : ∀ s : Fin 264, e (ix2 s l) = p (n + s.val))
    (hx : x (ix2 0 l) = w 2) (hy : y (ix2 0 l) = w 1) (hz : z (ix2 0 l) = w 0) :
    k0_pay17 e x y z (ix2 r l) + b = pre p w b (n + r.val) := by
  pointwise [k0_pay17, k0_pay14, k0_pay15, k0_pay16]
  simp only [he, hx, hy, hz, pre]
  have := r.isLt
  rw [show n + (8 + r.val) = n + r.val + 8 by omega, show n + (8 + r.val + 264 - 1) % 264 = n + r.val + 7 by omega,
    show n + (8 + r.val + 264 - 2) % 264 = n + r.val + 6 by omega]

/-- The gradient at the gate channel, from the two convolutions and the incoming gradient at a row. -/
theorem gate_apply (v : FVec Ideal S1x256 .f32) (f g : FVec Ideal S256x256 .f32) (a : Vec Ideal S1x256x256 .f32)
    (r l : Fin 256) :
    k0_pay21 v f g a (ix2 r l) = a (ix3 0 r l) * (f (ix2 r l) + v (ix2 0 l)) * dsilu (g (ix2 r l)) := by
  pointwise [k0_pay21, k0_pay19, k0_pay20, dsilu]

/-- The gradient at the value channel. -/
theorem val_apply (g : FVec Ideal S256x256 .f32) (a : Vec Ideal S1x256x256 .f32) (r l : Fin 256) :
    k0_pay22 g a (ix2 r l) = a (ix3 0 r l) * (g (ix2 r l) * Ideal.logistic (g (ix2 r l))) := by
  pointwise [k0_pay22, k0_pay19, k0_pay20]

/-- The eight-row block a trip adds to the tap gradients: row `r < 3` receives tap `r`'s sum. -/
theorem select_taps (A B C : EReal) : ∀ r : Fin 8,
    Scalar.select (IntOp.cmpi CmpIPredicate.eq (BitVec.ofNat 32 r.val) 0#32) A 0
      + Scalar.select (IntOp.cmpi CmpIPredicate.eq (BitVec.ofNat 32 r.val) 1#32) B 0
      + Scalar.select (IntOp.cmpi CmpIPredicate.eq (BitVec.ofNat 32 r.val) 2#32) C 0
    = if r.val < 3 then (if r.val = 0 then A else if r.val = 1 then B else C) else 0 := by
  intro r
  fin_vals r with hr <;> simp [hr, Scalar.select, IntOp.cmpi]

/-! ## The loops over the rows -/

/-- The per-channel data of one grid point: padded inputs `p, q`, taps `w, v`, biases `b, d` of the gate and value
    channels, and the incoming gradient `a`. -/
structure Lanes where
  p : Fin 256 → ℕ → EReal
  q : Fin 256 → ℕ → EReal
  w : Fin 256 → Fin 3 → EReal
  v : Fin 256 → Fin 3 → EReal
  b : Fin 256 → EReal
  d : Fin 256 → EReal
  a : Fin 256 → ℕ → EReal

/-- The gradient at the gate channel's convolution. -/
def Lanes.gate (L : Lanes) (l : Fin 256) : ℕ → EReal := dGate (L.p l) (L.q l) (L.w l) (L.v l) (L.b l) (L.d l) (L.a l)

/-- The gradient at the value channel's convolution. -/
def Lanes.val (L : Lanes) (l : Fin 256) : ℕ → EReal := dVal (L.p l) (L.w l) (L.b l) (L.a l)

/-- What a trip of the first loop that starts at row `n` has loaded: the two inputs' 264 rows from eight rows before,
    the three taps of either, the biases, and the incoming gradient's 256 rows. -/
structure Tile (L : Lanes) (n : ℕ) (v27 : FVec Ideal S1x256 .f32) (v28 : Vec Ideal S1x256 .f32)
    (e f : Vec Ideal S264x256 .f32) (x y z x' y' z' : Vec Ideal S1x256 .f32) (a : Vec Ideal S1x256x256 .f32) : Prop where
  h27 : ∀ l : Fin 256, v27 (ix2 0 l) = L.b l
  h28 : ∀ l : Fin 256, v28 (ix2 0 l) = L.d l
  he : ∀ (s : Fin 264) (l : Fin 256), e (ix2 s l) = L.p l (n + s.val)
  hf : ∀ (s : Fin 264) (l : Fin 256), f (ix2 s l) = L.q l (n + s.val)
  hx : ∀ l : Fin 256, x (ix2 0 l) = L.w l 2
  hy : ∀ l : Fin 256, y (ix2 0 l) = L.w l 1
  hz : ∀ l : Fin 256, z (ix2 0 l) = L.w l 0
  hx' : ∀ l : Fin 256, x' (ix2 0 l) = L.v l 2
  hy' : ∀ l : Fin 256, y' (ix2 0 l) = L.v l 1
  hz' : ∀ l : Fin 256, z' (ix2 0 l) = L.v l 0
  ha : ∀ (r l : Fin 256), a (ix3 0 r l) = L.a l (n + r.val)

section Tile

variable {L : Lanes} {n : ℕ} {v27 : FVec Ideal S1x256 .f32} {v28 : Vec Ideal S1x256 .f32}
  {e f : Vec Ideal S264x256 .f32} {x y z x' y' z' : Vec Ideal S1x256 .f32} {a : Vec Ideal S1x256x256 .f32}
  (T : Tile L n v27 v28 e f x y z x' y' z' a)
include T

/-- The gate channels' gradient on the trip's rows. -/
theorem Tile.gate (r l : Fin 256) :
    k0_pay21 (k0_pay1 v28) (k0_pay17 f x' y' z') (k0_pay18 v27 e x y z) a (ix2 r l) = L.gate l (n + r.val) := by
  rw [gate_apply, conv_apply v27 e x y z (L.p l) (L.w l) n r l (fun s => T.he s l) (T.hx l) (T.hy l) (T.hz l)]
  rw [show k0_pay1 v28 (ix2 0 l) = L.d l by rw [← T.h28 l]; pointwise [k0_pay1]]
  rw [conv_nobias_apply f x' y' z' (L.q l) (L.v l) (L.d l) n r l (fun s => T.hf s l) (T.hx' l) (T.hy' l) (T.hz' l),
    T.h27, T.ha]
  rfl

/-- The value channels' gradient on the trip's rows. -/
theorem Tile.val (r l : Fin 256) :
    k0_pay22 (k0_pay18 v27 e x y z) a (ix2 r l) = L.val l (n + r.val) := by
  rw [val_apply, conv_apply v27 e x y z (L.p l) (L.w l) n r l (fun s => T.he s l) (T.hx l) (T.hy l) (T.hz l),
    T.h27, T.ha]
  rfl

/-- The input rows tap 2 multiplies. -/
theorem Tile.row2 (r l : Fin 256) : k0_pay11 e (ix2 r l) = L.p l (n + r.val + 6 + 2) := by
  pointwise [k0_pay11]
  rw [T.he]; congr 1; simp only; omega

/-- The input rows tap 1 multiplies. -/
theorem Tile.row1 (r l : Fin 256) : k0_pay12 e (ix2 r l) = L.p l (n + r.val + 6 + 1) := by
  pointwise [k0_pay12]
  rw [T.he]; congr 1; have := r.isLt; simp only; omega

/-- The input rows tap 0 multiplies. -/
theorem Tile.row0 (r l : Fin 256) : k0_pay13 e (ix2 r l) = L.p l (n + r.val + 6 + 0) := by
  pointwise [k0_pay13]
  rw [T.he]; congr 1; have := r.isLt; simp only; omega

/-- The tap gradients of the gate channels after the trip. -/
theorem Tile.gateTaps (A : FVec Ideal S8x256 .f32) (r : Fin 8) (l : Fin 256)
    (hA : A (ix2 r l) = dTap (L.gate l) (L.p l) n r.val) :
    k0_pay27 A (k0_pay11 e) (k0_pay21 (k0_pay1 v28) (k0_pay17 f x' y' z') (k0_pay18 v27 e x y z) a)
      (iota Kind.tc S8x256 32 [0] iota_S8x256_d0_w32)
      (k0_pay25 (k0_pay1 v28) (k0_pay13 e) (k0_pay17 f x' y' z') (k0_pay18 v27 e x y z) a)
      (k0_pay26 (k0_pay1 v28) (k0_pay12 e) (k0_pay17 f x' y' z') (k0_pay18 v27 e x y z) a) (ix2 r l)
    = dTap (L.gate l) (L.p l) (n + 256) r.val := by
  rw [dTap_add, ← hA]
  pointwise [k0_pay27, k0_pay25, k0_pay26]
  simp only [T.gate, T.row0, T.row1, T.row2]
  rw [select_taps]
  congr 1
  fin_vals r with hr <;> simp [hr]

/-- The value-channel rows tap 2 multiplies. -/
theorem Tile.row2' (r l : Fin 256) : k0_pay14 f (ix2 r l) = L.q l (n + r.val + 6 + 2) := by
  pointwise [k0_pay14]
  rw [T.hf]; congr 1; simp only; omega

/-- The value-channel rows tap 1 multiplies. -/
theorem Tile.row1' (r l : Fin 256) : k0_pay15 f (ix2 r l) = L.q l (n + r.val + 6 + 1) := by
  pointwise [k0_pay15]
  rw [T.hf]; congr 1; have := r.isLt; simp only; omega

/-- The value-channel rows tap 0 multiplies. -/
theorem Tile.row0' (r l : Fin 256) : k0_pay16 f (ix2 r l) = L.q l (n + r.val + 6 + 0) := by
  pointwise [k0_pay16]
  rw [T.hf]; congr 1; have := r.isLt; simp only; omega

/-- The tap gradients of the value channels after the trip. -/
theorem Tile.valTaps (A : FVec Ideal S8x256 .f32) (r : Fin 8) (l : Fin 256)
    (hA : A (ix2 r l) = dTap (L.val l) (L.q l) n r.val) :
    k0_pay28 A (k0_pay14 f) (k0_pay15 f) (k0_pay16 f) (k0_pay22 (k0_pay18 v27 e x y z) a) (ix2 r l)
    = dTap (L.val l) (L.q l) (n + 256) r.val := by
  rw [dTap_add, ← hA]
  pointwise [k0_pay28]
  simp only [T.val, T.row0', T.row1', T.row2']
  rw [select_taps]
  congr 1
  fin_vals r with hr <;> simp [hr]

/-- The bias gradient of the gate channels after the trip. -/
theorem Tile.gateBias (A : FVec Ideal S1x256 .f32) (l : Fin 256) (hA : A (ix2 0 l) = dBias (L.gate l) n) :
    k0_pay4 A (k0_pay29 (k0_pay21 (k0_pay1 v28) (k0_pay17 f x' y' z') (k0_pay18 v27 e x y z) a)) (ix2 0 l)
    = dBias (L.gate l) (n + 256) := by
  rw [dBias_add, ← hA]
  pointwise [k0_pay4, k0_pay29]
  simp only [T.gate]

/-- The bias gradient of the value channels after the trip. -/
theorem Tile.valBias (A : FVec Ideal S1x256 .f32) (l : Fin 256) (hA : A (ix2 0 l) = dBias (L.val l) n) :
    k0_pay5 A (k0_pay22 (k0_pay18 v27 e x y z) a) (ix2 0 l) = dBias (L.val l) (n + 256) := by
  rw [dBias_add, ← hA]
  pointwise [k0_pay5]
  simp only [T.val]

end Tile

variable (𝒱 : Variants) (c : Dev nD) (bd : Option 𝒱.V) (i : grid0.Coords)
  (arg2 : Memref sig .tc .vmem S1x2048x256 .f32) (harg2 : arg2.IsWhole)
  (arg3 : Memref sig .tc .vmem S1x2048x256 .f32) (harg3 : arg3.IsWhole)
  (arg4 : Memref sig .tc .vmem S1x2048x256 .f32) (harg4 : arg4.IsWhole)
  (arg5 : Memref sig .tc .vmem S3x256 .f32) (harg5 : arg5.IsWhole)
  (arg6 : Memref sig .tc .vmem S3x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S2x1x2048x256 .bf16) (harg9 : arg9.IsWhole)
  (arg10 : Memref sig .tc .vmem S1x8x256 .f32) (harg10 : arg10.IsWhole)
  (arg11 : Memref sig .tc .vmem S1x8x256 .f32) (harg11 : arg11.IsWhole)
  (arg12 : Memref sig .tc .vmem S1x1x256 .f32) (harg12 : arg12.IsWhole)
  (arg13 : Memref sig .tc .vmem S1x1x256 .f32) (harg13 : arg13.IsWhole)
  (arg14 : Memref sig .tc .vmem S2056x256 .f32) (harg14 : arg14.IsWhole)
  (arg15 : Memref sig .tc .vmem S2056x256 .f32) (harg15 : arg15.IsWhole)
  (arg16 : Memref sig .tc .vmem S2056x256 .f32) (harg16 : arg16.IsWhole)
  (arg17 : Memref sig .tc .vmem S2056x256 .f32) (harg17 : arg17.IsWhole)

/-- What the first loop reads: its buffers hold the data of `L`. -/
structure Reads (L : Lanes) (v27 : FVec Ideal S1x256 .f32) (v28 : Vec Ideal S1x256 .f32)
    (X4 : arg4.view.ty.Contents (Elt Ideal)) (X5 : arg5.view.ty.Contents (Elt Ideal))
    (X6 : arg6.view.ty.Contents (Elt Ideal)) (X14 : arg14.view.ty.Contents (Elt Ideal))
    (X15 : arg15.view.ty.Contents (Elt Ideal)) : Prop where
  h27 : ∀ l : Fin 256, v27 (ix2 0 l) = L.b l
  h28 : ∀ l : Fin 256, v28 (ix2 0 l) = L.d l
  h4 : ∀ (r : Fin 2048) (l : Fin 256), arg4.view.read (Elt Ideal) X4 (ix3 0 r l) = L.a l r.val
  h5 : ∀ (r : Fin 3) (l : Fin 256), arg5.view.read (Elt Ideal) X5 (ix2 r l) = L.w l r
  h6 : ∀ (r : Fin 3) (l : Fin 256), arg6.view.read (Elt Ideal) X6 (ix2 r l) = L.v l r
  h14 : ∀ (r : Fin 2056) (l : Fin 256), arg14.view.read (Elt Ideal) X14 (ix2 r l) = L.p l r.val
  h15 : ∀ (r : Fin 2056) (l : Fin 256), arg15.view.read (Elt Ideal) X15 (ix2 r l) = L.q l r.val

/-- A 264-row load of a 2056-row buffer, at an index. -/
theorem ld264 (g : Vec Ideal S2056x256 .f32) (o : ℕ) (inb) (s : Fin 264) (l : Fin 256) (h : o + s.val < 2056) :
    View.ld g (Rect.unit (s := S2056x256) ![o, 0] ![264, 256] inb) (ix2 s l)
      = g (ix2 ⟨o + s.val, h⟩ l) := by
  pointwise []

/-- The same load where the second loop starts its trip. -/
theorem row2' (g : Vec Ideal S2056x256 .f32) (k : Fin k0_t2_loop.trips) (inb) (s : Fin 264) (l : Fin 256) :
    View.ld g (Rect.unit (s := S2056x256)
      ![BitVec.toNat (Scalar.indexCast (Scalar.muli (Scf.iv 0#32 1#32 k.val) 256#32)), 0] ![264, 256] inb) (ix2 s l)
      = g (ix2 ⟨256 * k.val + s.val, by have : k.val < 8 := trips2 ▸ k.isLt; have := s.isLt; omega⟩ l) := by
  have : k.val < 8 := trips2 ▸ k.isLt
  rw [ld264 _ _ _ _ _ (by rw [row2 k]; have := s.isLt; omega)]
  simp only [row2 k]

/-- A one-row load of the taps, at an index. -/
theorem ldTap (g : Vec Ideal S3x256 .f32) (o : ℕ) (inb) (l : Fin 256) (h : o < 3) :
    View.ld g (Rect.unit (s := S3x256) ![o, 0] ![1, 256] inb) (ix2 0 l) = g (ix2 ⟨o, h⟩ l) := by
  pointwise []

/-- A 256-row load of the incoming gradient, at an index. -/
theorem ld256 (g : Vec Ideal S1x2048x256 .f32) (o : ℕ) (inb) (r l : Fin 256) (h : o + r.val < 2048) :
    View.ld g (Rect.unit (s := S1x2048x256) ![0, o, 0] ![1, 256, 256] inb) (ix3 0 r l)
      = g (ix3 0 ⟨o + r.val, h⟩ l) := by
  pointwise []

/-- A trip's loads are the data of `L` from row `256 k` on. -/
theorem Reads.tile {L : Lanes} {v27 : FVec Ideal S1x256 .f32} {v28 : Vec Ideal S1x256 .f32}
    {X4 : arg4.view.ty.Contents (Elt Ideal)} {X5 : arg5.view.ty.Contents (Elt Ideal)}
    {X6 : arg6.view.ty.Contents (Elt Ideal)} {X14 : arg14.view.ty.Contents (Elt Ideal)}
    {X15 : arg15.view.ty.Contents (Elt Ideal)} (H : Reads arg4 arg5 arg6 arg14 arg15 L v27 v28 X4 X5 X6 X14 X15)
    (k : Fin k0_t1_loop.trips) (o : ℕ) (ho : o = 256 * k.val) (i1 i2 i3) :
    Tile L (256 * k.val) v27 v28
      (View.ld (arg14.view.read (Elt Ideal) X14) (Rect.unit (s := S2056x256) ![o, 0] ![264, 256] i1))
      (View.ld (arg15.view.read (Elt Ideal) X15) (Rect.unit (s := S2056x256) ![o, 0] ![264, 256] i2))
      (View.ld (arg5.view.read (Elt Ideal) X5) (Rect.unit (s := S3x256) ![2, 0] ![1, 256] inb_S3x256_S1x256_2_0))
      (View.ld (arg5.view.read (Elt Ideal) X5) (Rect.unit (s := S3x256) ![1, 0] ![1, 256] inb_S3x256_S1x256_1_0))
      (View.ld (arg5.view.read (Elt Ideal) X5) (Rect.unit (s := S3x256) ![0, 0] ![1, 256] inb_S3x256_S1x256_0_0))
      (View.ld (arg6.view.read (Elt Ideal) X6) (Rect.unit (s := S3x256) ![2, 0] ![1, 256] inb_S3x256_S1x256_2_0))
      (View.ld (arg6.view.read (Elt Ideal) X6) (Rect.unit (s := S3x256) ![1, 0] ![1, 256] inb_S3x256_S1x256_1_0))
      (View.ld (arg6.view.read (Elt Ideal) X6) (Rect.unit (s := S3x256) ![0, 0] ![1, 256] inb_S3x256_S1x256_0_0))
      (View.ld (arg4.view.read (Elt Ideal) X4) (Rect.unit (s := S1x2048x256) ![0, o, 0] ![1, 256, 256] i3)) := by
  subst ho
  have hk : k.val < 8 := trips1 ▸ k.isLt
  exact {
    h27 := H.h27
    h28 := H.h28
    he := fun s l => by rw [ld264 _ _ _ _ _ (by have := s.isLt; omega), H.h14]
    hf := fun s l => by rw [ld264 _ _ _ _ _ (by have := s.isLt; omega), H.h15]
    hx := fun l => by rw [ldTap _ _ _ _ (by omega), H.h5]; rfl
    hy := fun l => by rw [ldTap _ _ _ _ (by omega), H.h5]; rfl
    hz := fun l => by rw [ldTap _ _ _ _ (by omega), H.h5]; rfl
    hx' := fun l => by rw [ldTap _ _ _ _ (by omega), H.h6]; rfl
    hy' := fun l => by rw [ldTap _ _ _ _ (by omega), H.h6]; rfl
    hz' := fun l => by rw [ldTap _ _ _ _ (by omega), H.h6]; rfl
    ha := fun r l => by rw [ld256 _ _ _ _ _ (by have := r.isLt; omega), H.h4] }

/-- The carried gradients after the first `n` rows. -/
structure Carried (L : Lanes) (n : ℕ)
    (acc : FVec Ideal S8x256 .f32 × FVec Ideal S8x256 .f32 × FVec Ideal S1x256 .f32 × FVec Ideal S1x256 .f32) : Prop where
  g : ∀ (r : Fin 8) (l : Fin 256), acc.1 (ix2 r l) = dTap (L.gate l) (L.p l) n r.val
  u : ∀ (r : Fin 8) (l : Fin 256), acc.2.1 (ix2 r l) = dTap (L.val l) (L.q l) n r.val
  bg : ∀ l : Fin 256, acc.2.2.1 (ix2 0 l) = dBias (L.gate l) n
  bu : ∀ l : Fin 256, acc.2.2.2 (ix2 0 l) = dBias (L.val l) n

/-- The pieces `ps` of a 2056-row buffer are pieces of the sequences `f` cut after row 2047. -/
def Pieces (f : Fin 256 → ℕ → EReal) (ps : List (View.Piece (Elt Ideal) S2056x256 .f32)) : Prop :=
  ∀ p ∈ ps, ∀ x, p.2 x = (fun j : S2056x256.Idx => cut (f (j 1)) (j 0).val) (p.1.emb x)

/-- The pieces `ps` cover the rows from `m` up to `n`. -/
def Covers (m n : ℕ) (ps : List (View.Piece (Elt Ideal) S2056x256 .f32)) : Prop :=
  ∀ j : S2056x256.Idx, m ≤ (j 0).val → (j 0).val < n → ∃ p ∈ ps, j ∈ p.1.set

/-- A piece of 256 rows from row `256 k`. -/
theorem piece256 (f : Fin 256 → ℕ → EReal) (k o : ℕ) (hk : k < 8) (ho : o = 256 * k) (inb)
    (v : FVec Ideal S256x256 .f32) (hv : ∀ r l : Fin 256, v (ix2 r l) = f l (256 * k + r.val)) :
    Pieces f [⟨Rect.unit (s := S2056x256) ![o, 0] ![256, 256] inb, v⟩]
      ∧ Covers (256 * k) (256 * k + 256) [⟨Rect.unit (s := S2056x256) ![o, 0] ![256, 256] inb, v⟩] := by
  subst ho
  constructor
  · intro p hp x
    simp only [List.mem_singleton] at hp
    subst hp
    obtain ⟨r, l, rfl⟩ : ∃ r l, x = ix2 r l := ⟨x 0, x 1, by ext a; fin_cases a <;> rfl⟩
    have e0 : ((Rect.unit (s := S2056x256) ![256 * k, 0] ![256, 256] inb).emb (ix2 r l) 0).val = 256 * k + r.val := by
      rw [ValueKit.rect_emb_unit_val]; rfl
    have e1 : (Rect.unit (s := S2056x256) ![256 * k, 0] ![256, 256] inb).emb (ix2 r l) 1 = l := by
      apply Fin.ext; rw [ValueKit.rect_emb_unit_val]; simp [ix2]
    show v (ix2 r l) = cut (f _) _
    rw [e0, e1, hv, cut, if_pos (by have : r.val < 256 := r.isLt; omega)]
  · intro j h1 h2
    refine ⟨_, List.mem_singleton.2 rfl, ?_⟩
    rw [Rect.mem_set_unit]
    intro a
    have : (j 1).val < 256 := (j 1).isLt
    fin_cases a <;> simp <;> omega

/-- What is stored of the gate channels' gradient is that gradient. -/
theorem stored_gate (v : FVec Ideal S1x256 .f32) (f g : FVec Ideal S256x256 .f32) (a : Vec Ideal S1x256x256 .f32)
    (r l : Fin 256) : k0_pay23 v f g a (ix2 r l) = k0_pay21 v f g a (ix2 r l) := by
  pointwise [k0_pay23]

/-- What is stored of the value channels' gradient is that gradient. -/
theorem stored_val (g : FVec Ideal S256x256 .f32) (a : Vec Ideal S1x256x256 .f32)
    (r l : Fin 256) : k0_pay24 g a (ix2 r l) = k0_pay22 g a (ix2 r l) := by
  pointwise [k0_pay24]

/-- One trip of the first loop carries the gradients 256 rows further and stores the rows it computed. -/
theorem trip1 (L : Lanes) (v27 : FVec Ideal S1x256 .f32) (v28 : Vec Ideal S1x256 .f32)
    (X4 : arg4.view.ty.Contents (Elt Ideal)) (X5 : arg5.view.ty.Contents (Elt Ideal))
    (X6 : arg6.view.ty.Contents (Elt Ideal)) (X14 : arg14.view.ty.Contents (Elt Ideal))
    (X15 : arg15.view.ty.Contents (Elt Ideal))
    (H : Reads arg4 arg5 arg6 arg14 arg15 L v27 v28 X4 X5 X6 X14 X15) (k : Fin k0_t1_loop.trips) (acc)
    (hacc : Carried L (256 * k.val) acc) :
    Carried L (256 * k.val + 256) (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 k acc)
    ∧ (Pieces L.gate (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 k acc).1
      ∧ Covers (256 * k.val) (256 * k.val + 256)
        (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 k acc).1)
    ∧ (Pieces L.val (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 k acc).2
      ∧ Covers (256 * k.val) (256 * k.val + 256)
        (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 k acc).2) := by
  have hk : k.val < 8 := trips1 ▸ k.isLt
  unfold tripR_k0_t1 tripL_k0_t1 trip_k0_t1
  dsimp only
  sl_unfold_words
  simp only [View.readAt_eq_ld]
  obtain ⟨a1, a2, a3, a4⟩ := acc
  refine ⟨⟨fun r l => ?_, fun r l => ?_, fun l => ?_, fun l => ?_⟩,
    piece256 _ _ _ hk (row1 k) _ _ fun r l => ?_, piece256 _ _ _ hk (row1 k) _ _ fun r l => ?_⟩
  · exact (H.tile _ _ _ _ _ k _ (row1 k) (k0_off1_inb k) (k0_off1_inb k) _).gateTaps a1 r l (hacc.g r l)
  · exact (H.tile _ _ _ _ _ k _ (row1 k) (k0_off1_inb k) (k0_off1_inb k) _).valTaps a2 r l (hacc.u r l)
  · exact (H.tile _ _ _ _ _ k _ (row1 k) (k0_off1_inb k) (k0_off1_inb k) _).gateBias a3 l (hacc.bg l)
  · exact (H.tile _ _ _ _ _ k _ (row1 k) (k0_off1_inb k) (k0_off1_inb k) _).valBias a4 l (hacc.bu l)
  · rw [stored_gate]; exact (H.tile _ _ _ _ _ k _ (row1 k) (k0_off1_inb k) (k0_off1_inb k) _).gate r l
  · rw [stored_val]; exact (H.tile _ _ _ _ _ k _ (row1 k) (k0_off1_inb k) (k0_off1_inb k) _).val r l

theorem Pieces.append {f : Fin 256 → ℕ → EReal} {ps qs} (h : Pieces f ps) (h' : Pieces f qs) : Pieces f (ps ++ qs) :=
  fun p hp => (List.mem_append.1 hp).elim (h p) (h' p)

theorem Covers.append {m n o : ℕ} {ps qs} (h : Covers n o ps) (h' : Covers m n qs) : Covers m o (ps ++ qs) := by
  intro j h1 h2
  by_cases hn : (j 0).val < n
  · obtain ⟨p, hp, hj⟩ := h' j h1 hn
    exact ⟨p, List.mem_append_right _ hp, hj⟩
  · obtain ⟨p, hp, hj⟩ := h j (by omega) h2
    exact ⟨p, List.mem_append_left _ hp, hj⟩

/-- The first loop after `k` trips. -/
theorem loop1 (L : Lanes) (v27 : FVec Ideal S1x256 .f32) (v28 : Vec Ideal S1x256 .f32)
    (X4 : arg4.view.ty.Contents (Elt Ideal)) (X5 : arg5.view.ty.Contents (Elt Ideal))
    (X6 : arg6.view.ty.Contents (Elt Ideal)) (X14 : arg14.view.ty.Contents (Elt Ideal))
    (X15 : arg15.view.ty.Contents (Elt Ideal))
    (H : Reads arg4 arg5 arg6 arg14 arg15 L v27 v28 X4 X5 X6 X14 X15) (init) (hi : Carried L 0 init) (k : ℕ) (hk : k ≤ 8) :
    Carried L (256 * k) (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 init k).1
    ∧ (Pieces L.gate (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 init k).2.1
      ∧ Covers 0 (256 * k) (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 init k).2.1)
    ∧ (Pieces L.val (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 init k).2.2
      ∧ Covers 0 (256 * k) (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 init k).2.2) := by
  induction k with
  | zero =>
    refine ⟨hi, ⟨?_, ?_⟩, ?_, ?_⟩
    · intro p hp; exact absurd hp (by rw [st_k0_t1]; exact List.not_mem_nil)
    · intro j _ h; omega
    · intro p hp; exact absurd hp (by rw [st_k0_t1]; exact List.not_mem_nil)
    · intro j _ h; omega
  | succ k ih =>
    obtain ⟨h1, ⟨h2, h3⟩, h4, h5⟩ := ih (by omega)
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v27 v28 X4 X5 X6 X14 X15 init ⟨k, by rw [trips1]; omega⟩
    simp only at hs
    rw [hs]
    obtain ⟨g1, ⟨g2, g3⟩, g4, g5⟩ := trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 L v27 v28 X4 X5 X6 X14 X15 H ⟨k, by rw [trips1]; omega⟩ _ h1
    rw [show 256 * (k + 1) = 256 * k + 256 by ring]
    exact ⟨g1, ⟨g2.append h2, g3.append h3⟩, g4.append h4, g5.append h5⟩

/-! ## The second loop: the gradient at the convolution's input -/

/-- The gradient at the input of the gate (0) and value (1) channels' convolutions. -/
def Lanes.input (L : Lanes) (j : S2x1x2048x256.Idx) : EReal :=
  if (j 0).val = 0 then dIn (L.gate (j 3)) (L.w (j 3)) (j 2).val else dIn (L.val (j 3)) (L.v (j 3)) (j 2).val

/-- The payload of the gate channels' store. -/
theorem in_gate_apply (e : Vec Ideal S264x256 .f32) (x y z : Vec Ideal S1x256 .f32)
    (f : ℕ → EReal) (w : Fin 3 → EReal) (n : ℕ) (r l : Fin 256) (he : ∀ s : Fin 264, e (ix2 s l) = cut f (n + s.val))
    (hx : x (ix2 0 l) = w 2) (hy : y (ix2 0 l) = w 1) (hz : z (ix2 0 l) = w 0) :
    k0_pay30 e x y z (ix4 0 0 r l) = dIn f w (n + r.val) := by
  pointwise [k0_pay30]
  simp only [he, hx, hy, hz, dIn]
  have := r.isLt
  rw [show n + (r.val + 264 - 263) % 264 = n + r.val + 1 by omega,
    show n + (r.val + 264 - 262) % 264 = n + r.val + 2 by omega]

/-- The payload of the value channels' store. -/
theorem in_val_apply (e : Vec Ideal S264x256 .f32) (x y z : Vec Ideal S1x256 .f32)
    (f : ℕ → EReal) (w : Fin 3 → EReal) (n : ℕ) (r l : Fin 256) (he : ∀ s : Fin 264, e (ix2 s l) = cut f (n + s.val))
    (hx : x (ix2 0 l) = w 2) (hy : y (ix2 0 l) = w 1) (hz : z (ix2 0 l) = w 0) :
    k0_pay10 (k0_pay31 e x y) (k0_pay32 e) z (ix4 0 0 r l) = dIn f w (n + r.val) := by
  pointwise [k0_pay10, k0_pay31, k0_pay32]
  simp only [he, hx, hy, hz, dIn]
  have := r.isLt
  rw [show n + (r.val + 264 - 263) % 264 = n + r.val + 1 by omega,
    show n + (r.val + 264 - 262) % 264 = n + r.val + 2 by omega]

/-- The pieces `ps` of the input gradient's block hold that gradient. -/
def Pieces2 (L : Lanes) (ps : List (View.Piece (Elt Ideal) S2x1x2048x256 .bf16)) : Prop :=
  ∀ p ∈ ps, ∀ x, p.2 x = L.input (p.1.emb x)

/-- A half's 256 rows lie in the block. -/
theorem half_inb (h k o : ℕ) (hh : h < 2) (hk : k < 8) (ho : o = 256 * k) :
    ∀ a : Fin S2x1x2048x256.rank, (![h, 0, o, 0] : Fin 4 → ℕ) a + (![1, 1, 256, 256] : Fin 4 → ℕ) a ≤ S2x1x2048x256.size a := by
  subst ho
  intro a
  fin_cases a <;> simp <;> omega

/-- A stored half: rows from `256 k` of the gate (0) or value (1) channels. -/
theorem piece_half (L : Lanes) (h k o : ℕ) (hh : h < 2) (ho : o = 256 * k) (inb)
    (v : FVec Ideal S1x1x256x256 .bf16)
    (hv : ∀ r l : Fin 256, v (ix4 0 0 r l)
      = if h = 0 then dIn (L.gate l) (L.w l) (256 * k + r.val) else dIn (L.val l) (L.v l) (256 * k + r.val))
    (x) : v x = L.input ((Rect.unit (s := S2x1x2048x256) ![h, 0, o, 0] ![1, 1, 256, 256] inb).emb x) := by
  subst ho
  obtain ⟨r, l, rfl⟩ : ∃ r l, x = ix4 0 0 r l :=
    ⟨x 2, x 3, by ext a; fin_cases a <;> first | rfl | exact congrArg Fin.val (Subsingleton.elim (α := Fin 1) _ _)⟩
  have e0 : ((Rect.unit (s := S2x1x2048x256) ![h, 0, 256 * k, 0] ![1, 1, 256, 256] inb).emb (ix4 0 0 r l) 0).val = h := by
    rw [ValueKit.rect_emb_unit_val]; rfl
  have e2 : ((Rect.unit (s := S2x1x2048x256) ![h, 0, 256 * k, 0] ![1, 1, 256, 256] inb).emb (ix4 0 0 r l) 2).val
      = 256 * k + r.val := by
    rw [ValueKit.rect_emb_unit_val]; rfl
  have e3 : (Rect.unit (s := S2x1x2048x256) ![h, 0, 256 * k, 0] ![1, 1, 256, 256] inb).emb (ix4 0 0 r l) 3 = l := by
    apply Fin.ext; rw [ValueKit.rect_emb_unit_val]; simp [ix4]
  rw [Lanes.input, e0, e2, e3, hv]

/-- One trip of the second loop stores the input gradient. -/
theorem trip2 (L : Lanes) (X5 : arg5.view.ty.Contents (Elt Ideal)) (X6 : arg6.view.ty.Contents (Elt Ideal))
    (X16 : arg16.view.ty.Contents (Elt Ideal)) (X17 : arg17.view.ty.Contents (Elt Ideal))
    (h5 : ∀ (r : Fin 3) (l : Fin 256), arg5.view.read (Elt Ideal) X5 (ix2 r l) = L.w l r)
    (h6 : ∀ (r : Fin 3) (l : Fin 256), arg6.view.read (Elt Ideal) X6 (ix2 r l) = L.v l r)
    (h16 : ∀ (r : Fin 2056) (l : Fin 256), arg16.view.read (Elt Ideal) X16 (ix2 r l) = cut (L.gate l) r.val)
    (h17 : ∀ (r : Fin 2056) (l : Fin 256), arg17.view.read (Elt Ideal) X17 (ix2 r l) = cut (L.val l) r.val)
    (k : Fin k0_t2_loop.trips) :
    Pieces2 L (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X5 X6 X16 X17 k) := by
  have hk : k.val < 8 := trips2 ▸ k.isLt
  unfold tripL_k0_t2 trip_k0_t2
  dsimp only
  sl_unfold_words
  simp only [View.readAt_eq_ld]
  intro p hp
  simp only [List.mem_cons, List.not_mem_nil, or_false] at hp
  rcases hp with rfl | rfl
  · intro x
    refine piece_half L 1 k.val _ (by omega) (row2 k) (half_inb 1 k.val _ (by omega) hk (row2 k)) _ (fun r l => ?_) x
    rw [if_neg (by omega)]
    refine in_val_apply _ _ _ _ (L.val l) (L.v l) (256 * k.val) r l (fun s => ?_) ?_ ?_ ?_
    · exact (row2' _ k (k0_off4_inb k) s l).trans (h17 _ l)
    · rw [ldTap _ _ _ _ (by omega), h6]; rfl
    · rw [ldTap _ _ _ _ (by omega), h6]; rfl
    · rw [ldTap _ _ _ _ (by omega), h6]; rfl
  · intro x
    refine piece_half L 0 k.val _ (by omega) (row2 k) (half_inb 0 k.val _ (by omega) hk (row2 k)) _ (fun r l => ?_) x
    rw [if_pos rfl]
    refine in_gate_apply _ _ _ _ (L.gate l) (L.w l) (256 * k.val) r l (fun s => ?_) ?_ ?_ ?_
    · exact (row2' _ k (k0_off4_inb k) s l).trans (h16 _ l)
    · rw [ldTap _ _ _ _ (by omega), h5]; rfl
    · rw [ldTap _ _ _ _ (by omega), h5]; rfl
    · rw [ldTap _ _ _ _ (by omega), h5]; rfl

/-- The second loop's pieces hold the input gradient. -/
theorem loop2 (L : Lanes) (X5 : arg5.view.ty.Contents (Elt Ideal)) (X6 : arg6.view.ty.Contents (Elt Ideal))
    (X16 : arg16.view.ty.Contents (Elt Ideal)) (X17 : arg17.view.ty.Contents (Elt Ideal))
    (h5 : ∀ (r : Fin 3) (l : Fin 256), arg5.view.read (Elt Ideal) X5 (ix2 r l) = L.w l r)
    (h6 : ∀ (r : Fin 3) (l : Fin 256), arg6.view.read (Elt Ideal) X6 (ix2 r l) = L.v l r)
    (h16 : ∀ (r : Fin 2056) (l : Fin 256), arg16.view.read (Elt Ideal) X16 (ix2 r l) = cut (L.gate l) r.val)
    (h17 : ∀ (r : Fin 2056) (l : Fin 256), arg17.view.read (Elt Ideal) X17 (ix2 r l) = cut (L.val l) r.val)
    (k : ℕ) (hk : k ≤ 8) :
    Pieces2 L (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X5 X6 X16 X17 k) := by
  induction k with
  | zero => intro p hp; exact absurd hp (by rw [pb_k0_t2]; exact List.not_mem_nil)
  | succ k ih =>
    have hs := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X5 X6 X16 X17 ⟨k, by rw [trips2]; omega⟩
    simp only at hs
    rw [hs]
    intro p hp
    exact (List.mem_append.1 hp).elim (trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 L X5 X6 X16 X17 h5 h6 h16 h17 ⟨k, by rw [trips2]; omega⟩ p)
      (ih (by omega) p)

end Cert.KernelIdeal.Block

end
-- ==== Proof.Point.lean ====
/- The buffers of one grid point: what the loops read, and what the body's stores leave. -/
module

public import proofs.«01_k».proof.Proof.Block
public import Idealize.ShloMosaic.Lib.Ring

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.Spec

variable (c : Dev nD) (i : grid0.Coords)
  (arg2 : Memref sig .tc .vmem S1x2048x256 .f32) (harg2 : arg2.IsWhole)
  (arg3 : Memref sig .tc .vmem S1x2048x256 .f32) (harg3 : arg3.IsWhole)
  (arg4 : Memref sig .tc .vmem S1x2048x256 .f32) (harg4 : arg4.IsWhole)
  (arg5 : Memref sig .tc .vmem S3x256 .f32) (harg5 : arg5.IsWhole)
  (arg6 : Memref sig .tc .vmem S3x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S2x1x2048x256 .bf16) (harg9 : arg9.IsWhole)
  (arg10 : Memref sig .tc .vmem S1x8x256 .f32) (harg10 : arg10.IsWhole)
  (arg11 : Memref sig .tc .vmem S1x8x256 .f32) (harg11 : arg11.IsWhole)
  (arg12 : Memref sig .tc .vmem S1x1x256 .f32) (harg12 : arg12.IsWhole)
  (arg13 : Memref sig .tc .vmem S1x1x256 .f32) (harg13 : arg13.IsWhole)
  (arg14 : Memref sig .tc .vmem S2056x256 .f32) (harg14 : arg14.IsWhole)
  (arg15 : Memref sig .tc .vmem S2056x256 .f32) (harg15 : arg15.IsWhole)
  (arg16 : Memref sig .tc .vmem S2056x256 .f32) (harg16 : arg16.IsWhole)
  (arg17 : Memref sig .tc .vmem S2056x256 .f32) (harg17 : arg17.IsWhole)

/-! ## What the loops read and what the body stores, at the terms its run finds -/

/-- The channels of a grid point, from its input blocks: the gate and value inputs padded with eight zero rows, their
    taps and biases, and the incoming gradient. -/
def lanes (x0 x1 x2 : Vec Ideal S1x2048x256 .f32) (x3 x4 : Vec Ideal S3x256 .f32) (x5 x6 : Vec Ideal S1x256 .f32) :
    Lanes where
  p l t := if h : 8 ≤ t ∧ t - 8 < 2048 then x0 (ix3 0 ⟨t - 8, h.2⟩ l) else 0
  q l t := if h : 8 ≤ t ∧ t - 8 < 2048 then x1 (ix3 0 ⟨t - 8, h.2⟩ l) else 0
  w l r := x3 (ix2 r l)
  v l r := x4 (ix2 r l)
  b l := x5 (ix2 0 l)
  d l := x6 (ix2 0 l)
  a l t := if h : t < 2048 then x2 (ix3 0 ⟨t, h⟩ l) else 0

/-- The output block of the gate channels' tap gradients. -/
def Lanes.gateTapBlock (L : Lanes) : Vec Ideal S1x8x256 .f32 := fun j => dTap (L.gate (j 2)) (L.p (j 2)) 2048 (j 1).val

/-- The output block of the value channels' tap gradients. -/
def Lanes.valTapBlock (L : Lanes) : Vec Ideal S1x8x256 .f32 := fun j => dTap (L.val (j 2)) (L.q (j 2)) 2048 (j 1).val

/-- The output block of the gate channels' bias gradients. -/
def Lanes.gateBiasBlock (L : Lanes) : Vec Ideal S1x1x256 .f32 := fun j => dBias (L.gate (j 2)) 2048

/-- The output block of the value channels' bias gradients. -/
def Lanes.valBiasBlock (L : Lanes) : Vec Ideal S1x1x256 .f32 := fun j => dBias (L.val (j 2)) 2048

/-- A block loaded into rows 8 to 2055 of a buffer whose rows 0 to 7 were zeroed, read back: the padded channel. -/
theorem padded {sig : RefSig} (v : View sig .tc .vmem S2056x256 .f32) (f) (x : Vec Ideal S1x2048x256 .f32)
    (z : FVec Ideal S8x256 .f32) (hz : ∀ (r : Fin 8) (l : Fin 256), z (ix2 r l) = 0)
    (y : FVec Ideal S2048x256 .f32) (hy : ∀ (r : Fin 2048) (l : Fin 256), y (ix2 r l) = x (ix3 0 r l))
    (r : Fin 2056) (l : Fin 256) :
    v.read (Elt Ideal) (v.writes (Elt Ideal) f
      [⟨Rect.unit ![8, 0] S2048x256.size inb_S2056x256_S2048x256_8_0, y⟩,
        ⟨Rect.unit ![0, 0] S8x256.size inb_S2056x256_S8x256_0_0, z⟩]) (ix2 r l)
      = if h : 8 ≤ r.val ∧ r.val - 8 < 2048 then x (ix3 0 ⟨r.val - 8, h.2⟩ l) else 0 := by
  refine View.read_writes_apply_of_pieces v f
    (fun j => if h : 8 ≤ (j 0).val ∧ (j 0).val - 8 < 2048 then x (ix3 0 ⟨(j 0).val - 8, h.2⟩ (j 1)) else 0) _ ?_ _ ?_
  · intro p hp j
    simp only [List.mem_cons, List.not_mem_nil, or_false] at hp
    rcases hp with rfl | rfl
    · obtain ⟨r, l, rfl⟩ : ∃ r l, j = ix2 r l := ⟨j 0, j 1, by ext a; fin_cases a <;> rfl⟩
      have e0 : ((Rect.unit (s := S2056x256) ![8, 0] S2048x256.size inb_S2056x256_S2048x256_8_0).emb (ix2 r l) 0).val
          = 8 + r.val := by rw [ValueKit.rect_emb_unit_val]; rfl
      have e1 : (Rect.unit (s := S2056x256) ![8, 0] S2048x256.size inb_S2056x256_S2048x256_8_0).emb (ix2 r l) 1 = l := by
        apply Fin.ext; rw [ValueKit.rect_emb_unit_val]; simp [ix2]
      have : r.val < 2048 := r.isLt
      simp only [e0, e1]
      rw [dif_pos (by omega)]
      refine (hy r l).trans ?_
      congr 2
      apply Fin.ext; simp
    · obtain ⟨r, l, rfl⟩ : ∃ r l, j = ix2 r l := ⟨j 0, j 1, by ext a; fin_cases a <;> rfl⟩
      have e0 : ((Rect.unit (s := S2056x256) ![0, 0] S8x256.size inb_S2056x256_S8x256_0_0).emb (ix2 r l) 0).val
          = 0 + r.val := by rw [ValueKit.rect_emb_unit_val]; rfl
      have : r.val < 8 := r.isLt
      simp only [e0]
      rw [dif_neg (by omega)]
      exact hz r l
  · by_cases h : 8 ≤ r.val
    · refine ⟨_, List.mem_cons_self, ?_⟩
      rw [Rect.mem_set_unit]
      intro a
      have := l.isLt
      have := r.isLt
      fin_cases a <;> simp [ix2] <;> omega
    · refine ⟨_, List.mem_cons_of_mem _ List.mem_cons_self, ?_⟩
      rw [Rect.mem_set_unit]
      intro a
      have := l.isLt
      fin_cases a <;> simp [ix2] <;> omega

/-- The rows the first loop stored, with the eight zero rows after them, read back: the gradient cut after its end. -/
theorem stored (v : View sig .tc .vmem S2056x256 .f32) (f) (g : Fin 256 → ℕ → EReal)
    (ps : List (View.Piece (Elt Ideal) S2056x256 .f32)) (hp : Pieces g ps) (hc : Covers 0 2048 ps)
    (z : FVec Ideal S8x256 .f32) (hz : ∀ (r : Fin 8) (l : Fin 256), z (ix2 r l) = 0)
    (r : Fin 2056) (l : Fin 256) :
    v.read (Elt Ideal) (v.writes (Elt Ideal) f
      (ps ++ [⟨Rect.unit ![2048, 0] S8x256.size inb_S2056x256_S8x256_2048_0, z⟩])) (ix2 r l) = cut (g l) r.val := by
  refine View.read_writes_apply_of_pieces v f (fun j => cut (g (j 1)) (j 0).val) _ ?_ _ ?_
  · intro p hp' j
    rcases List.mem_append.1 hp' with h | h
    · exact hp p h j
    · simp only [List.mem_singleton] at h
      subst h
      obtain ⟨r, l, rfl⟩ : ∃ r l, j = ix2 r l := ⟨j 0, j 1, by ext a; fin_cases a <;> rfl⟩
      have e0 : ((Rect.unit (s := S2056x256) ![2048, 0] S8x256.size inb_S2056x256_S8x256_2048_0).emb (ix2 r l) 0).val
          = 2048 + r.val := by rw [ValueKit.rect_emb_unit_val]; rfl
      simp only [e0, cut]
      rw [if_neg (by omega)]
      exact hz r l
  · by_cases h : r.val < 2048
    · obtain ⟨p, h1, h2⟩ := hc (ix2 r l) (Nat.zero_le _) h
      exact ⟨p, List.mem_append_left _ h1, h2⟩
    · refine ⟨_, List.mem_append_right _ (List.mem_singleton.2 rfl), ?_⟩
      rw [Rect.mem_set_unit]
      intro a
      have := l.isLt
      have := r.isLt
      fin_cases a <;> simp [ix2] <;> omega

theorem zero33 (r : Fin 8) (l : Fin 256) : k0_pay33 (F := Ideal) (ix2 r l) = 0 := by pointwise [k0_pay33]
theorem zero34 (r : Fin 8) (l : Fin 256) : k0_pay34 (F := Ideal) (ix2 r l) = 0 := by pointwise [k0_pay34]
theorem zero37 (r : Fin 8) (l : Fin 256) : k0_pay37 (F := Ideal) (ix2 r l) = 0 := by pointwise [k0_pay37]
theorem zero38 (r : Fin 8) (l : Fin 256) : k0_pay38 (F := Ideal) (ix2 r l) = 0 := by pointwise [k0_pay38]

/-- The carried gradients start at zero. -/
theorem carried0 (L : Lanes) : Carried L 0 (k0_pay2, k0_pay2, k0_pay3, k0_pay3) where
  g r l := by simp only [dTap]; pointwise [k0_pay2]; simp
  u r l := by simp only [dTap]; pointwise [k0_pay2]; simp
  bg l := by simp only [dBias]; pointwise [k0_pay3]; simp
  bu l := by simp only [dBias]; pointwise [k0_pay3]; simp

/-- What the loops read, at the contents the body's run gives them. -/
theorem reads (x0 x1 x2 : Vec Ideal S1x2048x256 .f32) (x3 x4 : Vec Ideal S3x256 .f32) (x5 x6 : Vec Ideal S1x256 .f32)
    (f14) (f15) :
    Reads arg4 arg5 arg6 arg14 arg15 (lanes x0 x1 x2 x3 x4 x5 x6)
      (k0_pay39 (View.readAt (Elt Ideal) arg7.view (Rect.unit ![0, 0] S1x256.size inb_S1x256_S1x256_0_0).toLoadRect
        (harg7.unread x5)))
      (View.readAt (Elt Ideal) arg8.view (Rect.unit (s := S1x256) ![0, 0] S1x256.size inb_S1x256_S1x256_0_0).toLoadRect (harg8.unread x6))
      (harg4.unread x2) (harg5.unread x3) (harg6.unread x4)
      (arg14.view.writes (Elt Ideal) f14
        [⟨Rect.unit ![8, 0] S2048x256.size inb_S2056x256_S2048x256_8_0,
            k0_pay35 (View.readAt (Elt Ideal) arg2.view
              (Rect.unit ![0, 0, 0] S1x2048x256.size inb_S1x2048x256_S1x2048x256_0_0_0).toLoadRect (harg2.unread x0))⟩,
          ⟨Rect.unit ![0, 0] S8x256.size inb_S2056x256_S8x256_0_0, k0_pay33 (F := Ideal)⟩])
      (arg15.view.writes (Elt Ideal) f15
        [⟨Rect.unit ![8, 0] S2048x256.size inb_S2056x256_S2048x256_8_0,
            k0_pay36 (View.readAt (Elt Ideal) arg3.view
              (Rect.unit ![0, 0, 0] S1x2048x256.size inb_S1x2048x256_S1x2048x256_0_0_0).toLoadRect (harg3.unread x1))⟩,
          ⟨Rect.unit ![0, 0] S8x256.size inb_S2056x256_S8x256_0_0, k0_pay34 (F := Ideal)⟩]) where
  h27 l := by
    simp only [View.readAt_eq_ld, harg7.read_unread]
    pointwise [k0_pay39]
    rfl
  h28 l := by
    simp only [View.readAt_eq_ld, harg8.read_unread]
    pointwise []
    rfl
  h4 r l := by
    rw [harg4.read_unread]
    have := r.isLt
    simp only [lanes]
    rw [dif_pos this]
  h5 r l := by rw [harg5.read_unread]; rfl
  h6 r l := by rw [harg6.read_unread]; rfl
  h14 r l := padded _ _ x0 _ zero33 _ (fun r l => by
    simp only [View.readAt_eq_ld, harg2.read_unread]
    pointwise [k0_pay35]) r l
  h15 r l := padded _ _ x1 _ zero34 _ (fun r l => by
    simp only [View.readAt_eq_ld, harg3.read_unread]
    pointwise [k0_pay36]) r l

/-- A tap-gradient block stored whole, read back. -/
theorem tapsOut (v : View sig .tc .vmem S1x8x256 .f32) (f) (A : FVec Ideal S8x256 .f32) (y : FVec Ideal S1x8x256 .f32)
    (hy : ∀ (r : Fin 8) (l : Fin 256), y (ix3 0 r l) = A (ix2 r l)) (G : Vec Ideal S1x8x256 .f32)
    (hG : ∀ (r : Fin 8) (l : Fin 256), A (ix2 r l) = G (ix3 0 r l)) :
    v.read (Elt Ideal) (v.writes (Elt Ideal) f
      [⟨Rect.unit (s := S1x8x256) ![0, 0, 0] ![1, 8, 256] inb_S1x8x256_S1x8x256_0_0_0, y⟩]) = G := by
  funext j
  refine View.read_writes_apply_of_pieces v f G _ ?_ _ ⟨_, List.mem_singleton.2 rfl, ?_⟩
  · intro p hp j
    simp only [List.mem_singleton] at hp
    subst hp
    obtain ⟨r, l, rfl⟩ : ∃ r l, j = ix3 0 r l :=
      ⟨j 1, j 2, by ext a; fin_cases a <;> first | rfl | exact congrArg Fin.val (Subsingleton.elim (α := Fin 1) _ _)⟩
    have e : (Rect.unit (s := S1x8x256) ![0, 0, 0] ![1, 8, 256] inb_S1x8x256_S1x8x256_0_0_0).emb (ix3 0 r l)
        = ix3 0 r l := by
      funext a; apply Fin.ext; rw [ValueKit.rect_emb_unit_val]; fin_cases a <;> simp [ix3]
    rw [e, ← hG]
    exact hy r l
  · rw [Rect.mem_set_unit]
    intro a
    have h0 : (j 0).val < 1 := (j 0).isLt
    have h1 : (j 1).val < 8 := (j 1).isLt
    have h2 : (j 2).val < 256 := (j 2).isLt
    fin_cases a <;> simp <;> omega

/-- A bias-gradient block stored whole, read back. -/
theorem biasOut (v : View sig .tc .vmem S1x1x256 .f32) (f) (A : FVec Ideal S1x256 .f32) (y : FVec Ideal S1x1x256 .f32)
    (hy : ∀ (l : Fin 256), y (ix3 0 0 l) = A (ix2 0 l)) (G : Vec Ideal S1x1x256 .f32)
    (hG : ∀ (l : Fin 256), A (ix2 0 l) = G (ix3 0 0 l)) :
    v.read (Elt Ideal) (v.writes (Elt Ideal) f
      [⟨Rect.unit (s := S1x1x256) ![0, 0, 0] ![1, 1, 256] inb_S1x1x256_S1x1x256_0_0_0, y⟩]) = G := by
  funext j
  refine View.read_writes_apply_of_pieces v f G _ ?_ _ ⟨_, List.mem_singleton.2 rfl, ?_⟩
  · intro p hp j
    simp only [List.mem_singleton] at hp
    subst hp
    obtain ⟨l, rfl⟩ : ∃ l, j = ix3 0 0 l :=
      ⟨j 2, by ext a; fin_cases a <;> first | rfl | exact congrArg Fin.val (Subsingleton.elim (α := Fin 1) _ _)⟩
    have e : (Rect.unit (s := S1x1x256) ![0, 0, 0] ![1, 1, 256] inb_S1x1x256_S1x1x256_0_0_0).emb (ix3 0 0 l)
        = ix3 0 0 l := by
      funext a; apply Fin.ext; rw [ValueKit.rect_emb_unit_val]; fin_cases a <;> simp [ix3]
    rw [e, ← hG]
    exact hy l
  · rw [Rect.mem_set_unit]
    intro a
    have h0 : (j 0).val < 1 := (j 0).isLt
    have h1 : (j 1).val < 1 := (j 1).isLt
    have h2 : (j 2).val < 256 := (j 2).isLt
    fin_cases a <;> simp <;> omega

/-- The stores' shape casts: each output block is the carried array with a leading axis of one. -/
theorem cast6 (A : FVec Ideal S8x256 .f32) (r : Fin 8) (l : Fin 256) : k0_pay6 A (ix3 0 r l) = A (ix2 r l) := by
  pointwise [k0_pay6]
theorem cast7 (A : FVec Ideal S8x256 .f32) (r : Fin 8) (l : Fin 256) : k0_pay7 A (ix3 0 r l) = A (ix2 r l) := by
  pointwise [k0_pay7]
theorem cast8 (A : FVec Ideal S1x256 .f32) (l : Fin 256) : k0_pay8 A (ix3 0 0 l) = A (ix2 0 l) := by
  pointwise [k0_pay8]
theorem cast9 (A : FVec Ideal S1x256 .f32) (l : Fin 256) : k0_pay9 A (ix3 0 0 l) = A (ix2 0 l) := by
  pointwise [k0_pay9]

variable (x0 x1 x2 : Vec Ideal S1x2048x256 .f32) (x3 x4 : Vec Ideal S3x256 .f32) (x5 x6 : Vec Ideal S1x256 .f32)

/-- The first loop's state after its last trip, at the contents the body's run gives it. -/
abbrev state1 := st_k0_t1 (F := Ideal) Variants.none c none i
  arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  (k0_pay39 (View.readAt (Elt Ideal) arg7.view (Rect.unit ![0, 0] S1x256.size inb_S1x256_S1x256_0_0).toLoadRect
    (harg7.unread x5)))
  (View.readAt (Elt Ideal) arg8.view (Rect.unit (s := S1x256) ![0, 0] S1x256.size inb_S1x256_S1x256_0_0).toLoadRect
    (harg8.unread x6))
  (harg4.unread x2) (harg5.unread x3) (harg6.unread x4)
  (arg14.view.writes (Elt Ideal) arg14.view.junk
    [⟨Rect.unit ![8, 0] S2048x256.size inb_S2056x256_S2048x256_8_0,
        k0_pay35 (View.readAt (Elt Ideal) arg2.view
          (Rect.unit ![0, 0, 0] S1x2048x256.size inb_S1x2048x256_S1x2048x256_0_0_0).toLoadRect (harg2.unread x0))⟩,
      ⟨Rect.unit ![0, 0] S8x256.size inb_S2056x256_S8x256_0_0, k0_pay33 (F := Ideal)⟩])
  (arg15.view.writes (Elt Ideal) arg15.view.junk
    [⟨Rect.unit ![8, 0] S2048x256.size inb_S2056x256_S2048x256_8_0,
        k0_pay36 (View.readAt (Elt Ideal) arg3.view
          (Rect.unit ![0, 0, 0] S1x2048x256.size inb_S1x2048x256_S1x2048x256_0_0_0).toLoadRect (harg3.unread x1))⟩,
      ⟨Rect.unit ![0, 0] S8x256.size inb_S2056x256_S8x256_0_0, k0_pay34 (F := Ideal)⟩])
  (k0_pay2, k0_pay2, k0_pay3, k0_pay3) (Scf.trips k0_t1_loop.lb k0_t1_loop.ub k0_t1_loop.st)

/-- What the first loop leaves: the carried gradients over all rows, and the rows it stored. -/
theorem after1 :
    Carried (lanes x0 x1 x2 x3 x4 x5 x6) 2048 (state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1
    ∧ (Pieces (lanes x0 x1 x2 x3 x4 x5 x6).gate (state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1
      ∧ Covers 0 2048 (state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1)
    ∧ (Pieces (lanes x0 x1 x2 x3 x4 x5 x6).val (state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2
      ∧ Covers 0 2048 (state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2) := by
  have h8 : Scf.trips k0_t1_loop.lb k0_t1_loop.ub k0_t1_loop.st = 8 := trips1
  unfold state1
  rw [h8]
  exact loop1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (lanes x0 x1 x2 x3 x4 x5 x6) _ _ _ _ _ _ _
    (reads arg2 harg2 arg3 harg3 arg4 harg4 arg5 harg5 arg6 harg6 arg7 harg7 arg8 harg8 arg14 arg15 x0 x1 x2 x3 x4 x5 x6
      arg14.view.junk arg15.view.junk) _ (carried0 _) 8 le_rfl

/-- The second loop's pieces after its last trip, at the contents the body's run gives it. -/
abbrev state2 (f16 : arg16.view.ty.Contents (Elt Ideal)) (f17 : arg17.view.ty.Contents (Elt Ideal)) := pb_k0_t2 (F := Ideal) Variants.none c none i
  arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  (harg5.unread x3) (harg6.unread x4)
  (arg16.view.writes (Elt Ideal) f16 ((state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1
    ++ [⟨Rect.unit ![2048, 0] S8x256.size inb_S2056x256_S8x256_2048_0, k0_pay37 (F := Ideal)⟩]))
  (arg17.view.writes (Elt Ideal) f17 ((state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2
    ++ [⟨Rect.unit ![2048, 0] S8x256.size inb_S2056x256_S8x256_2048_0, k0_pay38 (F := Ideal)⟩]))
  (Scf.trips k0_t2_loop.lb k0_t2_loop.ub k0_t2_loop.st)

/-- The second loop's pieces hold the input gradient. -/
theorem after2 (f16) (f17) : Pieces2 (lanes x0 x1 x2 x3 x4 x5 x6) (state2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 f16 f17) := by
  have h8 : Scf.trips k0_t2_loop.lb k0_t2_loop.ub k0_t2_loop.st = 8 := trips2
  obtain ⟨-, ⟨hg, hg'⟩, hu, hu'⟩ := after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6
  unfold state2
  rw [h8]
  refine loop2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (lanes x0 x1 x2 x3 x4 x5 x6) _ _ _ _
    (fun r l => ?_) (fun r l => ?_) (fun r l => ?_) (fun r l => ?_) 8 le_rfl
  · rw [harg5.read_unread]; rfl
  · rw [harg6.read_unread]; rfl
  · exact stored _ _ _ _ hg hg' _ zero37 r l
  · exact stored _ _ _ _ hu hu' _ zero38 r l

/-- The input gradient's block. -/
theorem out7 (f) (f16) (f17) : arg9.view.read (Elt Ideal) (arg9.view.writes (Elt Ideal) f (state2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 f16 f17))
    = (lanes x0 x1 x2 x3 x4 x5 x6).input := by
  funext j
  exact View.read_writes_apply_of_pieces _ _ _ _ (after2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 f16 f17) j
    (View.cover_of_tiledL (state2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 f16 f17) S1x1x256x256.size (by sl_kernel_rfl) j)

/-- The gate channels' tap gradients. -/
theorem out8 (f) : arg10.view.read (Elt Ideal) (arg10.view.writes (Elt Ideal) f
    [⟨Rect.unit (s := S1x8x256) ![0, 0, 0] ![1, 8, 256] inb_S1x8x256_S1x8x256_0_0_0,
      k0_pay6 (state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1.1⟩]) = (lanes x0 x1 x2 x3 x4 x5 x6).gateTapBlock :=
  tapsOut _ _ _ _ (cast6 _) _ fun r l => (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1.g r l

/-- The value channels' tap gradients. -/
theorem out9 (f) : arg11.view.read (Elt Ideal) (arg11.view.writes (Elt Ideal) f
    [⟨Rect.unit (s := S1x8x256) ![0, 0, 0] ![1, 8, 256] inb_S1x8x256_S1x8x256_0_0_0,
      k0_pay7 (state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1.2.1⟩]) = (lanes x0 x1 x2 x3 x4 x5 x6).valTapBlock :=
  tapsOut _ _ _ _ (cast7 _) _ fun r l => (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1.u r l

/-- The gate channels' bias gradients. -/
theorem out10 (f) : arg12.view.read (Elt Ideal) (arg12.view.writes (Elt Ideal) f
    [⟨Rect.unit (s := S1x1x256) ![0, 0, 0] ![1, 1, 256] inb_S1x1x256_S1x1x256_0_0_0,
      k0_pay8 (state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1.2.2.1⟩]) = (lanes x0 x1 x2 x3 x4 x5 x6).gateBiasBlock :=
  biasOut _ _ _ _ (cast8 _) _ fun l => (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1.bg l

/-- The value channels' bias gradients. -/
theorem out11 (f) : arg13.view.read (Elt Ideal) (arg13.view.writes (Elt Ideal) f
    [⟨Rect.unit (s := S1x1x256) ![0, 0, 0] ![1, 1, 256] inb_S1x1x256_S1x1x256_0_0_0,
      k0_pay9 (state1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1.2.2.2⟩]) = (lanes x0 x1 x2 x3 x4 x5 x6).valBiasBlock :=
  biasOut _ _ _ _ (cast9 _) _ fun l => (after1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1.bu l

end Cert.KernelIdeal.Block

end
-- ==== Proof.Run.lean ====
/- One grid point of the kernel, run: from its seven input blocks to the five output blocks' values. -/
module

public import proofs.«01_k».proof.Proof.Gen.KernelIdeal.Frame.Runs
public import proofs.«01_k».proof.Proof.Point

@[expose] public section

set_option maxRecDepth 16384

noncomputable section

namespace Cert.KernelIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Spec

local notation "𝕄" => MT nD τ sig Unit (Elt Ideal) ℕ (UR sig nD τ) ℕ

/-- The body at a grid point: from whole blocks of the seven inputs to the five outputs' values; the four scratch
    buffers are taken and left at any contents. -/
theorem run (c : Dev nD) (i : grid0.Coords)
  (arg2 : Memref sig .tc .vmem S1x2048x256 .f32) (harg2 : arg2.IsWhole)
  (arg3 : Memref sig .tc .vmem S1x2048x256 .f32) (harg3 : arg3.IsWhole)
  (arg4 : Memref sig .tc .vmem S1x2048x256 .f32) (harg4 : arg4.IsWhole)
  (arg5 : Memref sig .tc .vmem S3x256 .f32) (harg5 : arg5.IsWhole)
  (arg6 : Memref sig .tc .vmem S3x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S2x1x2048x256 .bf16) (harg9 : arg9.IsWhole)
  (arg10 : Memref sig .tc .vmem S1x8x256 .f32) (harg10 : arg10.IsWhole)
  (arg11 : Memref sig .tc .vmem S1x8x256 .f32) (harg11 : arg11.IsWhole)
  (arg12 : Memref sig .tc .vmem S1x1x256 .f32) (harg12 : arg12.IsWhole)
  (arg13 : Memref sig .tc .vmem S1x1x256 .f32) (harg13 : arg13.IsWhole)
  (arg14 : Memref sig .tc .vmem S2056x256 .f32) (harg14 : arg14.IsWhole)
  (arg15 : Memref sig .tc .vmem S2056x256 .f32) (harg15 : arg15.IsWhole)
  (arg16 : Memref sig .tc .vmem S2056x256 .f32) (harg16 : arg16.IsWhole)
  (arg17 : Memref sig .tc .vmem S2056x256 .f32) (harg17 : arg17.IsWhole)
    (x0 x1 x2 : Vec Ideal S1x2048x256 .f32) (x3 x4 : Vec Ideal S3x256 .f32) (x5 x6 : Vec Ideal S1x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (lanes x0 x1 x2 x3 x4 x5 x6).input ∗ owns (c : Thread nD τ) arg10 fullShare (lanes x0 x1 x2 x3 x4 x5 x6).gateTapBlock ∗ owns (c : Thread nD τ) arg11 fullShare (lanes x0 x1 x2 x3 x4 x5 x6).valTapBlock ∗ owns (c : Thread nD τ) arg12 fullShare (lanes x0 x1 x2 x3 x4 x5 x6).gateBiasBlock ∗ owns (c : Thread nD τ) arg13 fullShare (lanes x0 x1 x2 x3 x4 x5 x6).valBiasBlock
            ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := Ideal)) Variants.none c none) E (cc0_ffn_mid_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_mid_bwd_eq_skeleton]; unfold cc0_ffn_mid_bwd_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%e0, %g0, -, HS0⟩, ⟨%e1, %g1, -, HS1⟩, ⟨%e2, %g2, -, HS2⟩, ⟨%e3, %g3, -, HS3⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    exact out7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _ _ _
  isplitl [H8]
  · iexists _; isplitr; swap; · iexact H8
    ipureintro
    sl_unfold_words
    exact out8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _
  isplitl [H9]
  · iexists _; isplitr; swap; · iexact H9
    ipureintro
    sl_unfold_words
    exact out9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _
  isplitl [H10]
  · iexists _; isplitr; swap; · iexact H10
    ipureintro
    sl_unfold_words
    exact out10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _
  isplitl [H11]
  · iexists _; isplitr; swap; · iexact H11
    ipureintro
    sl_unfold_words
    exact out11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Block

end
-- ==== Proof.Sweep.lean ====
/- The whole launch: every grid point runs the body on its blocks, so each output array ends as its blocks' values. -/
module

public import proofs.«01_k».proof.Proof.Gen.KernelIdeal.Frame.Runs
public import proofs.«01_k».proof.Proof.Run
public import Idealize.ShloMosaic.Lib.Claim
public import Idealize.ShloMosaic.Lib.Pipeline.Value

@[expose] public section

set_option maxRecDepth 16384

noncomputable section

namespace Cert.KernelIdeal.Sweep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Spec Cert.KernelIdeal.Block

local notation "𝕄" => MT nD τ sig Unit (Elt Ideal) ℕ (UR sig nD τ) ℕ

variable (m : (ℓ : Loc nD τ sig) → Buf (Elt Ideal) ℓ) (ρ : Dev nD → PrngReg)

/-- The channels of grid point `t`: its blocks of the input arrays. -/
def at_ (c : Dev nD) (t : Fin cfg0.N) : Lanes :=
  lanes (iblk m c 0 t) (iblk m c 1 t) (iblk m c 2 t) (iblk m c 3 t) (iblk m c 4 t) (iblk m c 5 t) (iblk m c 6 t)

/-- The launch's data: the arrays as the region finds them, and after each point every input's buffer at its block
    and every output's at its block's value. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (at_ m c t).input
    | ⟨8, _⟩ => (at_ m c t).gateTapBlock
    | ⟨9, _⟩ => (at_ m c t).valTapBlock
    | ⟨10, _⟩ => (at_ m c t).gateBiasBlock
    | ⟨11, _⟩ => (at_ m c t).valBiasBlock
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after7 (c : Dev nD) (t : Fin cfg0.N) : (dats m 0 c).after 7 t = (at_ m c t).input := by dsimp only [dats]
theorem after8 (c : Dev nD) (t : Fin cfg0.N) : (dats m 0 c).after 8 t = (at_ m c t).gateTapBlock := by dsimp only [dats]
theorem after9 (c : Dev nD) (t : Fin cfg0.N) : (dats m 0 c).after 9 t = (at_ m c t).valTapBlock := by dsimp only [dats]
theorem after10 (c : Dev nD) (t : Fin cfg0.N) : (dats m 0 c).after 10 t = (at_ m c t).gateBiasBlock := by dsimp only [dats]
theorem after11 (c : Dev nD) (t : Fin cfg0.N) : (dats m 0 c).after 11 t = (at_ m c t).valBiasBlock := by dsimp only [dats]

/-- What the body is called with at point `t`. -/
def pre_ (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What it returns. -/
def post_ (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

/-- The body at any point of the grid: the point's run at its blocks. -/
theorem body (c : Dev nD) (t : Fin cfg0.N) :
    pre_ m c t ⊢ wp frame (wpE (defs₀ (F := Ideal)) Variants.none c none) Set.univ (bodyAt0 t) (fun _ => post_ m c t) := by
  unfold pre_ post_ bodyAt0
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t,
    before0_6_of m (dats m 0 c) (A_eq m c 6) (fun _ => rfl) t]
  rw [show (dats m 0 c).Φ t.succ = (dats m 0 c).Φ t.castSucc from rfl,
    show (dats m 0 c).owesAt () t.succ = (dats m 0 c).owesAt () t.castSucc from rfl,
    after7, after8, after9, after10, after11]
  rw [show (dats m 0 c).Φ t.castSucc = Pipeline.ΦA spec0 c from rfl, PhiA0_eq]
  unfold at_
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := Ideal) .tc cfg0.body (cfg0.bodyArgs t (cfg0.slots t)) = bodyAt0 t := by
  unfold defs₀; rw [Defs.onTc_tc]

/-- The body's obligation in the launch, at every point. -/
theorem obligation (c : Dev nD) : BodyObligation (dats m 0 c) (defs₀ (F := Ideal)) Variants.none () Set.univ := fun t => by
  rw [bigSep_W0, bigSep_W0, defs₀_row]
  exact triple_restated (body m c t) rfl .rfl fun _ => .rfl

set_option backward.isDefEq.respectTransparency.types false in
/-- The launch: it ends, every array at what its blocks' values make it, every semaphore at zero. -/
theorem launch : θ_run defs (onTc (τ := τ) (main (F := Ideal))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The output arrays after the launch. -/
theorem outputs : θ_run defs (onTc (τ := τ) (main (F := Ideal))) ⟨m, fun _ => 0, ρ⟩ (fun r => ∀ c : Dev nD,
      r.2.mem ((c.tc : Thread nD τ).loc main_v1_0) = (dats m 0 c).arrAt 7 cfg0.N
      ∧ r.2.mem ((c.tc : Thread nD τ).loc main_v1_1) = (dats m 0 c).arrAt 8 cfg0.N
      ∧ r.2.mem ((c.tc : Thread nD τ).loc main_v1_2) = (dats m 0 c).arrAt 9 cfg0.N
      ∧ r.2.mem ((c.tc : Thread nD τ).loc main_v1_3) = (dats m 0 c).arrAt 10 cfg0.N
      ∧ r.2.mem ((c.tc : Thread nD τ).loc main_v1_4) = (dats m 0 c).arrAt 11 cfg0.N) :=
  (θ_run defs _ _).mono (fun r h c => ⟨(h.1 c).1 7, (h.1 c).1 8, (h.1 c).1 9, (h.1 c).1 10, (h.1 c).1 11⟩) (launch m ρ)

end Cert.KernelIdeal.Sweep

end
-- ==== Proof.Result.lean ====
/- The output arrays after the launch, as functions of the arguments. -/
module

public import proofs.«01_k».proof.Proof.Sweep
public import Idealize.ShloMosaic.Lib.Pipeline.ValueKit

@[expose] public section

set_option maxRecDepth 16384

noncomputable section

namespace Cert.KernelIdeal.Result

open Idealize.ShloMosaic Idealize.ShloMosaic.TcCoe Idealize.ShloMosaic.Tactic
open Idealize.ShloMosaic.Pipeline (Window)
open Cert.KernelIdeal Cert.KernelIdeal.Gen Cert.Spec Cert.KernelIdeal.Block Cert.KernelIdeal.Sweep

variable (m : (ℓ : Loc nD τ sig) → Buf (Elt Ideal) ℓ) (c : Dev nD)

/-- The arguments a device holds. -/
def inputs : Inputs where
  x n t k := m ((c.tc : Thread nD τ).loc main_arg0) (ix3 n t k)
  a n t j := m ((c.tc : Thread nD τ).loc main_arg1) (ix3 n t j)
  w r k := m ((c.tc : Thread nD τ).loc main_arg2) (ix2 r k)
  b k := m ((c.tc : Thread nD τ).loc main_arg3) (ix1 k)

/-- Which block of its array each window stages at a point. -/
theorem idx : ∀ t : Fin grid0.N,
    win0_0.index t = ![(grid0.coords t 0).val, 0, (grid0.coords t 1).val]
    ∧ win0_1.index t = ![(grid0.coords t 0).val, 0, 22 + (grid0.coords t 1).val]
    ∧ win0_2.index t = ![(grid0.coords t 0).val, 0, (grid0.coords t 1).val]
    ∧ win0_3.index t = ![0, (grid0.coords t 1).val]
    ∧ win0_4.index t = ![0, 22 + (grid0.coords t 1).val]
    ∧ win0_5.index t = ![0, (grid0.coords t 1).val]
    ∧ win0_6.index t = ![0, 22 + (grid0.coords t 1).val]
    ∧ win0_7.index t = ![0, (grid0.coords t 0).val, 0, (grid0.coords t 1).val]
    ∧ win0_8.index t = ![(grid0.coords t 0).val, 0, (grid0.coords t 1).val]
    ∧ win0_9.index t = ![(grid0.coords t 0).val, 0, (grid0.coords t 1).val]
    ∧ win0_10.index t = ![(grid0.coords t 0).val, 0, (grid0.coords t 1).val]
    ∧ win0_11.index t = ![(grid0.coords t 0).val, 0, (grid0.coords t 1).val] := by decide +kernel

variable (t : Fin cfg0.N) (n : Fin 2) (l : Fin 256) (j : Fin 5632)
  (hn : n.val = (grid0.coords t 0).val) (hj : j.val = (grid0.coords t 1).val * 256 + l.val)

include hn hj in
theorem read0 (r : Fin 2048) : iblk m c 0 t (ix3 0 r l) = (inputs m c).x n r (Inputs.lo j) := by
  unfold inputs Inputs.lo; blk_ext [iblk, V, idx t]
include hn hj in
theorem read1 (r : Fin 2048) : iblk m c 1 t (ix3 0 r l) = (inputs m c).x n r (Inputs.hi j) := by
  unfold inputs Inputs.hi; blk_ext [iblk, V, idx t]
include hn hj in
theorem read2 (r : Fin 2048) : iblk m c 2 t (ix3 0 r l) = (inputs m c).a n r j := by
  unfold inputs; blk_ext [iblk, V, idx t]
include hj in
theorem read3 (r : Fin 3) : iblk m c 3 t (ix2 r l) = (inputs m c).w r (Inputs.lo j) := by
  unfold inputs Inputs.lo; blk_ext [iblk, V, idx t]
include hj in
theorem read4 (r : Fin 3) : iblk m c 4 t (ix2 r l) = (inputs m c).w r (Inputs.hi j) := by
  unfold inputs Inputs.hi; blk_ext [iblk, V, idx t]

/-- The bias as the launch finds it, one row. -/
theorem bias (k : Fin 11264) : V m c main_v0 (ix2 0 k) = m ((c.tc : Thread nD τ).loc main_arg3) (ix1 k) := by
  unfold V; entry_read; pointwise

include hj in
theorem read5 : iblk m c 5 t (ix2 0 l) = (inputs m c).b (Inputs.lo j) := by
  refine Eq.trans ?_ (bias m c (Inputs.lo j))
  unfold Inputs.lo; blk_ext [iblk, idx t]
include hj in
theorem read6 : iblk m c 6 t (ix2 0 l) = (inputs m c).b (Inputs.hi j) := by
  refine Eq.trans ?_ (bias m c (Inputs.hi j))
  unfold Inputs.hi; blk_ext [iblk, idx t]

include hn hj in
theorem padLo : (at_ m c t).p l = (inputs m c).pad n (Inputs.lo j) := by
  funext s; simp only [at_, lanes, Inputs.pad, read0 m c t n l j hn hj]
include hn hj in
theorem padHi : (at_ m c t).q l = (inputs m c).pad n (Inputs.hi j) := by
  funext s; simp only [at_, lanes, Inputs.pad, read1 m c t n l j hn hj]
include hj in
theorem tapsLo : (at_ m c t).w l = fun r => (inputs m c).w r (Inputs.lo j) := by
  funext r; exact read3 m c t l j hj r
include hj in
theorem tapsHi : (at_ m c t).v l = fun r => (inputs m c).w r (Inputs.hi j) := by
  funext r; exact read4 m c t l j hj r

include hn hj in
theorem gate : (at_ m c t).gate l = (inputs m c).gate n j := by
  unfold Lanes.gate Inputs.gate
  rw [padLo m c t n l j hn hj, padHi m c t n l j hn hj, tapsLo m c t l j hj, tapsHi m c t l j hj]
  congr 1
  · exact read5 m c t l j hj
  · exact read6 m c t l j hj
  · funext s; simp only [at_, lanes, Inputs.grad, read2 m c t n l j hn hj]
include hn hj in
theorem value : (at_ m c t).val l = (inputs m c).val n j := by
  unfold Lanes.val Inputs.val
  rw [padLo m c t n l j hn hj, tapsLo m c t l j hj]
  congr 1
  · exact read5 m c t l j hj
  · funext s; simp only [at_, lanes, Inputs.grad, read2 m c t n l j hn hj]

theorem out7 : (dats m 0 c).arrAt 7 cfg0.N = fun i => (inputs m c).dx (i 1) (i 0) (i 2) (i 3) := by
  refine (dats m 0 c).arrAt_eq_of_covers 7 _ (by decide +kernel) fun t hf y => ?_
  blk_simp
  rw [after7]
  have e0 : ((((cfg0.win 7).blk t).view.emb y) 0).val = (y 0).val := by blk_simp [idx t]
  have e1 : ((((cfg0.win 7).blk t).view.emb y) 1).val = (grid0.coords t 0).val := by blk_simp [idx t]
  have e2 : ((((cfg0.win 7).blk t).view.emb y) 2).val = (y 2).val := by blk_simp [idx t]
  have e3 : ((((cfg0.win 7).blk t).view.emb y) 3).val = (grid0.coords t 1).val * 256 + (y 3).val := by blk_simp [idx t]
  unfold Lanes.input Inputs.dx
  rw [gate m c t _ _ _ e1 e3, value m c t _ _ _ e1 e3, tapsLo m c t _ _ e3, tapsHi m c t _ _ e3, e0, e2]

theorem out8 : (dats m 0 c).arrAt 8 cfg0.N = fun i => (inputs m c).dTapLo (i 0) (i 1) (i 2) := by
  refine (dats m 0 c).arrAt_eq_of_covers 8 _ (by decide +kernel) fun t hf y => ?_
  blk_simp
  rw [after8]
  have e0 : ((((cfg0.win 8).blk t).view.emb y) 0).val = (grid0.coords t 0).val := by blk_simp [idx t]
  have e1 : ((((cfg0.win 8).blk t).view.emb y) 1).val = (y 1).val := by blk_simp [idx t]
  have e2 : ((((cfg0.win 8).blk t).view.emb y) 2).val = (grid0.coords t 1).val * 256 + (y 2).val := by blk_simp [idx t]
  unfold Lanes.gateTapBlock Inputs.dTapLo
  rw [gate m c t _ _ _ e0 e2, padLo m c t _ _ _ e0 e2, e1]

theorem out9 : (dats m 0 c).arrAt 9 cfg0.N = fun i => (inputs m c).dTapHi (i 0) (i 1) (i 2) := by
  refine (dats m 0 c).arrAt_eq_of_covers 9 _ (by decide +kernel) fun t hf y => ?_
  blk_simp
  rw [after9]
  have e0 : ((((cfg0.win 9).blk t).view.emb y) 0).val = (grid0.coords t 0).val := by blk_simp [idx t]
  have e1 : ((((cfg0.win 9).blk t).view.emb y) 1).val = (y 1).val := by blk_simp [idx t]
  have e2 : ((((cfg0.win 9).blk t).view.emb y) 2).val = (grid0.coords t 1).val * 256 + (y 2).val := by blk_simp [idx t]
  unfold Lanes.valTapBlock Inputs.dTapHi
  rw [value m c t _ _ _ e0 e2, padHi m c t _ _ _ e0 e2, e1]

theorem out10 : (dats m 0 c).arrAt 10 cfg0.N = fun i => (inputs m c).dBiasLo (i 0) (i 2) := by
  refine (dats m 0 c).arrAt_eq_of_covers 10 _ (by decide +kernel) fun t hf y => ?_
  blk_simp
  rw [after10]
  have e0 : ((((cfg0.win 10).blk t).view.emb y) 0).val = (grid0.coords t 0).val := by blk_simp [idx t]
  have e2 : ((((cfg0.win 10).blk t).view.emb y) 2).val = (grid0.coords t 1).val * 256 + (y 2).val := by blk_simp [idx t]
  unfold Lanes.gateBiasBlock Inputs.dBiasLo
  rw [gate m c t _ _ _ e0 e2]

theorem out11 : (dats m 0 c).arrAt 11 cfg0.N = fun i => (inputs m c).dBiasHi (i 0) (i 2) := by
  refine (dats m 0 c).arrAt_eq_of_covers 11 _ (by decide +kernel) fun t hf y => ?_
  blk_simp
  rw [after11]
  have e0 : ((((cfg0.win 11).blk t).view.emb y) 0).val = (grid0.coords t 0).val := by blk_simp [idx t]
  have e2 : ((((cfg0.win 11).blk t).view.emb y) 2).val = (grid0.coords t 1).val * 256 + (y 2).val := by blk_simp [idx t]
  unfold Lanes.valBiasBlock Inputs.dBiasHi
  rw [value m c t _ _ _ e0 e2]

end Cert.KernelIdeal.Result
end
-- ==== Proof.Ref.lean ====
/- The reference's terms at an index. -/
module

public import proofs.«01_k».proof.Proof.Gen.ReferenceIdeal.Run
public import proofs.«01_k».proof.Proof.Spec
public import Idealize.ShloMosaic.Lib.Pointwise
public import Idealize.ShloMosaic.Lib.Pipeline.ValueKit
public import Idealize.ShloMosaic.Lib.Tactic.CleanTypes

@[expose] public section

set_option maxRecDepth 16384

noncomputable section

namespace Cert.ReferenceIdeal.Ref

open Idealize.ShloMosaic Idealize.ShloMosaic.TcCoe Idealize.ShloMosaic.Tactic Idealize.ShloMosaic.StableHlo
open Cert.ReferenceIdeal Cert.ReferenceIdeal.Gen Cert.ReferenceIdeal.Value Cert.Spec

variable (V0 : Valuation τ sig (Elt Ideal))

/-- The arguments of a valuation. -/
def inputs : Inputs where
  x n t k := V0 (Proc.devRef .tc main_arg0) (ix3 n t k)
  a n t j := V0 (Proc.devRef .tc main_arg1) (ix3 n t j)
  w r k := V0 (Proc.devRef .tc main_arg2) (ix2 r k)
  b k := V0 (Proc.devRef .tc main_arg3) (ix1 k)

variable (n : Fin 2) (k : Fin 11264) (j : Fin 5632)

theorem v2 (t : Fin 2050) : res_main_v2 V0 (ix3 n t k) = (inputs V0).pad n k (t.val + 6) := by
  unfold res_main_v2 Inputs.pad inputs
  clean_types
  pointwise
  have := t.isLt
  split <;> split <;> first | rfl | (exfalso; omega) | skip

theorem v6 (t : Fin 2048) : res_main_v6 V0 (ix3 n t k) = (inputs V0).pad n k (t.val + 6) := by
  unfold res_main_v6
  clean_types
  pointwise
  exact v2 V0 n k _
theorem v15 (t : Fin 2048) : res_main_v15 V0 (ix3 n t k) = (inputs V0).pad n k (t.val + 7) := by
  unfold res_main_v15
  clean_types
  pointwise
  refine (v2 V0 n k _).trans ?_
  congr 1; simp; try omega
theorem v23 (t : Fin 2048) : res_main_v23 V0 (ix3 n t k) = (inputs V0).pad n k (t.val + 8) := by
  unfold res_main_v23
  clean_types
  pointwise
  refine (v2 V0 n k _).trans ?_
  congr 1; simp; try omega

theorem v7 : res_main_v7 V0 (ix2 0 k) = (inputs V0).w 0 k := by
  unfold res_main_v7; clean_types; pointwise; rfl
theorem v16 : res_main_v16 V0 (ix2 0 k) = (inputs V0).w 1 k := by
  unfold res_main_v16; clean_types; pointwise; rfl
theorem v24 : res_main_v24 V0 (ix2 0 k) = (inputs V0).w 2 k := by
  unfold res_main_v24; clean_types; pointwise; rfl

/-- The convolution's output of a channel. -/
def conv (I : Inputs) (t : ℕ) : EReal := pre (I.pad n k) (fun r => I.w r k) (I.b k) t

theorem v32 (t : Fin 2048) : res_main_v32 V0 (ix3 n t k) = conv n k (inputs V0) t.val := by
  unfold res_main_v32
  clean_types
  pointwise
  rw [v7, v16, v24, v6, v15, v23]
  unfold conv pre
  rw [mul_comm ((inputs V0).w 0 k), mul_comm ((inputs V0).w 1 k), mul_comm ((inputs V0).w 2 k)]
  congr 1
  rw [add_comm, ← add_assoc, add_right_comm]

theorem v33 (t : Fin 2048) : res_main_v33 V0 (ix3 n t j) = conv n (Inputs.lo j) (inputs V0) t.val := by
  unfold res_main_v33
  clean_types
  pointwise
  exact v32 V0 n _ t
theorem v34 (t : Fin 2048) : res_main_v34 V0 (ix3 n t j) = conv n (Inputs.hi j) (inputs V0) t.val := by
  unfold res_main_v34
  clean_types
  pointwise
  refine (v32 V0 n _ t).trans ?_
  congr 1

theorem v35_2 (t : Fin 2048) :
    res_main_v35_2 V0 (ix3 n t j) = Ideal.logistic (conv n (Inputs.lo j) (inputs V0) t.val) := by
  unfold res_main_v35_2
  clean_types
  pointwise
  rw [v33]
  rfl

/-- The gradient at a gate channel's convolution as the reference evaluates it. -/
def gateRef (I : Inputs) (t : ℕ) : EReal :=
  I.grad n j t * conv n (Inputs.hi j) I t * Ideal.logistic (conv n (Inputs.lo j) I t)
    + conv n (Inputs.lo j) I t * (I.grad n j t * conv n (Inputs.hi j) I t)
      * (Ideal.logistic (conv n (Inputs.lo j) I t) * (1 - Ideal.logistic (conv n (Inputs.lo j) I t)))

theorem v38 (t : Fin 2048) :
    res_main_v38 V0 (ix3 n t j) = (inputs V0).grad n j t.val * conv n (Inputs.hi j) (inputs V0) t.val := by
  unfold res_main_v38
  clean_types
  pointwise
  rw [v34]
  congr 1
  unfold Inputs.grad inputs
  rw [dif_pos t.isLt]

theorem v35_0 (t : Fin 2048) : res_main_v35_0 V0 (ix3 n t j)
    = conv n (Inputs.lo j) (inputs V0) t.val * Ideal.logistic (conv n (Inputs.lo j) (inputs V0) t.val) := by
  unfold res_main_v35_0
  clean_types
  pointwise
  rw [v35_2, v33]

theorem v40_lo (t : Fin 2048) : res_main_v40 V0 (ix3 n t (Inputs.lo j)) = gateRef n j (inputs V0) t.val := by
  unfold res_main_v40
  clean_types
  pointwise
  refine (dif_pos (show (Inputs.lo j).val < 5632 from j.isLt)).trans ?_
  have e : (⟨(Inputs.lo j).val, j.isLt⟩ : Fin 5632) = j := rfl
  rw [e, v38, v35_2, v33]
  rfl

theorem v40_hi (t : Fin 2048) : res_main_v40 V0 (ix3 n t (Inputs.hi j)) = (inputs V0).val n j t.val := by
  unfold res_main_v40
  clean_types
  pointwise
  refine (dif_neg (show ¬ (Inputs.hi j).val < 5632 from by simp [Inputs.hi])).trans ?_
  have e : ∀ h, (⟨(Inputs.hi j).val - 5632, h⟩ : Fin 5632) = j := fun h => Fin.ext (by simp [Inputs.hi])
  rw [e, v35_0]
  unfold Inputs.val dVal
  rw [mul_comm]
  congr 1
  unfold Inputs.grad inputs
  rw [dif_pos t.isLt]

theorem v79 (t : Fin 2048) (f : ℕ → EReal) (hf : ∀ t : Fin 2048, res_main_v40 V0 (ix3 n t k) = f t.val) :
    res_main_v79 V0 (ix3 n t k) = dIn f (fun r => (inputs V0).w r k) t.val := by
  unfold res_main_v79 res_main_v74
  clean_types
  pointwise
  simp only [hf]
  rw [v24, v16, v7]
  unfold dIn cut
  have := t.isLt
  rw [if_pos t.isLt, mul_comm (f t.val)]
  congr 1
  · congr 1
    by_cases h : t.val + 1 < 2048
    · rw [if_pos h, dif_pos (by omega), mul_comm]
      congr 2; omega
    · rw [if_neg h, dif_neg (by omega), zero_mul]
  · by_cases h : t.val + 2 < 2048
    · rw [if_pos h, dif_pos (by omega), mul_comm]
      congr 2; omega
    · rw [if_neg h, dif_neg (by omega), zero_mul]
theorem v80 (r : Fin 8) (f : ℕ → EReal) (hf : ∀ t : Fin 2048, res_main_v40 V0 (ix3 n t k) = f t.val) :
    res_main_v80 V0 (ix3 n r k) = dTap f ((inputs V0).pad n k) 2048 r.val := by
  unfold res_main_v80
  clean_types
  pointwise
  simp only [hf, v6, v15, v23, Finset.univ_unique, Finset.sum_singleton]
  unfold dTap
  rw [Finset.sum_range (fun t => f t * (inputs V0).pad n k (t + 6 + r.val))]
  fin_vals r with hr
  all_goals first
    | simp [hr]; done
    | simp [hr, add_assoc]; done
    | (rw [dif_neg (by omega), if_neg (by omega)]; exact (show FloatOps.sitofp (F := Ideal) FTy.f32 (0#32) = (((0#32 : BitVec 32).toInt : ℝ) : EReal) from rfl).trans (by simp))
theorem v81 (f : ℕ → EReal) (hf : ∀ t : Fin 2048, res_main_v40 V0 (ix3 n t k) = f t.val) :
    res_main_v81 V0 (ix3 n 0 k) = dBias f 2048 := by
  unfold res_main_v81
  clean_types
  pointwise
  simp only [hf, Finset.univ_unique, Finset.sum_singleton]
  unfold dBias
  rw [Finset.sum_range]

/-- The kernel's and the reference's gate gradients agree. -/
def GateAgrees (I : Inputs) : Prop := ∀ (n : Fin 2) (j : Fin 5632) (t : Fin 2048), gateRef n j I t.val = I.gate n j t.val

variable (hg : GateAgrees (inputs V0))

include hg in
theorem v40_lo' (t : Fin 2048) : res_main_v40 V0 (ix3 n t (Inputs.lo j)) = (inputs V0).gate n j t.val :=
  (v40_lo V0 n j t).trans (hg n j t)

include hg in
theorem dx_eq : (truncf .bf16 (concatenate S2x2x2048x5632 0 [⟨S1x2x2048x5632, (broadcastInDim S1x2x2048x5632 ![1, 2, 3] bcast_S2x2048x5632_S1x2x2048x5632_1_2_3 (extractStridedSlice S2x2048x5632 ![0, 0, 0] (res_main_v79 V0) slices_S2x2048x11264_S2x2048x5632_0_0_0))⟩, ⟨S1x2x2048x5632, (broadcastInDim S1x2x2048x5632 ![1, 2, 3] bcast_S2x2048x5632_S1x2x2048x5632_1_2_3 (extractStridedSlice S2x2048x5632 ![0, 0, 5632] (res_main_v79 V0) slices_S2x2048x11264_S2x2048x5632_0_0_5632))⟩] concatenates_S1x2x2048x5632_S1x2x2048x5632_S2x2x2048x5632_d0) bitsLt_bf16_f32 : FVec Ideal S2x2x2048x5632 .bf16)
    = fun i => (inputs V0).dx (i 1) (i 0) (i 2) (i 3) := by
  funext i
  obtain ⟨h, n, t, j, rfl⟩ : ∃ h n t j, i = ix4 h n t j := ⟨i 0, i 1, i 2, i 3, by ext a; fin_cases a <;> rfl⟩
  clean_types
  pointwise
  unfold Inputs.dx
  by_cases hh : h.val < 1
  · rw [if_pos (by omega)]
    refine (dif_pos hh).trans ?_
    exact v79 V0 n (Inputs.lo j) t _ (v40_lo' V0 n j hg)
  · rw [if_neg (by omega)]
    refine (dif_neg hh).trans ?_
    exact v79 V0 n (Inputs.hi j) t _ (v40_hi V0 n j)

include hg in
theorem dTapLo_eq : (extractStridedSlice S2x8x5632 ![0, 0, 0] (res_main_v80 V0) slices_S2x8x11264_S2x8x5632_0_0_0 : FVec Ideal S2x8x5632 .f32)
    = fun i => (inputs V0).dTapLo (i 0) (i 1) (i 2) := by
  funext i
  obtain ⟨n, r, j, rfl⟩ : ∃ n r j, i = ix3 n r j := ⟨i 0, i 1, i 2, by ext a; fin_cases a <;> rfl⟩
  clean_types
  pointwise
  exact v80 V0 n (Inputs.lo j) r _ (v40_lo' V0 n j hg)

theorem dTapHi_eq : (extractStridedSlice S2x8x5632 ![0, 0, 5632] (res_main_v80 V0) slices_S2x8x11264_S2x8x5632_0_0_5632 : FVec Ideal S2x8x5632 .f32)
    = fun i => (inputs V0).dTapHi (i 0) (i 1) (i 2) := by
  funext i
  obtain ⟨n, r, j, rfl⟩ : ∃ n r j, i = ix3 n r j := ⟨i 0, i 1, i 2, by ext a; fin_cases a <;> rfl⟩
  clean_types
  pointwise
  exact v80 V0 n (Inputs.hi j) r _ (v40_hi V0 n j)

include hg in
theorem dBiasLo_eq : (extractStridedSlice S2x1x5632 ![0, 0, 0] (res_main_v81 V0) slices_S2x1x11264_S2x1x5632_0_0_0 : FVec Ideal S2x1x5632 .f32)
    = fun i => (inputs V0).dBiasLo (i 0) (i 2) := by
  funext i
  obtain ⟨n, j, rfl⟩ : ∃ n j, i = ix3 n 0 j := ⟨i 0, i 2, by ext a; fin_cases a <;> first | rfl | exact Nat.lt_one_iff.1 (i 1).isLt⟩
  clean_types
  pointwise
  exact v81 V0 n (Inputs.lo j) _ (v40_lo' V0 n j hg)

theorem dBiasHi_eq : (extractStridedSlice S2x1x5632 ![0, 0, 5632] (res_main_v81 V0) slices_S2x1x11264_S2x1x5632_0_0_5632 : FVec Ideal S2x1x5632 .f32)
    = fun i => (inputs V0).dBiasHi (i 0) (i 2) := by
  funext i
  obtain ⟨n, j, rfl⟩ : ∃ n j, i = ix3 n 0 j := ⟨i 0, i 2, by ext a; fin_cases a <;> first | rfl | exact Nat.lt_one_iff.1 (i 1).isLt⟩
  clean_types
  pointwise
  exact v81 V0 n (Inputs.hi j) _ (v40_hi V0 n j)

end Cert.ReferenceIdeal.Ref
end
-- ==== Proof.Finite.lean ====
/- The precondition: every entry of the arguments is a real number, so the two forms of the gate's gradient agree. -/
module

public import proofs.«01_k».proof.Proof.Ref
public import proofs.«01_k».proof.Proof.Gen.Pre_finite
public import Idealize.ShloMosaic.Lib.ReduceAll

@[expose] public section

set_option maxRecDepth 16384

noncomputable section

namespace Cert.Finite

open Idealize.ShloMosaic Idealize.ShloMosaic.Tactic
open Cert.Spec Cert.ReferenceIdeal.Ref

/-- A value is a real number. -/
def IsReal (x : EReal) : Prop := ∃ r : ℝ, x = r

theorem IsReal.add {x y : EReal} : IsReal x → IsReal y → IsReal (x + y) := by
  rintro ⟨r, rfl⟩ ⟨s, rfl⟩; exact ⟨r + s, by norm_cast⟩
theorem IsReal.mul {x y : EReal} : IsReal x → IsReal y → IsReal (x * y) := by
  rintro ⟨r, rfl⟩ ⟨s, rfl⟩; exact ⟨r * s, by norm_cast⟩
theorem IsReal.zero : IsReal 0 := ⟨0, by norm_cast⟩
theorem IsReal.logistic {x : EReal} : IsReal x → IsReal (Ideal.logistic x) := by
  rintro ⟨r, rfl⟩; exact ⟨_, Ideal.logistic_coe r⟩

/-- Every entry of the arguments is a real number. -/
structure Real (I : Inputs) : Prop where
  x : ∀ n t k, IsReal (I.x n t k)
  a : ∀ n t j, IsReal (I.a n t j)
  w : ∀ r k, IsReal (I.w r k)
  b : ∀ k, IsReal (I.b k)

theorem Real.pad {I : Inputs} (h : Real I) (n : Fin 2) (k : Fin 11264) (t : ℕ) : IsReal (I.pad n k t) := by
  unfold Inputs.pad; split
  · exact h.x _ _ _
  · exact IsReal.zero

theorem Real.conv {I : Inputs} (h : Real I) (n : Fin 2) (k : Fin 11264) (t : ℕ) : IsReal (conv n k I t) :=
  ((((h.pad n k _).mul (h.w _ _)).add ((h.pad n k _).mul (h.w _ _))).add ((h.pad n k _).mul (h.w _ _))).add (h.b _)

theorem Real.grad {I : Inputs} (h : Real I) (n : Fin 2) (j : Fin 5632) (t : ℕ) : IsReal (I.grad n j t) := by
  unfold Inputs.grad; split
  · exact h.a _ _ _
  · exact IsReal.zero

/-- Over real entries the two forms of the gate's gradient agree. -/
theorem agrees {I : Inputs} (h : Real I) : GateAgrees I := fun n j t => by
  have hz := h.conv n (Inputs.lo j) t.val
  obtain ⟨a, ha⟩ := h.grad n j t.val
  obtain ⟨u, hu⟩ := h.conv n (Inputs.hi j) t.val
  obtain ⟨s, hs⟩ := hz.logistic
  obtain ⟨z, hz⟩ := hz
  show _ = I.grad n j t.val * Cert.ReferenceIdeal.Ref.conv n (Inputs.hi j) I t.val * dsilu (Cert.ReferenceIdeal.Ref.conv n (Inputs.lo j) I t.val)
  unfold gateRef dsilu
  rw [hs, ha, hu, hz]
  norm_cast
  ring

/-- One entry below infinity in magnitude is a real number. -/
theorem of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have h : max x (-x) < ⊤ := (Ideal.cmp_olt_eq_one _ _).1 h
  induction x using EReal.rec with
  | bot => simp at h
  | top => simp at h
  | coe r => exact ⟨r, rfl⟩

open Cert.Pre_finite in
/-- The precondition holds of arrays all of whose entries are real. -/
theorem of_pre (x0 : FVec Ideal S2x2048x11264 .f32) (x1 : FVec Ideal S2x2048x5632 .f32) (x2 : FVec Ideal S3x11264 .f32)
    (x3 : FVec Ideal S11264 .f32) (h : Cert.Pre_finite.fn (F := Ideal) x0 x1 x2 x3 = fun _ => 1#1) :
    (∀ i, IsReal (x0 i)) ∧ (∀ i, IsReal (x1 i)) ∧ (∀ i, IsReal (x2 i)) ∧ ∀ i, IsReal (x3 i) := by
  have h := congrFun h ix0
  dsimp only [Cert.Pre_finite.fn, Cert.Pre_finite.fn_part1] at h
  obtain ⟨h, h3⟩ := IntOp.andi_eq_one.1 h
  obtain ⟨h, h2⟩ := IntOp.andi_eq_one.1 h
  obtain ⟨h0, h1⟩ := IntOp.andi_eq_one.1 h
  exact ⟨fun i => of_lt _ (Host.reduce_andi_all _ _ _ _ _ h0 i), fun i => of_lt _ (Host.reduce_andi_all _ _ _ _ _ h1 i),
    fun i => of_lt _ (Host.reduce_andi_all _ _ _ _ _ h2 i), fun i => of_lt _ (Host.reduce_andi_all _ _ _ _ _ h3 i)⟩

end Cert.Finite
end
-- ==== Proof.Frame.lean ====
/- The program's frame, over any float values: it ends, with its arguments unchanged, whatever the outputs hold. -/
module

public import proofs.«01_k».proof.Proof.Gen.KernelIdeal.Frame.Runs
public import Idealize.ShloMosaic.Lib.Claim
public import Idealize.ShloMosaic.Lib.Pipeline.Value

@[expose] public section

set_option maxRecDepth 16384

noncomputable section

namespace Cert.KernelIdeal.Any

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body at a grid point: the seven inputs' buffers are kept, the outputs and the scratch buffers left at some contents. -/
theorem run (c : Dev nD) (i : grid0.Coords)
  (arg2 : Memref sig .tc .vmem S1x2048x256 .f32) (harg2 : arg2.IsWhole)
  (arg3 : Memref sig .tc .vmem S1x2048x256 .f32) (harg3 : arg3.IsWhole)
  (arg4 : Memref sig .tc .vmem S1x2048x256 .f32) (harg4 : arg4.IsWhole)
  (arg5 : Memref sig .tc .vmem S3x256 .f32) (harg5 : arg5.IsWhole)
  (arg6 : Memref sig .tc .vmem S3x256 .f32) (harg6 : arg6.IsWhole)
  (arg7 : Memref sig .tc .vmem S1x256 .f32) (harg7 : arg7.IsWhole)
  (arg8 : Memref sig .tc .vmem S1x256 .f32) (harg8 : arg8.IsWhole)
  (arg9 : Memref sig .tc .vmem S2x1x2048x256 .bf16) (harg9 : arg9.IsWhole)
  (arg10 : Memref sig .tc .vmem S1x8x256 .f32) (harg10 : arg10.IsWhole)
  (arg11 : Memref sig .tc .vmem S1x8x256 .f32) (harg11 : arg11.IsWhole)
  (arg12 : Memref sig .tc .vmem S1x1x256 .f32) (harg12 : arg12.IsWhole)
  (arg13 : Memref sig .tc .vmem S1x1x256 .f32) (harg13 : arg13.IsWhole)
  (arg14 : Memref sig .tc .vmem S2056x256 .f32) (harg14 : arg14.IsWhole)
  (arg15 : Memref sig .tc .vmem S2056x256 .f32) (harg15 : arg15.IsWhole)
  (arg16 : Memref sig .tc .vmem S2056x256 .f32) (harg16 : arg16.IsWhole)
  (arg17 : Memref sig .tc .vmem S2056x256 .f32) (harg17 : arg17.IsWhole)
    (x0 x1 x2 : Vec F S1x2048x256 .f32) (x3 x4 : Vec F S3x256 .f32) (x5 x6 : Vec F S1x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_ffn_mid_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_mid_bwd_eq_skeleton]; unfold cc0_ffn_mid_bwd_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%e0, %g0, -, HS0⟩, ⟨%e1, %g1, -, HS1⟩, ⟨%e2, %g2, -, HS2⟩, ⟨%e3, %g3, -, HS3⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

variable (m : (ℓ : Loc nD τ sig) → Buf (Elt F) ℓ) (ρ : Dev nD → PrngReg)

/-- The launch's data: every input's buffer keeps its block; what the outputs hold is not said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed _ t
    | ⟨8, _⟩ => Dat.unnamed _ t
    | ⟨9, _⟩ => Dat.unnamed _ t
    | ⟨10, _⟩ => Dat.unnamed _ t
    | ⟨11, _⟩ => Dat.unnamed _ t
  Φ _ := Pipeline.ΦA spec0 c
  q w := Pipeline.shareOf spec0 w
  owed _ := 0

/-- The output windows. -/
def outs : Fin cfg0.W → Bool := fun w => decide (7 ≤ w.val)

theorem A_eq (c : Dev nD) (w : Fin cfg0.W) : (dats m 0 c).A w = V m c (Pipeline.arrRef spec0 w) := by
  dsimp only [dats]

/-- What the body is called with at point `t`. -/
def pre_ (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- What it returns. -/
def post_ (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- The body at any point of the grid: the point's run at its blocks. -/
theorem body (c : Dev nD) (t : Fin cfg0.N) :
    pre_ m c t ⊢ wp frame (wpE (defs₀ (F := F)) Variants.none c none) Set.univ (bodyAt0 t) (fun _ => post_ m c t) := by
  unfold pre_ post_ bodyAt0
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t,
    before0_6_of m (dats m 0 c) (A_eq m c 6) (fun _ => rfl) t]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11⟩
  iapply (run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The body's obligation in the launch, at every point, the outputs at anything. -/
theorem obligation (c : Dev nD) :
    BodyObligation (dats m 0 c) (defs₀ (F := F)) Variants.none () Set.univ outs := fun t => by
  rw [bigSep_W0, bigSep_W0, defs₀_row]
  exact triple_restated (body m c t) rfl .rfl fun _ => .rfl

set_option backward.isDefEq.respectTransparency.types false in
/-- The launch: it ends, every input array as it was, every semaphore at zero. -/
theorem launch : θ_run defs (onTc (τ := τ) (main (F := F))) (s₀ m ρ)
    (fun r => Pipeline.RDat.FramePost cfg0 (fun c => (dats m 0 c).toRForget outs) (V m) r ∧ r.2.sem = fun _ => 0) :=
  Pipeline.θ_run_frame_forget_shared (Q' := _) cfgs (dats m) (0 : Fin 1) launch₀0 defs₀ Variants.none outs m ρ main
    (hbody := fun c => (obligation m c).loose) (hq := fun _ _ _ => rfl)
    (howed := fun _ _ => rfl) (V := V m) (hmain := hmain m Variants.none) (hA := A_eq m) (hΦ := fun _ _ => rfl)

/-- The program ends, its arguments unchanged, every semaphore at zero: over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePost.arr_in h.1 c 1 rfl).trans ((A_eq m c 1).trans (V_main_arg0 m c)),
      (Pipeline.RDat.FramePost.arr_in h.1 c 2 rfl).trans ((A_eq m c 2).trans (V_main_arg1 m c)),
      (Pipeline.RDat.FramePost.arr_in h.1 c 4 rfl).trans ((A_eq m c 4).trans (V_main_arg2 m c)),
      ((h.1 c).2 main_arg3 (Pipeline.mem_restRefs_of main_arg3 (by decide) (by decide))).trans (V_main_arg3 m c)⟩, h.2⟩)
    (launch m ρ)

end Cert.KernelIdeal.Any

end
-- ==== Proof.Same.lean ====
module
public import proofs.«01_k».proof.Defs
public import proofs.«01_k».proof.Proof.Gen.Kernel
public import proofs.«01_k».proof.Proof.Gen.KernelIdeal

/-! # The two printed programs are one text

No rule was applied, so the program as printed and the program read ideally have the same text over
any instance: their body tables and their `main` are equal at the bits. -/

@[expose] public section
set_option maxRecDepth 16384
set_option maxHeartbeats 2000000

namespace Cert.Same

open Idealize.ShloMosaic

theorem part1 : @Kernel.k0_part1 Bits _ _ = @KernelIdeal.k0_part1 Bits _ _ := rfl
theorem part2 : @Kernel.k0_part2 Bits _ _ = @KernelIdeal.k0_part2 Bits _ _ := rfl
theorem part3 : @Kernel.k0_part3 Bits _ _ = @KernelIdeal.k0_part3 Bits _ _ := rfl
theorem part4 : @Kernel.k0_part4 Bits _ _ = @KernelIdeal.k0_part4 Bits _ _ := rfl

/-- The kernel's body. -/
theorem body : @Kernel.cc0_ffn_mid_bwd Bits _ _ = @KernelIdeal.cc0_ffn_mid_bwd Bits _ _ := rfl

/-- The one label of the body table runs it. -/
theorem defs₀ : Kernel.defs₀ (F := Bits) = KernelIdeal.defs₀ (F := Bits) := by
  refine congrArg Defs.onTc (funext fun l => ?_)
  match l with
  | 0 => exact funext fun ⟨_, _⟩ => rfl

theorem defs : Kernel.defs (F := Bits) = KernelIdeal.defs (F := Bits) :=
  congrArg (Pipeline.defs (Kernel.pcfgs (F := Bits))) defs₀

theorem main : Kernel.main (F := Bits) = KernelIdeal.main (F := Bits) := rfl

end Cert.Same
-- ==== Proof.Sums.lean ====
/- Facts that the matrix products share: sums over columns in equal parts, and the starts of whole blocks. -/
module

public import Idealize.ShloMosaic.Lib.Pipeline.ValueKit

@[expose] public section

namespace Cert.Product

theorem hz : (![0, 0] : Fin 2 → Nat) = fun _ => 0 := funext fun a => by fin_cases a <;> rfl
theorem hz3 : (![0, 0, 0] : Fin 3 → Nat) = fun _ => 0 := funext fun a => by fin_cases a <;> rfl

/-- A sum over `a * n` columns is the sum of `a` sums over `n` columns. -/
theorem parts (a n : ℕ) (f : Fin (a * n) → EReal) :
    ∑ k, f k = ∑ s : Fin a, ∑ k : Fin n, f ⟨n * s.val + k.val, by
      have h := Nat.mul_le_mul_left n (Nat.succ_le_of_lt s.isLt)
      rw [Nat.mul_comm a n]
      have := k.isLt
      rw [Nat.mul_succ] at h
      omega⟩ := by
  rw [← (finProdFinEquiv (m := a) (n := n)).sum_comp f, Fintype.sum_prod_type]
  exact Finset.sum_congr rfl fun s _ => Finset.sum_congr rfl fun k _ => congrArg f (Fin.ext (by simp [finProdFinEquiv]; omega))

end Cert.Product
-- ==== Proof.DownDx.lean ====
/- The gradient at the input of the down-projection: every entry is the sum over the model's width. -/
module

public import proofs.«01_k».proof.Proof.Gen.DownDxIdeal.Value
public import proofs.«01_k».proof.Proof.Gen.DownDxReferenceIdeal.Run
public import proofs.«01_k».proof.Proof.Sums

@[expose] public section

set_option maxRecDepth 16384

noncomputable section

open Idealize.ShloMosaic Idealize.ShloMosaic.TcCoe Idealize.ShloMosaic.Tactic Cert.Product

namespace Cert.DownDxIdeal.Product

open Cert.DownDxIdeal Cert.DownDxIdeal.Gen

/-- Entry (r, j) of the product of `a` with the transpose of `w`. -/
def spec (a : FVec Ideal S4096x2048 .bf16) (w : FVec Ideal S5632x2048 .bf16) (r : Fin 4096) (j : Fin 5632) : EReal :=
  ∑ k : Fin 2048, a (ix2 r k) * w (ix2 j k)

/-- Which block of its array each window stages at a point. -/
theorem idx : ∀ t : Fin grid0.N,
    win0_0.index t = ![(grid0.coords t 0).val, 0]
    ∧ win0_1.index t = ![(grid0.coords t 1).val, 0]
    ∧ win0_2.index t = ![(grid0.coords t 0).val, (grid0.coords t 1).val] := by decide +kernel

/-- What a point writes: the product of the two staged blocks. -/
theorem out (x : Vec Ideal S1024x2048 .bf16) (y : Vec Ideal S512x2048 .bf16) (i : S1024x512.Idx) :
    out0_2 x y i = ∑ k : Fin 2048, x (ix2 (i 0) k) * y (ix2 (i 1) k) := by
  unfold out0_2
  rw [View.canon_unit_zero hz]
  simp only [View.ld_unit_zero (S := S1024x2048) hz, View.ld_unit_zero (S := S512x2048) hz]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1
  · blk_ext [iblk, V, idx t]
  · blk_ext [iblk, V, idx t]

end Cert.DownDxIdeal.Product

namespace Cert.DownDxReferenceIdeal.Product

open Cert.DownDxReferenceIdeal Cert.DownDxReferenceIdeal.Gen

theorem result (a : FVec Ideal S4096x2048 .bf16) (w : FVec Ideal S5632x2048 .bf16) :
    Host.dotGeneral dot_S4096x2048_S5632x2048_S4096x5632_1_1_0_0_n_n none (extf .f32 a bitsLt_bf16_f32) (extf .f32 w bitsLt_bf16_f32)
      = fun i => DownDxIdeal.Product.spec a w (i 0) (i 1) := by
  funext i
  unfold DownDxIdeal.Product.spec
  pointwise

end Cert.DownDxReferenceIdeal.Product
-- ==== Proof.DownDw.lean ====
/- The gradient of the down-projection's weights: every entry is the sum over the rows. -/
module

public import proofs.«01_k».proof.Proof.Gen.DownDwIdeal.Value
public import proofs.«01_k».proof.Proof.Gen.DownDwReferenceIdeal.Run
public import proofs.«01_k».proof.Proof.Sums

@[expose] public section

set_option maxRecDepth 16384

noncomputable section

open Idealize.ShloMosaic Idealize.ShloMosaic.TcCoe Idealize.ShloMosaic.Tactic Cert.Product

namespace Cert.DownDwIdeal.Product

open Cert.DownDwIdeal Cert.DownDwIdeal.Gen

/-- Entry (r, j) of the product of the transpose of `a` with `g`. -/
def spec (a : FVec Ideal S4096x5632 .bf16) (g : FVec Ideal S4096x2048 .bf16) (r : Fin 5632) (j : Fin 2048) : EReal :=
  ∑ k : Fin 4096, a (ix2 k r) * g (ix2 k j)

/-- Which block of its array each window stages at a point. -/
theorem idx : ∀ t : Fin grid0.N,
    win0_0.index t = ![0, (grid0.coords t 0).val]
    ∧ win0_1.index t = ![0, (grid0.coords t 1).val]
    ∧ win0_2.index t = ![(grid0.coords t 0).val, (grid0.coords t 1).val] := by decide +kernel

/-- What a point writes: the product of the two staged blocks. -/
theorem out (x : Vec Ideal S4096x512 .bf16) (y : Vec Ideal S4096x1024 .bf16) (i : S512x1024.Idx) :
    out0_2 x y i = ∑ k : Fin 4096, x (ix2 k (i 0)) * y (ix2 k (i 1)) := by
  unfold out0_2
  rw [View.canon_unit_zero hz]
  simp only [View.ld_unit_zero (S := S4096x512) hz, View.ld_unit_zero (S := S4096x1024) hz]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1
  · blk_ext [iblk, V, idx t]
  · blk_ext [iblk, V, idx t]

end Cert.DownDwIdeal.Product

namespace Cert.DownDwReferenceIdeal.Product

open Cert.DownDwReferenceIdeal Cert.DownDwReferenceIdeal.Gen

theorem result (a : FVec Ideal S4096x5632 .bf16) (g : FVec Ideal S4096x2048 .bf16) :
    (truncf .bf16 (transpose S5632x2048 [1, 0] (Host.dotGeneral dot_S4096x2048_S4096x5632_S2048x5632_0_0_1_1_n_n none (extf .f32 g bitsLt_bf16_f32) (extf .f32 a bitsLt_bf16_f32)) transposes_S2048x5632_S5632x2048_1_0) bitsLt_bf16_f32 : FVec Ideal S5632x2048 .bf16)
      = fun i => DownDwIdeal.Product.spec a g (i 0) (i 1) := by
  funext i
  unfold DownDwIdeal.Product.spec
  pointwise
  exact Finset.sum_congr rfl fun k _ => mul_comm _ _

end Cert.DownDwReferenceIdeal.Product
-- ==== Proof.UpDw.lean ====
/- The gradient of the up-projection's weights: every entry is the sum over the rows. -/
module

public import proofs.«01_k».proof.Proof.Gen.UpDwIdeal.Value
public import proofs.«01_k».proof.Proof.Gen.UpDwReferenceIdeal.Run
public import proofs.«01_k».proof.Proof.Sums

@[expose] public section

set_option maxRecDepth 16384

noncomputable section

open Idealize.ShloMosaic Idealize.ShloMosaic.TcCoe Idealize.ShloMosaic.Tactic Cert.Product

namespace Cert.UpDwIdeal.Product

open Cert.UpDwIdeal Cert.UpDwIdeal.Gen

/-- Column `k` of row `r` of the incoming gradient, whose two halves are stacked. -/
def join (g : FVec Ideal S2x4096x5632 .bf16) (r : Fin 4096) (k : Fin 11264) : EReal :=
  if h : k.val < 5632 then g (ix3 0 r ⟨k.val, h⟩) else g (ix3 1 r ⟨k.val - 5632, by omega⟩)

/-- Entry (r, j) of the product of the transpose of `u` with the gradient. -/
def spec (u : FVec Ideal S4096x2048 .bf16) (g : FVec Ideal S2x4096x5632 .bf16) (r : Fin 2048) (j : Fin 11264) : EReal :=
  ∑ k : Fin 4096, u (ix2 k r) * join g k j

/-- Which block of its array each window stages at a point. -/
theorem idx : ∀ t : Fin grid0.N,
    win0_0.index t = ![0, (grid0.coords t 0).val]
    ∧ win0_1.index t = ![(grid0.coords t 1).val / 11, 0, (grid0.coords t 1).val % 11]
    ∧ win0_2.index t = ![(grid0.coords t 0).val, (grid0.coords t 1).val] := by decide +kernel

/-- What a point writes: the product of the two staged blocks. -/
theorem out (x : Vec Ideal S4096x1024 .bf16) (y : Vec Ideal S1x4096x512 .bf16) (i : S1024x512.Idx) :
    out0_2 x y i = ∑ k : Fin 4096, x (ix2 k (i 0)) * y (ix3 0 k (i 1)) := by
  unfold out0_2
  rw [View.canon_unit_zero hz]
  simp only [View.ld_unit_zero (S := S4096x1024) hz, View.ld_unit_zero (S := S1x4096x512) hz3]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1
  · blk_ext [iblk, V, idx t]
  · have e : ((win0_2.blk t).view.emb y 1).val = (grid0.coords t 1).val * 512 + (y 1).val := by blk_simp [idx t]
    have hy : (y 1).val < 512 := (y 1).isLt
    unfold join
    split
    · have h0 : (grid0.coords t 1).val / 11 = 0 := by omega
      blk_ext [iblk, V, idx t] <;> omega
    · have h1 : (grid0.coords t 1).val / 11 = 1 := by
        have : (grid0.coords t 1).val < 22 := (grid0.coords t 1).isLt
        omega
      blk_ext [iblk, V, idx t] <;> omega

end Cert.UpDwIdeal.Product

namespace Cert.UpDwReferenceIdeal.Product

open Cert.UpDwReferenceIdeal Cert.UpDwReferenceIdeal.Gen

theorem result (u : FVec Ideal S4096x2048 .bf16) (g : FVec Ideal S2x4096x5632 .bf16) :
    (truncf .bf16 (transpose S2048x11264 [1, 0] (Host.dotGeneral dot_S4096x11264_S4096x2048_S11264x2048_0_0_1_1_n_n none (extf .f32 (concatenate S4096x11264 1 [⟨S4096x5632, (shapeCast _ (extractStridedSlice S1x4096x5632 ![0, 0, 0] g slices_S2x4096x5632_S1x4096x5632_0_0_0) shapeCasts_S1x4096x5632_S4096x5632)⟩, ⟨S4096x5632, (shapeCast _ (extractStridedSlice S1x4096x5632 ![1, 0, 0] g slices_S2x4096x5632_S1x4096x5632_1_0_0) shapeCasts_S1x4096x5632_S4096x5632)⟩] concatenates_S4096x5632_S4096x5632_S4096x11264_d1) bitsLt_bf16_f32) (extf .f32 u bitsLt_bf16_f32)) transposes_S11264x2048_S2048x11264_1_0) bitsLt_bf16_f32 : FVec Ideal S2048x11264 .bf16)
      = fun i => UpDwIdeal.Product.spec u g (i 0) (i 1) := by
  funext i
  unfold UpDwIdeal.Product.spec UpDwIdeal.Product.join
  pointwise
  refine Finset.sum_congr rfl fun k _ => ?_
  rw [mul_comm]

end Cert.UpDwReferenceIdeal.Product
-- ==== Proof.UpDx.lean ====
/- The gradient at the input of the up-projection: every entry is the sum over the two halves' columns, which the kernel adds up in four parts. -/
module

public import proofs.«01_k».proof.Proof.Gen.UpDxIdeal.Value
public import proofs.«01_k».proof.Proof.Gen.UpDxReferenceIdeal.Run
public import proofs.«01_k».proof.Proof.Sums

@[expose] public section

set_option maxRecDepth 16384

noncomputable section

open Idealize.ShloMosaic Idealize.ShloMosaic.TcCoe Idealize.ShloMosaic.Tactic Cert.Product

namespace Cert.UpDxIdeal.Product

open Cert.UpDxIdeal Cert.UpDxIdeal.Gen

/-- Column `k` of row `r` of the incoming gradient, whose two halves are stacked. -/
def join (g : FVec Ideal S2x4096x5632 .bf16) (r : Fin 4096) (k : Fin 11264) : EReal :=
  if h : k.val < 5632 then g (ix3 0 r ⟨k.val, h⟩) else g (ix3 1 r ⟨k.val - 5632, by omega⟩)

/-- Entry (r, j) of the product of the gradient with the transpose of `w`. -/
def spec (g : FVec Ideal S2x4096x5632 .bf16) (w : FVec Ideal S2048x11264 .bf16) (r : Fin 4096) (j : Fin 2048) : EReal :=
  ∑ k : Fin 11264, join g r k * w (ix2 j k)

/-- The sum over the columns is the sum of four parts of 2816 columns. -/
theorem four (f : Fin 11264 → EReal) : ∑ k, f k = (∑ k : Fin 2816, f ⟨k.val, by omega⟩) + (∑ k : Fin 2816, f ⟨2816 + k.val, by omega⟩)
    + (∑ k : Fin 2816, f ⟨5632 + k.val, by omega⟩) + ∑ k : Fin 2816, f ⟨8448 + k.val, by omega⟩ := by
  rw [← (finProdFinEquiv (m := 4) (n := 2816)).sum_comp f, Fintype.sum_prod_type, Fin.sum_univ_four]
  refine congrArg₂ _ (congrArg₂ _ (congrArg₂ _ ?_ ?_) ?_) ?_ <;>
    exact Finset.sum_congr rfl fun k _ => congrArg f (Fin.ext (by simp [finProdFinEquiv] <;> omega))

/-- Which block of its array each window stages at a point. -/
theorem idx : ∀ t : Fin grid0.N,
    win0_0.index t = ![t.val % 4 / 2, t.val / 8, t.val % 2]
    ∧ win0_1.index t = ![t.val / 4 % 2, t.val % 4]
    ∧ win0_2.index t = ![t.val / 8, t.val / 4 % 2] := by decide +kernel

/-- The product of two staged blocks. -/
def part (x : Vec Ideal S1x1024x2816 .bf16) (y : Vec Ideal S1024x2816 .bf16) : FVec Ideal S1024x1024 .f32 := fun i =>
  ∑ k : Fin 2816, (x (ix3 0 (i 0) k) * y (ix2 (i 1) k) : EReal)

theorem pay1 (x : Vec Ideal S1x1024x2816 .bf16) (y : Vec Ideal S1024x2816 .bf16) : k0_pay1 x y = part x y := by
  funext i; unfold k0_pay1 part; pointwise
theorem pay2 (a : FVec Ideal S1024x1024 .f32) (x : Vec Ideal S1x1024x2816 .bf16) (y : Vec Ideal S1024x2816 .bf16) :
    k0_pay2 a x y = addf a (part x y) := by
  funext i; unfold k0_pay2 part; pointwise
theorem pay3 (a : FVec Ideal S1024x1024 .f32) (x : Vec Ideal S1x1024x2816 .bf16) (y : Vec Ideal S1024x2816 .bf16) :
    k0_pay3 a x y = addf a (part x y) := by
  funext i; unfold k0_pay3 part; pointwise

section Cases

variable (c : Dev nD) (i : grid0.Coords) (arg3 : Memref sig .tc .vmem S1x1024x2816 .bf16) (harg3 : arg3.IsWhole) (arg4 : Memref sig .tc .vmem S1024x2816 .bf16) (harg4 : arg4.IsWhole) (arg6 : Memref sig .tc .vmem S1024x1024 .f32) (harg6 : arg6.IsWhole) (arg7 : Memref sig .tc .vmem S1024x1024 .f32) (harg7 : arg7.IsWhole)
  (x : Vec Ideal S1x1024x2816 .bf16) (y : Vec Ideal S1024x2816 .bf16) (a : FVec Ideal S1024x1024 .f32)

/-- The first part is stored as it is. -/
theorem first (hc0 : cond0_0 i) (hc1 : ¬cond0_1 i) (hc2 : ¬cond0_2 i) :
    sout0_A_0 c i arg3 harg3 arg4 harg4 arg6 harg6 arg7 harg7 hc0 hc1 hc2 x y = part x y := by
  unfold sout0_A_0
  rw [View.read_writes_eq_canon _ _ _ (scover0_A_0 c i arg3 harg3 arg4 harg4 arg6 harg6 arg7 harg7 hc0 hc1 hc2 x y)]
  unfold kernelRun0_A
  dsimp only
  rw [View.canon_unit_zero hz]
  simp only [View.readAt_eq_ld, harg3.read_unread, harg4.read_unread, View.ld_unit_zero (S := S1x1024x2816) hz3, View.ld_unit_zero (S := S1024x2816) hz, pay1]

/-- A middle part is added to what the scratch holds. -/
theorem middle (hc0 : ¬cond0_0 i) (hc1 : cond0_1 i) (hc2 : ¬cond0_2 i) :
    sout0_B_0 c i arg3 harg3 arg4 harg4 arg6 harg6 arg7 harg7 hc0 hc1 hc2 x y a = (addf a (part x y) : FVec Ideal S1024x1024 .f32) := by
  unfold sout0_B_0
  rw [View.read_writes_eq_canon _ _ _ (scover0_B_0 c i arg3 harg3 arg4 harg4 arg6 harg6 arg7 harg7 hc0 hc1 hc2 x y a)]
  unfold kernelRun0_B
  dsimp only
  rw [View.canon_unit_zero hz]
  simp only [View.readAt_eq_ld, harg3.read_unread, harg4.read_unread, harg7.read_unread, View.ld_unit_zero (S := S1x1024x2816) hz3, View.ld_unit_zero (S := S1024x2816) hz, View.ld_unit_zero (S := S1024x1024) hz, pay2]

/-- The last part is added to what the scratch holds, and the sum written out. -/
theorem last (hc0 : ¬cond0_0 i) (hc1 : ¬cond0_1 i) (hc2 : cond0_2 i) :
    out0_C_2 c i arg3 harg3 arg4 harg4 arg6 harg6 arg7 harg7 hc0 hc1 hc2 x y a = (addf a (part x y) : FVec Ideal S1024x1024 .f32) := by
  unfold out0_C_2
  rw [View.read_writes_eq_canon _ _ _ (cover0_C_2 c i arg3 harg3 arg4 harg4 arg6 harg6 arg7 harg7 hc0 hc1 hc2 x y a)]
  unfold kernelRun0_C
  dsimp only
  rw [View.canon_unit_zero hz]
  simp only [View.readAt_eq_ld, harg3.read_unread, harg4.read_unread, harg7.read_unread, View.ld_unit_zero (S := S1x1024x2816) hz3, View.ld_unit_zero (S := S1024x2816) hz, View.ld_unit_zero (S := S1024x1024) hz, pay3]

end Cases

variable (m : (ℓ : Loc nD τ sig) → Buf (Elt Ideal) ℓ) (c : Dev nD)

/-- The part that point `t` adds. -/
def at_ (t : Fin cfg0.N) : FVec Ideal S1024x1024 .f32 := part (iblk m c 0 t) (iblk m c 1 t)

/-- After the first of four points the scratch holds its part. -/
theorem afterFirst (t : Fin cfg0.N) (h : t.val % 4 = 0) : (outsAt0 m c t.val t.isLt).2 = at_ m c t := by
  refine (congrArg Prod.snd (outsAt0_A m c t h (by omega) (by omega))).trans ?_
  dsimp only
  exact first ..

/-- After a middle point the scratch holds its part more. -/
theorem afterMiddle (t : Fin cfg0.N) (p : ℕ) (hp : p = t.val - 1) (h : 1 ≤ t.val % 4 ∧ t.val % 4 ≤ 2) (a : FVec Ideal S1024x1024 .f32)
    (ha : ∀ hn, (outsAt0 m c p hn).2 = a) : (outsAt0 m c t.val t.isLt).2 = (addf a (at_ m c t) : FVec Ideal S1024x1024 .f32) := by
  subst hp
  have e := ha (Nat.lt_of_le_of_lt (Nat.sub_le _ _) t.isLt)
  refine (congrArg Prod.snd (outsAt0_B m c t (by omega) h (by omega))).trans ?_
  dsimp only
  rw [e]
  exact middle ..

/-- After the last point the output block holds its part more. -/
theorem afterLast (t : Fin cfg0.N) (p : ℕ) (hp : p = t.val - 1) (h : t.val % 4 = 3) (a : FVec Ideal S1024x1024 .f32)
    (ha : ∀ hn, (outsAt0 m c p hn).2 = a) : (outsAt0 m c t.val t.isLt).1 = (addf a (at_ m c t) : FVec Ideal S1024x1024 .f32) := by
  subst hp
  have e := ha (Nat.lt_of_le_of_lt (Nat.sub_le _ _) t.isLt)
  refine (congrArg Prod.fst (outsAt0_C m c t (by omega) (by omega) h)).trans ?_
  dsimp only
  rw [e]
  exact last ..

/-- After the last of four points the output block holds the sum of their parts. -/
theorem fold (t0 t1 t2 t3 : Fin cfg0.N) (h1 : t1.val = t0.val + 1) (h2 : t2.val = t0.val + 2) (h3 : t3.val = t0.val + 3) (h4 : t0.val % 4 = 0) :
    (outsAt0 m c t3.val t3.isLt).1
      = (addf (addf (addf (at_ m c t0) (at_ m c t1)) (at_ m c t2)) (at_ m c t3) : FVec Ideal S1024x1024 .f32) :=
  afterLast m c t3 t2.val (by omega) (by omega) _ fun _ =>
    afterMiddle m c t2 t1.val (by omega) (by omega) _ fun _ =>
      afterMiddle m c t1 t0.val (by omega) (by omega) _ fun _ => afterFirst m c t0 h4

/-- The part of point `4 q + s` is the sum over the columns 2816 s … 2816 s + 2815. -/
theorem at_apply (t : Fin cfg0.N) (q s : ℕ) (ht : t.val = 4 * q + s) (hs : s < 4) (r : Fin 4096) (j : Fin 2048) (i : S1024x1024.Idx)
    (hr : r.val = q / 2 * 1024 + (i 0).val) (hj : j.val = q % 2 * 1024 + (i 1).val) :
    at_ m c t i = ∑ k : Fin 2816, join (m ((c : Thread nD τ).loc main_arg0)) r ⟨2816 * s + k.val, by omega⟩
      * m ((c : Thread nD τ).loc main_arg1) (ix2 j ⟨2816 * s + k.val, by omega⟩) := by
  unfold at_ part
  refine Finset.sum_congr rfl fun k _ => ?_
  congr 1
  · unfold join
    split <;> rename_i hk <;> dsimp only at hk
    · blk_ext [iblk, V, idx t] <;> omega
    · blk_ext [iblk, V, idx t] <;> omega
  · blk_ext [iblk, V, idx t] <;> omega

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  have h3 : t.val % 4 = 3 := (flush0_2 t).mp hf
  have h32 : t.val < 32 := lt_of_lt_of_eq t.isLt N_0
  have r0 : ((win0_2.blk t).view.emb y 0).val = t.val / 4 / 2 * 1024 + (y 0).val := by blk_simp [idx t]; omega
  have r1 : ((win0_2.blk t).view.emb y 1).val = t.val / 4 % 2 * 1024 + (y 1).val := by blk_simp [idx t]
  blk_simp
  rw [after0_2]
  rw [fold m c ⟨t.val - 3, (Nat.sub_le ..).trans_lt t.isLt⟩ ⟨t.val - 2, (Nat.sub_le ..).trans_lt t.isLt⟩ ⟨t.val - 1, (Nat.sub_le ..).trans_lt t.isLt⟩ t (by dsimp only; omega) (by dsimp only; omega)
    (by dsimp only; omega) (by dsimp only; omega)]
  unfold spec
  rw [four]
  simp only [addf_apply, Ideal.addf_def]
  rw [at_apply m c ⟨t.val - 3, (Nat.sub_le ..).trans_lt t.isLt⟩ (t.val / 4) 0 (by dsimp only; omega) (by omega) _ _ y r0 r1,
    at_apply m c ⟨t.val - 2, (Nat.sub_le ..).trans_lt t.isLt⟩ (t.val / 4) 1 (by dsimp only; omega) (by omega) _ _ y r0 r1,
    at_apply m c ⟨t.val - 1, (Nat.sub_le ..).trans_lt t.isLt⟩ (t.val / 4) 2 (by dsimp only; omega) (by omega) _ _ y r0 r1,
    at_apply m c t (t.val / 4) 3 (by omega) (by omega) _ _ y r0 r1]
  simp only [Nat.mul_zero, Nat.zero_add]

end Cert.UpDxIdeal.Product

namespace Cert.UpDxReferenceIdeal.Product

open Cert.UpDxReferenceIdeal Cert.UpDxReferenceIdeal.Gen

theorem result (g : FVec Ideal S2x4096x5632 .bf16) (w : FVec Ideal S2048x11264 .bf16) :
    (Host.dotGeneral dot_S4096x11264_S2048x11264_S4096x2048_1_1_0_0_n_n none (extf .f32 (concatenate S4096x11264 1 [⟨S4096x5632, (shapeCast _ (extractStridedSlice S1x4096x5632 ![0, 0, 0] g slices_S2x4096x5632_S1x4096x5632_0_0_0) shapeCasts_S1x4096x5632_S4096x5632)⟩, ⟨S4096x5632, (shapeCast _ (extractStridedSlice S1x4096x5632 ![1, 0, 0] g slices_S2x4096x5632_S1x4096x5632_1_0_0) shapeCasts_S1x4096x5632_S4096x5632)⟩] concatenates_S4096x5632_S4096x5632_S4096x11264_d1) bitsLt_bf16_f32) (extf .f32 w bitsLt_bf16_f32) : FVec Ideal S4096x2048 .f32)
      = fun i => UpDxIdeal.Product.spec g w (i 0) (i 1) := by
  funext i
  unfold UpDxIdeal.Product.spec UpDxIdeal.Product.join
  pointwise

end Cert.UpDxReferenceIdeal.Product
-- ==== Proof.Close.lean ====
/- The last step of a claim about a program with one result: two runs that end at equal arrays, and a run read as a frame. -/
module

public import Idealize.ShloMosaic.Lib.StableHlo.RunHlo
public import Idealize.ShloMosaic.Lib.Quiescent

@[expose] public section

namespace Cert.Product

open Idealize.ShloMosaic Idealize.SL.Sem

variable {nD nD' : Nat} {τ τ' : Topo} {sig sig' : RefSig} {Val Val' : EltTy → Type} {Λ Λ' : Labels} {D : Type} {T : D → Type}
  {defs : Defs nD τ sig Val Λ} {p : (c : Thread nD τ) → Prog (TpuEff nD τ sig Val Λ c.2) PUnit} {s : MemSt nD τ sig Val}
  {defs' : Defs nD' τ' sig' Val' Λ'} {p' : (c : Thread nD' τ') → Prog (TpuEff nD' τ' sig' Val' Λ' c.2) PUnit} {s' : MemSt nD' τ' sig' Val'}

/-- Two runs, the one ending with `x` in its result and the other with `x'`, end with the same arrays if both are `y`. -/
theorem agree {o : PUnit × MemSt nD τ sig Val → (c : D) → T c} {o' : PUnit × MemSt nD' τ' sig' Val' → (c : D) → T c}
    {k : PUnit × MemSt nD τ sig Val → D → Prop} {k' : PUnit × MemSt nD' τ' sig' Val' → D → Prop} {x x' y : (c : D) → T c}
    (run : θ_run defs p s fun r => ∀ c, o r c = x c ∧ k r c) (run' : θ_run defs' p' s' fun r => ∀ c, o' r c = x' c ∧ k' r c)
    (hx : ∀ c, x c = y c) (hx' : ∀ c, x' c = y c) :
    ∃ v : (c : D) → T c, θ_run defs p s (fun r => ∀ c, o r c = v c ∧ k r c) ∧ θ_run defs' p' s' fun r => ∀ c, o' r c = v c ∧ k' r c :=
  ⟨y, θ_run_mono run fun _ h c => ⟨(h c).1.trans (hx c), (h c).2⟩, θ_run_mono run' fun _ h c => ⟨(h c).1.trans (hx' c), (h c).2⟩⟩

/-- A run that says what its result is and what it keeps is a frame, where no semaphore is declared. -/
theorem keeps {a k : PUnit × MemSt nD τ sig Val → D → Prop} (run : θ_run defs p s fun r => ∀ c, a r c ∧ k r c)
    (h0 : sig.nSem + sig.nDmaSem = 0) : θ_run defs p s fun r => (∀ c, k r c) ∧ r.2.sem = fun _ => 0 :=
  θ_run_mono run fun r h => ⟨fun c => (h c).2, sem_eq_zero_of_no_sems h0 r.2⟩

end Cert.Product
-- ==== Proof.MixerOut.lean ====
/- The gradients of the two mixers' output products: at the input and at the weights. -/
module

public import proofs.«01_k».proof.Proof.Sums
public import proofs.«01_k».proof.Proof.Gen.HgrnOutDxIdeal.Value
public import proofs.«01_k».proof.Proof.Gen.HgrnOutDxReferenceIdeal.Run
public import proofs.«01_k».proof.Proof.Gen.HgrnOutDwIdeal.Value
public import proofs.«01_k».proof.Proof.Gen.HgrnOutDwReferenceIdeal.Run
public import proofs.«01_k».proof.Proof.Gen.MambaOutDxIdeal.Value
public import proofs.«01_k».proof.Proof.Gen.MambaOutDxReferenceIdeal.Run
public import proofs.«01_k».proof.Proof.Gen.MambaOutDwIdeal.Value
public import proofs.«01_k».proof.Proof.Gen.MambaOutDwReferenceIdeal.Run

@[expose] public section

set_option maxRecDepth 16384

noncomputable section

open Idealize.ShloMosaic Idealize.ShloMosaic.TcCoe Idealize.ShloMosaic.Tactic Cert.Product

namespace Cert.HgrnOutDxIdeal.Product

open Cert.HgrnOutDxIdeal Cert.HgrnOutDxIdeal.Gen

/-- Entry (r, j) of the product of `a` with the transpose of `w`. -/
def spec (a : FVec Ideal S4096x2048 .bf16) (w : FVec Ideal S2048x2048 .bf16) (r : Fin 4096) (j : Fin 2048) : EReal :=
  ∑ k : Fin 2048, a (ix2 r k) * w (ix2 j k)

theorem idx : ∀ t : Fin grid0.N,
    win0_0.index t = ![(grid0.coords t 0).val, 0]
    ∧ win0_1.index t = ![(grid0.coords t 1).val, 0]
    ∧ win0_2.index t = ![(grid0.coords t 0).val, (grid0.coords t 1).val] := by decide +kernel

theorem out (x : Vec Ideal S1024x2048 .bf16) (y : Vec Ideal S1024x2048 .bf16) (i : S1024x1024.Idx) :
    out0_2 x y i = ∑ k : Fin 2048, x (ix2 (i 0) k) * y (ix2 (i 1) k) := by
  unfold out0_2
  rw [View.canon_unit_zero hz]
  simp only [View.ld_unit_zero (S := S1024x2048) hz]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1 <;> blk_ext [iblk, V, idx t]

end Cert.HgrnOutDxIdeal.Product

namespace Cert.HgrnOutDxReferenceIdeal.Product

open Cert.HgrnOutDxReferenceIdeal Cert.HgrnOutDxReferenceIdeal.Gen

theorem result (a : FVec Ideal S4096x2048 .bf16) (w : FVec Ideal S2048x2048 .bf16) :
    Host.dotGeneral dot_S4096x2048_S2048x2048_S4096x2048_1_1_0_0_n_n none (extf .f32 a bitsLt_bf16_f32) (extf .f32 w bitsLt_bf16_f32)
      = fun i => HgrnOutDxIdeal.Product.spec a w (i 0) (i 1) := by
  funext i
  unfold HgrnOutDxIdeal.Product.spec
  pointwise

end Cert.HgrnOutDxReferenceIdeal.Product

namespace Cert.HgrnOutDwIdeal.Product

open Cert.HgrnOutDwIdeal Cert.HgrnOutDwIdeal.Gen

/-- Entry (r, j) of the product of the transpose of `a` with `g`. -/
def spec (a g : FVec Ideal S4096x2048 .bf16) (r j : Fin 2048) : EReal :=
  ∑ k : Fin 4096, a (ix2 k r) * g (ix2 k j)

theorem idx : ∀ t : Fin grid0.N,
    win0_0.index t = ![0, (grid0.coords t 0).val]
    ∧ win0_1.index t = ![0, (grid0.coords t 1).val]
    ∧ win0_2.index t = ![(grid0.coords t 0).val, (grid0.coords t 1).val] := by decide +kernel

theorem out (x y : Vec Ideal S4096x1024 .bf16) (i : S1024x1024.Idx) :
    out0_2 x y i = ∑ k : Fin 4096, x (ix2 k (i 0)) * y (ix2 k (i 1)) := by
  unfold out0_2
  rw [View.canon_unit_zero hz]
  simp only [View.ld_unit_zero (S := S4096x1024) hz]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1 <;> blk_ext [iblk, V, idx t]

end Cert.HgrnOutDwIdeal.Product

namespace Cert.HgrnOutDwReferenceIdeal.Product

open Cert.HgrnOutDwReferenceIdeal Cert.HgrnOutDwReferenceIdeal.Gen

theorem result (a g : FVec Ideal S4096x2048 .bf16) :
    (truncf .bf16 (transpose S2048x2048 [1, 0] (Host.dotGeneral dot_S4096x2048_S4096x2048_S2048x2048_0_0_1_1_n_n none (extf .f32 g bitsLt_bf16_f32) (extf .f32 a bitsLt_bf16_f32)) transposes_S2048x2048_S2048x2048_1_0) bitsLt_bf16_f32 : FVec Ideal S2048x2048 .bf16)
      = fun i => HgrnOutDwIdeal.Product.spec a g (i 0) (i 1) := by
  funext i
  unfold HgrnOutDwIdeal.Product.spec
  pointwise
  exact Finset.sum_congr rfl fun k _ => mul_comm _ _

end Cert.HgrnOutDwReferenceIdeal.Product

namespace Cert.MambaOutDxIdeal.Product

open Cert.MambaOutDxIdeal Cert.MambaOutDxIdeal.Gen

/-- Entry (r, j) of the product of `a` with the transpose of `w`. -/
def spec (a w : FVec Ideal S4096x2048 .bf16) (r j : Fin 4096) : EReal :=
  ∑ k : Fin 2048, a (ix2 r k) * w (ix2 j k)

theorem idx : ∀ t : Fin grid0.N,
    win0_0.index t = ![(grid0.coords t 0).val, 0]
    ∧ win0_1.index t = ![(grid0.coords t 1).val, 0]
    ∧ win0_2.index t = ![(grid0.coords t 0).val, (grid0.coords t 1).val] := by decide +kernel

theorem out (x y : Vec Ideal S1024x2048 .bf16) (i : S1024x1024.Idx) :
    out0_2 x y i = ∑ k : Fin 2048, x (ix2 (i 0) k) * y (ix2 (i 1) k) := by
  unfold out0_2
  rw [View.canon_unit_zero hz]
  simp only [View.ld_unit_zero (S := S1024x2048) hz]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1 <;> blk_ext [iblk, V, idx t]

end Cert.MambaOutDxIdeal.Product

namespace Cert.MambaOutDxReferenceIdeal.Product

open Cert.MambaOutDxReferenceIdeal Cert.MambaOutDxReferenceIdeal.Gen

theorem result (a w : FVec Ideal S4096x2048 .bf16) :
    Host.dotGeneral dot_S4096x2048_S4096x2048_S4096x4096_1_1_0_0_n_n none (extf .f32 a bitsLt_bf16_f32) (extf .f32 w bitsLt_bf16_f32)
      = fun i => MambaOutDxIdeal.Product.spec a w (i 0) (i 1) := by
  funext i
  unfold MambaOutDxIdeal.Product.spec
  pointwise

end Cert.MambaOutDxReferenceIdeal.Product

namespace Cert.MambaOutDwIdeal.Product

open Cert.MambaOutDwIdeal Cert.MambaOutDwIdeal.Gen

/-- Entry (r, j) of the product of the transpose of `a` with `g`. -/
def spec (a : FVec Ideal S4096x4096 .bf16) (g : FVec Ideal S4096x2048 .bf16) (r : Fin 4096) (j : Fin 2048) : EReal :=
  ∑ k : Fin 4096, a (ix2 k r) * g (ix2 k j)

theorem idx : ∀ t : Fin grid0.N,
    win0_0.index t = ![0, (grid0.coords t 0).val]
    ∧ win0_1.index t = ![0, (grid0.coords t 1).val]
    ∧ win0_2.index t = ![(grid0.coords t 0).val, (grid0.coords t 1).val] := by decide +kernel

theorem out (x y : Vec Ideal S4096x1024 .bf16) (i : S1024x1024.Idx) :
    out0_2 x y i = ∑ k : Fin 4096, x (ix2 k (i 0)) * y (ix2 k (i 1)) := by
  unfold out0_2
  rw [View.canon_unit_zero hz]
  simp only [View.ld_unit_zero (S := S4096x1024) hz]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1 <;> blk_ext [iblk, V, idx t]

end Cert.MambaOutDwIdeal.Product

namespace Cert.MambaOutDwReferenceIdeal.Product

open Cert.MambaOutDwReferenceIdeal Cert.MambaOutDwReferenceIdeal.Gen

theorem result (a : FVec Ideal S4096x4096 .bf16) (g : FVec Ideal S4096x2048 .bf16) :
    (truncf .bf16 (transpose S4096x2048 [1, 0] (Host.dotGeneral dot_S4096x2048_S4096x4096_S2048x4096_0_0_1_1_n_n none (extf .f32 g bitsLt_bf16_f32) (extf .f32 a bitsLt_bf16_f32)) transposes_S2048x4096_S4096x2048_1_0) bitsLt_bf16_f32 : FVec Ideal S4096x2048 .bf16)
      = fun i => MambaOutDwIdeal.Product.spec a g (i 0) (i 1) := by
  funext i
  unfold MambaOutDwIdeal.Product.spec
  pointwise
  exact Finset.sum_congr rfl fun k _ => mul_comm _ _

end Cert.MambaOutDwReferenceIdeal.Product
-- ==== Proof.HgrnInGrad.lean ====
/- The gradients of the recurrent mixer's input product. Its four parts share one weight, so the incoming gradient is four stacked arrays side by side. -/
module

public import proofs.«01_k».proof.Proof.Sums
public import proofs.«01_k».proof.Proof.Gen.HgrnInDwIdeal.Value
public import proofs.«01_k».proof.Proof.Gen.HgrnInDwReferenceIdeal.Run
public import proofs.«01_k».proof.Proof.Gen.HgrnInDxIdeal.Value
public import proofs.«01_k».proof.Proof.Gen.HgrnInDxReferenceIdeal.Run

@[expose] public section

set_option maxRecDepth 16384

noncomputable section

open Idealize.ShloMosaic Idealize.ShloMosaic.TcCoe Idealize.ShloMosaic.Tactic Cert.Product

namespace Cert.HgrnInDwIdeal.Product

open Cert.HgrnInDwIdeal Cert.HgrnInDwIdeal.Gen

/-- Column `k` of row `r` of the four stacked arrays laid side by side. -/
def join (g : FVec Ideal S4x4096x2048 .bf16) (r : Fin 4096) (k : Fin 8192) : EReal :=
  g (ix3 ⟨k.val / 2048, by omega⟩ r ⟨k.val % 2048, by omega⟩)

/-- Entry (r, j) of the product of the transpose of `u` with the gradient. -/
def spec (u : FVec Ideal S4096x2048 .bf16) (g : FVec Ideal S4x4096x2048 .bf16) (r : Fin 2048) (j : Fin 8192) : EReal :=
  ∑ k : Fin 4096, u (ix2 k r) * join g k j

theorem idx : ∀ t : Fin grid0.N,
    win0_0.index t = ![0, (grid0.coords t 0).val]
    ∧ win0_1.index t = ![(grid0.coords t 1).val / 2, 0, (grid0.coords t 1).val % 2]
    ∧ win0_2.index t = ![(grid0.coords t 0).val, (grid0.coords t 1).val] := by decide +kernel

/-- What a point writes: the product of the two staged blocks. -/
theorem out (x : Vec Ideal S4096x1024 .bf16) (y : Vec Ideal S1x4096x1024 .bf16) (i : S1024x1024.Idx) :
    out0_2 x y i = ∑ k : Fin 4096, x (ix2 k (i 0)) * y (ix3 0 k (i 1)) := by
  unfold out0_2
  rw [View.canon_unit_zero hz]
  simp only [View.ld_unit_zero (S := S4096x1024) hz, View.ld_unit_zero (S := S1x4096x1024) hz3]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1
  · blk_ext [iblk, V, idx t]
  · have e : ((win0_2.blk t).view.emb y 1).val = (grid0.coords t 1).val * 1024 + (y 1).val := by blk_simp [idx t]
    have hy : (y 1).val < 1024 := (y 1).isLt
    unfold join
    blk_ext [iblk, V, idx t] <;> omega

end Cert.HgrnInDwIdeal.Product

namespace Cert.HgrnInDwReferenceIdeal.Product

open Cert.HgrnInDwReferenceIdeal Cert.HgrnInDwReferenceIdeal.Gen

theorem result (u : FVec Ideal S4096x2048 .bf16) (g : FVec Ideal S4x4096x2048 .bf16) :
    (truncf .bf16 (transpose S2048x8192 [1, 0] (Host.dotGeneral dot_S4096x8192_S4096x2048_S8192x2048_0_0_1_1_n_n none (extf .f32 (concatenate S4096x8192 1 [⟨S4096x2048, (shapeCast _ (extractStridedSlice S1x4096x2048 ![0, 0, 0] g slices_S4x4096x2048_S1x4096x2048_0_0_0) shapeCasts_S1x4096x2048_S4096x2048)⟩, ⟨S4096x2048, (shapeCast _ (extractStridedSlice S1x4096x2048 ![1, 0, 0] g slices_S4x4096x2048_S1x4096x2048_1_0_0) shapeCasts_S1x4096x2048_S4096x2048)⟩, ⟨S4096x2048, (shapeCast _ (extractStridedSlice S1x4096x2048 ![2, 0, 0] g slices_S4x4096x2048_S1x4096x2048_2_0_0) shapeCasts_S1x4096x2048_S4096x2048)⟩, ⟨S4096x2048, (shapeCast _ (extractStridedSlice S1x4096x2048 ![3, 0, 0] g slices_S4x4096x2048_S1x4096x2048_3_0_0) shapeCasts_S1x4096x2048_S4096x2048)⟩] concatenates_S4096x2048_S4096x2048_S4096x2048_S4096x2048_S4096x8192_d1) bitsLt_bf16_f32) (extf .f32 u bitsLt_bf16_f32)) transposes_S8192x2048_S2048x8192_1_0) bitsLt_bf16_f32 : FVec Ideal S2048x8192 .bf16)
      = fun i => HgrnInDwIdeal.Product.spec u g (i 0) (i 1) := by
  funext i
  unfold HgrnInDwIdeal.Product.spec HgrnInDwIdeal.Product.join
  pointwise
  refine Finset.sum_congr rfl fun k _ => ?_
  rw [mul_comm]
  congr 1
  have hi : (i 1).val < 8192 := (i 1).isLt
  split_ifs <;> congr 1 <;> ext a <;> fin_cases a <;> simp <;> omega

end Cert.HgrnInDwReferenceIdeal.Product

namespace Cert.HgrnInDxIdeal.Product

open Cert.HgrnInDxIdeal Cert.HgrnInDxIdeal.Gen

/-- Column `k` of row `r` of the four stacked arrays laid side by side. -/
def join (g : FVec Ideal S4x4096x2048 .bf16) (r : Fin 4096) (k : Fin 8192) : EReal :=
  g (ix3 ⟨k.val / 2048, by omega⟩ r ⟨k.val % 2048, by omega⟩)

/-- Entry (r, j) of the product of the gradient with the transpose of `w`. -/
def spec (g : FVec Ideal S4x4096x2048 .bf16) (w : FVec Ideal S2048x8192 .bf16) (r : Fin 4096) (j : Fin 2048) : EReal :=
  ∑ k : Fin 8192, join g r k * w (ix2 j k)

theorem idx : ∀ t : Fin grid0.N,
    win0_0.index t = ![t.val % 4, t.val / 8, 0]
    ∧ win0_1.index t = ![t.val / 4 % 2, t.val % 4]
    ∧ win0_2.index t = ![t.val / 8, t.val / 4 % 2] := by decide +kernel

/-- The product of two staged blocks. -/
def part (x : Vec Ideal S1x1024x2048 .bf16) (y : Vec Ideal S1024x2048 .bf16) : FVec Ideal S1024x1024 .f32 := fun i =>
  ∑ k : Fin 2048, (x (ix3 0 (i 0) k) * y (ix2 (i 1) k) : EReal)

theorem pay1 (x : Vec Ideal S1x1024x2048 .bf16) (y : Vec Ideal S1024x2048 .bf16) : k0_pay1 x y = part x y := by
  funext i; unfold k0_pay1 part; pointwise
theorem pay2 (a : FVec Ideal S1024x1024 .f32) (x : Vec Ideal S1x1024x2048 .bf16) (y : Vec Ideal S1024x2048 .bf16) :
    k0_pay2 a x y = addf a (part x y) := by
  funext i; unfold k0_pay2 part; pointwise
theorem pay3 (a : FVec Ideal S1024x1024 .f32) (x : Vec Ideal S1x1024x2048 .bf16) (y : Vec Ideal S1024x2048 .bf16) :
    k0_pay3 a x y = addf a (part x y) := by
  funext i; unfold k0_pay3 part; pointwise

section Cases

variable (c : Dev nD) (i : grid0.Coords) (arg3 : Memref sig .tc .vmem S1x1024x2048 .bf16) (harg3 : arg3.IsWhole) (arg4 : Memref sig .tc .vmem S1024x2048 .bf16) (harg4 : arg4.IsWhole) (arg6 : Memref sig .tc .vmem S1024x1024 .f32) (harg6 : arg6.IsWhole) (arg7 : Memref sig .tc .vmem S1024x1024 .f32) (harg7 : arg7.IsWhole)
  (x : Vec Ideal S1x1024x2048 .bf16) (y : Vec Ideal S1024x2048 .bf16) (a : FVec Ideal S1024x1024 .f32)

/-- The first part is stored as it is. -/
theorem first (hc0 : cond0_0 i) (hc1 : ¬cond0_1 i) (hc2 : ¬cond0_2 i) :
    sout0_A_0 c i arg3 harg3 arg4 harg4 arg6 harg6 arg7 harg7 hc0 hc1 hc2 x y = part x y := by
  unfold sout0_A_0
  rw [View.read_writes_eq_canon _ _ _ (scover0_A_0 c i arg3 harg3 arg4 harg4 arg6 harg6 arg7 harg7 hc0 hc1 hc2 x y)]
  unfold kernelRun0_A
  dsimp only
  rw [View.canon_unit_zero hz]
  simp only [View.readAt_eq_ld, harg3.read_unread, harg4.read_unread, View.ld_unit_zero (S := S1x1024x2048) hz3, View.ld_unit_zero (S := S1024x2048) hz, pay1]

/-- A middle part is added to what the scratch holds. -/
theorem middle (hc0 : ¬cond0_0 i) (hc1 : cond0_1 i) (hc2 : ¬cond0_2 i) :
    sout0_B_0 c i arg3 harg3 arg4 harg4 arg6 harg6 arg7 harg7 hc0 hc1 hc2 x y a = (addf a (part x y) : FVec Ideal S1024x1024 .f32) := by
  unfold sout0_B_0
  rw [View.read_writes_eq_canon _ _ _ (scover0_B_0 c i arg3 harg3 arg4 harg4 arg6 harg6 arg7 harg7 hc0 hc1 hc2 x y a)]
  unfold kernelRun0_B
  dsimp only
  rw [View.canon_unit_zero hz]
  simp only [View.readAt_eq_ld, harg3.read_unread, harg4.read_unread, harg7.read_unread, View.ld_unit_zero (S := S1x1024x2048) hz3, View.ld_unit_zero (S := S1024x2048) hz, View.ld_unit_zero (S := S1024x1024) hz, pay2]

/-- The last part is added to what the scratch holds, and the sum written out. -/
theorem last (hc0 : ¬cond0_0 i) (hc1 : ¬cond0_1 i) (hc2 : cond0_2 i) :
    out0_C_2 c i arg3 harg3 arg4 harg4 arg6 harg6 arg7 harg7 hc0 hc1 hc2 x y a = (addf a (part x y) : FVec Ideal S1024x1024 .f32) := by
  unfold out0_C_2
  rw [View.read_writes_eq_canon _ _ _ (cover0_C_2 c i arg3 harg3 arg4 harg4 arg6 harg6 arg7 harg7 hc0 hc1 hc2 x y a)]
  unfold kernelRun0_C
  dsimp only
  rw [View.canon_unit_zero hz]
  simp only [View.readAt_eq_ld, harg3.read_unread, harg4.read_unread, harg7.read_unread, View.ld_unit_zero (S := S1x1024x2048) hz3, View.ld_unit_zero (S := S1024x2048) hz, View.ld_unit_zero (S := S1024x1024) hz, pay3]

end Cases

variable (m : (ℓ : Loc nD τ sig) → Buf (Elt Ideal) ℓ) (c : Dev nD)

/-- The part that point `t` adds. -/
def at_ (t : Fin cfg0.N) : FVec Ideal S1024x1024 .f32 := part (iblk m c 0 t) (iblk m c 1 t)

/-- After the first of four points the scratch holds its part. -/
theorem afterFirst (t : Fin cfg0.N) (h : t.val % 4 = 0) : (outsAt0 m c t.val t.isLt).2 = at_ m c t := by
  refine (congrArg Prod.snd (outsAt0_A m c t h (by omega) (by omega))).trans ?_
  dsimp only
  exact first ..

/-- After a middle point the scratch holds its part more. -/
theorem afterMiddle (t : Fin cfg0.N) (p : ℕ) (hp : p = t.val - 1) (h : 1 ≤ t.val % 4 ∧ t.val % 4 ≤ 2) (a : FVec Ideal S1024x1024 .f32)
    (ha : ∀ hn, (outsAt0 m c p hn).2 = a) : (outsAt0 m c t.val t.isLt).2 = (addf a (at_ m c t) : FVec Ideal S1024x1024 .f32) := by
  subst hp
  have e := ha (Nat.lt_of_le_of_lt (Nat.sub_le _ _) t.isLt)
  refine (congrArg Prod.snd (outsAt0_B m c t (by omega) h (by omega))).trans ?_
  dsimp only
  rw [e]
  exact middle ..

/-- After the last point the output block holds its part more. -/
theorem afterLast (t : Fin cfg0.N) (p : ℕ) (hp : p = t.val - 1) (h : t.val % 4 = 3) (a : FVec Ideal S1024x1024 .f32)
    (ha : ∀ hn, (outsAt0 m c p hn).2 = a) : (outsAt0 m c t.val t.isLt).1 = (addf a (at_ m c t) : FVec Ideal S1024x1024 .f32) := by
  subst hp
  have e := ha (Nat.lt_of_le_of_lt (Nat.sub_le _ _) t.isLt)
  refine (congrArg Prod.fst (outsAt0_C m c t (by omega) (by omega) h)).trans ?_
  dsimp only
  rw [e]
  exact last ..

/-- After the last of four points the output block holds the sum of their parts. -/
theorem fold (t0 t1 t2 t3 : Fin cfg0.N) (h1 : t1.val = t0.val + 1) (h2 : t2.val = t0.val + 2) (h3 : t3.val = t0.val + 3) (h4 : t0.val % 4 = 0) :
    (outsAt0 m c t3.val t3.isLt).1
      = (addf (addf (addf (at_ m c t0) (at_ m c t1)) (at_ m c t2)) (at_ m c t3) : FVec Ideal S1024x1024 .f32) :=
  afterLast m c t3 t2.val (by omega) (by omega) _ fun _ =>
    afterMiddle m c t2 t1.val (by omega) (by omega) _ fun _ =>
      afterMiddle m c t1 t0.val (by omega) (by omega) _ fun _ => afterFirst m c t0 h4

/-- The part of point `4 q + s` is the sum over the columns 2048 s … 2048 s + 2047. -/
theorem at_apply (t : Fin cfg0.N) (q : ℕ) (s : Fin 4) (ht : t.val = 4 * q + s.val) (r : Fin 4096) (j : Fin 2048) (i : S1024x1024.Idx)
    (hr : r.val = q / 2 * 1024 + (i 0).val) (hj : j.val = q % 2 * 1024 + (i 1).val) :
    at_ m c t i = ∑ k : Fin 2048, join (m ((c : Thread nD τ).loc main_arg0)) r ⟨2048 * s.val + k.val, by omega⟩
      * m ((c : Thread nD τ).loc main_arg1) (ix2 j ⟨2048 * s.val + k.val, by omega⟩) := by
  have hs := s.isLt
  unfold at_ part
  refine Finset.sum_congr rfl fun k _ => ?_
  congr 1
  · unfold join
    blk_ext [iblk, V, idx t] <;> omega
  · blk_ext [iblk, V, idx t] <;> omega

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  have h3 : t.val % 4 = 3 := (flush0_2 t).mp hf
  have h32 : t.val < 32 := lt_of_lt_of_eq t.isLt N_0
  have r0 : ((win0_2.blk t).view.emb y 0).val = t.val / 4 / 2 * 1024 + (y 0).val := by blk_simp [idx t]; omega
  have r1 : ((win0_2.blk t).view.emb y 1).val = t.val / 4 % 2 * 1024 + (y 1).val := by blk_simp [idx t]
  blk_simp
  rw [after0_2]
  rw [fold m c ⟨t.val - 3, (Nat.sub_le ..).trans_lt t.isLt⟩ ⟨t.val - 2, (Nat.sub_le ..).trans_lt t.isLt⟩ ⟨t.val - 1, (Nat.sub_le ..).trans_lt t.isLt⟩ t (by dsimp only; omega) (by dsimp only; omega)
    (by dsimp only; omega) (by dsimp only; omega)]
  unfold spec
  refine Eq.trans ?_ (parts 4 2048 _).symm
  rw [Fin.sum_univ_four]
  simp only [addf_apply, Ideal.addf_def]
  rw [at_apply m c ⟨t.val - 3, (Nat.sub_le ..).trans_lt t.isLt⟩ (t.val / 4) 0 (by dsimp only; omega) _ _ y r0 r1,
    at_apply m c ⟨t.val - 2, (Nat.sub_le ..).trans_lt t.isLt⟩ (t.val / 4) 1 (by dsimp only; omega) _ _ y r0 r1,
    at_apply m c ⟨t.val - 1, (Nat.sub_le ..).trans_lt t.isLt⟩ (t.val / 4) 2 (by dsimp only; omega) _ _ y r0 r1,
    at_apply m c t (t.val / 4) 3 (by dsimp only; omega) _ _ y r0 r1]

end Cert.HgrnInDxIdeal.Product

namespace Cert.HgrnInDxReferenceIdeal.Product

open Cert.HgrnInDxReferenceIdeal Cert.HgrnInDxReferenceIdeal.Gen

theorem result (g : FVec Ideal S4x4096x2048 .bf16) (w : FVec Ideal S2048x8192 .bf16) :
    (Host.dotGeneral dot_S4096x8192_S2048x8192_S4096x2048_1_1_0_0_n_n none (extf .f32 (concatenate S4096x8192 1 [⟨S4096x2048, (shapeCast _ (extractStridedSlice S1x4096x2048 ![0, 0, 0] g slices_S4x4096x2048_S1x4096x2048_0_0_0) shapeCasts_S1x4096x2048_S4096x2048)⟩, ⟨S4096x2048, (shapeCast _ (extractStridedSlice S1x4096x2048 ![1, 0, 0] g slices_S4x4096x2048_S1x4096x2048_1_0_0) shapeCasts_S1x4096x2048_S4096x2048)⟩, ⟨S4096x2048, (shapeCast _ (extractStridedSlice S1x4096x2048 ![2, 0, 0] g slices_S4x4096x2048_S1x4096x2048_2_0_0) shapeCasts_S1x4096x2048_S4096x2048)⟩, ⟨S4096x2048, (shapeCast _ (extractStridedSlice S1x4096x2048 ![3, 0, 0] g slices_S4x4096x2048_S1x4096x2048_3_0_0) shapeCasts_S1x4096x2048_S4096x2048)⟩] concatenates_S4096x2048_S4096x2048_S4096x2048_S4096x2048_S4096x8192_d1) bitsLt_bf16_f32) (extf .f32 w bitsLt_bf16_f32) : FVec Ideal S4096x2048 .f32)
      = fun i => HgrnInDxIdeal.Product.spec g w (i 0) (i 1) := by
  funext i
  unfold HgrnInDxIdeal.Product.spec HgrnInDxIdeal.Product.join
  pointwise
  refine Finset.sum_congr rfl fun k _ => ?_
  congr 1
  split_ifs <;> congr 1 <;> ext a <;> fin_cases a <;> simp <;> omega

end Cert.HgrnInDxReferenceIdeal.Product
-- ==== Proof.MambaInGrad.lean ====
/- The gradients of the state-space mixer's input product, over its first columns. The weight and its gradient are held with rows for the product's columns. -/
module

public import proofs.«01_k».proof.Proof.Sums
public import proofs.«01_k».proof.Proof.Gen.MambaInDwIdeal.Value
public import proofs.«01_k».proof.Proof.Gen.MambaInDwReferenceIdeal.Run
public import proofs.«01_k».proof.Proof.Gen.MambaInDxIdeal.Value
public import proofs.«01_k».proof.Proof.Gen.MambaInDxReferenceIdeal.Run
public import proofs.«01_k».proof.Proof.Gen.MambaInDxNextIdeal.Value
public import proofs.«01_k».proof.Proof.Gen.MambaInDxNextReferenceIdeal.Run

@[expose] public section

set_option maxRecDepth 16384

noncomputable section

open Idealize.ShloMosaic Idealize.ShloMosaic.TcCoe Idealize.ShloMosaic.Tactic Cert.Product

namespace Cert.MambaInDxIdeal.Product

open Cert.MambaInDxIdeal Cert.MambaInDxIdeal.Gen

/-- Entry (r, j) of the product of `a` with the first 4096 rows of `w`. -/
def spec (a : FVec Ideal S4096x4096 .bf16) (w : FVec Ideal S10368x2048 .bf16) (r : Fin 4096) (j : Fin 2048) : EReal :=
  ∑ k : Fin 4096, a (ix2 r k) * w (ix2 ⟨k.val, by omega⟩ j)

theorem idx : ∀ t : Fin grid0.N,
    win0_0.index t = ![(grid0.coords t 0).val, 0]
    ∧ win0_1.index t = ![0, (grid0.coords t 1).val]
    ∧ win0_2.index t = ![(grid0.coords t 0).val, (grid0.coords t 1).val] := by decide +kernel

theorem out (c : Dev nD) (i : grid0.Coords) (arg3 : Memref sig .tc .vmem S1024x4096 .bf16) (harg3 : arg3.IsWhole) (arg4 : Memref sig .tc .vmem S4096x1024 .bf16) (harg4 : arg4.IsWhole) (arg6 : Memref sig .tc .vmem S1024x1024 .f32) (harg6 : arg6.IsWhole)
    (x : Vec Ideal S1024x4096 .bf16) (y : Vec Ideal S4096x1024 .bf16) (e : S1024x1024.Idx) :
    out0_A_2 c i arg3 harg3 arg4 harg4 arg6 harg6 x y e = ∑ k : Fin 4096, x (ix2 (e 0) k) * y (ix2 k (e 1)) := by
  unfold out0_A_2
  rw [View.read_writes_eq_canon _ _ _ (cover0_A_2 c i arg3 harg3 arg4 harg4 arg6 harg6 x y)]
  unfold kernelRun0_A
  dsimp only
  rw [View.canon_unit_zero hz]
  simp only [View.readAt_eq_ld, harg3.read_unread, harg4.read_unread, View.ld_unit_zero (S := S1024x4096) hz, View.ld_unit_zero (S := S4096x1024) hz]
  unfold k0_pay1
  pointwise

variable (m : (ℓ : Loc nD τ sig) → Buf (Elt Ideal) ℓ) (c : Dev nD)

/-- The weight's block at point `t`, entry by entry. -/
theorem weight (t : Fin cfg0.N) (k : Fin 4096) (e : Fin 1024) (j : Fin 2048) (hj : j.val = (grid0.coords t 1).val * 1024 + e.val) :
    X0_1 m c t (ix2 k e) = m ((c : Thread nD τ).loc main_arg1) (ix2 ⟨k.val, by omega⟩ j) := by
  unfold X0_1 Pipeline.Window.fill
  rw [dif_pos (moved0_1 t _)]
  blk_ext [iblk, V, idx t] <;> omega

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  have r1 : ((win0_2.blk t).view.emb y 1).val = (grid0.coords t 1).val * 1024 + (y 1).val := by blk_simp [idx t]
  blk_simp
  rw [after0_2]
  unfold outsAt0
  refine (out _ _ _ _ _ _ _ _ _ _ y).trans ?_
  unfold spec
  refine Finset.sum_congr rfl fun k _ => ?_
  congr 1
  · blk_ext [iblk, V, idx t]
  · exact weight m c t k _ _ r1

end Cert.MambaInDxIdeal.Product

namespace Cert.MambaInDxReferenceIdeal.Product

open Cert.MambaInDxReferenceIdeal Cert.MambaInDxReferenceIdeal.Gen

theorem result (a : FVec Ideal S4096x4096 .bf16) (w : FVec Ideal S10368x2048 .bf16) :
    Host.dotGeneral dot_S4096x4096_S2048x4096_S4096x2048_1_1_0_0_n_n none (extf .f32 a bitsLt_bf16_f32) (extf .f32 (transpose S2048x4096 [1, 0] (extractStridedSlice S4096x2048 ![0, 0] w slices_S10368x2048_S4096x2048_0_0) transposes_S4096x2048_S2048x4096_1_0) bitsLt_bf16_f32)
      = fun i => MambaInDxIdeal.Product.spec a w (i 0) (i 1) := by
  funext i
  unfold MambaInDxIdeal.Product.spec
  pointwise

end Cert.MambaInDxReferenceIdeal.Product

namespace Cert.MambaInDxNextIdeal.Product

open Cert.MambaInDxNextIdeal Cert.MambaInDxNextIdeal.Gen

/-- Entry (r, j) of the product of `a` with the next 4096 rows of `w`, added to `d`. -/
def spec (a : FVec Ideal S4096x4096 .bf16) (w : FVec Ideal S10368x2048 .bf16) (d : FVec Ideal S4096x2048 .f32) (r : Fin 4096) (j : Fin 2048) : EReal :=
  (∑ k : Fin 4096, a (ix2 r k) * w (ix2 ⟨4096 + k.val, by omega⟩ j)) + d (ix2 r j)

theorem idx : ∀ t : Fin grid0.N,
    win0_0.index t = ![(grid0.coords t 0).val, 0]
    ∧ win0_1.index t = ![1, (grid0.coords t 1).val]
    ∧ win0_2.index t = ![(grid0.coords t 0).val, (grid0.coords t 1).val]
    ∧ win0_3.index t = ![(grid0.coords t 0).val, (grid0.coords t 1).val] := by decide +kernel

theorem out (c : Dev nD) (i : grid0.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (arg6 : Memref sig .tc .vmem S1024x1024 .f32) (harg6 : arg6.IsWhole)
    (x : Vec Ideal S1024x4096 .bf16) (y : Vec Ideal S4096x1024 .bf16) (z : Vec Ideal S1024x1024 .f32) (e : S1024x1024.Idx) :
    out0_A_3 c i arg3 harg3 arg4 harg4 arg5 harg5 arg6 harg6 x y z e = ((∑ k : Fin 4096, x (ix2 (e 0) k) * y (ix2 k (e 1)) : EReal) + z e : EReal) := by
  unfold out0_A_3
  rw [View.read_writes_eq_canon _ _ _ (cover0_A_3 c i arg3 harg3 arg4 harg4 arg5 harg5 arg6 harg6 x y z)]
  unfold kernelRun0_A
  dsimp only
  rw [View.canon_unit_zero hz]
  simp only [View.readAt_eq_ld, harg3.read_unread, harg4.read_unread, harg5.read_unread, View.ld_unit_zero (S := S1024x4096) hz, View.ld_unit_zero (S := S4096x1024) hz, View.ld_unit_zero (S := S1024x1024) hz]
  unfold k0_pay1
  pointwise

variable (m : (ℓ : Loc nD τ sig) → Buf (Elt Ideal) ℓ) (c : Dev nD)

/-- The weight's block at point `t`, entry by entry. -/
theorem weight (t : Fin cfg0.N) (k : Fin 4096) (e : Fin 1024) (j : Fin 2048) (hj : j.val = (grid0.coords t 1).val * 1024 + e.val) :
    X0_1 m c t (ix2 k e) = m ((c : Thread nD τ).loc main_arg1) (ix2 ⟨4096 + k.val, by omega⟩ j) := by
  unfold X0_1 Pipeline.Window.fill
  rw [dif_pos (moved0_1 t _)]
  blk_ext [iblk, V, idx t] <;> omega

theorem array : (dats m 0 c).arrAt 3 cfg0.N = fun i =>
    spec (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  have r1 : ((win0_3.blk t).view.emb y 1).val = (grid0.coords t 1).val * 1024 + (y 1).val := by blk_simp [idx t]
  blk_simp
  rw [after0_3]
  unfold outsAt0
  refine (out _ _ _ _ _ _ _ _ _ _ _ _ _ y).trans ?_
  unfold spec
  refine congrArg₂ _ (Finset.sum_congr rfl fun k _ => ?_) ?_
  · congr 1
    · blk_ext [iblk, V, idx t]
    · exact weight m c t k _ _ r1
  · blk_ext [iblk, V, idx t]

end Cert.MambaInDxNextIdeal.Product

namespace Cert.MambaInDxNextReferenceIdeal.Product

open Cert.MambaInDxNextReferenceIdeal Cert.MambaInDxNextReferenceIdeal.Gen

theorem result (a : FVec Ideal S4096x4096 .bf16) (w : FVec Ideal S10368x2048 .bf16) (d : FVec Ideal S4096x2048 .f32) :
    addf d (Host.dotGeneral dot_S4096x4096_S2048x4096_S4096x2048_1_1_0_0_n_n none (extf .f32 a bitsLt_bf16_f32) (extf .f32 (transpose S2048x4096 [1, 0] (extractStridedSlice S4096x2048 ![4096, 0] w slices_S10368x2048_S4096x2048_4096_0) transposes_S4096x2048_S2048x4096_1_0) bitsLt_bf16_f32))
      = fun i => MambaInDxNextIdeal.Product.spec a w d (i 0) (i 1) := by
  funext i
  unfold MambaInDxNextIdeal.Product.spec
  pointwise
  exact add_comm _ _

end Cert.MambaInDxNextReferenceIdeal.Product

namespace Cert.MambaInDwIdeal.Product

open Cert.MambaInDwIdeal Cert.MambaInDwIdeal.Gen

/-- Entry (r, j) of the product of the transpose of `d` with `u`. -/
def entry (d : FVec Ideal S4096x4096 .bf16) (u : FVec Ideal S4096x2048 .bf16) (r : Fin 4096) (j : Fin 2048) : EReal :=
  ∑ k : Fin 4096, d (ix2 k r) * u (ix2 k j)

/-- Entry (r, j) of the gradient: the product in the first 4096 rows, what `g` holds in the others. -/
def spec (d : FVec Ideal S4096x4096 .bf16) (u : FVec Ideal S4096x2048 .bf16) (g : FVec Ideal S10368x2048 .bf16) (r : Fin 10368) (j : Fin 2048) : EReal :=
  if h : r.val < 4096 then entry d u ⟨r.val, h⟩ j else g (ix2 r j)

theorem idx : ∀ t : Fin grid0.N,
    win0_0.index t = ![0, (grid0.coords t 0).val]
    ∧ win0_1.index t = ![0, (grid0.coords t 1).val]
    ∧ win0_2.index t = ![(grid0.coords t 0).val, (grid0.coords t 1).val] := by decide +kernel

theorem out (c : Dev nD) (i : grid0.Coords) (arg3 : Memref sig .tc .vmem S4096x1024 .bf16) (harg3 : arg3.IsWhole) (arg4 : Memref sig .tc .vmem S4096x1024 .bf16) (harg4 : arg4.IsWhole) (arg6 : Memref sig .tc .vmem S1024x1024 .bf16) (harg6 : arg6.IsWhole)
    (x : Vec Ideal S4096x1024 .bf16) (y : Vec Ideal S4096x1024 .bf16) (e : S1024x1024.Idx) :
    out0_A_2 c i arg3 harg3 arg4 harg4 arg6 harg6 x y e = ∑ k : Fin 4096, x (ix2 k (e 0)) * y (ix2 k (e 1)) := by
  unfold out0_A_2
  rw [View.read_writes_eq_canon _ _ _ (cover0_A_2 c i arg3 harg3 arg4 harg4 arg6 harg6 x y)]
  unfold kernelRun0_A
  dsimp only
  rw [View.canon_unit_zero hz]
  simp only [View.readAt_eq_ld, harg3.read_unread, harg4.read_unread, View.ld_unit_zero (S := S4096x1024) hz]
  unfold k0_pay1
  pointwise

variable (m : (ℓ : Loc nD τ sig) → Buf (Elt Ideal) ℓ) (c : Dev nD)

/-- The kernel starts with the result holding the third argument. -/
theorem start : V m c main_v0 = m ((c : Thread nD τ).loc main_arg2) := by
  show StableHlo.after hostOps0 _ (Proc.devRef .tc main_v0) = _
  after_results
  rfl

theorem array : (dats m 0 c).arrAt 2 cfg0.N = fun i =>
    spec (m ((c : Thread nD τ).loc main_arg0)) (m ((c : Thread nD τ).loc main_arg1)) (m ((c : Thread nD τ).loc main_arg2)) (i 0) (i 1) := by
  refine (dats m 0 c).arrAt_eq_of_coversWhere_of_agree 2 _ (fun β => β (0 : Fin 2) < 4) (by decide +kernel) (fun t hf y => ?_) (fun j hj => ?_)
  · have r0 : ((win0_2.blk t).view.emb y 0).val = (grid0.coords t 0).val * 1024 + (y 0).val := by blk_simp [idx t]
    have r1 : ((win0_2.blk t).view.emb y 1).val = (grid0.coords t 1).val * 1024 + (y 1).val := by blk_simp [idx t]
    have hy : (y 0).val < 1024 := lt_of_lt_of_le (y 0).isLt (Pipeline.Window.xsize_le ..)
    have ht : (grid0.coords t 0).val < 4 := (grid0.coords t 0).isLt
    blk_simp
    rw [after0_2]
    unfold outsAt0
    refine (out _ _ _ _ _ _ _ _ _ _ _).trans ?_
    unfold spec
    rw [dif_pos (lt_of_eq_of_lt r0 (by omega))]
    unfold entry
    refine Finset.sum_congr rfl fun k _ => ?_
    congr 1 <;> blk_ext [iblk, V_main_arg0, V_main_arg1, idx t] <;> omega
  · have h : ¬ (j 0).val < 4096 := fun h => hj (by simp only [Pipeline.Window.cell_apply]; exact (Nat.div_lt_iff_lt_mul (by decide)).mpr h)
    refine (congrFun (start m c) _).trans ?_
    unfold spec
    refine Eq.trans ?_ (dif_neg h).symm
    exact congrArg (m ((c : Thread nD τ).loc main_arg2)) (funext fun a => by fin_cases a <;> rfl)

end Cert.MambaInDwIdeal.Product

namespace Cert.MambaInDwReferenceIdeal.Product

open Cert.MambaInDwReferenceIdeal Cert.MambaInDwReferenceIdeal.Gen

theorem result (d : FVec Ideal S4096x4096 .bf16) (u : FVec Ideal S4096x2048 .bf16) (g : FVec Ideal S10368x2048 .bf16) :
    Host.dynamicUpdateSlice g (transpose S4096x2048 [1, 0] (truncf .bf16 (transpose S2048x4096 [1, 0] (Host.dotGeneral dot_S4096x4096_S4096x2048_S4096x2048_0_0_1_1_n_n none (extf .f32 d bitsLt_bf16_f32) (extf .f32 u bitsLt_bf16_f32)) transposes_S4096x2048_S2048x4096_1_0) bitsLt_bf16_f32) transposes_S2048x4096_S4096x2048_1_0) (fun k => (((![constantI S_ 32 0#32, constantI S_ 32 0#32] : Fin 2 → (⟨S_, .i32⟩ : BufTy).Contents (Elt Ideal))) k (Shape.Idx.first h_S_)).toInt) updateFits_S10368x2048_S4096x2048
      = fun i => MambaInDwIdeal.Product.spec d u g (i 0) (i 1) := by
  rw [Host.dynamicUpdateSlice_eq_updateSlice _ _ _ _ ![0, 0] (by decide) (by decide)]
  funext i
  unfold MambaInDwIdeal.Product.spec MambaInDwIdeal.Product.entry
  pointwise

end Cert.MambaInDwReferenceIdeal.Product
-- ==== Proof.MambaInRest.lean ====
/- The gradients of the state-space mixer's input product, over its other columns: those of the convolved inputs (`X`), of the groups' state inputs (`Bc`) and of the step sizes (`Dt`). -/
module

public import proofs.«01_k».proof.Proof.Sums
public import proofs.«01_k».proof.Proof.Gen.MambaInDwXIdeal.Value
public import proofs.«01_k».proof.Proof.Gen.MambaInDwXReferenceIdeal.Run
public import proofs.«01_k».proof.Proof.Gen.MambaInDwBcIdeal.Value
public import proofs.«01_k».proof.Proof.Gen.MambaInDwBcReferenceIdeal.Run
public import proofs.«01_k».proof.Proof.Gen.MambaInDwDtIdeal.Value
public import proofs.«01_k».proof.Proof.Gen.MambaInDwDtReferenceIdeal.Run
public import proofs.«01_k».proof.Proof.Gen.MambaInDxBcIdeal.Value
public import proofs.«01_k».proof.Proof.Gen.MambaInDxBcReferenceIdeal.Run
public import proofs.«01_k».proof.Proof.Gen.MambaInDxDtIdeal.Value
public import proofs.«01_k».proof.Proof.Gen.MambaInDxDtReferenceIdeal.Run

@[expose] public section

set_option maxRecDepth 16384

noncomputable section

open Idealize.ShloMosaic Idealize.ShloMosaic.TcCoe Idealize.ShloMosaic.Tactic Cert.Product

namespace Cert.Product

/-- Entry (r, j) of an array `g` in which `n` rows, from row `o`, are replaced by the product of the transpose of `d` with `u`. -/
def strip (o : ℕ) {K n q R : ℕ} (d : Fin K → Fin n → EReal) (u : Fin K → Fin q → EReal) (g : Fin R → Fin q → EReal) (r : Fin R) (j : Fin q) : EReal :=
  if h : o ≤ r.val ∧ r.val < o + n then ∑ k : Fin K, d k ⟨r.val - o, by omega⟩ * u k j else g r j

theorem strip_in (o : ℕ) {K n q R : ℕ} (d : Fin K → Fin n → EReal) (u : Fin K → Fin q → EReal) (g : Fin R → Fin q → EReal) (r : Fin R) (j : Fin q)
    (i : Fin n) (h : r.val = o + i.val) : strip o d u g r j = ∑ k : Fin K, d k i * u k j := by
  unfold strip
  rw [dif_pos (by omega)]
  exact Finset.sum_congr rfl fun k _ => congrArg (fun i => d k i * u k j) (Fin.ext (by simp only; omega))

theorem strip_out (o : ℕ) {K n q R : ℕ} (d : Fin K → Fin n → EReal) (u : Fin K → Fin q → EReal) (g : Fin R → Fin q → EReal) (r : Fin R) (j : Fin q)
    (h : ¬ (o ≤ r.val ∧ r.val < o + n)) : strip o d u g r j = g r j := dif_neg h

/-- A row outside the blocks `lo` to `hi - 1`, of `b` rows each, is outside their rows. -/
theorem not_rows {lo hi b r : ℕ} (hb : 0 < b) (h : ¬ (lo ≤ r / b ∧ r / b < hi)) : ¬ (lo * b ≤ r ∧ r < hi * b) := fun h' =>
  h ⟨(Nat.le_div_iff_mul_le hb).mpr h'.1, (Nat.div_lt_iff_lt_mul hb).mpr h'.2⟩

end Cert.Product

namespace Cert.MambaInDwXIdeal.Product

open Cert.MambaInDwXIdeal Cert.MambaInDwXIdeal.Gen

/-- The gradient's rows 4096 to 8191 are the product's, the others those of `g`. -/
def spec (d : FVec Ideal S4096x4096 .bf16) (u : FVec Ideal S4096x2048 .bf16) (g : FVec Ideal S10368x2048 .bf16) : Fin 10368 → Fin 2048 → EReal :=
  strip 4096 (fun k i => d (ix2 k i)) (fun k j => u (ix2 k j)) fun r j => g (ix2 r j)

theorem idx : ∀ t : Fin grid0.N,
    win0_0.index t = ![0, (grid0.coords t 0).val]
    ∧ win0_1.index t = ![0, (grid0.coords t 1).val]
    ∧ win0_2.index t = ![4 + (grid0.coords t 0).val, (grid0.coords t 1).val] := by decide +kernel

/-- The block stored at a point, entry by entry. -/
theorem pay (x : Vec Ideal S4096x1024 .bf16) (y : Vec Ideal S4096x1024 .bf16) (e : S1024x1024.Idx) :
    k0_pay1 x y e = ∑ k : Fin 4096, x (ix2 k (e 0)) * y (ix2 k (e 1)) := by
  unfold k0_pay1
  pointwise

theorem out (c : Dev nD) (i : grid0.Coords) (arg3 : Memref sig .tc .vmem S4096x1024 .bf16) (harg3 : arg3.IsWhole) (arg4 : Memref sig .tc .vmem S4096x1024 .bf16) (harg4 : arg4.IsWhole) (arg6 : Memref sig .tc .vmem S1024x1024 .bf16) (harg6 : arg6.IsWhole)
    (x : Vec Ideal S4096x1024 .bf16) (y : Vec Ideal S4096x1024 .bf16) (e : S1024x1024.Idx) :
    out0_A_2 c i arg3 harg3 arg4 harg4 arg6 harg6 x y e = ∑ k : Fin 4096, x (ix2 k (e 0)) * y (ix2 k (e 1)) := by
  unfold out0_A_2
  rw [View.read_writes_eq_canon _ _ _ (cover0_A_2 c i arg3 harg3 arg4 harg4 arg6 harg6 x y)]
  unfold kernelRun0_A
  dsimp only
  rw [View.canon_unit_zero hz]
  simp only [View.readAt_eq_ld, harg3.read_unread, harg4.read_unread, View.ld_unit_zero (S := S4096x1024) hz]
  exact pay x y e

variable (m : (ℓ : Loc nD τ sig) → Buf (Elt Ideal) ℓ) (c : Dev nD)

/-- The kernel starts with the result holding the third argument. -/
theorem start : V m c main_v0 = m ((c : Thread nD τ).loc main_arg2) := by
  show StableHlo.after hostOps0 _ (Proc.devRef .tc main_v0) = _
  after_results
  rfl

theorem array : (dats m 0 c).arrAt 2 cfg0.N = fun i =>
    spec (m ((c : Thread nD τ).loc main_arg0)) (m ((c : Thread nD τ).loc main_arg1)) (m ((c : Thread nD τ).loc main_arg2)) (i 0) (i 1) := by
  refine (dats m 0 c).arrAt_eq_of_coversWhere_of_agree 2 _ (fun β => 4 ≤ β (0 : Fin 2) ∧ β (0 : Fin 2) < 8) (by decide +kernel) (fun t hf y => ?_) (fun j hj => ?_)
  · have r0 : ((win0_2.blk t).view.emb y 0).val = (4 + (grid0.coords t 0).val) * 1024 + (y 0).val := by blk_simp [idx t]
    have hy : (y 0).val < 1024 := lt_of_lt_of_le (y 0).isLt (Pipeline.Window.xsize_le ..)
    have ht : (grid0.coords t 0).val < 4 := (grid0.coords t 0).isLt
    blk_simp
    rw [after0_2]
    unfold outsAt0
    refine (out _ _ _ _ _ _ _ _ _ _ _).trans ?_
    unfold spec
    refine Eq.trans ?_ (strip_in _ _ _ _ _ _ ⟨(grid0.coords t 0).val * 1024 + (y 0).val, by omega⟩ (r0.trans (by simp only; omega))).symm
    refine Finset.sum_congr rfl fun k _ => ?_
    congr 1 <;> blk_ext [iblk, V_main_arg0, V_main_arg1, idx t]
  · simp only [Pipeline.Window.cell_apply] at hj
    refine (congrFun (start m c) _).trans (Eq.trans ?_ (strip_out _ _ _ _ _ _ (not_rows (by decide) hj)).symm)
    exact congrArg (m ((c : Thread nD τ).loc main_arg2)) (funext fun a => by fin_cases a <;> rfl)

end Cert.MambaInDwXIdeal.Product

namespace Cert.MambaInDwXReferenceIdeal.Product

open Cert.MambaInDwXReferenceIdeal Cert.MambaInDwXReferenceIdeal.Gen

theorem result (d : FVec Ideal S4096x4096 .bf16) (u : FVec Ideal S4096x2048 .bf16) (g : FVec Ideal S10368x2048 .bf16) :
    Host.dynamicUpdateSlice g (transpose S4096x2048 [1, 0] (truncf .bf16 (transpose S2048x4096 [1, 0] (Host.dotGeneral dot_S4096x4096_S4096x2048_S4096x2048_0_0_1_1_n_n none (extf .f32 d bitsLt_bf16_f32) (extf .f32 u bitsLt_bf16_f32)) transposes_S4096x2048_S2048x4096_1_0) bitsLt_bf16_f32) transposes_S2048x4096_S4096x2048_1_0) (fun k => (((![constantI S_ 32 4096#32, constantI S_ 32 0#32] : Fin 2 → (⟨S_, .i32⟩ : BufTy).Contents (Elt Ideal))) k (Shape.Idx.first h_S_)).toInt) updateFits_S10368x2048_S4096x2048
      = fun i => MambaInDwXIdeal.Product.spec d u g (i 0) (i 1) := by
  rw [Host.dynamicUpdateSlice_eq_updateSlice _ _ _ _ ![4096, 0] (by decide) (by decide)]
  funext i
  unfold MambaInDwXIdeal.Product.spec strip
  pointwise

end Cert.MambaInDwXReferenceIdeal.Product

namespace Cert.MambaInDwBcIdeal.Product

open Cert.MambaInDwBcIdeal Cert.MambaInDwBcIdeal.Gen

/-- The gradient's rows 8192 to 10239 are the product's, the others those of `g`. -/
def spec (d : FVec Ideal S4096x2048 .bf16) (u : FVec Ideal S4096x2048 .bf16) (g : FVec Ideal S10368x2048 .bf16) : Fin 10368 → Fin 2048 → EReal :=
  strip 8192 (fun k i => d (ix2 k i)) (fun k j => u (ix2 k j)) fun r j => g (ix2 r j)

theorem idx : ∀ t : Fin grid0.N,
    win0_0.index t = ![0, (grid0.coords t 0).val]
    ∧ win0_1.index t = ![0, (grid0.coords t 1).val]
    ∧ win0_2.index t = ![8 + (grid0.coords t 0).val, (grid0.coords t 1).val] := by decide +kernel

theorem out (c : Dev nD) (i : grid0.Coords) (arg3 : Memref sig .tc .vmem S4096x1024 .bf16) (harg3 : arg3.IsWhole) (arg4 : Memref sig .tc .vmem S4096x1024 .bf16) (harg4 : arg4.IsWhole) (arg6 : Memref sig .tc .vmem S1024x1024 .bf16) (harg6 : arg6.IsWhole)
    (x : Vec Ideal S4096x1024 .bf16) (y : Vec Ideal S4096x1024 .bf16) (e : S1024x1024.Idx) :
    out0_A_2 c i arg3 harg3 arg4 harg4 arg6 harg6 x y e = ∑ k : Fin 4096, x (ix2 k (e 0)) * y (ix2 k (e 1)) := by
  unfold out0_A_2
  rw [View.read_writes_eq_canon _ _ _ (cover0_A_2 c i arg3 harg3 arg4 harg4 arg6 harg6 x y)]
  unfold kernelRun0_A
  dsimp only
  rw [View.canon_unit_zero hz]
  simp only [View.readAt_eq_ld, harg3.read_unread, harg4.read_unread, View.ld_unit_zero (S := S4096x1024) hz]
  exact MambaInDwXIdeal.Product.pay x y e

variable (m : (ℓ : Loc nD τ sig) → Buf (Elt Ideal) ℓ) (c : Dev nD)

/-- The kernel starts with the result holding the third argument. -/
theorem start : V m c main_v0 = m ((c : Thread nD τ).loc main_arg2) := by
  show StableHlo.after hostOps0 _ (Proc.devRef .tc main_v0) = _
  after_results
  rfl

theorem array : (dats m 0 c).arrAt 2 cfg0.N = fun i =>
    spec (m ((c : Thread nD τ).loc main_arg0)) (m ((c : Thread nD τ).loc main_arg1)) (m ((c : Thread nD τ).loc main_arg2)) (i 0) (i 1) := by
  refine (dats m 0 c).arrAt_eq_of_coversWhere_of_agree 2 _ (fun β => 8 ≤ β (0 : Fin 2) ∧ β (0 : Fin 2) < 10) (by decide +kernel) (fun t hf y => ?_) (fun j hj => ?_)
  · have r0 : ((win0_2.blk t).view.emb y 0).val = (8 + (grid0.coords t 0).val) * 1024 + (y 0).val := by blk_simp [idx t]
    have hy : (y 0).val < 1024 := lt_of_lt_of_le (y 0).isLt (Pipeline.Window.xsize_le ..)
    have ht : (grid0.coords t 0).val < 2 := (grid0.coords t 0).isLt
    blk_simp
    rw [after0_2]
    unfold outsAt0
    refine (out _ _ _ _ _ _ _ _ _ _ _).trans ?_
    unfold spec
    refine Eq.trans ?_ (strip_in _ _ _ _ _ _ ⟨(grid0.coords t 0).val * 1024 + (y 0).val, by omega⟩ (r0.trans (by simp only; omega))).symm
    refine Finset.sum_congr rfl fun k _ => ?_
    congr 1 <;> blk_ext [iblk, V_main_arg0, V_main_arg1, idx t]
  · simp only [Pipeline.Window.cell_apply] at hj
    refine (congrFun (start m c) _).trans (Eq.trans ?_ (strip_out _ _ _ _ _ _ (not_rows (by decide) hj)).symm)
    exact congrArg (m ((c : Thread nD τ).loc main_arg2)) (funext fun a => by fin_cases a <;> rfl)

end Cert.MambaInDwBcIdeal.Product

namespace Cert.MambaInDwBcReferenceIdeal.Product

open Cert.MambaInDwBcReferenceIdeal Cert.MambaInDwBcReferenceIdeal.Gen

theorem result (d : FVec Ideal S4096x2048 .bf16) (u : FVec Ideal S4096x2048 .bf16) (g : FVec Ideal S10368x2048 .bf16) :
    Host.dynamicUpdateSlice g (transpose S2048x2048 [1, 0] (truncf .bf16 (transpose S2048x2048 [1, 0] (Host.dotGeneral dot_S4096x2048_S4096x2048_S2048x2048_0_0_1_1_n_n none (extf .f32 d bitsLt_bf16_f32) (extf .f32 u bitsLt_bf16_f32)) transposes_S2048x2048_S2048x2048_1_0) bitsLt_bf16_f32) transposes_S2048x2048_S2048x2048_1_0) (fun k => (((![constantI S_ 32 8192#32, constantI S_ 32 0#32] : Fin 2 → (⟨S_, .i32⟩ : BufTy).Contents (Elt Ideal))) k (Shape.Idx.first h_S_)).toInt) updateFits_S10368x2048_S2048x2048
      = fun i => MambaInDwBcIdeal.Product.spec d u g (i 0) (i 1) := by
  rw [Host.dynamicUpdateSlice_eq_updateSlice _ _ _ _ ![8192, 0] (by decide) (by decide)]
  funext i
  unfold MambaInDwBcIdeal.Product.spec strip
  pointwise

end Cert.MambaInDwBcReferenceIdeal.Product

namespace Cert.MambaInDwDtIdeal.Product

open Cert.MambaInDwDtIdeal Cert.MambaInDwDtIdeal.Gen

/-- The gradient's last 128 rows are the product's, the others those of `g`. -/
def spec (d : FVec Ideal S4096x128 .bf16) (u : FVec Ideal S4096x2048 .bf16) (g : FVec Ideal S10368x2048 .bf16) : Fin 10368 → Fin 2048 → EReal :=
  strip 10240 (fun k i => d (ix2 k i)) (fun k j => u (ix2 k j)) fun r j => g (ix2 r j)

theorem idx : ∀ t : Fin grid0.N,
    win0_0.index t = ![0, 0]
    ∧ win0_1.index t = ![0, (grid0.coords t 1).val]
    ∧ win0_2.index t = ![80, (grid0.coords t 1).val] := by decide +kernel

theorem out (c : Dev nD) (i : grid0.Coords) (arg3 : Memref sig .tc .vmem S4096x128 .bf16) (harg3 : arg3.IsWhole) (arg4 : Memref sig .tc .vmem S4096x1024 .bf16) (harg4 : arg4.IsWhole) (arg6 : Memref sig .tc .vmem S128x1024 .bf16) (harg6 : arg6.IsWhole)
    (x : Vec Ideal S4096x128 .bf16) (y : Vec Ideal S4096x1024 .bf16) (e : S128x1024.Idx) :
    out0_A_2 c i arg3 harg3 arg4 harg4 arg6 harg6 x y e = ∑ k : Fin 4096, x (ix2 k (e 0)) * y (ix2 k (e 1)) := by
  unfold out0_A_2
  rw [View.read_writes_eq_canon _ _ _ (cover0_A_2 c i arg3 harg3 arg4 harg4 arg6 harg6 x y)]
  unfold kernelRun0_A
  dsimp only
  rw [View.canon_unit_zero hz]
  simp only [View.readAt_eq_ld, harg3.read_unread, harg4.read_unread, View.ld_unit_zero (S := S4096x128) hz, View.ld_unit_zero (S := S4096x1024) hz]
  unfold k0_pay1
  pointwise

variable (m : (ℓ : Loc nD τ sig) → Buf (Elt Ideal) ℓ) (c : Dev nD)

/-- The kernel starts with the result holding the third argument. -/
theorem start : V m c main_v0 = m ((c : Thread nD τ).loc main_arg2) := by
  show StableHlo.after hostOps0 _ (Proc.devRef .tc main_v0) = _
  after_results
  rfl

theorem array : (dats m 0 c).arrAt 2 cfg0.N = fun i =>
    spec (m ((c : Thread nD τ).loc main_arg0)) (m ((c : Thread nD τ).loc main_arg1)) (m ((c : Thread nD τ).loc main_arg2)) (i 0) (i 1) := by
  refine (dats m 0 c).arrAt_eq_of_coversWhere_of_agree 2 _ (fun β => 80 ≤ β (0 : Fin 2) ∧ β (0 : Fin 2) < 81) (by decide +kernel) (fun t hf y => ?_) (fun j hj => ?_)
  · have r0 : ((win0_2.blk t).view.emb y 0).val = 10240 + (y 0).val := by blk_simp [idx t]
    have hy : (y 0).val < 128 := (y 0).isLt
    blk_simp
    rw [after0_2]
    unfold outsAt0
    refine (out _ _ _ _ _ _ _ _ _ _ _).trans ?_
    unfold spec
    refine Eq.trans ?_ (strip_in _ _ _ _ _ _ ⟨(y 0).val, hy⟩ r0).symm
    refine Finset.sum_congr rfl fun k _ => ?_
    congr 1 <;> blk_ext [iblk, V_main_arg0, V_main_arg1, idx t]
  · simp only [Pipeline.Window.cell_apply] at hj
    refine (congrFun (start m c) _).trans (Eq.trans ?_ (strip_out _ _ _ _ _ _ (not_rows (by decide) hj)).symm)
    exact congrArg (m ((c : Thread nD τ).loc main_arg2)) (funext fun a => by fin_cases a <;> rfl)

end Cert.MambaInDwDtIdeal.Product

namespace Cert.MambaInDwDtReferenceIdeal.Product

open Cert.MambaInDwDtReferenceIdeal Cert.MambaInDwDtReferenceIdeal.Gen

theorem result (d : FVec Ideal S4096x128 .bf16) (u : FVec Ideal S4096x2048 .bf16) (g : FVec Ideal S10368x2048 .bf16) :
    Host.dynamicUpdateSlice g (transpose S128x2048 [1, 0] (truncf .bf16 (transpose S2048x128 [1, 0] (Host.dotGeneral dot_S4096x128_S4096x2048_S128x2048_0_0_1_1_n_n none (extf .f32 d bitsLt_bf16_f32) (extf .f32 u bitsLt_bf16_f32)) transposes_S128x2048_S2048x128_1_0) bitsLt_bf16_f32) transposes_S2048x128_S128x2048_1_0) (fun k => (((![constantI S_ 32 10240#32, constantI S_ 32 0#32] : Fin 2 → (⟨S_, .i32⟩ : BufTy).Contents (Elt Ideal))) k (Shape.Idx.first h_S_)).toInt) updateFits_S10368x2048_S128x2048
      = fun i => MambaInDwDtIdeal.Product.spec d u g (i 0) (i 1) := by
  rw [Host.dynamicUpdateSlice_eq_updateSlice _ _ _ _ ![10240, 0] (by decide) (by decide)]
  funext i
  unfold MambaInDwDtIdeal.Product.spec strip
  pointwise

end Cert.MambaInDwDtReferenceIdeal.Product

namespace Cert.MambaInDxBcIdeal.Product

open Cert.MambaInDxBcIdeal Cert.MambaInDxBcIdeal.Gen

/-- Entry (r, j) of the product of `a` with rows 8192 to 10239 of `w`, added to `d`. -/
def spec (a : FVec Ideal S4096x2048 .bf16) (w : FVec Ideal S10368x2048 .bf16) (d : FVec Ideal S4096x2048 .f32) (r : Fin 4096) (j : Fin 2048) : EReal :=
  (∑ k : Fin 2048, a (ix2 r k) * w (ix2 ⟨8192 + k.val, by omega⟩ j)) + d (ix2 r j)

theorem idx : ∀ t : Fin grid0.N,
    win0_0.index t = ![(grid0.coords t 0).val, 0]
    ∧ win0_1.index t = ![4, (grid0.coords t 1).val]
    ∧ win0_2.index t = ![(grid0.coords t 0).val, (grid0.coords t 1).val]
    ∧ win0_3.index t = ![(grid0.coords t 0).val, (grid0.coords t 1).val] := by decide +kernel

theorem out (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
    (x : Vec Ideal S1024x2048 .bf16) (y : Vec Ideal S2048x1024 .bf16) (z : Vec Ideal S1024x1024 .f32) (e : S1024x1024.Idx) :
    out0_A_3 c i arg3 harg3 arg4 harg4 arg5 harg5 arg6 harg6 x y z e = ((∑ k : Fin 2048, x (ix2 (e 0) k) * y (ix2 k (e 1)) : EReal) + z e : EReal) := by
  unfold out0_A_3
  rw [View.read_writes_eq_canon _ _ _ (cover0_A_3 c i arg3 harg3 arg4 harg4 arg5 harg5 arg6 harg6 x y z)]
  unfold kernelRun0_A
  dsimp only
  rw [View.canon_unit_zero hz]
  simp only [View.readAt_eq_ld, harg3.read_unread, harg4.read_unread, harg5.read_unread, View.ld_unit_zero (S := S1024x2048) hz, View.ld_unit_zero (S := S2048x1024) hz, View.ld_unit_zero (S := S1024x1024) hz]
  unfold k0_pay1
  pointwise

variable (m : (ℓ : Loc nD τ sig) → Buf (Elt Ideal) ℓ) (c : Dev nD)

/-- The weight's block at point `t`, entry by entry. -/
theorem weight (t : Fin cfg0.N) (k : Fin 2048) (e : Fin 1024) (j : Fin 2048) (hj : j.val = (grid0.coords t 1).val * 1024 + e.val) :
    X0_1 m c t (ix2 k e) = m ((c : Thread nD τ).loc main_arg1) (ix2 ⟨8192 + k.val, by omega⟩ j) := by
  unfold X0_1 Pipeline.Window.fill
  rw [dif_pos (moved0_1 t _)]
  blk_ext [iblk, V, idx t] <;> omega

theorem array : (dats m 0 c).arrAt 3 cfg0.N = fun i =>
    spec (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  have r1 : ((win0_3.blk t).view.emb y 1).val = (grid0.coords t 1).val * 1024 + (y 1).val := by blk_simp [idx t]
  blk_simp
  rw [after0_3]
  unfold outsAt0
  refine (out _ _ _ _ _ _ _ _ _ _ _ _ _ y).trans ?_
  unfold spec
  refine congrArg₂ _ (Finset.sum_congr rfl fun k _ => ?_) ?_
  · congr 1
    · blk_ext [iblk, V, idx t]
    · exact weight m c t k _ _ r1
  · blk_ext [iblk, V, idx t]

end Cert.MambaInDxBcIdeal.Product

namespace Cert.MambaInDxBcReferenceIdeal.Product

open Cert.MambaInDxBcReferenceIdeal Cert.MambaInDxBcReferenceIdeal.Gen

theorem result (a : FVec Ideal S4096x2048 .bf16) (w : FVec Ideal S10368x2048 .bf16) (d : FVec Ideal S4096x2048 .f32) :
    addf d (Host.dotGeneral dot_S4096x2048_S2048x2048_S4096x2048_1_1_0_0_n_n none (extf .f32 a bitsLt_bf16_f32) (extf .f32 (transpose S2048x2048 [1, 0] (extractStridedSlice S2048x2048 ![8192, 0] w slices_S10368x2048_S2048x2048_8192_0) transposes_S2048x2048_S2048x2048_1_0) bitsLt_bf16_f32))
      = fun i => MambaInDxBcIdeal.Product.spec a w d (i 0) (i 1) := by
  funext i
  unfold MambaInDxBcIdeal.Product.spec
  pointwise
  exact add_comm _ _

end Cert.MambaInDxBcReferenceIdeal.Product

namespace Cert.MambaInDxDtIdeal.Product

open Cert.MambaInDxDtIdeal Cert.MambaInDxDtIdeal.Gen

/-- Entry (r, j) of the product of `a` with the last 128 rows of `w`, added to `d`. -/
def spec (a : FVec Ideal S4096x128 .bf16) (w : FVec Ideal S10368x2048 .bf16) (d : FVec Ideal S4096x2048 .f32) (r : Fin 4096) (j : Fin 2048) : EReal :=
  (∑ k : Fin 128, a (ix2 r k) * w (ix2 ⟨10240 + k.val, by omega⟩ j)) + d (ix2 r j)

theorem idx : ∀ t : Fin grid0.N,
    win0_0.index t = ![(grid0.coords t 0).val, 0]
    ∧ win0_1.index t = ![80, (grid0.coords t 1).val]
    ∧ win0_2.index t = ![(grid0.coords t 0).val, (grid0.coords t 1).val]
    ∧ win0_3.index t = ![(grid0.coords t 0).val, (grid0.coords t 1).val] := by decide +kernel

theorem out (x : Vec Ideal S1024x128 .bf16) (y : Vec Ideal S128x1024 .bf16) (z : Vec Ideal S1024x1024 .f32) (e : S1024x1024.Idx) :
    out0_3 x y z e = ((∑ k : Fin 128, x (ix2 (e 0) k) * y (ix2 k (e 1)) : EReal) + z e : EReal) := by
  unfold out0_3
  rw [View.canon_unit_zero hz]
  simp only [View.ld_unit_zero (S := S1024x128) hz, View.ld_unit_zero (S := S128x1024) hz, View.ld_unit_zero (S := S1024x1024) hz]
  unfold k0_pay1
  pointwise

variable (m : (ℓ : Loc nD τ sig) → Buf (Elt Ideal) ℓ) (c : Dev nD)

theorem array : (dats m 0 c).arrAt 3 cfg0.N = fun i =>
    spec (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  refine (out _ _ _ y).trans ?_
  unfold spec
  refine congrArg₂ _ (Finset.sum_congr rfl fun k _ => ?_) ?_
  · congr 1 <;> blk_ext [iblk, V, idx t]
  · blk_ext [iblk, V, idx t]

end Cert.MambaInDxDtIdeal.Product

namespace Cert.MambaInDxDtReferenceIdeal.Product

open Cert.MambaInDxDtReferenceIdeal Cert.MambaInDxDtReferenceIdeal.Gen

theorem result (a : FVec Ideal S4096x128 .bf16) (w : FVec Ideal S10368x2048 .bf16) (d : FVec Ideal S4096x2048 .f32) :
    addf d (Host.dotGeneral dot_S4096x128_S2048x128_S4096x2048_1_1_0_0_n_n none (extf .f32 a bitsLt_bf16_f32) (extf .f32 (transpose S2048x128 [1, 0] (extractStridedSlice S128x2048 ![10240, 0] w slices_S10368x2048_S128x2048_10240_0) transposes_S128x2048_S2048x128_1_0) bitsLt_bf16_f32))
      = fun i => MambaInDxDtIdeal.Product.spec a w d (i 0) (i 1) := by
  funext i
  unfold MambaInDxDtIdeal.Product.spec
  pointwise
  exact add_comm _ _

end Cert.MambaInDxDtReferenceIdeal.Product
-- ==== Proof.Norm.lean ====
/- The normalisation of the rows, and its gradient. -/
module

public import proofs.«01_k».proof.Proof.Sums
public import proofs.«01_k».proof.Proof.Finite
public import proofs.«01_k».proof.Proof.Gen.NormIdeal.Value
public import proofs.«01_k».proof.Proof.Gen.NormReferenceIdeal.Run
public import proofs.«01_k».proof.Proof.Gen.NormBwdIdeal.Value
public import proofs.«01_k».proof.Proof.Gen.NormBwdReferenceIdeal.Run

@[expose] public section

set_option maxRecDepth 16384

noncomputable section

open Idealize.ShloMosaic Idealize.ShloMosaic.TcCoe Idealize.ShloMosaic.Tactic Cert.Product

namespace Cert.Norm

/-- A row's mean of squares, with the normalisation's small constant added. -/
def square (x : Fin 2048 → EReal) : EReal :=
  Ideal.div (∑ k, x k * x k) (Ideal.ofBits .f32 0x45000000#32) + Ideal.ofBits .f32 0x3727C5AC#32

/-- What a row is scaled by. -/
def scale (x : Fin 2048 → EReal) : EReal := Ideal.rsqrt (square x)

/-- One entry of the gradient at a row `x`, from the gradient `y` at the row before its weights: `a` and `b` are the entries of `x` and `y`. -/
def grad (x y : Fin 2048 → EReal) (a b : EReal) : EReal :=
  scale x * (b - a * scale x * Ideal.div (∑ k, y k * (x k * scale x)) (Ideal.ofBits .f32 0x45000000#32))

/-- The factor of `x` in the gradient that passes through the row's mean of squares, once for each factor of a square. -/
def through (x y : Fin 2048 → EReal) : EReal :=
  Ideal.div ((∑ k, x k * y k) * (Ideal.ofBits .f32 0xBF000000#32 * Ideal.div (scale x) (square x))) (Ideal.ofBits .f32 0x45000000#32)

theorem length : Ideal.ofBits .f32 0x45000000#32 = ((2048 : ℝ) : EReal) := by
  simp [Ideal.ofBits, Ideal.ieee]
  rw [← EReal.coe_mul]
  norm_num

theorem half : Ideal.ofBits .f32 0xBF000000#32 = ((-1 / 2 : ℝ) : EReal) := by
  simp [Ideal.ofBits, Ideal.ieee]
  rw [← EReal.coe_mul]
  norm_num

theorem small : ∃ e : ℝ, 0 < e ∧ Ideal.ofBits .f32 0x3727C5AC#32 = (e : EReal) := by
  refine ⟨_, ?_, by simp [Ideal.ofBits, Ideal.ieee]; rfl⟩
  norm_num

/-- The mean of squares, with the constant added, is above zero: infinity, or a real number. -/
theorem square_cases (x : Fin 2048 → EReal) : square x = ⊤ ∨ ∃ v : ℝ, 0 < v ∧ square x = v := by
  obtain ⟨e, he, hs⟩ := small
  have h0 : 0 ≤ ∑ k, x k * x k := Finset.sum_nonneg fun k _ => by
    rw [EReal.mul_nonneg_iff]
    exact (le_total 0 (x k)).imp (fun h => ⟨h, h⟩) fun h => ⟨h, h⟩
  unfold square
  rw [length, hs, Ideal.div_coe (by norm_num)]
  generalize ∑ k, x k * x k = z at h0
  induction z using EReal.rec with
  | bot => simp at h0
  | top => left; rw [EReal.top_mul_coe_of_pos (by norm_num)]; rfl
  | coe r =>
    have hr : 0 ≤ r := by exact_mod_cast h0
    exact .inr ⟨r * (1 / 2048) + e, by positivity, by push_cast; rfl⟩

/-- A real factor that is not negative moves out of a sum. -/
theorem sum_scale {n : ℕ} (r : ℝ) (h : 0 ≤ r) (f : Fin n → EReal) : ∑ k, f k * (r : EReal) = (∑ k, f k) * r :=
  (map_sum (⟨⟨fun z => z * (r : EReal), zero_mul _⟩, fun a b =>
    EReal.right_distrib_of_nonneg_of_ne_top (by exact_mod_cast h) (EReal.coe_ne_top r) a b⟩ : EReal →+ EReal) f Finset.univ).symm

/-- The gradient is the sum of its three parts: through the row, and twice through the mean of squares. -/
theorem grad_eq (x y : Fin 2048 → EReal) (a b : EReal) : grad x y a b = b * scale x + a * through x y + through x y * a := by
  unfold grad through
  rcases square_cases x with h | ⟨v, hv, h⟩
  · have hs : scale x = 0 := by unfold scale; rw [h, Ideal.rsqrt_top]
    rw [hs, h, length]
    simp [Ideal.div]
  · obtain ⟨r, hr, hs, hrv⟩ : ∃ r : ℝ, 0 < r ∧ scale x = r ∧ r * r * v = 1 := by
      refine ⟨(Real.sqrt v)⁻¹, by positivity, ?_, ?_⟩
      · unfold scale
        rw [h, Ideal.rsqrt_coe, if_neg (by linarith), if_neg hv.ne']
      · rw [← mul_inv, Real.mul_self_sqrt hv.le, inv_mul_cancel₀ hv.ne']
    have e : ∀ k, y k * (x k * (r : EReal)) = x k * y k * r := fun k => by ac_rfl
    rw [hs, h, length, half]
    simp only [Ideal.div_coe hv.ne', Ideal.div_coe (show (2048 : ℝ) ≠ 0 by norm_num), e]
    rw [sum_scale r hr.le]
    generalize ∑ k, x k * y k = z
    have twice : ∀ t : EReal, t + t = t * ((2 : ℝ) : EReal) := fun t => by
      rw [show ((2 : ℝ) : EReal) = 1 + 1 by norm_cast, EReal.left_distrib_of_nonneg zero_le_one zero_le_one, mul_one]
    rw [sub_eq_add_neg, EReal.left_distrib_of_nonneg_of_ne_top (by exact_mod_cast hr.le) (EReal.coe_ne_top r), mul_comm (r : EReal) b, add_assoc]
    refine congrArg (b * (r : EReal) + ·) ?_
    rw [mul_comm _ a, twice]
    have lhs : (r : EReal) * -(a * r * (z * r * ((1 / 2048 : ℝ) : EReal))) = a * z * ((r * r * r * (1 / 2048) * (-1) : ℝ) : EReal) := by
      rw [← mul_neg_one (a * r * _)]
      push_cast
      ac_rfl
    have rhs : a * (z * (((-1 / 2 : ℝ) : EReal) * (r * ((1 / v : ℝ) : EReal))) * ((1 / 2048 : ℝ) : EReal)) * ((2 : ℝ) : EReal)
        = a * z * (((-1 / 2) * (r * (1 / v)) * (1 / 2048) * 2 : ℝ) : EReal) := by
      simp only [EReal.coe_mul]
      ac_rfl
    rw [lhs, rhs]
    refine congrArg (fun q : ℝ => a * z * (q : EReal)) ?_
    field_simp
    linear_combination (-1) * hrv

end Cert.Norm

namespace Cert.NormIdeal.Product

open Cert.NormIdeal Cert.NormIdeal.Gen Cert.Norm

/-- Entry (r, j) of the normalised rows. -/
def spec (h : FVec Ideal S4096x2048 .f32) (w : FVec Ideal S2048 .f32) (r : Fin 4096) (j : Fin 2048) : EReal :=
  h (ix2 r j) * scale (fun k => h (ix2 r k)) * w (ix1 j)

theorem idx : ∀ t : Fin grid0.N,
    win0_0.index t = ![t.val, 0] ∧ win0_1.index t = ![0, 0] ∧ win0_2.index t = ![t.val, 0] := by decide +kernel

theorem pay (x : Vec Ideal S256x2048 .f32) (w : Vec Ideal S1x2048 .f32) (e : S256x2048.Idx) :
    k0_pay1 x w e = x e * scale (fun k => x (ix2 (e 0) k)) * w (ix2 0 (e 1)) := by
  unfold k0_pay1 scale square
  pointwise

theorem out (x : Vec Ideal S256x2048 .f32) (w : Vec Ideal S1x2048 .f32) (e : S256x2048.Idx) :
    out0_2 x w e = x e * scale (fun k => x (ix2 (e 0) k)) * w (ix2 0 (e 1)) := by
  unfold out0_2
  rw [View.canon_unit_zero hz]
  simp only [View.ld_unit_zero (S := S256x2048) hz, View.ld_unit_zero (S := S1x2048) hz]
  exact pay x w e

variable (m : (ℓ : Loc nD τ sig) → Buf (Elt Ideal) ℓ) (c : Dev nD)

/-- The kernel reads the weights as one row. -/
theorem weights (i : S1x2048.Idx) : V m c main_v0 i = m ((c : Thread nD τ).loc main_arg1) (ix1 (i 1)) := by
  have h : V m c main_v0 = shapeCast S1x2048 (m ((c : Thread nD τ).loc main_arg1)) shapeCasts_S2048_S1x2048 := by
    show StableHlo.after hostOps0 _ (Proc.devRef .tc main_v0) = _
    after_results
    rfl
  rw [h]
  pointwise

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ _).trans ?_
  unfold spec
  congr 1
  · congr 1
    · blk_ext [iblk, V_main_arg0, idx t]
    · refine congrArg scale (funext fun k => ?_)
      blk_ext [iblk, V_main_arg0, idx t]
  · show V m c main_v0 _ = _
    rw [weights]
    blk_ext [idx t]

end Cert.NormIdeal.Product

namespace Cert.NormReferenceIdeal.Product

open Cert.NormReferenceIdeal Cert.NormReferenceIdeal.Gen Cert.Norm

theorem result (h : FVec Ideal S4096x2048 .f32) (w : FVec Ideal S2048 .f32) :
    truncf .bf16 (mulf (mulf h (broadcastInDim S4096x2048 ![0, 1] bcast_S4096x1_S4096x2048_0_1 (Host.rsqrt (addf (Host.divf (broadcastInDim S4096x1 ![0] bcast_S4096_S4096x1_0 (Host.reduceAdd (mulf h h) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x2048 ![0, 1] bcast_S1x2048_S4096x2048_0_1 (broadcastInDim S1x2048 ![1] bcast_S2048_S1x2048_1 w))) bitsLt_bf16_f32
      = fun i => NormIdeal.Product.spec h w (i 0) (i 1) := by
  funext i
  unfold NormIdeal.Product.spec scale square
  pointwise

end Cert.NormReferenceIdeal.Product

namespace Cert.NormBwdIdeal.Product

open Cert.NormBwdIdeal Cert.NormBwdIdeal.Gen Cert.Norm

/-- Entry (r, j) of the gradient at the rows `h`, added to `d`; `u` is the gradient at the normalised rows. -/
def dh (h : FVec Ideal S4096x2048 .f32) (w : FVec Ideal S2048 .f32) (u d : FVec Ideal S4096x2048 .f32) (r : Fin 4096) (j : Fin 2048) : EReal :=
  d (ix2 r j) + grad (fun k => h (ix2 r k)) (fun k => u (ix2 r k) * w (ix1 k)) (h (ix2 r j)) (u (ix2 r j) * w (ix1 j))

/-- Entry j of the gradient at the weights. -/
def dw (h u : FVec Ideal S4096x2048 .f32) (j : Fin 2048) : EReal :=
  ∑ k : Fin 4096, u (ix2 k j) * (h (ix2 k j) * scale (fun i => h (ix2 k i)))

theorem idx : ∀ t : Fin grid0.N,
    win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] := by decide +kernel

theorem pay2 (x : Vec Ideal S256x2048 .f32) (e : S256x1.Idx) : k0_pay2 x e = scale (fun k => x (ix2 (e 0) k)) := by
  unfold k0_pay2 scale square
  pointwise

theorem pay3 (x : Vec Ideal S256x2048 .f32) (e : S256x2048.Idx) : k0_pay3 x e = x e * scale (fun k => x (ix2 (e 0) k)) := by
  unfold k0_pay3
  pointwise
  rw [pay2]
  rfl

/-- The rows stored at a point, entry by entry. -/
theorem pay4 (x u : Vec Ideal S256x2048 .f32) (w : Vec Ideal S1x2048 .f32) (d : Vec Ideal S256x2048 .f32) (e : S256x2048.Idx) :
    k0_pay4 x u w d e = d e + grad (fun k => x (ix2 (e 0) k)) (fun k => u (ix2 (e 0) k) * w (ix2 0 k)) (x e) (u e * w (ix2 0 (e 1))) := by
  unfold k0_pay4 grad
  pointwise
  simp only [pay2, pay3]
  rfl

/-- What a point adds to the gradient at the weights. -/
theorem pay6 (x u : Vec Ideal S256x2048 .f32) (e : S1x2048.Idx) :
    k0_pay6 x u e = ∑ k : Fin 256, u (ix2 k (e 1)) * (x (ix2 k (e 1)) * scale (fun j => x (ix2 k j))) := by
  unfold k0_pay6
  pointwise
  simp only [pay3]
  rfl

theorem pay1 (p a : FVec Ideal S1x2048 .f32) : k0_pay1 p a = addf a p := by
  funext i
  unfold k0_pay1
  pointwise

section Cases

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg6 : Memref sig .tc .vmem S256x2048 .f32) (harg6 : arg6.IsWhole) (arg7 : Memref sig .tc .vmem S256x2048 .bf16) (harg7 : arg7.IsWhole) (arg8 : Memref sig .tc .vmem S1x2048 .f32) (harg8 : arg8.IsWhole)
  (x : Vec Ideal S256x2048 .f32) (w : Vec Ideal S1x2048 .f32) (u d : Vec Ideal S256x2048 .f32) (a : FVec Ideal S1x2048 .f32)

/-- The first point stores its rows, and its part of the gradient at the weights as it is. -/
theorem first (hc0 : cond0_0 i) (hc1 : ¬cond0_1 i) :
    (out0_A_4 c i arg1 harg1 arg2 harg2 arg3 harg3 arg4 harg4 arg6 harg6 arg7 harg7 arg8 harg8 hc0 hc1 x w u d, out0_A_5 c i arg1 harg1 arg2 harg2 arg3 harg3 arg4 harg4 arg6 harg6 arg7 harg7 arg8 harg8 hc0 hc1 x w u d, out0_A_6 c i arg1 harg1 arg2 harg2 arg3 harg3 arg4 harg4 arg6 harg6 arg7 harg7 arg8 harg8 hc0 hc1 x w u d)
      = (k0_pay4 x u w d, k0_pay5 x u w d, k0_pay6 x u) := by
  unfold out0_A_4 out0_A_5 out0_A_6
  rw [View.read_writes_eq_canon _ _ _ (cover0_A_4 c i arg1 harg1 arg2 harg2 arg3 harg3 arg4 harg4 arg6 harg6 arg7 harg7 arg8 harg8 hc0 hc1 x w u d),
    View.read_writes_eq_canon _ _ _ (cover0_A_5 c i arg1 harg1 arg2 harg2 arg3 harg3 arg4 harg4 arg6 harg6 arg7 harg7 arg8 harg8 hc0 hc1 x w u d),
    View.read_writes_eq_canon _ _ _ (cover0_A_6 c i arg1 harg1 arg2 harg2 arg3 harg3 arg4 harg4 arg6 harg6 arg7 harg7 arg8 harg8 hc0 hc1 x w u d)]
  unfold kernelRun0_A
  dsimp only
  sl_unfold_words
  rw [View.canon_unit_zero hz, View.canon_unit_zero hz, View.canon_unit_zero hz]
  simp only [View.readAt_eq_ld, harg1.read_unread, harg2.read_unread, harg3.read_unread, harg4.read_unread, View.ld_unit_zero (S := S256x2048) hz, View.ld_unit_zero (S := S1x2048) hz]

/-- A later point stores its rows, and adds its part to what the block holds. -/
theorem later (hc0 : ¬cond0_0 i) (hc1 : cond0_1 i) :
    (out0_B_4 c i arg1 harg1 arg2 harg2 arg3 harg3 arg4 harg4 arg6 harg6 arg7 harg7 arg8 harg8 hc0 hc1 x w u d a, out0_B_5 c i arg1 harg1 arg2 harg2 arg3 harg3 arg4 harg4 arg6 harg6 arg7 harg7 arg8 harg8 hc0 hc1 x w u d a, out0_B_6 c i arg1 harg1 arg2 harg2 arg3 harg3 arg4 harg4 arg6 harg6 arg7 harg7 arg8 harg8 hc0 hc1 x w u d a)
      = (k0_pay4 x u w d, k0_pay5 x u w d, (addf a (k0_pay6 x u) : FVec Ideal S1x2048 .f32)) := by
  unfold out0_B_4 out0_B_5 out0_B_6
  rw [View.read_writes_eq_canon _ _ _ (cover0_B_4 c i arg1 harg1 arg2 harg2 arg3 harg3 arg4 harg4 arg6 harg6 arg7 harg7 arg8 harg8 hc0 hc1 x w u d a),
    View.read_writes_eq_canon _ _ _ (cover0_B_5 c i arg1 harg1 arg2 harg2 arg3 harg3 arg4 harg4 arg6 harg6 arg7 harg7 arg8 harg8 hc0 hc1 x w u d a),
    View.read_writes_eq_canon _ _ _ (cover0_B_6 c i arg1 harg1 arg2 harg2 arg3 harg3 arg4 harg4 arg6 harg6 arg7 harg7 arg8 harg8 hc0 hc1 x w u d a)]
  unfold kernelRun0_B
  dsimp only
  sl_unfold_words
  rw [View.canon_unit_zero hz, View.canon_unit_zero hz, View.canon_unit_zero hz]
  simp only [View.readAt_eq_ld, harg1.read_unread, harg2.read_unread, harg3.read_unread, harg4.read_unread, harg8.read_unread, View.ld_unit_zero (S := S256x2048) hz, View.ld_unit_zero (S := S1x2048) hz, pay1]

end Cases

variable (m : (ℓ : Loc nD τ sig) → Buf (Elt Ideal) ℓ) (c : Dev nD)

/-- The kernel reads the weights as one row. -/
theorem weights (i : S1x2048.Idx) : V m c main_v0 i = m ((c : Thread nD τ).loc main_arg1) (ix1 (i 1)) := by
  have h : V m c main_v0 = shapeCast S1x2048 (m ((c : Thread nD τ).loc main_arg1)) shapeCasts_S2048_S1x2048 := by
    show StableHlo.after hostOps0 _ (Proc.devRef .tc main_v0) = _
    after_results
    rfl
  rw [h]
  pointwise

/-- The rows that a point stores, in either format. -/
theorem rows (t : Fin cfg0.N) :
    (outsAt0 m c t.val t.isLt).1 = k0_pay4 (iblk m c 0 t) (iblk m c 2 t) (iblk m c 1 t) (iblk m c 3 t)
    ∧ (outsAt0 m c t.val t.isLt).2.1 = k0_pay5 (iblk m c 0 t) (iblk m c 2 t) (iblk m c 1 t) (iblk m c 3 t) := by
  have ht : t.val < 16 := lt_of_lt_of_eq t.isLt N_0
  by_cases h : t.val % 16 = 0
  · have e := (outsAt0_A m c t h (by omega)).trans (first ..)
    exact ⟨congrArg Prod.fst e, congrArg (fun p => p.2.1) e⟩
  · have e := (outsAt0_B m c t h (by omega)).trans (later ..)
    exact ⟨congrArg Prod.fst e, congrArg (fun p => p.2.1) e⟩

/-- What point `s` adds to the gradient at the weights. -/
def at_ (s : ℕ) (e : S1x2048.Idx) : EReal :=
  if h : s < cfg0.N then k0_pay6 (iblk m c 0 ⟨s, h⟩) (iblk m c 2 ⟨s, h⟩) e else 0

/-- After a point the block holds what the points so far have added. -/
theorem after_points : ∀ (n : ℕ) (hn : n < cfg0.N), (outsAt0 m c n hn).2.2 = fun e => ∑ s ∈ Finset.range (n + 1), at_ m c s e
  | 0, hn => by
    refine (congrArg (fun p => p.2.2) ((outsAt0_A m c ⟨0, hn⟩ rfl (by simp)).trans (first ..))).trans (funext fun e => ?_)
    rw [Finset.sum_range_one, at_, dif_pos hn]
  | n + 1, hn => by
    have h16 : n + 1 < 16 := lt_of_lt_of_eq hn N_0
    have ih := after_points n (Nat.lt_of_succ_lt hn)
    refine (congrArg (fun p => p.2.2) ((outsAt0_B m c ⟨n + 1, hn⟩ (by dsimp only; omega) (by dsimp only; omega)).trans (later ..))).trans (funext fun e => ?_)
    rw [Finset.sum_range_succ, at_, dif_pos hn]
    exact congrArg (· + _) (congrFun ih e)

/-- An entry of the rows that a point stores. -/
theorem entry (t : Fin cfg0.N) (i : Fin 256) (j : Fin 2048) (r : Fin 4096) (hr : r.val = t.val * 256 + i.val) :
    k0_pay4 (iblk m c 0 t) (iblk m c 2 t) (iblk m c 1 t) (iblk m c 3 t) (ix2 i j)
      = dh (m ((c : Thread nD τ).loc main_arg0)) (m ((c : Thread nD τ).loc main_arg1)) (m ((c : Thread nD τ).loc main_arg2)) (m ((c : Thread nD τ).loc main_arg3)) r j := by
  have h0 : ∀ k, iblk m c 0 t (ix2 i k) = m ((c : Thread nD τ).loc main_arg0) (ix2 r k) := fun k => by
    blk_ext [iblk, V_main_arg0, idx t] <;> omega
  have h2 : ∀ k, iblk m c 2 t (ix2 i k) = m ((c : Thread nD τ).loc main_arg2) (ix2 r k) := fun k => by
    blk_ext [iblk, V_main_arg2, idx t] <;> omega
  have h3 : ∀ k, iblk m c 3 t (ix2 i k) = m ((c : Thread nD τ).loc main_arg3) (ix2 r k) := fun k => by
    blk_ext [iblk, V_main_arg3, idx t] <;> omega
  have h1 : ∀ k, iblk m c 1 t (ix2 0 k) = m ((c : Thread nD τ).loc main_arg1) (ix1 k) := fun k => by
    show V m c main_v0 _ = _
    rw [weights]
    blk_ext [idx t]
  refine (pay4 _ _ _ _ _).trans ?_
  unfold dh
  rw [← h0, ← h2, ← h3, ← h1]
  simp only [← h0, ← h1, ← h2]
  rfl

theorem array4 : (dats m 0 c).arrAt 4 cfg0.N = fun i => dh (m ((c : Thread nD τ).loc main_arg0)) (m ((c : Thread nD τ).loc main_arg1))
    (m ((c : Thread nD τ).loc main_arg2)) (m ((c : Thread nD τ).loc main_arg3)) (i 0) (i 1) := by
  refine (dats m 0 c).arrAt_eq_of_covers 4 _ (by decide +kernel) fun t hf y => ?_
  have r0 : ((win0_4.blk t).view.emb y 0).val = t.val * 256 + (y 0).val := by blk_simp [idx t]
  have hy : y = ix2 (y 0) (y 1) := by funext a; fin_cases a <;> rfl
  blk_simp
  rw [after0_4, (rows m c t).1]
  refine (congrArg _ hy).trans ((entry m c t (y 0) (y 1) _ r0).trans (congrArg _ (Fin.ext ?_)))
  blk_simp [idx t]

theorem array5 : (dats m 0 c).arrAt 5 cfg0.N = fun i => dh (m ((c : Thread nD τ).loc main_arg0)) (m ((c : Thread nD τ).loc main_arg1))
    (m ((c : Thread nD τ).loc main_arg2)) (m ((c : Thread nD τ).loc main_arg3)) (i 0) (i 1) := by
  refine (dats m 0 c).arrAt_eq_of_covers 5 _ (by decide +kernel) fun t hf y => ?_
  have r0 : ((win0_5.blk t).view.emb y 0).val = t.val * 256 + (y 0).val := by blk_simp [idx t]
  have hy : y = ix2 (y 0) (y 1) := by funext a; fin_cases a <;> rfl
  blk_simp
  rw [after0_5, (rows m c t).2]
  refine (congrArg _ hy).trans ((entry m c t (y 0) (y 1) _ r0).trans (congrArg _ (Fin.ext ?_)))
  blk_simp [idx t]

theorem array6 : (dats m 0 c).arrAt 6 cfg0.N = fun i => dw (m ((c : Thread nD τ).loc main_arg0)) (m ((c : Thread nD τ).loc main_arg2)) (i 1) := by
  refine (dats m 0 c).arrAt_eq_of_covers 6 _ (by decide +kernel) fun t hf y => ?_
  have ht : t.val < 16 := lt_of_lt_of_eq t.isLt N_0
  have h15 : t.val = 15 := by have := (flush0_6 t).mp hf; omega
  have r1 : (win0_6.blk t).view.emb y 1 = y 1 := Fin.ext (by blk_simp [idx t])
  blk_simp
  rw [after0_6, after_points, h15]
  refine (Finset.sum_range (M := EReal) (fun s => at_ m c s y)).trans ((Eq.trans ?_ (parts 16 256 _).symm).trans (congrArg (dw _ _) r1.symm))
  refine Finset.sum_congr rfl fun s _ => ?_
  rw [at_, dif_pos (lt_of_lt_of_eq s.isLt N_0.symm)]
  refine (pay6 _ _ _).trans (Finset.sum_congr rfl fun k _ => ?_)
  congr 1
  · blk_ext [iblk, V_main_arg2, idx ⟨s.val, lt_of_lt_of_eq s.isLt N_0.symm⟩]
  · congr 1
    · blk_ext [iblk, V_main_arg0, idx ⟨s.val, lt_of_lt_of_eq s.isLt N_0.symm⟩]
    · refine congrArg scale (funext fun j => ?_)
      blk_ext [iblk, V_main_arg0, idx ⟨s.val, lt_of_lt_of_eq s.isLt N_0.symm⟩]

end Cert.NormBwdIdeal.Product

namespace Cert.NormBwdReferenceIdeal.Product

open Cert.NormBwdReferenceIdeal Cert.NormBwdReferenceIdeal.Gen Cert.Norm

theorem result_dw (h u : FVec Ideal S4096x2048 .f32) : broadcastInDim S1x2048 ![1] bcast_S2048_S1x2048_1 (Host.reduceAdd (shapeCast _ (Host.reduceAdd (mulf (mulf h (broadcastInDim S4096x2048 ![0, 1] bcast_S4096x1_S4096x2048_0_1 (Host.rsqrt (addf (Host.divf (broadcastInDim S4096x1 ![0] bcast_S4096_S4096x1_0 (Host.reduceAdd (mulf h h) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) u) (constant S_ .f32 0x00000000#32) reducesTo_S4096x2048_S2048_d0 h_S_) shapeCasts_S2048_S1x2048) (constant S_ .f32 0x00000000#32) reducesTo_S1x2048_S2048_d0 h_S_)
      = fun i => NormBwdIdeal.Product.dw h u (i 1) := by
  funext i
  unfold NormBwdIdeal.Product.dw scale square
  pointwise
  rw [Fintype.sum_unique]
  exact Finset.sum_congr rfl fun k _ => mul_comm _ _

theorem result_dh (h u d : FVec Ideal S4096x2048 .f32) (w : FVec Ideal S2048 .f32) : addf d (addf (addf (mulf (mulf u (broadcastInDim S4096x2048 ![0, 1] bcast_S1x2048_S4096x2048_0_1 (broadcastInDim S1x2048 ![1] bcast_S2048_S1x2048_1 w))) (broadcastInDim S4096x2048 ![0, 1] bcast_S4096x1_S4096x2048_0_1 (Host.rsqrt (addf (Host.divf (broadcastInDim S4096x1 ![0] bcast_S4096_S4096x1_0 (Host.reduceAdd (mulf h h) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (mulf h (broadcastInDim S4096x2048 ![0] bcast_S4096_S4096x2048_0 (Host.reduceAdd (Host.divf (mulf (shapeCast _ (Host.reduceAdd (mulf h (mulf u (broadcastInDim S4096x2048 ![0, 1] bcast_S1x2048_S4096x2048_0_1 (broadcastInDim S1x2048 ![1] bcast_S2048_S1x2048_1 w)))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))) (addf (Host.divf (broadcastInDim S4096x1 ![0] bcast_S4096_S4096x1_0 (Host.reduceAdd (mulf h h) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf h (mulf u (broadcastInDim S4096x2048 ![0, 1] bcast_S1x2048_S4096x2048_0_1 (broadcastInDim S1x2048 ![1] bcast_S2048_S1x2048_1 w)))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf h h) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))) (addf (Host.divf (broadcastInDim S4096x1 ![0] bcast_S4096_S4096x1_0 (Host.reduceAdd (mulf h h) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32)))))) (broadcastInDim S4096x1 ![] bcast_S_S4096x1 (constant S_ .f32 0x45000000#32))) (constant S_ .f32 0x00000000#32) reducesTo_S4096x1_S4096_d1 h_S_)) h))
      = fun i => NormBwdIdeal.Product.dh h w u d (i 0) (i 1) := by
  funext i
  unfold NormBwdIdeal.Product.dh
  rw [grad_eq]
  unfold through scale square
  pointwise
  simp only [Fintype.sum_unique]

end Cert.NormBwdReferenceIdeal.Product
-- ==== Proof.Mid.lean ====
/- The gated convolution of the feed-forward block, forwards. -/
module

public import proofs.«01_k».proof.Proof.Point
public import proofs.«01_k».proof.Proof.Gen.MidIdeal.Value
public import proofs.«01_k».proof.Proof.Gen.MidReferenceIdeal.Run

@[expose] public section

set_option maxRecDepth 16384

noncomputable section

open Idealize.ShloMosaic Idealize.ShloMosaic.TcCoe Idealize.ShloMosaic.Tactic Cert.Spec

namespace Cert.Mid

/-- A channel under eight zero rows. -/
def pad (x : Fin 2048 → EReal) (t : ℕ) : EReal := if h : 8 ≤ t ∧ t - 8 < 2048 then x ⟨t - 8, h.2⟩ else 0

/-- Row `t` of the gated product: `p, w, b` the gate channel, `q, v, d` the value channel. -/
def gated (p q : ℕ → EReal) (w v : Fin 3 → EReal) (b d : EReal) (t : ℕ) : EReal :=
  pre p w b t * Ideal.logistic (pre p w b t) * pre q v d t

end Cert.Mid

namespace Cert.MidIdeal.Product

open Cert.MidIdeal Cert.MidIdeal.Gen Cert.Mid Cert.KernelIdeal.Block

theorem trips : k0_t1_loop.trips = 8 := by decide +kernel

/-- What is stored of a row, from the two convolutions. -/
theorem stored_apply (v : Vec Ideal S1x256 .f32) (g f : FVec Ideal S256x256 .f32) (r l : Fin 256) :
    k0_pay6 v g f (ix3 0 r l)
      = g (ix2 r l) * Ideal.logistic (g (ix2 r l)) * (f (ix2 r l) + v (ix2 0 l)) := by
  pointwise [k0_pay6]

/-- The convolutions are the backward kernel's. -/
theorem conv_gate (v : FVec Ideal S1x256 .f32) (e : Vec Ideal S264x256 .f32) (x y z : Vec Ideal S1x256 .f32) :
    k0_pay7 v e x y z = KernelIdeal.Gen.k0_pay18 v e x y z := rfl

theorem conv_value (e : Vec Ideal S264x256 .f32) (x y z : Vec Ideal S1x256 .f32) :
    k0_pay8 e x y z = KernelIdeal.Gen.k0_pay17 e x y z := rfl

/-- The channels of one block of columns. -/
structure Columns where
  p : Fin 256 → ℕ → EReal
  q : Fin 256 → ℕ → EReal
  w : Fin 256 → Fin 3 → EReal
  v : Fin 256 → Fin 3 → EReal
  b : Fin 256 → EReal
  d : Fin 256 → EReal

/-- The gated product of a block of columns. -/
def Columns.out (L : Columns) : Vec Ideal S1x2048x256 .bf16 := fun j =>
  gated (L.p (j 2)) (L.q (j 2)) (L.w (j 2)) (L.v (j 2)) (L.b (j 2)) (L.d (j 2)) (j 1).val

/-- 256 rows of a gated product, stored from row `256 k`. -/
theorem piece (L : Columns) (k o : ℕ) (ho : o = 256 * k) (inb) (y : FVec Ideal S1x256x256 .bf16)
    (hy : ∀ r l : Fin 256, y (ix3 0 r l) = gated (L.p l) (L.q l) (L.w l) (L.v l) (L.b l) (L.d l) (256 * k + r.val)) (x) :
    y x = L.out ((Rect.unit (s := S1x2048x256) ![0, o, 0] ![1, 256, 256] inb).emb x) := by
  subst ho
  obtain ⟨r, l, rfl⟩ : ∃ r l, x = ix3 0 r l :=
    ⟨x 1, x 2, by ext a; fin_cases a <;> first | rfl | exact congrArg Fin.val (Subsingleton.elim (α := Fin 1) _ _)⟩
  have e1 : ((Rect.unit (s := S1x2048x256) ![0, 256 * k, 0] ![1, 256, 256] inb).emb (ix3 0 r l) 1).val = 256 * k + r.val := by
    rw [ValueKit.rect_emb_unit_val]; rfl
  have e2 : (Rect.unit (s := S1x2048x256) ![0, 256 * k, 0] ![1, 256, 256] inb).emb (ix3 0 r l) 2 = l := by
    apply Fin.ext; rw [ValueKit.rect_emb_unit_val]; simp [ix3]
  rw [Columns.out, e1, e2, hy]

section Loop

variable (𝒱 : Variants) (c : Dev nD) (bd : Option 𝒱.V) (i : grid0.Coords)
  (arg2 : Memref sig .tc .vmem S1x2048x256 .f32) (harg2 : arg2.IsWhole)
  (arg3 : Memref sig .tc .vmem S1x2048x256 .f32) (harg3 : arg3.IsWhole)
  (arg4 : Memref sig .tc .vmem S3x256 .f32) (harg4 : arg4.IsWhole)
  (arg5 : Memref sig .tc .vmem S3x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S1x2048x256 .bf16) (harg8 : arg8.IsWhole)
  (arg9 : Memref sig .tc .vmem S2056x256 .f32) (harg9 : arg9.IsWhole)
  (arg10 : Memref sig .tc .vmem S2056x256 .f32) (harg10 : arg10.IsWhole)

/-- One trip stores 256 rows of the gated product. -/
theorem trip (L : Columns) (v18 v20 : Vec Ideal S1x256 .f32)
    (X4 : arg4.view.ty.Contents (Elt Ideal)) (X5 : arg5.view.ty.Contents (Elt Ideal))
    (X9 : arg9.view.ty.Contents (Elt Ideal)) (X10 : arg10.view.ty.Contents (Elt Ideal))
    (hb : ∀ l : Fin 256, v18 (ix2 0 l) = L.b l) (hd : ∀ l : Fin 256, v20 (ix2 0 l) = L.d l)
    (h4 : ∀ (r : Fin 3) (l : Fin 256), arg4.view.read (Elt Ideal) X4 (ix2 r l) = L.w l r)
    (h5 : ∀ (r : Fin 3) (l : Fin 256), arg5.view.read (Elt Ideal) X5 (ix2 r l) = L.v l r)
    (h9 : ∀ (r : Fin 2056) (l : Fin 256), arg9.view.read (Elt Ideal) X9 (ix2 r l) = L.p l r.val)
    (h10 : ∀ (r : Fin 2056) (l : Fin 256), arg10.view.read (Elt Ideal) X10 (ix2 r l) = L.q l r.val)
    (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 v18 v20 X4 X5 X9 X10 k,
      ∀ x, p.2 x = L.out (p.1.emb x) := by
  have hk : k.val < 8 := trips ▸ k.isLt
  have row : BitVec.toNat (Scalar.indexCast (Scalar.muli (Scf.iv 0#32 1#32 k.val) 256#32)) = 256 * k.val := row1 k
  unfold tripL_k0_t1 trip_k0_t1
  dsimp only
  sl_unfold_words
  simp only [View.readAt_eq_ld]
  refine (List.forall_mem_singleton ..).2 fun x => piece L k.val _ row (k0_off2_inb k) _ (fun r l => ?_) x
  refine (stored_apply _ _ _ r l).trans ?_
  rw [conv_gate, conv_value]
  rw [conv_apply _ _ _ _ _ (L.p l) (L.w l) (256 * k.val) r l ?_ ?_ ?_ ?_,
    show v20 (ix2 0 l) = L.d l from hd l,
    conv_nobias_apply _ _ _ _ (L.q l) (L.v l) (L.d l) (256 * k.val) r l ?_ ?_ ?_ ?_]
  · rw [show k0_pay5 v18 (ix2 0 l) = L.b l by rw [← hb l]; pointwise [k0_pay5]]
    rfl
  · intro s; exact (ld264 _ _ _ _ _ (by rw [row]; have := s.isLt; omega)).trans ((h10 _ _).trans (by simp only [row]))
  · exact (ldTap _ _ _ _ (by omega)).trans (h5 _ _)
  · exact (ldTap _ _ _ _ (by omega)).trans (h5 _ _)
  · exact (ldTap _ _ _ _ (by omega)).trans (h5 _ _)
  · intro s; exact (ld264 _ _ _ _ _ (by rw [row]; have := s.isLt; omega)).trans ((h9 _ _).trans (by simp only [row]))
  · exact (ldTap _ _ _ _ (by omega)).trans (h4 _ _)
  · exact (ldTap _ _ _ _ (by omega)).trans (h4 _ _)
  · exact (ldTap _ _ _ _ (by omega)).trans (h4 _ _)

/-- So do the trips together. -/
theorem loop (L : Columns) (v18 v20 : Vec Ideal S1x256 .f32)
    (X4 : arg4.view.ty.Contents (Elt Ideal)) (X5 : arg5.view.ty.Contents (Elt Ideal))
    (X9 : arg9.view.ty.Contents (Elt Ideal)) (X10 : arg10.view.ty.Contents (Elt Ideal))
    (hb : ∀ l : Fin 256, v18 (ix2 0 l) = L.b l) (hd : ∀ l : Fin 256, v20 (ix2 0 l) = L.d l)
    (h4 : ∀ (r : Fin 3) (l : Fin 256), arg4.view.read (Elt Ideal) X4 (ix2 r l) = L.w l r)
    (h5 : ∀ (r : Fin 3) (l : Fin 256), arg5.view.read (Elt Ideal) X5 (ix2 r l) = L.v l r)
    (h9 : ∀ (r : Fin 2056) (l : Fin 256), arg9.view.read (Elt Ideal) X9 (ix2 r l) = L.p l r.val)
    (h10 : ∀ (r : Fin 2056) (l : Fin 256), arg10.view.read (Elt Ideal) X10 (ix2 r l) = L.q l r.val)
    (k : ℕ) (hk : k ≤ 8) :
    ∀ p ∈ pb_k0_t1 (F := Ideal) 𝒱 c bd i arg2 harg2 arg3 harg3 arg4 harg4 arg5 harg5 arg6 harg6 arg7 harg7 arg8 harg8 arg9 harg9 arg10 harg10 v18 v20 X4 X5 X9 X10 k,
      ∀ x, p.2 x = L.out (p.1.emb x) := by
  induction k with
  | zero => intro p hp; exact absurd hp (by rw [pb_k0_t1]; exact List.not_mem_nil)
  | succ k ih =>
    have hs := pb_k0_t1_succ (F := Ideal) 𝒱 c bd i arg2 harg2 arg3 harg3 arg4 harg4 arg5 harg5 arg6 harg6 arg7 harg7 arg8 harg8 arg9 harg9 arg10 harg10 v18 v20 X4 X5 X9 X10 ⟨k, by rw [trips]; omega⟩
    simp only at hs
    rw [hs]
    intro p hp
    exact (List.mem_append.1 hp).elim
      (trip 𝒱 c bd i arg2 harg2 arg3 harg3 arg4 harg4 arg5 harg5 arg6 harg6 arg7 harg7 arg8 harg8 arg9 harg9 arg10 harg10 L v18 v20 X4 X5 X9 X10 hb hd h4 h5 h9 h10 _ p)
      (ih (by omega) p)

/-- The channels of a grid point, from its blocks. -/
def columns (x0 x1 : Vec Ideal S1x2048x256 .f32) (x2 x3 : Vec Ideal S3x256 .f32) (x4 x5 : Vec Ideal S1x256 .f32) : Columns where
  p l := pad fun s => x0 (ix3 0 s l)
  q l := pad fun s => x1 (ix3 0 s l)
  w l r := x2 (ix2 r l)
  v l r := x3 (ix2 r l)
  b l := x4 (ix2 0 l)
  d l := x5 (ix2 0 l)

/-- What a grid point leaves in its block. -/
theorem block (x0 x1 : Vec Ideal S1x2048x256 .f32) (x2 x3 : Vec Ideal S3x256 .f32) (x4 x5 : Vec Ideal S1x256 .f32) :
    out0_A_6 c i arg2 harg2 arg3 harg3 arg4 harg4 arg5 harg5 arg6 harg6 arg7 harg7 arg8 harg8 arg9 harg9 arg10 harg10 x0 x1 x2 x3 x4 x5
      = (columns x0 x1 x2 x3 x4 x5).out := by
  funext j
  unfold out0_A_6
  refine View.read_writes_apply_of_pieces _ _ _ _ ?_ j
    (cover0_A_6 c i arg2 harg2 arg3 harg3 arg4 harg4 arg5 harg5 arg6 harg6 arg7 harg7 arg8 harg8 arg9 harg9 arg10 harg10 x0 x1 x2 x3 x4 x5 j)
  unfold kernelRun0_A
  dsimp only
  sl_unfold_words
  refine loop Variants.none c none i arg2 harg2 arg3 harg3 arg4 harg4 arg5 harg5 arg6 harg6 arg7 harg7 arg8 harg8 arg9 harg9 arg10 harg10
    _ _ _ _ _ _ _ (fun l => ?_) (fun l => ?_) (fun r l => ?_) (fun r l => ?_) (fun r l => ?_) (fun r l => ?_) _ (le_of_eq trips)
  · simp only [View.readAt_eq_ld, harg6.read_unread]
    pointwise []
    rfl
  · simp only [View.readAt_eq_ld, harg7.read_unread]
    pointwise []
    rfl
  · rw [harg4.read_unread]; rfl
  · rw [harg5.read_unread]; rfl
  · refine padded _ _ x0 _ (fun r l => ?_) _ (fun r l => ?_) r l
    · pointwise [k0_pay1]
    · simp only [View.readAt_eq_ld, harg2.read_unread]
      pointwise [k0_pay3]
  · refine padded _ _ x1 _ (fun r l => ?_) _ (fun r l => ?_) r l
    · pointwise [k0_pay2]
    · simp only [View.readAt_eq_ld, harg3.read_unread]
      pointwise [k0_pay4]

end Loop

/-- The gated convolution of the arguments: channel `j` gates channel `5632 + j`. -/
def spec (x : FVec Ideal S2x2048x11264 .f32) (w : FVec Ideal S3x11264 .f32) (b : FVec Ideal S11264 .f32)
    (n : Fin 2) (t : ℕ) (j : Fin 5632) : EReal :=
  gated (pad fun s => x (ix3 n s (Inputs.lo j))) (pad fun s => x (ix3 n s (Inputs.hi j)))
    (fun r => w (ix2 r (Inputs.lo j))) (fun r => w (ix2 r (Inputs.hi j))) (b (ix1 (Inputs.lo j))) (b (ix1 (Inputs.hi j))) t

/-- Which block of its array each window stages at a point. -/
theorem idx : ∀ t : Fin grid0.N,
    win0_0.index t = ![(grid0.coords t 0).val, 0, (grid0.coords t 1).val]
    ∧ win0_1.index t = ![(grid0.coords t 0).val, 0, 22 + (grid0.coords t 1).val]
    ∧ win0_2.index t = ![0, (grid0.coords t 1).val]
    ∧ win0_3.index t = ![0, 22 + (grid0.coords t 1).val]
    ∧ win0_4.index t = ![0, (grid0.coords t 1).val]
    ∧ win0_5.index t = ![0, 22 + (grid0.coords t 1).val]
    ∧ win0_6.index t = ![(grid0.coords t 0).val, 0, (grid0.coords t 1).val] := by decide +kernel

variable (m : (ℓ : Loc nD τ sig) → Buf (Elt Ideal) ℓ) (c : Dev nD)

/-- The kernel reads the bias as one row. -/
theorem bias (k : Fin 11264) : V m c main_v0 (ix2 0 k) = m ((c.tc : Thread nD τ).loc main_arg2) (ix1 k) := by
  unfold V; entry_read; pointwise

theorem array : (dats m 0 c).arrAt 6 cfg0.N = fun i => spec (m ((c : Thread nD τ).loc main_arg0)) (m ((c : Thread nD τ).loc main_arg1))
    (m ((c : Thread nD τ).loc main_arg2)) (i 0) (i 1).val (i 2) := by
  refine (dats m 0 c).arrAt_eq_of_covers 6 _ (by decide +kernel) fun t hf y => ?_
  have e0 : ((((cfg0.win 6).blk t).view.emb y) 0).val = (grid0.coords t 0).val := by blk_simp [idx t]
  have e1 : ((((cfg0.win 6).blk t).view.emb y) 1).val = (y 1).val := by blk_simp [idx t]
  have e2 : ((((cfg0.win 6).blk t).view.emb y) 2).val = (grid0.coords t 1).val * 256 + (y 2).val := by blk_simp [idx t]
  blk_simp
  rw [after0_6]
  refine (congrFun (block ..) y).trans ?_
  generalize ((cfg0.win 6).blk t).view.emb y = i at e0 e1 e2 ⊢
  unfold Columns.out columns spec
  dsimp only
  congr 1
  · refine congrArg pad (funext fun s => ?_)
    unfold Inputs.lo; blk_ext [iblk, V, idx t]
  · refine congrArg pad (funext fun s => ?_)
    unfold Inputs.hi; blk_ext [iblk, V, idx t]
  · funext r; unfold Inputs.lo; blk_ext [iblk, V, idx t]
  · funext r; unfold Inputs.hi; blk_ext [iblk, V, idx t]
  · refine Eq.trans ?_ (bias m c (Inputs.lo (i 2)))
    unfold Inputs.lo; blk_ext [iblk, idx t]
  · refine Eq.trans ?_ (bias m c (Inputs.hi (i 2)))
    unfold Inputs.hi; blk_ext [iblk, idx t]
  · simp [idx t]

end Cert.MidIdeal.Product

namespace Cert.MidReferenceIdeal.Product

open Cert.MidReferenceIdeal Cert.MidReferenceIdeal.Gen Cert.Mid

/-- The rows under two zero rows. -/
def rows (x : FVec Ideal S2x2048x11264 .f32) : FVec Ideal S2x2050x11264 .f32 :=
  concatenate S2x2050x11264 1 [⟨S2x2x11264, (broadcastInDim S2x2x11264 ![1, 2] bcast_S2x11264_S2x2x11264_1_2 (broadcastInDim S2x11264 ![] bcast_S_S2x11264 (constant S_ .f32 0x00000000#32)))⟩, ⟨S2x2048x11264, x⟩] concatenates_S2x2x11264_S2x2048x11264_S2x2050x11264_d1

theorem rows_apply (x : FVec Ideal S2x2048x11264 .f32) (n : Fin 2) (s : Fin 2050) (k : Fin 11264) :
    rows x (ix3 n s k) = pad (fun r => x (ix3 n r k)) (s.val + 6) := by
  unfold rows Mid.pad
  pointwise
  have := s.isLt
  split <;> split <;> first | rfl | (exfalso; omega) | skip

/-- The convolution with its bias. -/
def conv (x : FVec Ideal S2x2048x11264 .f32) (w : FVec Ideal S3x11264 .f32) (b : FVec Ideal S11264 .f32) :
    FVec Ideal S2x2048x11264 .f32 :=
  addf (addf (addf (addf (broadcastInDim S2x2048x11264 ![] bcast_S_S2x2048x11264 (constant S_ .f32 0x00000000#32)) (mulf (broadcastInDim S2x2048x11264 ![0, 1, 2] bcast_S1x1x11264_S2x2048x11264_0_1_2 (broadcastInDim S1x1x11264 ![1, 2] bcast_S1x11264_S1x1x11264_1_2 (broadcastInDim S1x11264 ![1] bcast_S11264_S1x11264_1 (shapeCast _ (extractStridedSlice S1x11264 ![0, 0] w slices_S3x11264_S1x11264_0_0) shapeCasts_S1x11264_S11264)))) (extractStridedSlice S2x2048x11264 ![0, 0, 0] (rows x) slices_S2x2050x11264_S2x2048x11264_0_0_0))) (mulf (broadcastInDim S2x2048x11264 ![0, 1, 2] bcast_S1x1x11264_S2x2048x11264_0_1_2 (broadcastInDim S1x1x11264 ![1, 2] bcast_S1x11264_S1x1x11264_1_2 (broadcastInDim S1x11264 ![1] bcast_S11264_S1x11264_1 (shapeCast _ (extractStridedSlice S1x11264 ![1, 0] w slices_S3x11264_S1x11264_1_0) shapeCasts_S1x11264_S11264)))) (extractStridedSlice S2x2048x11264 ![0, 1, 0] (rows x) slices_S2x2050x11264_S2x2048x11264_0_1_0))) (mulf (broadcastInDim S2x2048x11264 ![0, 1, 2] bcast_S1x1x11264_S2x2048x11264_0_1_2 (broadcastInDim S1x1x11264 ![1, 2] bcast_S1x11264_S1x1x11264_1_2 (broadcastInDim S1x11264 ![1] bcast_S11264_S1x11264_1 (shapeCast _ (extractStridedSlice S1x11264 ![2, 0] w slices_S3x11264_S1x11264_2_0) shapeCasts_S1x11264_S11264)))) (extractStridedSlice S2x2048x11264 ![0, 2, 0] (rows x) slices_S2x2050x11264_S2x2048x11264_0_2_0))) (broadcastInDim S2x2048x11264 ![0, 1, 2] bcast_S1x1x11264_S2x2048x11264_0_1_2 (broadcastInDim S1x1x11264 ![1, 2] bcast_S1x11264_S1x1x11264_1_2 (broadcastInDim S1x11264 ![1] bcast_S11264_S1x11264_1 b)))

theorem conv_apply (x : FVec Ideal S2x2048x11264 .f32) (w : FVec Ideal S3x11264 .f32) (b : FVec Ideal S11264 .f32)
    (n : Fin 2) (t : Fin 2048) (k : Fin 11264) :
    conv x w b (ix3 n t k) = pre (pad fun s => x (ix3 n s k)) (fun r => w (ix2 r k)) (b (ix1 k)) t.val := by
  unfold conv pre
  pointwise
  rw [rows_apply, rows_apply, rows_apply]
  simp only [Nat.add_right_comm _ t.val 6, Nat.add_comm _ t.val, Nat.add_assoc, Nat.reduceAdd]
  rw [mul_comm (w (ix2 0 k)), mul_comm (w (ix2 1 k)), mul_comm (w (ix2 2 k))]
  congr 1
  rw [add_comm, ← add_assoc, add_right_comm]

/-- The gate channels' convolution through the gate, times the value channels'. -/
theorem gate_apply (z : FVec Ideal S2x2048x11264 .f32) (i : S2x2048x5632.Idx) :
    truncf .bf16 (mulf (mulf (extractStridedSlice S2x2048x5632 ![0, 0, 0] z slices_S2x2048x11264_S2x2048x5632_0_0_0) (Host.divf (broadcastInDim S2x2048x5632 ![] bcast_S_S2x2048x5632 (constant S_ .f32 0x3F800000#32)) (addf (broadcastInDim S2x2048x5632 ![] bcast_S_S2x2048x5632 (constant S_ .f32 0x3F800000#32)) (Host.exp (Host.negf (extractStridedSlice S2x2048x5632 ![0, 0, 0] z slices_S2x2048x11264_S2x2048x5632_0_0_0)))))) (extractStridedSlice S2x2048x5632 ![0, 0, 5632] z slices_S2x2048x11264_S2x2048x5632_0_0_5632)) bitsLt_bf16_f32 i
      = z (ix3 (i 0) (i 1) (Inputs.lo (i 2))) * Ideal.logistic (z (ix3 (i 0) (i 1) (Inputs.lo (i 2)))) * z (ix3 (i 0) (i 1) (Inputs.hi (i 2))) := by
  unfold Inputs.lo Inputs.hi
  pointwise
  rfl

theorem gated_apply (x : FVec Ideal S2x2048x11264 .f32) (w : FVec Ideal S3x11264 .f32) (b : FVec Ideal S11264 .f32)
    (n : Fin 2) (t : Fin 2048) (j : Fin 5632) :
    conv x w b (ix3 n t (Inputs.lo j)) * Ideal.logistic (conv x w b (ix3 n t (Inputs.lo j))) * conv x w b (ix3 n t (Inputs.hi j))
      = MidIdeal.Product.spec x w b n t.val j := by
  rw [conv_apply, conv_apply]
  rfl

theorem result (m : (ℓ : Loc nD τ sig) → Buf (Elt Ideal) ℓ) (c : Dev nD) :
    Value.res_main_v36 m c = fun i => MidIdeal.Product.spec (m ((c.tc : Thread nD τ).loc main_arg0))
      (m ((c.tc : Thread nD τ).loc main_arg1)) (m ((c.tc : Thread nD τ).loc main_arg2)) (i 0) (i 1).val (i 2) :=
  funext fun i => (gate_apply (conv _ _ _) i).trans (gated_apply _ _ _ (i 0) (i 1) (i 2))

end Cert.MidReferenceIdeal.Product
-- ==== Proof.Forward.lean ====
/- The forward products, from the mixers' inputs to the conv gated MLP's output: plain ones, and ones that add the residual stream. -/
module

public import proofs.«01_k».proof.Proof.Sums
public import proofs.«01_k».proof.Proof.Gen.UpIdeal.Value
public import proofs.«01_k».proof.Proof.Gen.UpReferenceIdeal.Run
public import proofs.«01_k».proof.Proof.Gen.HgrnInIdeal.Value
public import proofs.«01_k».proof.Proof.Gen.HgrnInReferenceIdeal.Run
public import proofs.«01_k».proof.Proof.Gen.MambaInIdeal.Value
public import proofs.«01_k».proof.Proof.Gen.MambaInReferenceIdeal.Run
public import proofs.«01_k».proof.Proof.Gen.HgrnOutIdeal.Value
public import proofs.«01_k».proof.Proof.Gen.HgrnOutReferenceIdeal.Run
public import proofs.«01_k».proof.Proof.Gen.MambaOutIdeal.Value
public import proofs.«01_k».proof.Proof.Gen.MambaOutReferenceIdeal.Run

@[expose] public section

set_option maxRecDepth 16384

noncomputable section

open Idealize.ShloMosaic Idealize.ShloMosaic.TcCoe Idealize.ShloMosaic.Tactic Cert.Product

namespace Cert.UpIdeal.Product

open Cert.UpIdeal Cert.UpIdeal.Gen

/-- Entry (r, j) of the product. -/
def spec (a : FVec Ideal S4096x2048 .bf16) (w : FVec Ideal S2048x11264 .bf16) (r : Fin 4096) (j : Fin 11264) : EReal :=
  ∑ k : Fin 2048, a (ix2 r k) * w (ix2 k j)

theorem idx : ∀ t : Fin grid0.N,
    win0_0.index t = ![(grid0.coords t 0).val, 0]
    ∧ win0_1.index t = ![0, (grid0.coords t 1).val]
    ∧ win0_2.index t = ![(grid0.coords t 0).val, (grid0.coords t 1).val] := by decide +kernel

theorem out (x : Vec Ideal S1024x2048 .bf16) (y : Vec Ideal S2048x1024 .bf16) (i : S1024x1024.Idx) :
    out0_2 x y i = ∑ k : Fin 2048, x (ix2 (i 0) k) * y (ix2 k (i 1)) := by
  unfold out0_2
  rw [View.canon_unit_zero hz]
  simp only [View.ld_unit_zero (S := S1024x2048) hz, View.ld_unit_zero (S := S2048x1024) hz]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1 <;> blk_ext [iblk, V, idx t]

end Cert.UpIdeal.Product

namespace Cert.UpReferenceIdeal.Product

open Cert.UpReferenceIdeal Cert.UpReferenceIdeal.Gen

theorem result (a : FVec Ideal S4096x2048 .bf16) (w : FVec Ideal S2048x11264 .bf16) :
    Host.dotGeneral dot_S4096x2048_S2048x11264_S4096x11264_1_0_0_1_n_n none (extf .f32 a bitsLt_bf16_f32) (extf .f32 w bitsLt_bf16_f32)
      = fun i => UpIdeal.Product.spec a w (i 0) (i 1) := by
  funext i
  unfold UpIdeal.Product.spec
  pointwise

end Cert.UpReferenceIdeal.Product

namespace Cert.HgrnInIdeal.Product

open Cert.HgrnInIdeal Cert.HgrnInIdeal.Gen

/-- Entry (r, j) of the product. -/
def spec (a : FVec Ideal S4096x2048 .bf16) (w : FVec Ideal S2048x8192 .bf16) (r : Fin 4096) (j : Fin 8192) : EReal :=
  ∑ k : Fin 2048, a (ix2 r k) * w (ix2 k j)

theorem idx : ∀ t : Fin grid0.N,
    win0_0.index t = ![(grid0.coords t 0).val, 0]
    ∧ win0_1.index t = ![0, (grid0.coords t 1).val]
    ∧ win0_2.index t = ![(grid0.coords t 0).val, (grid0.coords t 1).val] := by decide +kernel

theorem out (x : Vec Ideal S1024x2048 .bf16) (y : Vec Ideal S2048x1024 .bf16) (i : S1024x1024.Idx) :
    out0_2 x y i = ∑ k : Fin 2048, x (ix2 (i 0) k) * y (ix2 k (i 1)) := by
  unfold out0_2
  rw [View.canon_unit_zero hz]
  simp only [View.ld_unit_zero (S := S1024x2048) hz, View.ld_unit_zero (S := S2048x1024) hz]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1 <;> blk_ext [iblk, V, idx t]

end Cert.HgrnInIdeal.Product

namespace Cert.HgrnInReferenceIdeal.Product

open Cert.HgrnInReferenceIdeal Cert.HgrnInReferenceIdeal.Gen

theorem result (a : FVec Ideal S4096x2048 .bf16) (w : FVec Ideal S2048x8192 .bf16) :
    Host.dotGeneral dot_S4096x2048_S2048x8192_S4096x8192_1_0_0_1_n_n none (extf .f32 a bitsLt_bf16_f32) (extf .f32 w bitsLt_bf16_f32)
      = fun i => HgrnInIdeal.Product.spec a w (i 0) (i 1) := by
  funext i
  unfold HgrnInIdeal.Product.spec
  pointwise

end Cert.HgrnInReferenceIdeal.Product

namespace Cert.MambaInIdeal.Product

open Cert.MambaInIdeal Cert.MambaInIdeal.Gen

/-- Entry (r, j) of the product with the weights, held transposed. -/
def spec (a : FVec Ideal S4096x2048 .bf16) (w : FVec Ideal S10368x2048 .bf16) (r : Fin 4096) (j : Fin 10368) : EReal :=
  ∑ k : Fin 2048, a (ix2 r k) * w (ix2 j k)

theorem idx : ∀ t : Fin grid0.N,
    win0_0.index t = ![(grid0.coords t 0).val, 0]
    ∧ win0_1.index t = ![(grid0.coords t 1).val, 0]
    ∧ win0_2.index t = ![(grid0.coords t 0).val, (grid0.coords t 1).val] := by decide +kernel

theorem out (x : Vec Ideal S1024x2048 .bf16) (y : Vec Ideal S1152x2048 .bf16) (i : S1024x1152.Idx) :
    out0_2 x y i = ∑ k : Fin 2048, x (ix2 (i 0) k) * y (ix2 (i 1) k) := by
  unfold out0_2
  rw [View.canon_unit_zero hz]
  simp only [View.ld_unit_zero (S := S1024x2048) hz, View.ld_unit_zero (S := S1152x2048) hz]
  unfold k0_pay1
  pointwise

variable (m : (ℓ : Loc nD τ sig) → Buf (Elt Ideal) ℓ) (c : Dev nD)

theorem array : (dats m 0 c).arrAt 2 cfg0.N = fun i =>
    spec (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  refine (out _ _ y).trans ?_
  unfold spec
  refine Finset.sum_congr rfl fun k _ => ?_
  congr 1 <;> blk_ext [iblk, V, idx t]

end Cert.MambaInIdeal.Product

namespace Cert.MambaInReferenceIdeal.Product

open Cert.MambaInReferenceIdeal Cert.MambaInReferenceIdeal.Gen

theorem result (a : FVec Ideal S4096x2048 .bf16) (w : FVec Ideal S10368x2048 .bf16) :
    Host.dotGeneral dot_S4096x2048_S2048x10368_S4096x10368_1_0_0_1_n_n none (extf .f32 a bitsLt_bf16_f32) (transpose S2048x10368 [1, 0] (extf .f32 w bitsLt_bf16_f32) transposes_S10368x2048_S2048x10368_1_0)
      = fun i => MambaInIdeal.Product.spec a w (i 0) (i 1) := by
  funext i
  unfold MambaInIdeal.Product.spec
  pointwise

end Cert.MambaInReferenceIdeal.Product

namespace Cert.HgrnOutIdeal.Product

open Cert.HgrnOutIdeal Cert.HgrnOutIdeal.Gen

/-- Entry (r, j) of the residual stream with the product added. -/
def spec (a : FVec Ideal S4096x2048 .bf16) (w : FVec Ideal S2048x2048 .bf16) (h : FVec Ideal S4096x2048 .f32) (r : Fin 4096) (j : Fin 2048) : EReal :=
  (∑ k : Fin 2048, a (ix2 r k) * w (ix2 k j)) + h (ix2 r j)

theorem idx : ∀ t : Fin grid0.N,
    win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] := by decide +kernel

theorem out (x : Vec Ideal S1024x2048 .bf16) (y : Vec Ideal S2048x1024 .bf16) (z : Vec Ideal S1024x1024 .f32) (i : S1024x1024.Idx) :
    out0_3 x y z i = ((∑ k : Fin 2048, x (ix2 (i 0) k) * y (ix2 k (i 1)) : EReal) + z i : EReal) := by
  unfold out0_3
  rw [View.canon_unit_zero hz]
  simp only [View.ld_unit_zero (S := S1024x2048) hz, View.ld_unit_zero (S := S2048x1024) hz, View.ld_unit_zero (S := S1024x1024) hz]
  unfold k0_pay1
  pointwise

variable (m : (ℓ : Loc nD τ sig) → Buf (Elt Ideal) ℓ) (c : Dev nD)

theorem array : (dats m 0 c).arrAt 3 cfg0.N = fun i =>
    spec (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  refine (out _ _ _ y).trans ?_
  unfold spec
  refine congrArg₂ _ (Finset.sum_congr rfl fun k _ => ?_) ?_
  · congr 1 <;> blk_ext [iblk, V, idx t]
  · blk_ext [iblk, V, idx t]

end Cert.HgrnOutIdeal.Product

namespace Cert.HgrnOutReferenceIdeal.Product

open Cert.HgrnOutReferenceIdeal Cert.HgrnOutReferenceIdeal.Gen

theorem result (a : FVec Ideal S4096x2048 .bf16) (w : FVec Ideal S2048x2048 .bf16) (h : FVec Ideal S4096x2048 .f32) :
    addf h (Host.dotGeneral dot_S4096x2048_S2048x2048_S4096x2048_1_0_0_1_n_n none (extf .f32 a bitsLt_bf16_f32) (extf .f32 w bitsLt_bf16_f32))
      = fun i => HgrnOutIdeal.Product.spec a w h (i 0) (i 1) := by
  funext i
  unfold HgrnOutIdeal.Product.spec
  pointwise
  exact add_comm _ _

end Cert.HgrnOutReferenceIdeal.Product

namespace Cert.MambaOutIdeal.Product

open Cert.MambaOutIdeal Cert.MambaOutIdeal.Gen

/-- Entry (r, j) of the residual stream with the product added. -/
def spec (a : FVec Ideal S4096x4096 .bf16) (w : FVec Ideal S4096x2048 .bf16) (h : FVec Ideal S4096x2048 .f32) (r : Fin 4096) (j : Fin 2048) : EReal :=
  (∑ k : Fin 4096, a (ix2 r k) * w (ix2 k j)) + h (ix2 r j)

theorem idx : ∀ t : Fin grid0.N,
    win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] := by decide +kernel

theorem out (x : Vec Ideal S1024x4096 .bf16) (y : Vec Ideal S4096x1024 .bf16) (z : Vec Ideal S1024x1024 .f32) (i : S1024x1024.Idx) :
    out0_3 x y z i = ((∑ k : Fin 4096, x (ix2 (i 0) k) * y (ix2 k (i 1)) : EReal) + z i : EReal) := by
  unfold out0_3
  rw [View.canon_unit_zero hz]
  simp only [View.ld_unit_zero (S := S1024x4096) hz, View.ld_unit_zero (S := S4096x1024) hz, View.ld_unit_zero (S := S1024x1024) hz]
  unfold k0_pay1
  pointwise

variable (m : (ℓ : Loc nD τ sig) → Buf (Elt Ideal) ℓ) (c : Dev nD)

theorem array : (dats m 0 c).arrAt 3 cfg0.N = fun i =>
    spec (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  refine (out _ _ _ y).trans ?_
  unfold spec
  refine congrArg₂ _ (Finset.sum_congr rfl fun k _ => ?_) ?_
  · congr 1 <;> blk_ext [iblk, V, idx t]
  · blk_ext [iblk, V, idx t]

end Cert.MambaOutIdeal.Product

namespace Cert.MambaOutReferenceIdeal.Product

open Cert.MambaOutReferenceIdeal Cert.MambaOutReferenceIdeal.Gen

theorem result (a : FVec Ideal S4096x4096 .bf16) (w : FVec Ideal S4096x2048 .bf16) (h : FVec Ideal S4096x2048 .f32) :
    addf h (Host.dotGeneral dot_S4096x4096_S4096x2048_S4096x2048_1_0_0_1_n_n none (extf .f32 a bitsLt_bf16_f32) (extf .f32 w bitsLt_bf16_f32))
      = fun i => MambaOutIdeal.Product.spec a w h (i 0) (i 1) := by
  funext i
  unfold MambaOutIdeal.Product.spec
  pointwise
  exact add_comm _ _

end Cert.MambaOutReferenceIdeal.Product
-- ==== Proof.DownSum.lean ====
/- The forward down-projection: every entry is the sum over the hidden columns, which the kernel adds up in two halves, and the residual stream added last. -/
module

public import proofs.«01_k».proof.Proof.Sums
public import proofs.«01_k».proof.Proof.Gen.DownIdeal.Value
public import proofs.«01_k».proof.Proof.Gen.DownReferenceIdeal.Run

@[expose] public section

set_option maxRecDepth 16384

noncomputable section

open Idealize.ShloMosaic Idealize.ShloMosaic.TcCoe Idealize.ShloMosaic.Tactic Cert.Product

namespace Cert.DownIdeal.Product

open Cert.DownIdeal Cert.DownIdeal.Gen

/-- What hidden column `k` adds to entry (r, j) of the product. -/
def term (a : FVec Ideal S4096x5632 .bf16) (w : FVec Ideal S5632x2048 .bf16) (r : Fin 4096) (j : Fin 2048) (k : Fin 5632) : EReal :=
  a (ix2 r k) * w (ix2 k j)

/-- Entry (r, j) of the product plus the residual. -/
def spec (a : FVec Ideal S4096x5632 .bf16) (w : FVec Ideal S5632x2048 .bf16) (h : FVec Ideal S4096x2048 .f32) (r : Fin 4096) (j : Fin 2048) : EReal :=
  (∑ k : Fin 5632, term a w r j k) + h (ix2 r j)

theorem idx : ∀ t : Fin grid0.N,
    win0_0.index t = ![t.val / 4, t.val % 2]
    ∧ win0_1.index t = ![t.val % 2, t.val / 2 % 2]
    ∧ win0_2.index t = ![t.val / 4, t.val / 2 % 2]
    ∧ win0_3.index t = ![t.val / 4, t.val / 2 % 2] := by decide +kernel

/-- The product of two staged blocks. -/
def part (x : Vec Ideal S1024x2816 .bf16) (y : Vec Ideal S2816x1024 .bf16) : FVec Ideal S1024x1024 .f32 := fun i =>
  ∑ k : Fin 2816, (x (ix2 (i 0) k) * y (ix2 k (i 1)) : EReal)

theorem pay1 (x : Vec Ideal S1024x2816 .bf16) (y : Vec Ideal S2816x1024 .bf16) : k0_pay1 x y = part x y := by
  funext i; unfold k0_pay1 part; pointwise
theorem pay3 (a : FVec Ideal S1024x1024 .f32) (x : Vec Ideal S1024x2816 .bf16) (y : Vec Ideal S2816x1024 .bf16) (z : FVec Ideal S1024x1024 .f32) :
    k0_pay3 a x y z = addf (addf a (part x y)) z := by
  funext i; unfold k0_pay3 part; pointwise

section Cases

variable (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x : Vec Ideal S1024x2816 .bf16) (y : Vec Ideal S2816x1024 .bf16) (z : FVec Ideal S1024x1024 .f32) (a : FVec Ideal S1024x1024 .f32)

/-- The first half is stored as it is. -/
theorem first (hc0 : cond0_0 i) (hc1 : ¬cond0_1 i) (hc2 : ¬cond0_2 i) :
    sout0_A_0 c i arg3 harg3 arg4 harg4 arg5 harg5 arg6 harg6 arg7 harg7 hc0 hc1 hc2 x y z = part x y := by
  unfold sout0_A_0
  rw [View.read_writes_eq_canon _ _ _ (scover0_A_0 c i arg3 harg3 arg4 harg4 arg5 harg5 arg6 harg6 arg7 harg7 hc0 hc1 hc2 x y z)]
  unfold kernelRun0_A
  dsimp only
  rw [View.canon_unit_zero hz]
  simp only [View.readAt_eq_ld, harg3.read_unread, harg4.read_unread, View.ld_unit_zero (S := S1024x2816) hz, View.ld_unit_zero (S := S2816x1024) hz, pay1]

/-- The second half and the residual are added to what the scratch holds, and the sum written out. -/
theorem last (hc0 : ¬cond0_0 i) (hc1 : ¬cond0_1 i) (hc2 : cond0_2 i) :
    out0_B_3 c i arg3 harg3 arg4 harg4 arg5 harg5 arg6 harg6 arg7 harg7 hc0 hc1 hc2 x y z a = (addf (addf a (part x y)) z : FVec Ideal S1024x1024 .f32) := by
  unfold out0_B_3
  rw [View.read_writes_eq_canon _ _ _ (cover0_B_3 c i arg3 harg3 arg4 harg4 arg5 harg5 arg6 harg6 arg7 harg7 hc0 hc1 hc2 x y z a)]
  unfold kernelRun0_B
  dsimp only
  rw [View.canon_unit_zero hz]
  simp only [View.readAt_eq_ld, harg3.read_unread, harg4.read_unread, harg5.read_unread, harg7.read_unread, View.ld_unit_zero (S := S1024x2816) hz, View.ld_unit_zero (S := S2816x1024) hz, View.ld_unit_zero (S := S1024x1024) hz, pay3]

end Cases

variable (m : (ℓ : Loc nD τ sig) → Buf (Elt Ideal) ℓ) (c : Dev nD)

/-- The part that point `t` adds. -/
def at_ (t : Fin cfg0.N) : FVec Ideal S1024x1024 .f32 := part (iblk m c 0 t) (iblk m c 1 t)

/-- The residual's block at point `t`. -/
def res (t : Fin cfg0.N) : FVec Ideal S1024x1024 .f32 := iblk m c 2 t

/-- After the first of two points the scratch holds its part. -/
theorem afterFirst (t : Fin cfg0.N) (h : t.val % 2 = 0) : (outsAt0 m c t.val t.isLt).2 = at_ m c t := by
  refine (congrArg Prod.snd (outsAt0_A m c t h (by omega))).trans ?_
  dsimp only
  exact first ..

/-- After the second point the output block holds what the scratch held, its part and the residual. -/
theorem afterLast (t : Fin cfg0.N) (p : ℕ) (hp : p = t.val - 1) (h : t.val % 2 = 1) (a : FVec Ideal S1024x1024 .f32)
    (ha : ∀ hn, (outsAt0 m c p hn).2 = a) : (outsAt0 m c t.val t.isLt).1 = (addf (addf a (at_ m c t)) (res m c t) : FVec Ideal S1024x1024 .f32) := by
  subst hp
  have e := ha (Nat.lt_of_le_of_lt (Nat.sub_le _ _) t.isLt)
  refine (congrArg Prod.fst (outsAt0_B m c t (by omega) h)).trans ?_
  dsimp only
  rw [e]
  exact last ..

theorem fold (t0 t1 : Fin cfg0.N) (h1 : t1.val = t0.val + 1) (h2 : t0.val % 2 = 0) :
    (outsAt0 m c t1.val t1.isLt).1 = (addf (addf (at_ m c t0) (at_ m c t1)) (res m c t1) : FVec Ideal S1024x1024 .f32) :=
  afterLast m c t1 t0.val (by omega) (by omega) _ fun _ => afterFirst m c t0 h2

/-- The part of point `2 q + s` is the sum over the columns 2816 s … 2816 s + 2815. -/
theorem at_apply (t : Fin cfg0.N) (q : ℕ) (s : Fin 2) (ht : t.val = 2 * q + s.val) (r : Fin 4096) (j : Fin 2048) (i : S1024x1024.Idx)
    (hr : r.val = q / 2 * 1024 + (i 0).val) (hj : j.val = q % 2 * 1024 + (i 1).val) :
    at_ m c t i = ∑ k : Fin 2816, term (m ((c : Thread nD τ).loc main_arg0)) (m ((c : Thread nD τ).loc main_arg1)) r j ⟨2816 * s.val + k.val, by omega⟩ := by
  have hs := s.isLt
  unfold at_ part term
  refine Finset.sum_congr rfl fun k _ => ?_
  congr 1 <;> blk_ext [iblk, V, idx t] <;> omega

theorem array : (dats m 0 c).arrAt 3 cfg0.N = fun i =>
    spec (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  have h1 : t.val % 2 = 1 := (flush0_3 t).mp hf
  have h16 : t.val < 16 := lt_of_lt_of_eq t.isLt N_0
  have r0 : ((win0_3.blk t).view.emb y 0).val = t.val / 2 / 2 * 1024 + (y 0).val := by blk_simp [idx t]; omega
  have r1 : ((win0_3.blk t).view.emb y 1).val = t.val / 2 % 2 * 1024 + (y 1).val := by blk_simp [idx t]
  blk_simp
  rw [after0_3]
  rw [fold m c ⟨t.val - 1, (Nat.sub_le ..).trans_lt t.isLt⟩ t (by dsimp only; omega) (by dsimp only; omega)]
  unfold spec
  simp only [addf_apply, Ideal.addf_def]
  refine congrArg₂ _ (Eq.trans ?_ (parts 2 2816 _).symm) ?_
  · rw [Fin.sum_univ_two]
    rw [at_apply m c ⟨t.val - 1, (Nat.sub_le ..).trans_lt t.isLt⟩ (t.val / 2) 0 (by dsimp only; omega) _ _ y r0 r1,
      at_apply m c t (t.val / 2) 1 (by dsimp only; omega) _ _ y r0 r1]
  · unfold res
    blk_ext [iblk, V, idx t]

end Cert.DownIdeal.Product

namespace Cert.DownReferenceIdeal.Product

open Cert.DownReferenceIdeal Cert.DownReferenceIdeal.Gen

theorem result (a : FVec Ideal S4096x5632 .bf16) (w : FVec Ideal S5632x2048 .bf16) (h : FVec Ideal S4096x2048 .f32) :
    addf h (Host.dotGeneral dot_S4096x5632_S5632x2048_S4096x2048_1_0_0_1_n_n none (extf .f32 a bitsLt_bf16_f32) (extf .f32 w bitsLt_bf16_f32))
      = fun i => DownIdeal.Product.spec a w h (i 0) (i 1) := by
  funext i
  unfold DownIdeal.Product.spec DownIdeal.Product.term
  pointwise
  exact add_comm _ _

end Cert.DownReferenceIdeal.Product
-- ==== Proof.lean ====
module

public import proofs.«01_k».proof.Defs
public import proofs.«01_k».proof.Proof.Result
public import proofs.«01_k».proof.Proof.Finite
public import proofs.«01_k».proof.Proof.Gen.ReferenceIdeal.Run
public import proofs.«01_k».proof.Proof.Gen.Kernel
public import proofs.«01_k».proof.Proof.Frame
public import proofs.«01_k».proof.Proof.Same
public import proofs.«01_k».proof.Proof.Gen.DownDx.Frame
public import proofs.«01_k».proof.Proof.DownDx
public import proofs.«01_k».proof.Proof.Gen.DownDw.Frame
public import proofs.«01_k».proof.Proof.DownDw
public import proofs.«01_k».proof.Proof.Gen.UpDw.Frame
public import proofs.«01_k».proof.Proof.UpDw
public import proofs.«01_k».proof.Proof.Gen.UpDx.Frame
public import proofs.«01_k».proof.Proof.UpDx
public import proofs.«01_k».proof.Proof.Gen.HgrnOutDx.Frame
public import proofs.«01_k».proof.Proof.Gen.HgrnOutDw.Frame
public import proofs.«01_k».proof.Proof.Gen.HgrnInDw.Frame
public import proofs.«01_k».proof.Proof.Gen.HgrnInDx.Frame
public import proofs.«01_k».proof.Proof.Gen.MambaOutDx.Frame
public import proofs.«01_k».proof.Proof.Gen.MambaOutDw.Frame
public import proofs.«01_k».proof.Proof.Gen.MambaInDw.Frame
public import proofs.«01_k».proof.Proof.Gen.MambaInDx.Frame
public import proofs.«01_k».proof.Proof.Gen.MambaInDxNext.Frame
public import proofs.«01_k».proof.Proof.Gen.MambaInDwX.Frame
public import proofs.«01_k».proof.Proof.Gen.MambaInDwBc.Frame
public import proofs.«01_k».proof.Proof.Gen.MambaInDwDt.Frame
public import proofs.«01_k».proof.Proof.Gen.MambaInDxBc.Frame
public import proofs.«01_k».proof.Proof.Gen.MambaInDxDt.Frame
public import proofs.«01_k».proof.Proof.Gen.Up.Frame
public import proofs.«01_k».proof.Proof.Gen.Down.Frame
public import proofs.«01_k».proof.Proof.Gen.HgrnIn.Frame
public import proofs.«01_k».proof.Proof.Gen.HgrnOut.Frame
public import proofs.«01_k».proof.Proof.Gen.MambaIn.Frame
public import proofs.«01_k».proof.Proof.Gen.MambaOut.Frame
public import proofs.«01_k».proof.Proof.Close
public import proofs.«01_k».proof.Proof.MixerOut
public import proofs.«01_k».proof.Proof.HgrnInGrad
public import proofs.«01_k».proof.Proof.MambaInGrad
public import proofs.«01_k».proof.Proof.MambaInRest
public import proofs.«01_k».proof.Proof.Gen.NormBwd.Frame
public import proofs.«01_k».proof.Proof.Gen.Norm.Frame
public import proofs.«01_k».proof.Proof.Norm
public import proofs.«01_k».proof.Proof.Gen.Mid.Frame
public import proofs.«01_k».proof.Proof.Mid
public import proofs.«01_k».proof.Proof.Forward
public import proofs.«01_k».proof.Proof.DownSum
public import Idealize.ShloMosaic.Lib.Quiescent

@[expose] public section

set_option maxRecDepth 16384

noncomputable section

namespace Cert.Proof

open Idealize.ShloMosaic Idealize.ShloMosaic.StableHlo Idealize.SL.Sem Cert.Product

/-- The arguments the two programs hold agree. -/
theorem inputs_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3)) :
    ReferenceIdeal.Ref.inputs (launchContents m' c) = KernelIdeal.Result.inputs m c := by
  have e0 : launchContents m' c (Proc.devRef .tc ReferenceIdeal.main_arg0) = m' ((c.tc : Thread ReferenceIdeal.nD ReferenceIdeal.τ).loc ReferenceIdeal.main_arg0) := rfl
  have e1 : launchContents m' c (Proc.devRef .tc ReferenceIdeal.main_arg1) = m' ((c.tc : Thread ReferenceIdeal.nD ReferenceIdeal.τ).loc ReferenceIdeal.main_arg1) := rfl
  have e2 : launchContents m' c (Proc.devRef .tc ReferenceIdeal.main_arg2) = m' ((c.tc : Thread ReferenceIdeal.nD ReferenceIdeal.τ).loc ReferenceIdeal.main_arg2) := rfl
  have e3 : launchContents m' c (Proc.devRef .tc ReferenceIdeal.main_arg3) = m' ((c.tc : Thread ReferenceIdeal.nD ReferenceIdeal.τ).loc ReferenceIdeal.main_arg3) := rfl
  unfold ReferenceIdeal.Ref.inputs KernelIdeal.Result.inputs
  rw [e0, e1, e2, e3, h0, h1, h2, h3]

/-- Under the precondition a device's arguments are real. -/
theorem real (m : (ℓ : Loc KernelIdeal.nD KernelIdeal.τ KernelIdeal.sig) → Buf (Elt Ideal) ℓ)
    (h : Pre_KernelIdeal_finite m) (c : Dev KernelIdeal.nD) : Finite.Real (KernelIdeal.Result.inputs m c) := by
  obtain ⟨h0, h1, h2, h3⟩ := Finite.of_pre _ _ _ _ (h c)
  exact ⟨fun _ _ _ => h0 _, fun _ _ _ => h1 _, fun _ _ => h2 _, fun _ => h3 _⟩

/-- The kernel's results, with its arguments kept. -/
theorem kernel_run (m : (ℓ : Loc KernelIdeal.nD KernelIdeal.τ KernelIdeal.sig) → Buf (Elt Ideal) ℓ)
    (ρ : Dev KernelIdeal.nD → PrngReg) :
    θ_run (KernelIdeal.defs (F := Ideal)) (onTc (τ := KernelIdeal.τ) (KernelIdeal.main (F := Ideal)))
      ⟨m, fun _ => 0, ρ⟩ (fun r => ∀ c : Dev KernelIdeal.nD,
        (r.2.mem ((c.tc : Thread KernelIdeal.nD KernelIdeal.τ).loc KernelIdeal.main_v1_0)
            = fun i => (KernelIdeal.Result.inputs m c).dx (i 1) (i 0) (i 2) (i 3))
        ∧ (r.2.mem ((c.tc : Thread KernelIdeal.nD KernelIdeal.τ).loc KernelIdeal.main_v1_1)
            = fun i => (KernelIdeal.Result.inputs m c).dTapLo (i 0) (i 1) (i 2))
        ∧ (r.2.mem ((c.tc : Thread KernelIdeal.nD KernelIdeal.τ).loc KernelIdeal.main_v1_2)
            = fun i => (KernelIdeal.Result.inputs m c).dTapHi (i 0) (i 1) (i 2))
        ∧ (r.2.mem ((c.tc : Thread KernelIdeal.nD KernelIdeal.τ).loc KernelIdeal.main_v1_3)
            = fun i => (KernelIdeal.Result.inputs m c).dBiasLo (i 0) (i 2))
        ∧ (r.2.mem ((c.tc : Thread KernelIdeal.nD KernelIdeal.τ).loc KernelIdeal.main_v1_4)
            = fun i => (KernelIdeal.Result.inputs m c).dBiasHi (i 0) (i 2))
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)) :=
  (θ_run _ _ _).mono (fun r h c => by
      obtain ⟨o, k⟩ := h
      obtain ⟨o0, o1, o2, o3, o4⟩ := o c
      exact ⟨o0.trans (KernelIdeal.Result.out7 m c), o1.trans (KernelIdeal.Result.out8 m c),
        o2.trans (KernelIdeal.Result.out9 m c), o3.trans (KernelIdeal.Result.out10 m c),
        o4.trans (KernelIdeal.Result.out11 m c), k.1 c⟩)
    (θ_run_and (KernelIdeal.Sweep.outputs m ρ) (KernelIdeal.Any.frame m ρ))

/-- The reference keeps its arguments, and has no semaphore. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal)))
      ⟨m, fun _ => 0, ρ⟩ (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3))
        ∧ r.2.sem = fun _ => 0) :=
  (θ_run _ _ _).mono (fun r h => ⟨fun c => (h c).2.2.2.2.2, sem_eq_zero_of_no_sems rfl r.2⟩) (ReferenceIdeal.Value.run m ρ)

/-- The kernel's frame: its text is the ideal kernel's, whose frame holds over any float values. -/
theorem frame_kernel (m : (ℓ : Loc Kernel.nD Kernel.τ Kernel.sig) → Buf (Elt Bits) ℓ) (ρ : Dev Kernel.nD → PrngReg) :
    θ_run (Kernel.defs (F := Bits)) (onTc (τ := Kernel.τ) (Kernel.main (F := Bits))) ⟨m, fun _ => 0, ρ⟩ (fun r =>
      (∀ c : Dev Kernel.nD,
        r.2.mem ((c.tc : Thread Kernel.nD Kernel.τ).loc Kernel.main_arg0) = m ((c.tc : Thread Kernel.nD Kernel.τ).loc Kernel.main_arg0)
        ∧ r.2.mem ((c.tc : Thread Kernel.nD Kernel.τ).loc Kernel.main_arg1) = m ((c.tc : Thread Kernel.nD Kernel.τ).loc Kernel.main_arg1)
        ∧ r.2.mem ((c.tc : Thread Kernel.nD Kernel.τ).loc Kernel.main_arg2) = m ((c.tc : Thread Kernel.nD Kernel.τ).loc Kernel.main_arg2)
        ∧ r.2.mem ((c.tc : Thread Kernel.nD Kernel.τ).loc Kernel.main_arg3) = m ((c.tc : Thread Kernel.nD Kernel.τ).loc Kernel.main_arg3))
      ∧ r.2.sem = fun _ => 0) := by
  rw [Same.defs, Same.main]
  exact KernelIdeal.Any.frame (F := Bits) m ρ

theorem product_downDx : algebraic_DownDxIdeal_DownDxReferenceIdeal := fun m ρ m' ρ' _ h =>
  agree (DownDxIdeal.Value.run_blocks m ρ) (DownDxReferenceIdeal.Value.run m' ρ') (DownDxIdeal.Product.array m) fun c =>
    (DownDxReferenceIdeal.Product.result _ _).trans (by rw [(h c).1, (h c).2]; rfl)

theorem product_downDw : algebraic_DownDwIdeal_DownDwReferenceIdeal := fun m ρ m' ρ' _ h =>
  agree (DownDwIdeal.Value.run_blocks m ρ) (DownDwReferenceIdeal.Value.run m' ρ') (DownDwIdeal.Product.array m) fun c =>
    (DownDwReferenceIdeal.Product.result _ _).trans (by rw [(h c).1, (h c).2]; rfl)

theorem product_upDw : algebraic_UpDwIdeal_UpDwReferenceIdeal := fun m ρ m' ρ' _ h =>
  agree (UpDwIdeal.Value.run_blocks m ρ) (UpDwReferenceIdeal.Value.run m' ρ') (UpDwIdeal.Product.array m) fun c =>
    (UpDwReferenceIdeal.Product.result _ _).trans (by rw [(h c).1, (h c).2]; rfl)

/-- The last argument only orders the calls. -/
theorem product_upDx : algebraic_UpDxIdeal_UpDxReferenceIdeal := fun m ρ m' ρ' _ h =>
  agree (UpDxIdeal.Value.run_blocks m ρ) (UpDxReferenceIdeal.Value.run m' ρ') (UpDxIdeal.Product.array m) fun c =>
    (UpDxReferenceIdeal.Product.result _ _).trans (by rw [(h c).1, (h c).2.1]; rfl)

theorem product_hgrnOutDx : algebraic_HgrnOutDxIdeal_HgrnOutDxReferenceIdeal := fun m ρ m' ρ' _ h =>
  agree (HgrnOutDxIdeal.Value.run_blocks m ρ) (HgrnOutDxReferenceIdeal.Value.run m' ρ') (HgrnOutDxIdeal.Product.array m) fun c =>
    (HgrnOutDxReferenceIdeal.Product.result _ _).trans (by rw [(h c).1, (h c).2]; rfl)

theorem product_hgrnOutDw : algebraic_HgrnOutDwIdeal_HgrnOutDwReferenceIdeal := fun m ρ m' ρ' _ h =>
  agree (HgrnOutDwIdeal.Value.run_blocks m ρ) (HgrnOutDwReferenceIdeal.Value.run m' ρ') (HgrnOutDwIdeal.Product.array m) fun c =>
    (HgrnOutDwReferenceIdeal.Product.result _ _).trans (by rw [(h c).1, (h c).2]; rfl)

theorem product_hgrnInDw : algebraic_HgrnInDwIdeal_HgrnInDwReferenceIdeal := fun m ρ m' ρ' _ h =>
  agree (HgrnInDwIdeal.Value.run_blocks m ρ) (HgrnInDwReferenceIdeal.Value.run m' ρ') (HgrnInDwIdeal.Product.array m) fun c =>
    (HgrnInDwReferenceIdeal.Product.result _ _).trans (by rw [(h c).1, (h c).2]; rfl)

theorem product_hgrnInDx : algebraic_HgrnInDxIdeal_HgrnInDxReferenceIdeal := fun m ρ m' ρ' _ h =>
  agree (HgrnInDxIdeal.Value.run_blocks m ρ) (HgrnInDxReferenceIdeal.Value.run m' ρ') (HgrnInDxIdeal.Product.array m) fun c =>
    (HgrnInDxReferenceIdeal.Product.result _ _).trans (by rw [(h c).1, (h c).2.1]; rfl)

theorem product_mambaOutDx : algebraic_MambaOutDxIdeal_MambaOutDxReferenceIdeal := fun m ρ m' ρ' _ h =>
  agree (MambaOutDxIdeal.Value.run_blocks m ρ) (MambaOutDxReferenceIdeal.Value.run m' ρ') (MambaOutDxIdeal.Product.array m) fun c =>
    (MambaOutDxReferenceIdeal.Product.result _ _).trans (by rw [(h c).1, (h c).2]; rfl)

theorem product_mambaOutDw : algebraic_MambaOutDwIdeal_MambaOutDwReferenceIdeal := fun m ρ m' ρ' _ h =>
  agree (MambaOutDwIdeal.Value.run_blocks m ρ) (MambaOutDwReferenceIdeal.Value.run m' ρ') (MambaOutDwIdeal.Product.array m) fun c =>
    (MambaOutDwReferenceIdeal.Product.result _ _).trans (by rw [(h c).1, (h c).2]; rfl)

theorem product_mambaInDw : algebraic_MambaInDwIdeal_MambaInDwReferenceIdeal := fun m ρ m' ρ' _ h =>
  agree (MambaInDwIdeal.Value.run_blocks m ρ) (MambaInDwReferenceIdeal.Value.run m' ρ') (MambaInDwIdeal.Product.array m) fun c =>
    (MambaInDwReferenceIdeal.Product.result _ _ _).trans (by rw [(h c).1, (h c).2.1, (h c).2.2]; rfl)

theorem product_mambaInDx : algebraic_MambaInDxIdeal_MambaInDxReferenceIdeal := fun m ρ m' ρ' _ h =>
  agree (MambaInDxIdeal.Value.run_blocks m ρ) (MambaInDxReferenceIdeal.Value.run m' ρ') (MambaInDxIdeal.Product.array m) fun c =>
    (MambaInDxReferenceIdeal.Product.result _ _).trans (by rw [(h c).1, (h c).2.1]; rfl)

theorem product_mambaInDxNext : algebraic_MambaInDxNextIdeal_MambaInDxNextReferenceIdeal := fun m ρ m' ρ' _ h =>
  agree (MambaInDxNextIdeal.Value.run_blocks m ρ) (MambaInDxNextReferenceIdeal.Value.run m' ρ') (MambaInDxNextIdeal.Product.array m) fun c =>
    (MambaInDxNextReferenceIdeal.Product.result _ _ _).trans (by rw [(h c).1, (h c).2.1, (h c).2.2]; rfl)

theorem product_mambaInDwX : algebraic_MambaInDwXIdeal_MambaInDwXReferenceIdeal := fun m ρ m' ρ' _ h =>
  agree (MambaInDwXIdeal.Value.run_blocks m ρ) (MambaInDwXReferenceIdeal.Value.run m' ρ') (MambaInDwXIdeal.Product.array m) fun c =>
    (MambaInDwXReferenceIdeal.Product.result _ _ _).trans (by rw [(h c).1, (h c).2.1, (h c).2.2]; rfl)

theorem product_mambaInDwBc : algebraic_MambaInDwBcIdeal_MambaInDwBcReferenceIdeal := fun m ρ m' ρ' _ h =>
  agree (MambaInDwBcIdeal.Value.run_blocks m ρ) (MambaInDwBcReferenceIdeal.Value.run m' ρ') (MambaInDwBcIdeal.Product.array m) fun c =>
    (MambaInDwBcReferenceIdeal.Product.result _ _ _).trans (by rw [(h c).1, (h c).2.1, (h c).2.2]; rfl)

theorem product_mambaInDwDt : algebraic_MambaInDwDtIdeal_MambaInDwDtReferenceIdeal := fun m ρ m' ρ' _ h =>
  agree (MambaInDwDtIdeal.Value.run_blocks m ρ) (MambaInDwDtReferenceIdeal.Value.run m' ρ') (MambaInDwDtIdeal.Product.array m) fun c =>
    (MambaInDwDtReferenceIdeal.Product.result _ _ _).trans (by rw [(h c).1, (h c).2.1, (h c).2.2]; rfl)

theorem product_mambaInDxBc : algebraic_MambaInDxBcIdeal_MambaInDxBcReferenceIdeal := fun m ρ m' ρ' _ h =>
  agree (MambaInDxBcIdeal.Value.run_blocks m ρ) (MambaInDxBcReferenceIdeal.Value.run m' ρ') (MambaInDxBcIdeal.Product.array m) fun c =>
    (MambaInDxBcReferenceIdeal.Product.result _ _ _).trans (by rw [(h c).1, (h c).2.1, (h c).2.2]; rfl)

theorem product_mambaInDxDt : algebraic_MambaInDxDtIdeal_MambaInDxDtReferenceIdeal := fun m ρ m' ρ' _ h =>
  agree (MambaInDxDtIdeal.Value.run_blocks m ρ) (MambaInDxDtReferenceIdeal.Value.run m' ρ') (MambaInDxDtIdeal.Product.array m) fun c =>
    (MambaInDxDtReferenceIdeal.Product.result _ _ _).trans (by rw [(h c).1, (h c).2.1, (h c).2.2]; rfl)

theorem product_up : algebraic_UpIdeal_UpReferenceIdeal := fun m ρ m' ρ' _ h =>
  agree (UpIdeal.Value.run_blocks m ρ) (UpReferenceIdeal.Value.run m' ρ') (UpIdeal.Product.array m) fun c =>
    (UpReferenceIdeal.Product.result _ _).trans (by rw [(h c).1, (h c).2]; rfl)

theorem product_down : algebraic_DownIdeal_DownReferenceIdeal := fun m ρ m' ρ' _ h =>
  agree (DownIdeal.Value.run_blocks m ρ) (DownReferenceIdeal.Value.run m' ρ') (DownIdeal.Product.array m) fun c =>
    (DownReferenceIdeal.Product.result _ _ _).trans (by rw [(h c).1, (h c).2.1, (h c).2.2]; rfl)

theorem product_hgrnIn : algebraic_HgrnInIdeal_HgrnInReferenceIdeal := fun m ρ m' ρ' _ h =>
  agree (HgrnInIdeal.Value.run_blocks m ρ) (HgrnInReferenceIdeal.Value.run m' ρ') (HgrnInIdeal.Product.array m) fun c =>
    (HgrnInReferenceIdeal.Product.result _ _).trans (by rw [(h c).1, (h c).2]; rfl)

theorem product_hgrnOut : algebraic_HgrnOutIdeal_HgrnOutReferenceIdeal := fun m ρ m' ρ' _ h =>
  agree (HgrnOutIdeal.Value.run_blocks m ρ) (HgrnOutReferenceIdeal.Value.run m' ρ') (HgrnOutIdeal.Product.array m) fun c =>
    (HgrnOutReferenceIdeal.Product.result _ _ _).trans (by rw [(h c).1, (h c).2.1, (h c).2.2]; rfl)

theorem product_mambaIn : algebraic_MambaInIdeal_MambaInReferenceIdeal := fun m ρ m' ρ' _ h =>
  agree (MambaInIdeal.Value.run_blocks m ρ) (MambaInReferenceIdeal.Value.run m' ρ') (MambaInIdeal.Product.array m) fun c =>
    (MambaInReferenceIdeal.Product.result _ _).trans (by rw [(h c).1, (h c).2]; rfl)

theorem product_mambaOut : algebraic_MambaOutIdeal_MambaOutReferenceIdeal := fun m ρ m' ρ' _ h =>
  agree (MambaOutIdeal.Value.run_blocks m ρ) (MambaOutReferenceIdeal.Value.run m' ρ') (MambaOutIdeal.Product.array m) fun c =>
    (MambaOutReferenceIdeal.Product.result _ _ _).trans (by rw [(h c).1, (h c).2.1, (h c).2.2]; rfl)

theorem norm : algebraic_NormIdeal_NormReferenceIdeal := fun m ρ m' ρ' _ h =>
  agree (NormIdeal.Value.run_blocks m ρ) (NormReferenceIdeal.Value.run m' ρ') (NormIdeal.Product.array m) fun c =>
    (NormReferenceIdeal.Product.result _ _).trans (by rw [(h c).1, (h c).2]; rfl)

/-- The normalisation's gradient has three results: the gradient at the rows in two formats, and the gradient at the weights. -/
theorem norm_bwd : algebraic_NormBwdIdeal_NormBwdReferenceIdeal := fun m ρ m' ρ' _ h =>
  ⟨_, _, _, NormBwdIdeal.Value.run_blocks m ρ, (θ_run _ _ _).mono (fun r e c => by
    obtain ⟨h0, h1, h2, h3, -⟩ := h c
    obtain ⟨o0, o1, o2, k⟩ := e c
    rw [NormBwdReferenceIdeal.Product.result_dh, h0, h1, h2, h3] at o0 o1
    rw [NormBwdReferenceIdeal.Product.result_dw, h0, h2] at o2
    exact ⟨o0.trans (NormBwdIdeal.Product.array4 m c).symm, o1.trans (NormBwdIdeal.Product.array5 m c).symm,
      o2.trans (NormBwdIdeal.Product.array6 m c).symm, k⟩) (NormBwdReferenceIdeal.Value.run m' ρ')⟩

theorem mid : algebraic_MidIdeal_MidReferenceIdeal := fun m ρ m' ρ' _ h =>
  agree (MidIdeal.Value.run_blocks m ρ) (MidReferenceIdeal.Value.run m' ρ') (MidIdeal.Product.array m) fun c =>
    (MidReferenceIdeal.Product.result m' c).trans (by rw [(h c).1, (h c).2.1, (h c).2.2]; rfl)

theorem claim : Cert.Claim := ⟨Cert.Kernel.Gen.facts, Cert.KernelIdeal.Gen.facts, Cert.ReferenceIdeal.Gen.facts,
  Cert.DownDx.Gen.facts, Cert.DownDxIdeal.Gen.facts, Cert.DownDxReferenceIdeal.Gen.facts,
  Cert.DownDw.Gen.facts, Cert.DownDwIdeal.Gen.facts, Cert.DownDwReferenceIdeal.Gen.facts,
  Cert.UpDw.Gen.facts, Cert.UpDwIdeal.Gen.facts, Cert.UpDwReferenceIdeal.Gen.facts,
  Cert.UpDx.Gen.facts, Cert.UpDxIdeal.Gen.facts, Cert.UpDxReferenceIdeal.Gen.facts,
  Cert.HgrnOutDx.Gen.facts, Cert.HgrnOutDxIdeal.Gen.facts, Cert.HgrnOutDxReferenceIdeal.Gen.facts,
  Cert.HgrnOutDw.Gen.facts, Cert.HgrnOutDwIdeal.Gen.facts, Cert.HgrnOutDwReferenceIdeal.Gen.facts,
  Cert.HgrnInDw.Gen.facts, Cert.HgrnInDwIdeal.Gen.facts, Cert.HgrnInDwReferenceIdeal.Gen.facts,
  Cert.HgrnInDx.Gen.facts, Cert.HgrnInDxIdeal.Gen.facts, Cert.HgrnInDxReferenceIdeal.Gen.facts,
  Cert.MambaOutDx.Gen.facts, Cert.MambaOutDxIdeal.Gen.facts, Cert.MambaOutDxReferenceIdeal.Gen.facts,
  Cert.MambaOutDw.Gen.facts, Cert.MambaOutDwIdeal.Gen.facts, Cert.MambaOutDwReferenceIdeal.Gen.facts,
  Cert.MambaInDw.Gen.facts, Cert.MambaInDwIdeal.Gen.facts, Cert.MambaInDwReferenceIdeal.Gen.facts,
  Cert.MambaInDx.Gen.facts, Cert.MambaInDxIdeal.Gen.facts, Cert.MambaInDxReferenceIdeal.Gen.facts,
  Cert.MambaInDxNext.Gen.facts, Cert.MambaInDxNextIdeal.Gen.facts, Cert.MambaInDxNextReferenceIdeal.Gen.facts,
  Cert.MambaInDwX.Gen.facts, Cert.MambaInDwXIdeal.Gen.facts, Cert.MambaInDwXReferenceIdeal.Gen.facts,
  Cert.MambaInDwBc.Gen.facts, Cert.MambaInDwBcIdeal.Gen.facts, Cert.MambaInDwBcReferenceIdeal.Gen.facts,
  Cert.MambaInDwDt.Gen.facts, Cert.MambaInDwDtIdeal.Gen.facts, Cert.MambaInDwDtReferenceIdeal.Gen.facts,
  Cert.MambaInDxBc.Gen.facts, Cert.MambaInDxBcIdeal.Gen.facts, Cert.MambaInDxBcReferenceIdeal.Gen.facts,
  Cert.MambaInDxDt.Gen.facts, Cert.MambaInDxDtIdeal.Gen.facts, Cert.MambaInDxDtReferenceIdeal.Gen.facts,
  Cert.NormBwd.Gen.facts, Cert.NormBwdIdeal.Gen.facts, Cert.NormBwdReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.HgrnIn.Gen.facts, Cert.HgrnInIdeal.Gen.facts, Cert.HgrnInReferenceIdeal.Gen.facts,
  Cert.HgrnOut.Gen.facts, Cert.HgrnOutIdeal.Gen.facts, Cert.HgrnOutReferenceIdeal.Gen.facts,
  Cert.MambaIn.Gen.facts, Cert.MambaInIdeal.Gen.facts, Cert.MambaInReferenceIdeal.Gen.facts,
  Cert.MambaOut.Gen.facts, Cert.MambaOutIdeal.Gen.facts, Cert.MambaOutReferenceIdeal.Gen.facts,
  Cert.Norm.Gen.facts, Cert.NormIdeal.Gen.facts, Cert.NormReferenceIdeal.Gen.facts,
  Cert.Mid.Gen.facts, Cert.MidIdeal.Gen.facts, Cert.MidReferenceIdeal.Gen.facts,
  Cert.Pre_finite.Gen.facts,
  fun m ρ _ => frame_kernel m ρ,
  fun m ρ _ => KernelIdeal.Any.frame m ρ,
  fun m ρ _ => KernelIdeal.Any.frame m ρ,
  fun m ρ _ => reference_frame m ρ,
  fun m ρ _ => reference_frame m ρ,
  fun m ρ _ => DownDx.Gen.frame m ρ,
  fun m ρ _ => DownDxIdeal.Gen.frame m ρ,
  fun m ρ _ => keeps (DownDxReferenceIdeal.Value.run m ρ) rfl,
  fun m ρ _ => DownDw.Gen.frame m ρ,
  fun m ρ _ => DownDwIdeal.Gen.frame m ρ,
  fun m ρ _ => keeps (DownDwReferenceIdeal.Value.run m ρ) rfl,
  fun m ρ _ => UpDw.Gen.frame m ρ,
  fun m ρ _ => UpDwIdeal.Gen.frame m ρ,
  fun m ρ _ => keeps (UpDwReferenceIdeal.Value.run m ρ) rfl,
  fun m ρ _ => UpDx.Gen.frame m ρ,
  fun m ρ _ => UpDxIdeal.Gen.frame m ρ,
  fun m ρ _ => keeps (UpDxReferenceIdeal.Value.run m ρ) rfl,
  fun m ρ _ => HgrnOutDx.Gen.frame m ρ,
  fun m ρ _ => HgrnOutDxIdeal.Gen.frame m ρ,
  fun m ρ _ => keeps (HgrnOutDxReferenceIdeal.Value.run m ρ) rfl,
  fun m ρ _ => HgrnOutDw.Gen.frame m ρ,
  fun m ρ _ => HgrnOutDwIdeal.Gen.frame m ρ,
  fun m ρ _ => keeps (HgrnOutDwReferenceIdeal.Value.run m ρ) rfl,
  fun m ρ _ => HgrnInDw.Gen.frame m ρ,
  fun m ρ _ => HgrnInDwIdeal.Gen.frame m ρ,
  fun m ρ _ => keeps (HgrnInDwReferenceIdeal.Value.run m ρ) rfl,
  fun m ρ _ => HgrnInDx.Gen.frame m ρ,
  fun m ρ _ => HgrnInDxIdeal.Gen.frame m ρ,
  fun m ρ _ => keeps (HgrnInDxReferenceIdeal.Value.run m ρ) rfl,
  fun m ρ _ => MambaOutDx.Gen.frame m ρ,
  fun m ρ _ => MambaOutDxIdeal.Gen.frame m ρ,
  fun m ρ _ => keeps (MambaOutDxReferenceIdeal.Value.run m ρ) rfl,
  fun m ρ _ => MambaOutDw.Gen.frame m ρ,
  fun m ρ _ => MambaOutDwIdeal.Gen.frame m ρ,
  fun m ρ _ => keeps (MambaOutDwReferenceIdeal.Value.run m ρ) rfl,
  fun m ρ _ => MambaInDw.Gen.frame m ρ,
  fun m ρ _ => MambaInDwIdeal.Gen.frame m ρ,
  fun m ρ _ => keeps (MambaInDwReferenceIdeal.Value.run m ρ) rfl,
  fun m ρ _ => MambaInDx.Gen.frame m ρ,
  fun m ρ _ => MambaInDxIdeal.Gen.frame m ρ,
  fun m ρ _ => keeps (MambaInDxReferenceIdeal.Value.run m ρ) rfl,
  fun m ρ _ => MambaInDxNext.Gen.frame m ρ,
  fun m ρ _ => MambaInDxNextIdeal.Gen.frame m ρ,
  fun m ρ _ => keeps (MambaInDxNextReferenceIdeal.Value.run m ρ) rfl,
  fun m ρ _ => MambaInDwX.Gen.frame m ρ,
  fun m ρ _ => MambaInDwXIdeal.Gen.frame m ρ,
  fun m ρ _ => keeps (MambaInDwXReferenceIdeal.Value.run m ρ) rfl,
  fun m ρ _ => MambaInDwBc.Gen.frame m ρ,
  fun m ρ _ => MambaInDwBcIdeal.Gen.frame m ρ,
  fun m ρ _ => keeps (MambaInDwBcReferenceIdeal.Value.run m ρ) rfl,
  fun m ρ _ => MambaInDwDt.Gen.frame m ρ,
  fun m ρ _ => MambaInDwDtIdeal.Gen.frame m ρ,
  fun m ρ _ => keeps (MambaInDwDtReferenceIdeal.Value.run m ρ) rfl,
  fun m ρ _ => MambaInDxBc.Gen.frame m ρ,
  fun m ρ _ => MambaInDxBcIdeal.Gen.frame m ρ,
  fun m ρ _ => keeps (MambaInDxBcReferenceIdeal.Value.run m ρ) rfl,
  fun m ρ _ => MambaInDxDt.Gen.frame m ρ,
  fun m ρ _ => MambaInDxDtIdeal.Gen.frame m ρ,
  fun m ρ _ => keeps (MambaInDxDtReferenceIdeal.Value.run m ρ) rfl,
  fun m ρ _ => NormBwd.Gen.frame m ρ,
  fun m ρ _ => NormBwdIdeal.Gen.frame m ρ,
  fun m ρ _ => (θ_run _ _ _).mono (fun r h => ⟨fun c => (h c).2.2.2, sem_eq_zero_of_no_sems rfl r.2⟩) (NormBwdReferenceIdeal.Value.run m ρ),
  fun m ρ _ => Up.Gen.frame m ρ,
  fun m ρ _ => UpIdeal.Gen.frame m ρ,
  fun m ρ _ => keeps (UpReferenceIdeal.Value.run m ρ) rfl,
  fun m ρ _ => Down.Gen.frame m ρ,
  fun m ρ _ => DownIdeal.Gen.frame m ρ,
  fun m ρ _ => keeps (DownReferenceIdeal.Value.run m ρ) rfl,
  fun m ρ _ => HgrnIn.Gen.frame m ρ,
  fun m ρ _ => HgrnInIdeal.Gen.frame m ρ,
  fun m ρ _ => keeps (HgrnInReferenceIdeal.Value.run m ρ) rfl,
  fun m ρ _ => HgrnOut.Gen.frame m ρ,
  fun m ρ _ => HgrnOutIdeal.Gen.frame m ρ,
  fun m ρ _ => keeps (HgrnOutReferenceIdeal.Value.run m ρ) rfl,
  fun m ρ _ => MambaIn.Gen.frame m ρ,
  fun m ρ _ => MambaInIdeal.Gen.frame m ρ,
  fun m ρ _ => keeps (MambaInReferenceIdeal.Value.run m ρ) rfl,
  fun m ρ _ => MambaOut.Gen.frame m ρ,
  fun m ρ _ => MambaOutIdeal.Gen.frame m ρ,
  fun m ρ _ => keeps (MambaOutReferenceIdeal.Value.run m ρ) rfl,
  fun m ρ _ => Norm.Gen.frame m ρ,
  fun m ρ _ => NormIdeal.Gen.frame m ρ,
  fun m ρ _ => keeps (NormReferenceIdeal.Value.run m ρ) rfl,
  fun m ρ _ => Mid.Gen.frame m ρ,
  fun m ρ _ => MidIdeal.Gen.frame m ρ,
  fun m ρ _ => keeps (MidReferenceIdeal.Value.run m ρ) rfl,
  trivial,
  fun m ρ m' ρ' hp hag => ⟨_, _, _, _, _, kernel_run m ρ, (θ_run _ _ _).mono (fun r h c => by
    have e := inputs_eq m m' c (hag c).1 (hag c).2.1 (hag c).2.2.1 (hag c).2.2.2
    have hg : ReferenceIdeal.Ref.GateAgrees (ReferenceIdeal.Ref.inputs (launchContents m' c)) :=
      e ▸ Finite.agrees (real m hp c)
    obtain ⟨o0, o1, o2, o3, o4, k⟩ := h c
    rw [← e]
    exact ⟨o0.trans (ReferenceIdeal.Ref.dx_eq _ hg), o1.trans (ReferenceIdeal.Ref.dTapLo_eq _ hg),
      o2.trans (ReferenceIdeal.Ref.dTapHi_eq _), o3.trans (ReferenceIdeal.Ref.dBiasLo_eq _ hg),
      o4.trans (ReferenceIdeal.Ref.dBiasHi_eq _), k⟩) (ReferenceIdeal.Value.run m' ρ')⟩,
  trivial, product_downDx, trivial, product_downDw, trivial, product_upDw, trivial, product_upDx,
  trivial, product_hgrnOutDx, trivial, product_hgrnOutDw, trivial, product_hgrnInDw, trivial, product_hgrnInDx, trivial, product_mambaOutDx, trivial, product_mambaOutDw, trivial, product_mambaInDw, trivial, product_mambaInDx, trivial, product_mambaInDxNext, trivial, product_mambaInDwX, trivial, product_mambaInDwBc, trivial, product_mambaInDwDt, trivial, product_mambaInDxBc, trivial, product_mambaInDxDt, trivial, norm_bwd, trivial, product_up, trivial, product_down, trivial, product_hgrnIn, trivial, product_hgrnOut, trivial, product_mambaIn, trivial, product_mambaOut, trivial, norm, trivial, mid⟩

end Cert.Proof

end
